-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2.2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2.2.2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2.2.2.2.2.2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.2.2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.2.2.2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.2.2.2.2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.2.2.2.2.2.2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_post [hPre_finite_post : Cert.Pre_finite_post.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortRefIdeal (m : (ℓ : Loc Cert.ShortRefIdeal.nD Cert.ShortRefIdeal.τ Cert.ShortRefIdeal.sig) → Buf (Elt Ideal) ℓ) : Prop :=
  True

def Pre_EvenInS (m : (ℓ : Loc Cert.EvenInS.nD Cert.EvenInS.τ Cert.EvenInS.sig) → Buf (Elt Bits) ℓ) : Prop :=
  True

def Pre_EvenInSIdeal (m : (ℓ : Loc Cert.EvenInSIdeal.nD Cert.EvenInSIdeal.τ Cert.EvenInSIdeal.sig) → Buf (Elt Ideal) ℓ) : Prop :=
  True

def Pre_EvenInSRefIdeal (m : (ℓ : Loc Cert.EvenInSRefIdeal.nD Cert.EvenInSRefIdeal.τ Cert.EvenInSRefIdeal.sig) → Buf (Elt Ideal) ℓ) : Prop :=
  True

def Pre_EvenOutS (m : (ℓ : Loc Cert.EvenOutS.nD Cert.EvenOutS.τ Cert.EvenOutS.sig) → Buf (Elt Bits) ℓ) : Prop :=
  True

def Pre_EvenOutSIdeal (m : (ℓ : Loc Cert.EvenOutSIdeal.nD Cert.EvenOutSIdeal.τ Cert.EvenOutSIdeal.sig) → Buf (Elt Ideal) ℓ) : Prop :=
  True

def Pre_EvenOutSRefIdeal (m : (ℓ : Loc Cert.EvenOutSRefIdeal.nD Cert.EvenOutSRefIdeal.τ Cert.EvenOutSRefIdeal.sig) → Buf (Elt Ideal) ℓ) : Prop :=
  True

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSIdeal_finite_post_sample [hPre_finite_post_sample : Cert.Pre_finite_post_sample.Facts] (m : (ℓ : Loc Cert.PostSIdeal.nD Cert.PostSIdeal.τ Cert.PostSIdeal.sig) → Buf (Elt Ideal) ℓ) : Prop :=
  ∀ c : Dev Cert.PostSIdeal.nD,
    (Cert.Pre_finite_post_sample.fn (F := Ideal) (m ((c.tc : Thread Cert.PostSIdeal.nD Cert.PostSIdeal.τ).loc Cert.PostSIdeal.main_arg0)) (m ((c.tc : Thread Cert.PostSIdeal.nD Cert.PostSIdeal.τ).loc Cert.PostSIdeal.main_arg1)) (m ((c.tc : Thread Cert.PostSIdeal.nD Cert.PostSIdeal.τ).loc Cert.PostSIdeal.main_arg2)) (m ((c.tc : Thread Cert.PostSIdeal.nD Cert.PostSIdeal.τ).loc Cert.PostSIdeal.main_arg3)) (m ((c.tc : Thread Cert.PostSIdeal.nD Cert.PostSIdeal.τ).loc Cert.PostSIdeal.main_arg4))) = (fun _ => 1#1)

def Pre_PostSRefIdeal (m : (ℓ : Loc Cert.PostSRefIdeal.nD Cert.PostSRefIdeal.τ Cert.PostSRefIdeal.sig) → Buf (Elt Ideal) ℓ) : Prop :=
  True

def Pre_PostSRefIdeal_finite_post_sample [hPre_finite_post_sample : Cert.Pre_finite_post_sample.Facts] (m : (ℓ : Loc Cert.PostSRefIdeal.nD Cert.PostSRefIdeal.τ Cert.PostSRefIdeal.sig) → Buf (Elt Ideal) ℓ) : Prop :=
  ∀ c : Dev Cert.PostSRefIdeal.nD,
    (Cert.Pre_finite_post_sample.fn (F := Ideal) (m ((c.tc : Thread Cert.PostSRefIdeal.nD Cert.PostSRefIdeal.τ).loc Cert.PostSRefIdeal.main_arg0)) (m ((c.tc : Thread Cert.PostSRefIdeal.nD Cert.PostSRefIdeal.τ).loc Cert.PostSRefIdeal.main_arg1)) (m ((c.tc : Thread Cert.PostSRefIdeal.nD Cert.PostSRefIdeal.τ).loc Cert.PostSRefIdeal.main_arg2)) (m ((c.tc : Thread Cert.PostSRefIdeal.nD Cert.PostSRefIdeal.τ).loc Cert.PostSRefIdeal.main_arg3)) (m ((c.tc : Thread Cert.PostSRefIdeal.nD Cert.PostSRefIdeal.τ).loc Cert.PostSRefIdeal.main_arg4))) = (fun _ => 1#1)

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_FinalSRefIdeal (m : (ℓ : Loc Cert.FinalSRefIdeal.nD Cert.FinalSRefIdeal.τ Cert.FinalSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6)
      ∧ r.2.mem ((c.tc : Thread Cert.Gmlp.nD Cert.Gmlp.τ).loc Cert.Gmlp.main_arg7) = m ((c.tc : Thread Cert.Gmlp.nD Cert.Gmlp.τ).loc Cert.Gmlp.main_arg7))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
      ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6)
      ∧ r.2.mem ((c.tc : Thread Cert.GmlpRefIdeal.nD Cert.GmlpRefIdeal.τ).loc Cert.GmlpRefIdeal.main_arg7) = m ((c.tc : Thread Cert.GmlpRefIdeal.nD Cert.GmlpRefIdeal.τ).loc Cert.GmlpRefIdeal.main_arg7))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4))
      ∧ r.2.sem = fun _ => 0)

def quiescent_PostRefIdeal_pre_finite_post [hPostRefIdeal : Cert.PostRefIdeal.Facts] [hPre_finite_post : Cert.Pre_finite_post.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_post m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1)
      ∧ r.2.mem ((c.tc : Thread Cert.Short.nD Cert.Short.τ).loc Cert.Short.main_arg2) = m ((c.tc : Thread Cert.Short.nD Cert.Short.τ).loc Cert.Short.main_arg2)
      ∧ r.2.mem ((c.tc : Thread Cert.Short.nD Cert.Short.τ).loc Cert.Short.main_arg3) = m ((c.tc : Thread Cert.Short.nD Cert.Short.τ).loc Cert.Short.main_arg3)
      ∧ r.2.mem ((c.tc : Thread Cert.Short.nD Cert.Short.τ).loc Cert.Short.main_arg4) = m ((c.tc : Thread Cert.Short.nD Cert.Short.τ).loc Cert.Short.main_arg4)
      ∧ r.2.mem ((c.tc : Thread Cert.Short.nD Cert.Short.τ).loc Cert.Short.main_arg5) = m ((c.tc : Thread Cert.Short.nD Cert.Short.τ).loc Cert.Short.main_arg5)
      ∧ r.2.mem ((c.tc : Thread Cert.Short.nD Cert.Short.τ).loc Cert.Short.main_arg6) = m ((c.tc : Thread Cert.Short.nD Cert.Short.τ).loc Cert.Short.main_arg6)
      ∧ r.2.mem ((c.tc : Thread Cert.Short.nD Cert.Short.τ).loc Cert.Short.main_arg7) = m ((c.tc : Thread Cert.Short.nD Cert.Short.τ).loc Cert.Short.main_arg7))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
      ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2)
      ∧ r.2.mem ((c.tc : Thread Cert.ShortIdeal.nD Cert.ShortIdeal.τ).loc Cert.ShortIdeal.main_arg3) = m ((c.tc : Thread Cert.ShortIdeal.nD Cert.ShortIdeal.τ).loc Cert.ShortIdeal.main_arg3)
      ∧ r.2.mem ((c.tc : Thread Cert.ShortIdeal.nD Cert.ShortIdeal.τ).loc Cert.ShortIdeal.main_arg4) = m ((c.tc : Thread Cert.ShortIdeal.nD Cert.ShortIdeal.τ).loc Cert.ShortIdeal.main_arg4)
      ∧ r.2.mem ((c.tc : Thread Cert.ShortIdeal.nD Cert.ShortIdeal.τ).loc Cert.ShortIdeal.main_arg5) = m ((c.tc : Thread Cert.ShortIdeal.nD Cert.ShortIdeal.τ).loc Cert.ShortIdeal.main_arg5)
      ∧ r.2.mem ((c.tc : Thread Cert.ShortIdeal.nD Cert.ShortIdeal.τ).loc Cert.ShortIdeal.main_arg6) = m ((c.tc : Thread Cert.ShortIdeal.nD Cert.ShortIdeal.τ).loc Cert.ShortIdeal.main_arg6)
      ∧ r.2.mem ((c.tc : Thread Cert.ShortIdeal.nD Cert.ShortIdeal.τ).loc Cert.ShortIdeal.main_arg7) = m ((c.tc : Thread Cert.ShortIdeal.nD Cert.ShortIdeal.τ).loc Cert.ShortIdeal.main_arg7))
      ∧ r.2.sem = fun _ => 0)

def quiescent_ShortRefIdeal [hShortRefIdeal : Cert.ShortRefIdeal.Facts] : Prop :=
  ∀ (m : (ℓ : Loc Cert.ShortRefIdeal.nD Cert.ShortRefIdeal.τ Cert.ShortRefIdeal.sig) → Buf (Elt Ideal) ℓ) (g : Dev Cert.ShortRefIdeal.nD → PrngReg), Pre_ShortRefIdeal m →
    θ_run (Cert.ShortRefIdeal.defs (F := Ideal)) (onTc (τ := Cert.ShortRefIdeal.τ) (Cert.ShortRefIdeal.main (F := Ideal))) ⟨m, fun _ => 0, g⟩ (fun r => (∀ c : Dev Cert.ShortRefIdeal.nD,
      r.2.mem ((c.tc : Thread Cert.ShortRefIdeal.nD Cert.ShortRefIdeal.τ).loc Cert.ShortRefIdeal.main_arg0) = m ((c.tc : Thread Cert.ShortRefIdeal.nD Cert.ShortRefIdeal.τ).loc Cert.ShortRefIdeal.main_arg0)
      ∧ r.2.mem ((c.tc : Thread Cert.ShortRefIdeal.nD Cert.ShortRefIdeal.τ).loc Cert.ShortRefIdeal.main_arg1) = m ((c.tc : Thread Cert.ShortRefIdeal.nD Cert.ShortRefIdeal.τ).loc Cert.ShortRefIdeal.main_arg1)
      ∧ r.2.mem ((c.tc : Thread Cert.ShortRefIdeal.nD Cert.ShortRefIdeal.τ).loc Cert.ShortRefIdeal.main_arg2) = m ((c.tc : Thread Cert.ShortRefIdeal.nD Cert.ShortRefIdeal.τ).loc Cert.ShortRefIdeal.main_arg2)
      ∧ r.2.mem ((c.tc : Thread Cert.ShortRefIdeal.nD Cert.ShortRefIdeal.τ).loc Cert.ShortRefIdeal.main_arg3) = m ((c.tc : Thread Cert.ShortRefIdeal.nD Cert.ShortRefIdeal.τ).loc Cert.ShortRefIdeal.main_arg3)
      ∧ r.2.mem ((c.tc : Thread Cert.ShortRefIdeal.nD Cert.ShortRefIdeal.τ).loc Cert.ShortRefIdeal.main_arg4) = m ((c.tc : Thread Cert.ShortRefIdeal.nD Cert.ShortRefIdeal.τ).loc Cert.ShortRefIdeal.main_arg4)
      ∧ r.2.mem ((c.tc : Thread Cert.ShortRefIdeal.nD Cert.ShortRefIdeal.τ).loc Cert.ShortRefIdeal.main_arg5) = m ((c.tc : Thread Cert.ShortRefIdeal.nD Cert.ShortRefIdeal.τ).loc Cert.ShortRefIdeal.main_arg5)
      ∧ r.2.mem ((c.tc : Thread Cert.ShortRefIdeal.nD Cert.ShortRefIdeal.τ).loc Cert.ShortRefIdeal.main_arg6) = m ((c.tc : Thread Cert.ShortRefIdeal.nD Cert.ShortRefIdeal.τ).loc Cert.ShortRefIdeal.main_arg6)
      ∧ r.2.mem ((c.tc : Thread Cert.ShortRefIdeal.nD Cert.ShortRefIdeal.τ).loc Cert.ShortRefIdeal.main_arg7) = m ((c.tc : Thread Cert.ShortRefIdeal.nD Cert.ShortRefIdeal.τ).loc Cert.ShortRefIdeal.main_arg7))
      ∧ r.2.sem = fun _ => 0)

def quiescent_EvenInS [hEvenInS : Cert.EvenInS.Facts] : Prop :=
  ∀ (m : (ℓ : Loc Cert.EvenInS.nD Cert.EvenInS.τ Cert.EvenInS.sig) → Buf (Elt Bits) ℓ) (g : Dev Cert.EvenInS.nD → PrngReg), Pre_EvenInS m →
    θ_run (Cert.EvenInS.defs (F := Bits)) (onTc (τ := Cert.EvenInS.τ) (Cert.EvenInS.main (F := Bits))) ⟨m, fun _ => 0, g⟩ (fun r => (∀ c : Dev Cert.EvenInS.nD,
      r.2.mem ((c.tc : Thread Cert.EvenInS.nD Cert.EvenInS.τ).loc Cert.EvenInS.main_arg0) = m ((c.tc : Thread Cert.EvenInS.nD Cert.EvenInS.τ).loc Cert.EvenInS.main_arg0)
      ∧ r.2.mem ((c.tc : Thread Cert.EvenInS.nD Cert.EvenInS.τ).loc Cert.EvenInS.main_arg1) = m ((c.tc : Thread Cert.EvenInS.nD Cert.EvenInS.τ).loc Cert.EvenInS.main_arg1)
      ∧ r.2.mem ((c.tc : Thread Cert.EvenInS.nD Cert.EvenInS.τ).loc Cert.EvenInS.main_arg2) = m ((c.tc : Thread Cert.EvenInS.nD Cert.EvenInS.τ).loc Cert.EvenInS.main_arg2))
      ∧ r.2.sem = fun _ => 0)

def quiescent_EvenInSIdeal [hEvenInSIdeal : Cert.EvenInSIdeal.Facts] : Prop :=
  ∀ (m : (ℓ : Loc Cert.EvenInSIdeal.nD Cert.EvenInSIdeal.τ Cert.EvenInSIdeal.sig) → Buf (Elt Ideal) ℓ) (g : Dev Cert.EvenInSIdeal.nD → PrngReg), Pre_EvenInSIdeal m →
    θ_run (Cert.EvenInSIdeal.defs (F := Ideal)) (onTc (τ := Cert.EvenInSIdeal.τ) (Cert.EvenInSIdeal.main (F := Ideal))) ⟨m, fun _ => 0, g⟩ (fun r => (∀ c : Dev Cert.EvenInSIdeal.nD,
      r.2.mem ((c.tc : Thread Cert.EvenInSIdeal.nD Cert.EvenInSIdeal.τ).loc Cert.EvenInSIdeal.main_arg0) = m ((c.tc : Thread Cert.EvenInSIdeal.nD Cert.EvenInSIdeal.τ).loc Cert.EvenInSIdeal.main_arg0)
      ∧ r.2.mem ((c.tc : Thread Cert.EvenInSIdeal.nD Cert.EvenInSIdeal.τ).loc Cert.EvenInSIdeal.main_arg1) = m ((c.tc : Thread Cert.EvenInSIdeal.nD Cert.EvenInSIdeal.τ).loc Cert.EvenInSIdeal.main_arg1)
      ∧ r.2.mem ((c.tc : Thread Cert.EvenInSIdeal.nD Cert.EvenInSIdeal.τ).loc Cert.EvenInSIdeal.main_arg2) = m ((c.tc : Thread Cert.EvenInSIdeal.nD Cert.EvenInSIdeal.τ).loc Cert.EvenInSIdeal.main_arg2))
      ∧ r.2.sem = fun _ => 0)

def quiescent_EvenInSRefIdeal [hEvenInSRefIdeal : Cert.EvenInSRefIdeal.Facts] : Prop :=
  ∀ (m : (ℓ : Loc Cert.EvenInSRefIdeal.nD Cert.EvenInSRefIdeal.τ Cert.EvenInSRefIdeal.sig) → Buf (Elt Ideal) ℓ) (g : Dev Cert.EvenInSRefIdeal.nD → PrngReg), Pre_EvenInSRefIdeal m →
    θ_run (Cert.EvenInSRefIdeal.defs (F := Ideal)) (onTc (τ := Cert.EvenInSRefIdeal.τ) (Cert.EvenInSRefIdeal.main (F := Ideal))) ⟨m, fun _ => 0, g⟩ (fun r => (∀ c : Dev Cert.EvenInSRefIdeal.nD,
      r.2.mem ((c.tc : Thread Cert.EvenInSRefIdeal.nD Cert.EvenInSRefIdeal.τ).loc Cert.EvenInSRefIdeal.main_arg0) = m ((c.tc : Thread Cert.EvenInSRefIdeal.nD Cert.EvenInSRefIdeal.τ).loc Cert.EvenInSRefIdeal.main_arg0)
      ∧ r.2.mem ((c.tc : Thread Cert.EvenInSRefIdeal.nD Cert.EvenInSRefIdeal.τ).loc Cert.EvenInSRefIdeal.main_arg1) = m ((c.tc : Thread Cert.EvenInSRefIdeal.nD Cert.EvenInSRefIdeal.τ).loc Cert.EvenInSRefIdeal.main_arg1)
      ∧ r.2.mem ((c.tc : Thread Cert.EvenInSRefIdeal.nD Cert.EvenInSRefIdeal.τ).loc Cert.EvenInSRefIdeal.main_arg2) = m ((c.tc : Thread Cert.EvenInSRefIdeal.nD Cert.EvenInSRefIdeal.τ).loc Cert.EvenInSRefIdeal.main_arg2))
      ∧ r.2.sem = fun _ => 0)

def quiescent_EvenOutS [hEvenOutS : Cert.EvenOutS.Facts] : Prop :=
  ∀ (m : (ℓ : Loc Cert.EvenOutS.nD Cert.EvenOutS.τ Cert.EvenOutS.sig) → Buf (Elt Bits) ℓ) (g : Dev Cert.EvenOutS.nD → PrngReg), Pre_EvenOutS m →
    θ_run (Cert.EvenOutS.defs (F := Bits)) (onTc (τ := Cert.EvenOutS.τ) (Cert.EvenOutS.main (F := Bits))) ⟨m, fun _ => 0, g⟩ (fun r => (∀ c : Dev Cert.EvenOutS.nD,
      r.2.mem ((c.tc : Thread Cert.EvenOutS.nD Cert.EvenOutS.τ).loc Cert.EvenOutS.main_arg0) = m ((c.tc : Thread Cert.EvenOutS.nD Cert.EvenOutS.τ).loc Cert.EvenOutS.main_arg0)
      ∧ r.2.mem ((c.tc : Thread Cert.EvenOutS.nD Cert.EvenOutS.τ).loc Cert.EvenOutS.main_arg1) = m ((c.tc : Thread Cert.EvenOutS.nD Cert.EvenOutS.τ).loc Cert.EvenOutS.main_arg1)
      ∧ r.2.mem ((c.tc : Thread Cert.EvenOutS.nD Cert.EvenOutS.τ).loc Cert.EvenOutS.main_arg2) = m ((c.tc : Thread Cert.EvenOutS.nD Cert.EvenOutS.τ).loc Cert.EvenOutS.main_arg2)
      ∧ r.2.mem ((c.tc : Thread Cert.EvenOutS.nD Cert.EvenOutS.τ).loc Cert.EvenOutS.main_arg3) = m ((c.tc : Thread Cert.EvenOutS.nD Cert.EvenOutS.τ).loc Cert.EvenOutS.main_arg3))
      ∧ r.2.sem = fun _ => 0)

def quiescent_EvenOutSIdeal [hEvenOutSIdeal : Cert.EvenOutSIdeal.Facts] : Prop :=
  ∀ (m : (ℓ : Loc Cert.EvenOutSIdeal.nD Cert.EvenOutSIdeal.τ Cert.EvenOutSIdeal.sig) → Buf (Elt Ideal) ℓ) (g : Dev Cert.EvenOutSIdeal.nD → PrngReg), Pre_EvenOutSIdeal m →
    θ_run (Cert.EvenOutSIdeal.defs (F := Ideal)) (onTc (τ := Cert.EvenOutSIdeal.τ) (Cert.EvenOutSIdeal.main (F := Ideal))) ⟨m, fun _ => 0, g⟩ (fun r => (∀ c : Dev Cert.EvenOutSIdeal.nD,
      r.2.mem ((c.tc : Thread Cert.EvenOutSIdeal.nD Cert.EvenOutSIdeal.τ).loc Cert.EvenOutSIdeal.main_arg0) = m ((c.tc : Thread Cert.EvenOutSIdeal.nD Cert.EvenOutSIdeal.τ).loc Cert.EvenOutSIdeal.main_arg0)
      ∧ r.2.mem ((c.tc : Thread Cert.EvenOutSIdeal.nD Cert.EvenOutSIdeal.τ).loc Cert.EvenOutSIdeal.main_arg1) = m ((c.tc : Thread Cert.EvenOutSIdeal.nD Cert.EvenOutSIdeal.τ).loc Cert.EvenOutSIdeal.main_arg1)
      ∧ r.2.mem ((c.tc : Thread Cert.EvenOutSIdeal.nD Cert.EvenOutSIdeal.τ).loc Cert.EvenOutSIdeal.main_arg2) = m ((c.tc : Thread Cert.EvenOutSIdeal.nD Cert.EvenOutSIdeal.τ).loc Cert.EvenOutSIdeal.main_arg2)
      ∧ r.2.mem ((c.tc : Thread Cert.EvenOutSIdeal.nD Cert.EvenOutSIdeal.τ).loc Cert.EvenOutSIdeal.main_arg3) = m ((c.tc : Thread Cert.EvenOutSIdeal.nD Cert.EvenOutSIdeal.τ).loc Cert.EvenOutSIdeal.main_arg3))
      ∧ r.2.sem = fun _ => 0)

def quiescent_EvenOutSRefIdeal [hEvenOutSRefIdeal : Cert.EvenOutSRefIdeal.Facts] : Prop :=
  ∀ (m : (ℓ : Loc Cert.EvenOutSRefIdeal.nD Cert.EvenOutSRefIdeal.τ Cert.EvenOutSRefIdeal.sig) → Buf (Elt Ideal) ℓ) (g : Dev Cert.EvenOutSRefIdeal.nD → PrngReg), Pre_EvenOutSRefIdeal m →
    θ_run (Cert.EvenOutSRefIdeal.defs (F := Ideal)) (onTc (τ := Cert.EvenOutSRefIdeal.τ) (Cert.EvenOutSRefIdeal.main (F := Ideal))) ⟨m, fun _ => 0, g⟩ (fun r => (∀ c : Dev Cert.EvenOutSRefIdeal.nD,
      r.2.mem ((c.tc : Thread Cert.EvenOutSRefIdeal.nD Cert.EvenOutSRefIdeal.τ).loc Cert.EvenOutSRefIdeal.main_arg0) = m ((c.tc : Thread Cert.EvenOutSRefIdeal.nD Cert.EvenOutSRefIdeal.τ).loc Cert.EvenOutSRefIdeal.main_arg0)
      ∧ r.2.mem ((c.tc : Thread Cert.EvenOutSRefIdeal.nD Cert.EvenOutSRefIdeal.τ).loc Cert.EvenOutSRefIdeal.main_arg1) = m ((c.tc : Thread Cert.EvenOutSRefIdeal.nD Cert.EvenOutSRefIdeal.τ).loc Cert.EvenOutSRefIdeal.main_arg1)
      ∧ r.2.mem ((c.tc : Thread Cert.EvenOutSRefIdeal.nD Cert.EvenOutSRefIdeal.τ).loc Cert.EvenOutSRefIdeal.main_arg2) = m ((c.tc : Thread Cert.EvenOutSRefIdeal.nD Cert.EvenOutSRefIdeal.τ).loc Cert.EvenOutSRefIdeal.main_arg2)
      ∧ r.2.mem ((c.tc : Thread Cert.EvenOutSRefIdeal.nD Cert.EvenOutSRefIdeal.τ).loc Cert.EvenOutSRefIdeal.main_arg3) = m ((c.tc : Thread Cert.EvenOutSRefIdeal.nD Cert.EvenOutSRefIdeal.τ).loc Cert.EvenOutSRefIdeal.main_arg3))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4))
      ∧ r.2.sem = fun _ => 0)

def quiescent_PostSIdeal_pre_finite_post_sample [hPostSIdeal : Cert.PostSIdeal.Facts] [hPre_finite_post_sample : Cert.Pre_finite_post_sample.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal_finite_post_sample m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4))
      ∧ r.2.sem = fun _ => 0)

def quiescent_PostSRefIdeal_pre_finite_post_sample [hPostSRefIdeal : Cert.PostSRefIdeal.Facts] [hPre_finite_post_sample : Cert.Pre_finite_post_sample.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal_finite_post_sample m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ r.2.sem = fun _ => 0)

def quiescent_FinalSRefIdeal [hFinalSRefIdeal : Cert.FinalSRefIdeal.Facts] : Prop :=
  ∀ (m : (ℓ : Loc Cert.FinalSRefIdeal.nD Cert.FinalSRefIdeal.τ Cert.FinalSRefIdeal.sig) → Buf (Elt Ideal) ℓ) (g : Dev Cert.FinalSRefIdeal.nD → PrngReg), Pre_FinalSRefIdeal m →
    θ_run (Cert.FinalSRefIdeal.defs (F := Ideal)) (onTc (τ := Cert.FinalSRefIdeal.τ) (Cert.FinalSRefIdeal.main (F := Ideal))) ⟨m, fun _ => 0, g⟩ (fun r => (∀ c : Dev Cert.FinalSRefIdeal.nD,
      r.2.mem ((c.tc : Thread Cert.FinalSRefIdeal.nD Cert.FinalSRefIdeal.τ).loc Cert.FinalSRefIdeal.main_arg0) = m ((c.tc : Thread Cert.FinalSRefIdeal.nD Cert.FinalSRefIdeal.τ).loc Cert.FinalSRefIdeal.main_arg0)
      ∧ r.2.mem ((c.tc : Thread Cert.FinalSRefIdeal.nD Cert.FinalSRefIdeal.τ).loc Cert.FinalSRefIdeal.main_arg1) = m ((c.tc : Thread Cert.FinalSRefIdeal.nD Cert.FinalSRefIdeal.τ).loc Cert.FinalSRefIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8)) (v1 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_v12) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v49) = v0 c
          ∧ r.2.mem ((c.tc : Thread Cert.FfnRefIdeal.nD Cert.FfnRefIdeal.τ).loc Cert.FfnRefIdeal.main_v47) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)
      ∧ m' ((c.tc : Thread Cert.GmlpRefIdeal.nD Cert.GmlpRefIdeal.τ).loc Cert.GmlpRefIdeal.main_arg6) = m ((c.tc : Thread Cert.GmlpIdeal.nD Cert.GmlpIdeal.τ).loc Cert.GmlpIdeal.main_arg6)
      ∧ m' ((c.tc : Thread Cert.GmlpRefIdeal.nD Cert.GmlpRefIdeal.τ).loc Cert.GmlpRefIdeal.main_arg7) = m ((c.tc : Thread Cert.GmlpIdeal.nD Cert.GmlpIdeal.τ).loc Cert.GmlpIdeal.main_arg7)) →
    ∃ (v0 : (c : Dev Cert.GmlpIdeal.nD) → Buf (Elt Ideal) ((c.tc : Thread Cert.GmlpIdeal.nD Cert.GmlpIdeal.τ).loc Cert.GmlpIdeal.main_v9)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v9) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
          ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v68) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5)
          ∧ r.2.mem ((c.tc : Thread Cert.GmlpRefIdeal.nD Cert.GmlpRefIdeal.τ).loc Cert.GmlpRefIdeal.main_arg6) = m' ((c.tc : Thread Cert.GmlpRefIdeal.nD Cert.GmlpRefIdeal.τ).loc Cert.GmlpRefIdeal.main_arg6)
          ∧ r.2.mem ((c.tc : Thread Cert.GmlpRefIdeal.nD Cert.GmlpRefIdeal.τ).loc Cert.GmlpRefIdeal.main_arg7) = m' ((c.tc : Thread Cert.GmlpRefIdeal.nD Cert.GmlpRefIdeal.τ).loc Cert.GmlpRefIdeal.main_arg7))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v14)) (v1 : (c : Dev Cert.EvenInIdeal.nD) → Buf (Elt Ideal) ((c.tc : Thread Cert.EvenInIdeal.nD Cert.EvenInIdeal.τ).loc Cert.EvenInIdeal.main_v20)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v14) = v0 c
          ∧ r.2.mem ((c.tc : Thread Cert.EvenInIdeal.nD Cert.EvenInIdeal.τ).loc Cert.EvenInIdeal.main_v20) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v17) = v0 c
          ∧ r.2.mem ((c.tc : Thread Cert.EvenInRefIdeal.nD Cert.EvenInRefIdeal.τ).loc Cert.EvenInRefIdeal.main_v18) = v1 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v2)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v2) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v6) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3))

def preserves_Prep_PrepIdeal : Prop :=
  True

def algebraic_PrepIdeal_PrepRefIdeal_pre_finite_prep [hPrepIdeal : Cert.PrepIdeal.Facts] [hPrepRefIdeal : Cert.PrepRefIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)) →
    ∃ (v0 : (c : Dev Cert.PrepIdeal.nD) → Buf (Elt Ideal) ((c.tc : Thread Cert.PrepIdeal.nD Cert.PrepIdeal.τ).loc Cert.PrepIdeal.main_v39_0)) (v1 : (c : Dev Cert.PrepIdeal.nD) → Buf (Elt Ideal) ((c.tc : Thread Cert.PrepIdeal.nD Cert.PrepIdeal.τ).loc Cert.PrepIdeal.main_v39_1)) (v2 : (c : Dev Cert.PrepIdeal.nD) → Buf (Elt Ideal) ((c.tc : Thread Cert.PrepIdeal.nD Cert.PrepIdeal.τ).loc Cert.PrepIdeal.main_v39_2)) (v3 : (c : Dev Cert.PrepIdeal.nD) → Buf (Elt Ideal) ((c.tc : Thread Cert.PrepIdeal.nD Cert.PrepIdeal.τ).loc Cert.PrepIdeal.main_v39_3)) (v4 : (c : Dev Cert.PrepIdeal.nD) → Buf (Elt Ideal) ((c.tc : Thread Cert.PrepIdeal.nD Cert.PrepIdeal.τ).loc Cert.PrepIdeal.main_v39_4)) (v5 : (c : Dev Cert.PrepIdeal.nD) → Buf (Elt Ideal) ((c.tc : Thread Cert.PrepIdeal.nD Cert.PrepIdeal.τ).loc Cert.PrepIdeal.main_v39_5)) (v6 : (c : Dev Cert.PrepIdeal.nD) → Buf (Elt Ideal) ((c.tc : Thread Cert.PrepIdeal.nD Cert.PrepIdeal.τ).loc Cert.PrepIdeal.main_v39_6)) (v7 : (c : Dev Cert.PrepIdeal.nD) → Buf (Elt Ideal) ((c.tc : Thread Cert.PrepIdeal.nD Cert.PrepIdeal.τ).loc Cert.PrepIdeal.main_v39_7)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v39_0) = v0 c
          ∧ r.2.mem ((c.tc : Thread Cert.PrepIdeal.nD Cert.PrepIdeal.τ).loc Cert.PrepIdeal.main_v39_1) = v1 c
          ∧ r.2.mem ((c.tc : Thread Cert.PrepIdeal.nD Cert.PrepIdeal.τ).loc Cert.PrepIdeal.main_v39_2) = v2 c
          ∧ r.2.mem ((c.tc : Thread Cert.PrepIdeal.nD Cert.PrepIdeal.τ).loc Cert.PrepIdeal.main_v39_3) = v3 c
          ∧ r.2.mem ((c.tc : Thread Cert.PrepIdeal.nD Cert.PrepIdeal.τ).loc Cert.PrepIdeal.main_v39_4) = v4 c
          ∧ r.2.mem ((c.tc : Thread Cert.PrepIdeal.nD Cert.PrepIdeal.τ).loc Cert.PrepIdeal.main_v39_5) = v5 c
          ∧ r.2.mem ((c.tc : Thread Cert.PrepIdeal.nD Cert.PrepIdeal.τ).loc Cert.PrepIdeal.main_v39_6) = v6 c
          ∧ r.2.mem ((c.tc : Thread Cert.PrepIdeal.nD Cert.PrepIdeal.τ).loc Cert.PrepIdeal.main_v39_7) = v7 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v84) = v0 c
          ∧ r.2.mem ((c.tc : Thread Cert.PrepRefIdeal.nD Cert.PrepRefIdeal.τ).loc Cert.PrepRefIdeal.main_v85) = v1 c
          ∧ r.2.mem ((c.tc : Thread Cert.PrepRefIdeal.nD Cert.PrepRefIdeal.τ).loc Cert.PrepRefIdeal.main_v86) = v2 c
          ∧ r.2.mem ((c.tc : Thread Cert.PrepRefIdeal.nD Cert.PrepRefIdeal.τ).loc Cert.PrepRefIdeal.main_v87) = v3 c
          ∧ r.2.mem ((c.tc : Thread Cert.PrepRefIdeal.nD Cert.PrepRefIdeal.τ).loc Cert.PrepRefIdeal.main_v88) = v4 c
          ∧ r.2.mem ((c.tc : Thread Cert.PrepRefIdeal.nD Cert.PrepRefIdeal.τ).loc Cert.PrepRefIdeal.main_v89) = v5 c
          ∧ r.2.mem ((c.tc : Thread Cert.PrepRefIdeal.nD Cert.PrepRefIdeal.τ).loc Cert.PrepRefIdeal.main_v90) = v6 c
          ∧ r.2.mem ((c.tc : Thread Cert.PrepRefIdeal.nD Cert.PrepRefIdeal.τ).loc Cert.PrepRefIdeal.main_v91) = v7 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9))

def preserves_Post_PostIdeal : Prop :=
  True

def algebraic_PostIdeal_PostRefIdeal_pre_finite_post [hPostIdeal : Cert.PostIdeal.Facts] [hPostRefIdeal : Cert.PostRefIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_post m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)) →
    ∃ (v0 : (c : Dev Cert.PostIdeal.nD) → Buf (Elt Ideal) ((c.tc : Thread Cert.PostIdeal.nD Cert.PostIdeal.τ).loc Cert.PostIdeal.main_v10)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v10) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v32) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v13) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Short_ShortIdeal : Prop :=
  True

def algebraic_ShortIdeal_ShortRefIdeal [hShortIdeal : Cert.ShortIdeal.Facts] [hShortRefIdeal : Cert.ShortRefIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortRefIdeal.nD Cert.ShortRefIdeal.τ Cert.ShortRefIdeal.sig) → Buf (Elt Ideal) ℓ) (g' : Dev Cert.ShortRefIdeal.nD → PrngReg), Pre_ShortIdeal m →
    (∀ c : Dev Cert.ShortIdeal.nD,
      m' ((c.tc : Thread Cert.ShortRefIdeal.nD Cert.ShortRefIdeal.τ).loc Cert.ShortRefIdeal.main_arg0) = m ((c.tc : Thread Cert.ShortIdeal.nD Cert.ShortIdeal.τ).loc Cert.ShortIdeal.main_arg0)
      ∧ m' ((c.tc : Thread Cert.ShortRefIdeal.nD Cert.ShortRefIdeal.τ).loc Cert.ShortRefIdeal.main_arg1) = m ((c.tc : Thread Cert.ShortIdeal.nD Cert.ShortIdeal.τ).loc Cert.ShortIdeal.main_arg1)
      ∧ m' ((c.tc : Thread Cert.ShortRefIdeal.nD Cert.ShortRefIdeal.τ).loc Cert.ShortRefIdeal.main_arg2) = m ((c.tc : Thread Cert.ShortIdeal.nD Cert.ShortIdeal.τ).loc Cert.ShortIdeal.main_arg2)
      ∧ m' ((c.tc : Thread Cert.ShortRefIdeal.nD Cert.ShortRefIdeal.τ).loc Cert.ShortRefIdeal.main_arg3) = m ((c.tc : Thread Cert.ShortIdeal.nD Cert.ShortIdeal.τ).loc Cert.ShortIdeal.main_arg3)
      ∧ m' ((c.tc : Thread Cert.ShortRefIdeal.nD Cert.ShortRefIdeal.τ).loc Cert.ShortRefIdeal.main_arg4) = m ((c.tc : Thread Cert.ShortIdeal.nD Cert.ShortIdeal.τ).loc Cert.ShortIdeal.main_arg4)
      ∧ m' ((c.tc : Thread Cert.ShortRefIdeal.nD Cert.ShortRefIdeal.τ).loc Cert.ShortRefIdeal.main_arg5) = m ((c.tc : Thread Cert.ShortIdeal.nD Cert.ShortIdeal.τ).loc Cert.ShortIdeal.main_arg5)
      ∧ m' ((c.tc : Thread Cert.ShortRefIdeal.nD Cert.ShortRefIdeal.τ).loc Cert.ShortRefIdeal.main_arg6) = m ((c.tc : Thread Cert.ShortIdeal.nD Cert.ShortIdeal.τ).loc Cert.ShortIdeal.main_arg6)
      ∧ m' ((c.tc : Thread Cert.ShortRefIdeal.nD Cert.ShortRefIdeal.τ).loc Cert.ShortRefIdeal.main_arg7) = m ((c.tc : Thread Cert.ShortIdeal.nD Cert.ShortIdeal.τ).loc Cert.ShortIdeal.main_arg7)) →
    ∃ (v0 : (c : Dev Cert.ShortIdeal.nD) → Buf (Elt Ideal) ((c.tc : Thread Cert.ShortIdeal.nD Cert.ShortIdeal.τ).loc Cert.ShortIdeal.main_v26)) (v1 : (c : Dev Cert.ShortIdeal.nD) → Buf (Elt Ideal) ((c.tc : Thread Cert.ShortIdeal.nD Cert.ShortIdeal.τ).loc Cert.ShortIdeal.main_v27)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v26) = v0 c
          ∧ r.2.mem ((c.tc : Thread Cert.ShortIdeal.nD Cert.ShortIdeal.τ).loc Cert.ShortIdeal.main_v27) = v1 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
          ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2)
          ∧ r.2.mem ((c.tc : Thread Cert.ShortIdeal.nD Cert.ShortIdeal.τ).loc Cert.ShortIdeal.main_arg3) = m ((c.tc : Thread Cert.ShortIdeal.nD Cert.ShortIdeal.τ).loc Cert.ShortIdeal.main_arg3)
          ∧ r.2.mem ((c.tc : Thread Cert.ShortIdeal.nD Cert.ShortIdeal.τ).loc Cert.ShortIdeal.main_arg4) = m ((c.tc : Thread Cert.ShortIdeal.nD Cert.ShortIdeal.τ).loc Cert.ShortIdeal.main_arg4)
          ∧ r.2.mem ((c.tc : Thread Cert.ShortIdeal.nD Cert.ShortIdeal.τ).loc Cert.ShortIdeal.main_arg5) = m ((c.tc : Thread Cert.ShortIdeal.nD Cert.ShortIdeal.τ).loc Cert.ShortIdeal.main_arg5)
          ∧ r.2.mem ((c.tc : Thread Cert.ShortIdeal.nD Cert.ShortIdeal.τ).loc Cert.ShortIdeal.main_arg6) = m ((c.tc : Thread Cert.ShortIdeal.nD Cert.ShortIdeal.τ).loc Cert.ShortIdeal.main_arg6)
          ∧ r.2.mem ((c.tc : Thread Cert.ShortIdeal.nD Cert.ShortIdeal.τ).loc Cert.ShortIdeal.main_arg7) = m ((c.tc : Thread Cert.ShortIdeal.nD Cert.ShortIdeal.τ).loc Cert.ShortIdeal.main_arg7))
      ∧ θ_run (Cert.ShortRefIdeal.defs (F := Ideal)) (onTc (τ := Cert.ShortRefIdeal.τ) (Cert.ShortRefIdeal.main (F := Ideal))) ⟨m', fun _ => 0, g'⟩ (fun r => ∀ c : Dev Cert.ShortRefIdeal.nD,
          r.2.mem ((c.tc : Thread Cert.ShortRefIdeal.nD Cert.ShortRefIdeal.τ).loc Cert.ShortRefIdeal.main_v70) = v0 c
          ∧ r.2.mem ((c.tc : Thread Cert.ShortRefIdeal.nD Cert.ShortRefIdeal.τ).loc Cert.ShortRefIdeal.main_v53) = v1 c
          ∧ r.2.mem ((c.tc : Thread Cert.ShortRefIdeal.nD Cert.ShortRefIdeal.τ).loc Cert.ShortRefIdeal.main_arg0) = m' ((c.tc : Thread Cert.ShortRefIdeal.nD Cert.ShortRefIdeal.τ).loc Cert.ShortRefIdeal.main_arg0)
          ∧ r.2.mem ((c.tc : Thread Cert.ShortRefIdeal.nD Cert.ShortRefIdeal.τ).loc Cert.ShortRefIdeal.main_arg1) = m' ((c.tc : Thread Cert.ShortRefIdeal.nD Cert.ShortRefIdeal.τ).loc Cert.ShortRefIdeal.main_arg1)
          ∧ r.2.mem ((c.tc : Thread Cert.ShortRefIdeal.nD Cert.ShortRefIdeal.τ).loc Cert.ShortRefIdeal.main_arg2) = m' ((c.tc : Thread Cert.ShortRefIdeal.nD Cert.ShortRefIdeal.τ).loc Cert.ShortRefIdeal.main_arg2)
          ∧ r.2.mem ((c.tc : Thread Cert.ShortRefIdeal.nD Cert.ShortRefIdeal.τ).loc Cert.ShortRefIdeal.main_arg3) = m' ((c.tc : Thread Cert.ShortRefIdeal.nD Cert.ShortRefIdeal.τ).loc Cert.ShortRefIdeal.main_arg3)
          ∧ r.2.mem ((c.tc : Thread Cert.ShortRefIdeal.nD Cert.ShortRefIdeal.τ).loc Cert.ShortRefIdeal.main_arg4) = m' ((c.tc : Thread Cert.ShortRefIdeal.nD Cert.ShortRefIdeal.τ).loc Cert.ShortRefIdeal.main_arg4)
          ∧ r.2.mem ((c.tc : Thread Cert.ShortRefIdeal.nD Cert.ShortRefIdeal.τ).loc Cert.ShortRefIdeal.main_arg5) = m' ((c.tc : Thread Cert.ShortRefIdeal.nD Cert.ShortRefIdeal.τ).loc Cert.ShortRefIdeal.main_arg5)
          ∧ r.2.mem ((c.tc : Thread Cert.ShortRefIdeal.nD Cert.ShortRefIdeal.τ).loc Cert.ShortRefIdeal.main_arg6) = m' ((c.tc : Thread Cert.ShortRefIdeal.nD Cert.ShortRefIdeal.τ).loc Cert.ShortRefIdeal.main_arg6)
          ∧ r.2.mem ((c.tc : Thread Cert.ShortRefIdeal.nD Cert.ShortRefIdeal.τ).loc Cert.ShortRefIdeal.main_arg7) = m' ((c.tc : Thread Cert.ShortRefIdeal.nD Cert.ShortRefIdeal.τ).loc Cert.ShortRefIdeal.main_arg7))

def preserves_EvenInS_EvenInSIdeal : Prop :=
  True

def algebraic_EvenInSIdeal_EvenInSRefIdeal [hEvenInSIdeal : Cert.EvenInSIdeal.Facts] [hEvenInSRefIdeal : Cert.EvenInSRefIdeal.Facts] : Prop :=
  ∀ (m : (ℓ : Loc Cert.EvenInSIdeal.nD Cert.EvenInSIdeal.τ Cert.EvenInSIdeal.sig) → Buf (Elt Ideal) ℓ) (g : Dev Cert.EvenInSIdeal.nD → PrngReg)
    (m' : (ℓ : Loc Cert.EvenInSRefIdeal.nD Cert.EvenInSRefIdeal.τ Cert.EvenInSRefIdeal.sig) → Buf (Elt Ideal) ℓ) (g' : Dev Cert.EvenInSRefIdeal.nD → PrngReg), Pre_EvenInSIdeal m →
    (∀ c : Dev Cert.EvenInSIdeal.nD,
      m' ((c.tc : Thread Cert.EvenInSRefIdeal.nD Cert.EvenInSRefIdeal.τ).loc Cert.EvenInSRefIdeal.main_arg0) = m ((c.tc : Thread Cert.EvenInSIdeal.nD Cert.EvenInSIdeal.τ).loc Cert.EvenInSIdeal.main_arg0)
      ∧ m' ((c.tc : Thread Cert.EvenInSRefIdeal.nD Cert.EvenInSRefIdeal.τ).loc Cert.EvenInSRefIdeal.main_arg1) = m ((c.tc : Thread Cert.EvenInSIdeal.nD Cert.EvenInSIdeal.τ).loc Cert.EvenInSIdeal.main_arg1)
      ∧ m' ((c.tc : Thread Cert.EvenInSRefIdeal.nD Cert.EvenInSRefIdeal.τ).loc Cert.EvenInSRefIdeal.main_arg2) = m ((c.tc : Thread Cert.EvenInSIdeal.nD Cert.EvenInSIdeal.τ).loc Cert.EvenInSIdeal.main_arg2)) →
    ∃ (v0 : (c : Dev Cert.EvenInSIdeal.nD) → Buf (Elt Ideal) ((c.tc : Thread Cert.EvenInSIdeal.nD Cert.EvenInSIdeal.τ).loc Cert.EvenInSIdeal.main_v14)) (v1 : (c : Dev Cert.EvenInSIdeal.nD) → Buf (Elt Ideal) ((c.tc : Thread Cert.EvenInSIdeal.nD Cert.EvenInSIdeal.τ).loc Cert.EvenInSIdeal.main_v20)),
      θ_run (Cert.EvenInSIdeal.defs (F := Ideal)) (onTc (τ := Cert.EvenInSIdeal.τ) (Cert.EvenInSIdeal.main (F := Ideal))) ⟨m, fun _ => 0, g⟩ (fun r => ∀ c : Dev Cert.EvenInSIdeal.nD,
          r.2.mem ((c.tc : Thread Cert.EvenInSIdeal.nD Cert.EvenInSIdeal.τ).loc Cert.EvenInSIdeal.main_v14) = v0 c
          ∧ r.2.mem ((c.tc : Thread Cert.EvenInSIdeal.nD Cert.EvenInSIdeal.τ).loc Cert.EvenInSIdeal.main_v20) = v1 c
          ∧ r.2.mem ((c.tc : Thread Cert.EvenInSIdeal.nD Cert.EvenInSIdeal.τ).loc Cert.EvenInSIdeal.main_arg0) = m ((c.tc : Thread Cert.EvenInSIdeal.nD Cert.EvenInSIdeal.τ).loc Cert.EvenInSIdeal.main_arg0)
          ∧ r.2.mem ((c.tc : Thread Cert.EvenInSIdeal.nD Cert.EvenInSIdeal.τ).loc Cert.EvenInSIdeal.main_arg1) = m ((c.tc : Thread Cert.EvenInSIdeal.nD Cert.EvenInSIdeal.τ).loc Cert.EvenInSIdeal.main_arg1)
          ∧ r.2.mem ((c.tc : Thread Cert.EvenInSIdeal.nD Cert.EvenInSIdeal.τ).loc Cert.EvenInSIdeal.main_arg2) = m ((c.tc : Thread Cert.EvenInSIdeal.nD Cert.EvenInSIdeal.τ).loc Cert.EvenInSIdeal.main_arg2))
      ∧ θ_run (Cert.EvenInSRefIdeal.defs (F := Ideal)) (onTc (τ := Cert.EvenInSRefIdeal.τ) (Cert.EvenInSRefIdeal.main (F := Ideal))) ⟨m', fun _ => 0, g'⟩ (fun r => ∀ c : Dev Cert.EvenInSRefIdeal.nD,
          r.2.mem ((c.tc : Thread Cert.EvenInSRefIdeal.nD Cert.EvenInSRefIdeal.τ).loc Cert.EvenInSRefIdeal.main_v17) = v0 c
          ∧ r.2.mem ((c.tc : Thread Cert.EvenInSRefIdeal.nD Cert.EvenInSRefIdeal.τ).loc Cert.EvenInSRefIdeal.main_v18) = v1 c
          ∧ r.2.mem ((c.tc : Thread Cert.EvenInSRefIdeal.nD Cert.EvenInSRefIdeal.τ).loc Cert.EvenInSRefIdeal.main_arg0) = m' ((c.tc : Thread Cert.EvenInSRefIdeal.nD Cert.EvenInSRefIdeal.τ).loc Cert.EvenInSRefIdeal.main_arg0)
          ∧ r.2.mem ((c.tc : Thread Cert.EvenInSRefIdeal.nD Cert.EvenInSRefIdeal.τ).loc Cert.EvenInSRefIdeal.main_arg1) = m' ((c.tc : Thread Cert.EvenInSRefIdeal.nD Cert.EvenInSRefIdeal.τ).loc Cert.EvenInSRefIdeal.main_arg1)
          ∧ r.2.mem ((c.tc : Thread Cert.EvenInSRefIdeal.nD Cert.EvenInSRefIdeal.τ).loc Cert.EvenInSRefIdeal.main_arg2) = m' ((c.tc : Thread Cert.EvenInSRefIdeal.nD Cert.EvenInSRefIdeal.τ).loc Cert.EvenInSRefIdeal.main_arg2))

def preserves_EvenOutS_EvenOutSIdeal : Prop :=
  True

def algebraic_EvenOutSIdeal_EvenOutSRefIdeal [hEvenOutSIdeal : Cert.EvenOutSIdeal.Facts] [hEvenOutSRefIdeal : Cert.EvenOutSRefIdeal.Facts] : Prop :=
  ∀ (m : (ℓ : Loc Cert.EvenOutSIdeal.nD Cert.EvenOutSIdeal.τ Cert.EvenOutSIdeal.sig) → Buf (Elt Ideal) ℓ) (g : Dev Cert.EvenOutSIdeal.nD → PrngReg)
    (m' : (ℓ : Loc Cert.EvenOutSRefIdeal.nD Cert.EvenOutSRefIdeal.τ Cert.EvenOutSRefIdeal.sig) → Buf (Elt Ideal) ℓ) (g' : Dev Cert.EvenOutSRefIdeal.nD → PrngReg), Pre_EvenOutSIdeal m →
    (∀ c : Dev Cert.EvenOutSIdeal.nD,
      m' ((c.tc : Thread Cert.EvenOutSRefIdeal.nD Cert.EvenOutSRefIdeal.τ).loc Cert.EvenOutSRefIdeal.main_arg0) = m ((c.tc : Thread Cert.EvenOutSIdeal.nD Cert.EvenOutSIdeal.τ).loc Cert.EvenOutSIdeal.main_arg0)
      ∧ m' ((c.tc : Thread Cert.EvenOutSRefIdeal.nD Cert.EvenOutSRefIdeal.τ).loc Cert.EvenOutSRefIdeal.main_arg1) = m ((c.tc : Thread Cert.EvenOutSIdeal.nD Cert.EvenOutSIdeal.τ).loc Cert.EvenOutSIdeal.main_arg1)
      ∧ m' ((c.tc : Thread Cert.EvenOutSRefIdeal.nD Cert.EvenOutSRefIdeal.τ).loc Cert.EvenOutSRefIdeal.main_arg2) = m ((c.tc : Thread Cert.EvenOutSIdeal.nD Cert.EvenOutSIdeal.τ).loc Cert.EvenOutSIdeal.main_arg2)
      ∧ m' ((c.tc : Thread Cert.EvenOutSRefIdeal.nD Cert.EvenOutSRefIdeal.τ).loc Cert.EvenOutSRefIdeal.main_arg3) = m ((c.tc : Thread Cert.EvenOutSIdeal.nD Cert.EvenOutSIdeal.τ).loc Cert.EvenOutSIdeal.main_arg3)) →
    ∃ (v0 : (c : Dev Cert.EvenOutSIdeal.nD) → Buf (Elt Ideal) ((c.tc : Thread Cert.EvenOutSIdeal.nD Cert.EvenOutSIdeal.τ).loc Cert.EvenOutSIdeal.main_v2)),
      θ_run (Cert.EvenOutSIdeal.defs (F := Ideal)) (onTc (τ := Cert.EvenOutSIdeal.τ) (Cert.EvenOutSIdeal.main (F := Ideal))) ⟨m, fun _ => 0, g⟩ (fun r => ∀ c : Dev Cert.EvenOutSIdeal.nD,
          r.2.mem ((c.tc : Thread Cert.EvenOutSIdeal.nD Cert.EvenOutSIdeal.τ).loc Cert.EvenOutSIdeal.main_v2) = v0 c
          ∧ r.2.mem ((c.tc : Thread Cert.EvenOutSIdeal.nD Cert.EvenOutSIdeal.τ).loc Cert.EvenOutSIdeal.main_arg0) = m ((c.tc : Thread Cert.EvenOutSIdeal.nD Cert.EvenOutSIdeal.τ).loc Cert.EvenOutSIdeal.main_arg0)
          ∧ r.2.mem ((c.tc : Thread Cert.EvenOutSIdeal.nD Cert.EvenOutSIdeal.τ).loc Cert.EvenOutSIdeal.main_arg1) = m ((c.tc : Thread Cert.EvenOutSIdeal.nD Cert.EvenOutSIdeal.τ).loc Cert.EvenOutSIdeal.main_arg1)
          ∧ r.2.mem ((c.tc : Thread Cert.EvenOutSIdeal.nD Cert.EvenOutSIdeal.τ).loc Cert.EvenOutSIdeal.main_arg2) = m ((c.tc : Thread Cert.EvenOutSIdeal.nD Cert.EvenOutSIdeal.τ).loc Cert.EvenOutSIdeal.main_arg2)
          ∧ r.2.mem ((c.tc : Thread Cert.EvenOutSIdeal.nD Cert.EvenOutSIdeal.τ).loc Cert.EvenOutSIdeal.main_arg3) = m ((c.tc : Thread Cert.EvenOutSIdeal.nD Cert.EvenOutSIdeal.τ).loc Cert.EvenOutSIdeal.main_arg3))
      ∧ θ_run (Cert.EvenOutSRefIdeal.defs (F := Ideal)) (onTc (τ := Cert.EvenOutSRefIdeal.τ) (Cert.EvenOutSRefIdeal.main (F := Ideal))) ⟨m', fun _ => 0, g'⟩ (fun r => ∀ c : Dev Cert.EvenOutSRefIdeal.nD,
          r.2.mem ((c.tc : Thread Cert.EvenOutSRefIdeal.nD Cert.EvenOutSRefIdeal.τ).loc Cert.EvenOutSRefIdeal.main_v6) = v0 c
          ∧ r.2.mem ((c.tc : Thread Cert.EvenOutSRefIdeal.nD Cert.EvenOutSRefIdeal.τ).loc Cert.EvenOutSRefIdeal.main_arg0) = m' ((c.tc : Thread Cert.EvenOutSRefIdeal.nD Cert.EvenOutSRefIdeal.τ).loc Cert.EvenOutSRefIdeal.main_arg0)
          ∧ r.2.mem ((c.tc : Thread Cert.EvenOutSRefIdeal.nD Cert.EvenOutSRefIdeal.τ).loc Cert.EvenOutSRefIdeal.main_arg1) = m' ((c.tc : Thread Cert.EvenOutSRefIdeal.nD Cert.EvenOutSRefIdeal.τ).loc Cert.EvenOutSRefIdeal.main_arg1)
          ∧ r.2.mem ((c.tc : Thread Cert.EvenOutSRefIdeal.nD Cert.EvenOutSRefIdeal.τ).loc Cert.EvenOutSRefIdeal.main_arg2) = m' ((c.tc : Thread Cert.EvenOutSRefIdeal.nD Cert.EvenOutSRefIdeal.τ).loc Cert.EvenOutSRefIdeal.main_arg2)
          ∧ r.2.mem ((c.tc : Thread Cert.EvenOutSRefIdeal.nD Cert.EvenOutSRefIdeal.τ).loc Cert.EvenOutSRefIdeal.main_arg3) = m' ((c.tc : Thread Cert.EvenOutSRefIdeal.nD Cert.EvenOutSRefIdeal.τ).loc Cert.EvenOutSRefIdeal.main_arg3))

def preserves_PostS_PostSIdeal : Prop :=
  True

def algebraic_PostSIdeal_PostSRefIdeal_pre_finite_post_sample [hPostSIdeal : Cert.PostSIdeal.Facts] [hPostSRefIdeal : Cert.PostSRefIdeal.Facts] [hPre_finite_post_sample : Cert.Pre_finite_post_sample.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal_finite_post_sample m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)) →
    ∃ (v0 : (c : Dev Cert.PostSIdeal.nD) → Buf (Elt Ideal) ((c.tc : Thread Cert.PostSIdeal.nD Cert.PostSIdeal.τ).loc Cert.PostSIdeal.main_v10)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v10) = v0 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v32) = v0 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4))

def preserves_FinalS_FinalSIdeal : Prop :=
  True

def algebraic_FinalSIdeal_FinalSRefIdeal [hFinalSIdeal : Cert.FinalSIdeal.Facts] [hFinalSRefIdeal : Cert.FinalSRefIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.FinalSRefIdeal.nD Cert.FinalSRefIdeal.τ Cert.FinalSRefIdeal.sig) → Buf (Elt Ideal) ℓ) (g' : Dev Cert.FinalSRefIdeal.nD → PrngReg), Pre_FinalSIdeal m →
    (∀ c : Dev Cert.FinalSIdeal.nD,
      m' ((c.tc : Thread Cert.FinalSRefIdeal.nD Cert.FinalSRefIdeal.τ).loc Cert.FinalSRefIdeal.main_arg0) = m ((c.tc : Thread Cert.FinalSIdeal.nD Cert.FinalSIdeal.τ).loc Cert.FinalSIdeal.main_arg0)
      ∧ m' ((c.tc : Thread Cert.FinalSRefIdeal.nD Cert.FinalSRefIdeal.τ).loc Cert.FinalSRefIdeal.main_arg1) = m ((c.tc : Thread Cert.FinalSIdeal.nD Cert.FinalSIdeal.τ).loc Cert.FinalSIdeal.main_arg1)) →
    ∃ (v0 : (c : Dev Cert.FinalSIdeal.nD) → Buf (Elt Ideal) ((c.tc : Thread Cert.FinalSIdeal.nD Cert.FinalSIdeal.τ).loc Cert.FinalSIdeal.main_v2)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v2) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ θ_run (Cert.FinalSRefIdeal.defs (F := Ideal)) (onTc (τ := Cert.FinalSRefIdeal.τ) (Cert.FinalSRefIdeal.main (F := Ideal))) ⟨m', fun _ => 0, g'⟩ (fun r => ∀ c : Dev Cert.FinalSRefIdeal.nD,
          r.2.mem ((c.tc : Thread Cert.FinalSRefIdeal.nD Cert.FinalSRefIdeal.τ).loc Cert.FinalSRefIdeal.main_v13) = v0 c
          ∧ r.2.mem ((c.tc : Thread Cert.FinalSRefIdeal.nD Cert.FinalSRefIdeal.τ).loc Cert.FinalSRefIdeal.main_arg0) = m' ((c.tc : Thread Cert.FinalSRefIdeal.nD Cert.FinalSRefIdeal.τ).loc Cert.FinalSRefIdeal.main_arg0)
          ∧ r.2.mem ((c.tc : Thread Cert.FinalSRefIdeal.nD Cert.FinalSRefIdeal.τ).loc Cert.FinalSRefIdeal.main_arg1) = m' ((c.tc : Thread Cert.FinalSRefIdeal.nD Cert.FinalSRefIdeal.τ).loc Cert.FinalSRefIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hGmlp : Cert.Gmlp.Facts) (hGmlpIdeal : Cert.GmlpIdeal.Facts) (hGmlpRefIdeal : Cert.GmlpRefIdeal.Facts) (hEvenIn : Cert.EvenIn.Facts) (hEvenInIdeal : Cert.EvenInIdeal.Facts) (hEvenInRefIdeal : Cert.EvenInRefIdeal.Facts) (hEvenOut : Cert.EvenOut.Facts) (hEvenOutIdeal : Cert.EvenOutIdeal.Facts) (hEvenOutRefIdeal : Cert.EvenOutRefIdeal.Facts) (hPrep : Cert.Prep.Facts) (hPrepIdeal : Cert.PrepIdeal.Facts) (hPrepRefIdeal : Cert.PrepRefIdeal.Facts) (hPost : Cert.Post.Facts) (hPostIdeal : Cert.PostIdeal.Facts) (hPostRefIdeal : Cert.PostRefIdeal.Facts) (hFinal : Cert.Final.Facts) (hFinalIdeal : Cert.FinalIdeal.Facts) (hFinalRefIdeal : Cert.FinalRefIdeal.Facts) (hShort : Cert.Short.Facts) (hShortIdeal : Cert.ShortIdeal.Facts) (hShortRefIdeal : Cert.ShortRefIdeal.Facts) (hEvenInS : Cert.EvenInS.Facts) (hEvenInSIdeal : Cert.EvenInSIdeal.Facts) (hEvenInSRefIdeal : Cert.EvenInSRefIdeal.Facts) (hEvenOutS : Cert.EvenOutS.Facts) (hEvenOutSIdeal : Cert.EvenOutSIdeal.Facts) (hEvenOutSRefIdeal : Cert.EvenOutSRefIdeal.Facts) (hPostS : Cert.PostS.Facts) (hPostSIdeal : Cert.PostSIdeal.Facts) (hPostSRefIdeal : Cert.PostSRefIdeal.Facts) (hFinalS : Cert.FinalS.Facts) (hFinalSIdeal : Cert.FinalSIdeal.Facts) (hFinalSRefIdeal : Cert.FinalSRefIdeal.Facts) (hPre_finite_inputs : Cert.Pre_finite_inputs.Facts) (hPre_finite_prep : Cert.Pre_finite_prep.Facts) (hPre_finite_post : Cert.Pre_finite_post.Facts) (hPre_finite_post_sample : Cert.Pre_finite_post_sample.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Ffn (hFfn := hFfn)
    ∧ quiescent_FfnIdeal (hFfnIdeal := hFfnIdeal)
    ∧ quiescent_FfnRefIdeal (hFfnRefIdeal := hFfnRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ quiescent_Post (hPost := hPost)
    ∧ quiescent_PostIdeal (hPostIdeal := hPostIdeal)
    ∧ quiescent_PostIdeal_pre_finite_post (hPostIdeal := hPostIdeal) (hPre_finite_post := hPre_finite_post)
    ∧ quiescent_PostRefIdeal (hPostRefIdeal := hPostRefIdeal)
    ∧ quiescent_PostRefIdeal_pre_finite_post (hPostRefIdeal := hPostRefIdeal) (hPre_finite_post := hPre_finite_post)
    ∧ quiescent_Final (hFinal := hFinal)
    ∧ quiescent_FinalIdeal (hFinalIdeal := hFinalIdeal)
    ∧ quiescent_FinalRefIdeal (hFinalRefIdeal := hFinalRefIdeal)
    ∧ quiescent_Short (hShort := hShort)
    ∧ quiescent_ShortIdeal (hShortIdeal := hShortIdeal)
    ∧ quiescent_ShortRefIdeal (hShortRefIdeal := hShortRefIdeal)
    ∧ quiescent_EvenInS (hEvenInS := hEvenInS)
    ∧ quiescent_EvenInSIdeal (hEvenInSIdeal := hEvenInSIdeal)
    ∧ quiescent_EvenInSRefIdeal (hEvenInSRefIdeal := hEvenInSRefIdeal)
    ∧ quiescent_EvenOutS (hEvenOutS := hEvenOutS)
    ∧ quiescent_EvenOutSIdeal (hEvenOutSIdeal := hEvenOutSIdeal)
    ∧ quiescent_EvenOutSRefIdeal (hEvenOutSRefIdeal := hEvenOutSRefIdeal)
    ∧ quiescent_PostS (hPostS := hPostS)
    ∧ quiescent_PostSIdeal (hPostSIdeal := hPostSIdeal)
    ∧ quiescent_PostSIdeal_pre_finite_post_sample (hPostSIdeal := hPostSIdeal) (hPre_finite_post_sample := hPre_finite_post_sample)
    ∧ quiescent_PostSRefIdeal (hPostSRefIdeal := hPostSRefIdeal)
    ∧ quiescent_PostSRefIdeal_pre_finite_post_sample (hPostSRefIdeal := hPostSRefIdeal) (hPre_finite_post_sample := hPre_finite_post_sample)
    ∧ quiescent_FinalS (hFinalS := hFinalS)
    ∧ quiescent_FinalSIdeal (hFinalSIdeal := hFinalSIdeal)
    ∧ quiescent_FinalSRefIdeal (hFinalSRefIdeal := hFinalSRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Ffn_FfnIdeal
    ∧ algebraic_FfnIdeal_FfnRefIdeal (hFfnIdeal := hFfnIdeal) (hFfnRefIdeal := hFfnRefIdeal)
    ∧ preserves_Gmlp_GmlpIdeal
    ∧ algebraic_GmlpIdeal_GmlpRefIdeal (hGmlpIdeal := hGmlpIdeal) (hGmlpRefIdeal := hGmlpRefIdeal)
    ∧ preserves_EvenIn_EvenInIdeal
    ∧ algebraic_EvenInIdeal_EvenInRefIdeal (hEvenInIdeal := hEvenInIdeal) (hEvenInRefIdeal := hEvenInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_Prep_PrepIdeal
    ∧ algebraic_PrepIdeal_PrepRefIdeal_pre_finite_prep (hPrepIdeal := hPrepIdeal) (hPrepRefIdeal := hPrepRefIdeal) (hPre_finite_prep := hPre_finite_prep)
    ∧ preserves_Post_PostIdeal
    ∧ algebraic_PostIdeal_PostRefIdeal_pre_finite_post (hPostIdeal := hPostIdeal) (hPostRefIdeal := hPostRefIdeal) (hPre_finite_post := hPre_finite_post)
    ∧ preserves_Final_FinalIdeal
    ∧ algebraic_FinalIdeal_FinalRefIdeal (hFinalIdeal := hFinalIdeal) (hFinalRefIdeal := hFinalRefIdeal)
    ∧ preserves_Short_ShortIdeal
    ∧ algebraic_ShortIdeal_ShortRefIdeal (hShortIdeal := hShortIdeal) (hShortRefIdeal := hShortRefIdeal)
    ∧ preserves_EvenInS_EvenInSIdeal
    ∧ algebraic_EvenInSIdeal_EvenInSRefIdeal (hEvenInSIdeal := hEvenInSIdeal) (hEvenInSRefIdeal := hEvenInSRefIdeal)
    ∧ preserves_EvenOutS_EvenOutSIdeal
    ∧ algebraic_EvenOutSIdeal_EvenOutSRefIdeal (hEvenOutSIdeal := hEvenOutSIdeal) (hEvenOutSRefIdeal := hEvenOutSRefIdeal)
    ∧ preserves_PostS_PostSIdeal
    ∧ algebraic_PostSIdeal_PostSRefIdeal_pre_finite_post_sample (hPostSIdeal := hPostSIdeal) (hPostSRefIdeal := hPostSRefIdeal) (hPre_finite_post_sample := hPre_finite_post_sample)
    ∧ preserves_FinalS_FinalSIdeal
    ∧ algebraic_FinalSIdeal_FinalSRefIdeal (hFinalSIdeal := hFinalSIdeal) (hFinalSRefIdeal := hFinalSRefIdeal)
-- ==== Pre_finite_inputs.lean ====
abbrev S8192x3072 : Shape := ⟨2, ![8192, 3072]⟩
abbrev S8 : Shape := ⟨1, ![8]⟩
abbrev S8192x2048 : Shape := ⟨2, ![8192, 2048]⟩
abbrev S_ : Shape := ⟨0, ![]⟩

class Facts : Prop where
  slices_S8192x3072_S8192x2048_0_0 : S8192x3072.Slices ![0, 0] S8192x2048
  bcast_S_S8192x2048 : S_.BroadcastsInDim S8192x2048 (![] : Fin 0 → Fin S8192x2048.rank)
  bcast_S_S8 : S_.BroadcastsInDim S8 (![] : Fin 0 → Fin S8.rank)

variable [Facts]

def fn {F : FTy → Type} [FloatOps F] (main_arg0 : FVec F S8192x3072 .f32) (main_arg1 : FVec F S8 .f32) : IVec S8192x2048 1 × IVec S8 1 :=
  let main_v0 : FVec F S8192x2048 .f32 := (extractStridedSlice S8192x2048 ![0, 0] · slices_S8192x3072_S8192x2048_0_0) main_arg0
  let main_v1 : FVec F S8192x2048 .f32 := subf main_v0 main_v0
  let main_cst : FVec F S_ .f32 := constant S_ .f32 0x00000000#32
  let main_v2 : FVec F S8192x2048 .f32 := broadcastInDim S8192x2048 ![] bcast_S_S8192x2048 main_cst
  let main_v3 : IVec S8192x2048 1 := cmpf .oeq main_v1 main_v2
  let main_v4 : FVec F S8 .f32 := subf main_arg1 main_arg1
  let main_cst_0 : FVec F S_ .f32 := constant S_ .f32 0x00000000#32
  let main_v5 : FVec F S8 .f32 := broadcastInDim S8 ![] bcast_S_S8 main_cst_0
  let main_v6 : IVec S8 1 := cmpf .oeq main_v4 main_v5
  (main_v3, main_v6)
-- ==== Pre_finite_post.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S8192x1024 .f32) (main_arg3 : FVec F S1024 .f32) (main_arg4 : FVec F S1024 .f32) : IVec S8192x1024 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  main_v2
-- ==== Pre_finite_post_sample.lean ====
abbrev S64x1024 : Shape := ⟨2, ![64, 1024]⟩
abbrev S1024 : Shape := ⟨1, ![1024]⟩
abbrev S_ : Shape := ⟨0, ![]⟩

class Facts : Prop where
  bcast_S_S64x1024 : S_.BroadcastsInDim S64x1024 (![] : Fin 0 → Fin S64x1024.rank)

variable [Facts]

def fn {F : FTy → Type} [FloatOps F] (main_arg0 : FVec F S64x1024 .f32) (main_arg1 : FVec F S64x1024 .f32) (main_arg2 : FVec F S64x1024 .f32) (main_arg3 : FVec F S1024 .f32) (main_arg4 : FVec F S1024 .f32) : IVec S64x1024 1 :=
  let main_v0 : FVec F S64x1024 .f32 := subf main_arg0 main_arg0
  let main_cst : FVec F S_ .f32 := constant S_ .f32 0x00000000#32
  let main_v1 : FVec F S64x1024 .f32 := broadcastInDim S64x1024 ![] bcast_S_S64x1024 main_cst
  let main_v2 : IVec S64x1024 1 := cmpf .oeq main_v0 main_v1
  main_v2
-- ==== Pre_finite_prep.lean ====
abbrev S8192x3584 : Shape := ⟨2, ![8192, 3584]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16x64 : Shape := ⟨2, ![16, 64]⟩
abbrev S8192x2048 : Shape := ⟨2, ![8192, 2048]⟩
abbrev S8192x64 : Shape := ⟨2, ![8192, 64]⟩
abbrev S2048 : Shape := ⟨1, ![2048]⟩
abbrev S64 : Shape := ⟨1, ![64]⟩
abbrev S_ : Shape := ⟨0, ![]⟩

class Facts : Prop where
  slices_S8192x3584_S8192x2048_0_0 : S8192x3584.Slices ![0, 0] S8192x2048
  slices_S8192x3584_S8192x64_0_3200 : S8192x3584.Slices ![0, 3200] S8192x64
  slices_S3360_S2048_0 : S3360.Slices ![0] S2048
  slices_S3360_S64_3136 : S3360.Slices ![3136] S64
  bcast_S_S8192x2048 : S_.BroadcastsInDim S8192x2048 (![] : Fin 0 → Fin S8192x2048.rank)
  bcast_S_S8192x64 : S_.BroadcastsInDim S8192x64 (![] : Fin 0 → Fin S8192x64.rank)
  bcast_S_S2048 : S_.BroadcastsInDim S2048 (![] : Fin 0 → Fin S2048.rank)
  bcast_S_S64 : S_.BroadcastsInDim S64 (![] : Fin 0 → Fin S64.rank)
  bcast_S_S64x1024 : S_.BroadcastsInDim S64x1024 (![] : Fin 0 → Fin S64x1024.rank)
  bcast_S_S160x1024 : S_.BroadcastsInDim S160x1024 (![] : Fin 0 → Fin S160x1024.rank)
  bcast_S_S1024 : S_.BroadcastsInDim S1024 (![] : Fin 0 → Fin S1024.rank)
  bcast_S_S16x64 : S_.BroadcastsInDim S16x64 (![] : Fin 0 → Fin S16x64.rank)

variable [Facts]

def fn_part1 {F : FTy → Type} [FloatOps F] (main_arg5 : FVec F S64x1024 .f32) (main_arg6 : FVec F S160x1024 .f32) (main_arg7 : FVec F S1024 .f32) (main_arg8 : FVec F S1024 .f32) (main_arg9 : FVec F S16x64 .f32) (main_v6 : IVec S8192x2048 1) (main_v9 : IVec S8192x64 1) (main_v12 : IVec S2048 1) (main_v15 : IVec S64 1) (main_v18 : IVec S64x1024 1) : IVec S8192x2048 1 × IVec S8192x64 1 × IVec S2048 1 × IVec S64 1 × IVec S64x1024 1 × IVec S64x1024 1 × IVec S160x1024 1 × IVec S1024 1 × IVec S1024 1 × IVec S16x64 1 :=
  let main_v19 : FVec F S64x1024 .f32 := subf main_arg5 main_arg5
  let main_cst_4 : FVec F S_ .f32 := constant S_ .f32 0x00000000#32
  let main_v20 : FVec F S64x1024 .f32 := broadcastInDim S64x1024 ![] bcast_S_S64x1024 main_cst_4
  let main_v21 : IVec S64x1024 1 := cmpf .oeq main_v19 main_v20
  let main_v22 : FVec F S160x1024 .f32 := subf main_arg6 main_arg6
  let main_cst_5 : FVec F S_ .f32 := constant S_ .f32 0x00000000#32
  let main_v23 : FVec F S160x1024 .f32 := broadcastInDim S160x1024 ![] bcast_S_S160x1024 main_cst_5
  let main_v24 : IVec S160x1024 1 := cmpf .oeq main_v22 main_v23
  let main_v25 : FVec F S1024 .f32 := subf main_arg7 main_arg7
  let main_cst_6 : FVec F S_ .f32 := constant S_ .f32 0x00000000#32
  let main_v26 : FVec F S1024 .f32 := broadcastInDim S1024 ![] bcast_S_S1024 main_cst_6
  let main_v27 : IVec S1024 1 := cmpf .oeq main_v25 main_v26
  let main_v28 : FVec F S1024 .f32 := subf main_arg8 main_arg8
  let main_cst_7 : FVec F S_ .f32 := constant S_ .f32 0x00000000#32
  let main_v29 : FVec F S1024 .f32 := broadcastInDim S1024 ![] bcast_S_S1024 main_cst_7
  let main_v30 : IVec S1024 1 := cmpf .oeq main_v28 main_v29
  let main_v31 : FVec F S16x64 .f32 := subf main_arg9 main_arg9
  let main_cst_8 : FVec F S_ .f32 := constant S_ .f32 0x00000000#32
  let main_v32 : FVec F S16x64 .f32 := broadcastInDim S16x64 ![] bcast_S_S16x64 main_cst_8
  let main_v33 : IVec S16x64 1 := cmpf .oeq main_v31 main_v32
  (main_v6, main_v9, main_v12, main_v15, main_v18, main_v21, main_v24, main_v27, main_v30, main_v33)

def fn {F : FTy → Type} [FloatOps F] (main_arg0 : FVec F S8192x3584 .f32) (main_arg1 : FVec F S3360 .f32) (main_arg2 : FVec F S1024 .f32) (main_arg3 : FVec F S64x1024 .f32) (main_arg4 : FVec F S1024 .f32) (main_arg5 : FVec F S64x1024 .f32) (main_arg6 : FVec F S160x1024 .f32) (main_arg7 : FVec F S1024 .f32) (main_arg8 : FVec F S1024 .f32) (main_arg9 : FVec F S16x64 .f32) : IVec S8192x2048 1 × IVec S8192x64 1 × IVec S2048 1 × IVec S64 1 × IVec S64x1024 1 × IVec S64x1024 1 × IVec S160x1024 1 × IVec S1024 1 × IVec S1024 1 × IVec S16x64 1 :=
  let main_v0 : FVec F S8192x2048 .f32 := (extractStridedSlice S8192x2048 ![0, 0] · slices_S8192x3584_S8192x2048_0_0) main_arg0
  let main_v1 : FVec F S8192x64 .f32 := (extractStridedSlice S8192x64 ![0, 3200] · slices_S8192x3584_S8192x64_0_3200) main_arg0
  let main_v2 : FVec F S2048 .f32 := (extractStridedSlice S2048 ![0] · slices_S3360_S2048_0) main_arg1
  let main_v3 : FVec F S64 .f32 := (extractStridedSlice S64 ![3136] · slices_S3360_S64_3136) main_arg1
  let main_v4 : FVec F S8192x2048 .f32 := subf main_v0 main_v0
  let main_cst : FVec F S_ .f32 := constant S_ .f32 0x00000000#32
  let main_v5 : FVec F S8192x2048 .f32 := broadcastInDim S8192x2048 ![] bcast_S_S8192x2048 main_cst
  let main_v6 : IVec S8192x2048 1 := cmpf .oeq main_v4 main_v5
  let main_v7 : FVec F S8192x64 .f32 := subf main_v1 main_v1
  let main_cst_0 : FVec F S_ .f32 := constant S_ .f32 0x00000000#32
  let main_v8 : FVec F S8192x64 .f32 := broadcastInDim S8192x64 ![] bcast_S_S8192x64 main_cst_0
  let main_v9 : IVec S8192x64 1 := cmpf .oeq main_v7 main_v8
  let main_v10 : FVec F S2048 .f32 := subf main_v2 main_v2
  let main_cst_1 : FVec F S_ .f32 := constant S_ .f32 0x00000000#32
  let main_v11 : FVec F S2048 .f32 := broadcastInDim S2048 ![] bcast_S_S2048 main_cst_1
  let main_v12 : IVec S2048 1 := cmpf .oeq main_v10 main_v11
  let main_v13 : FVec F S64 .f32 := subf main_v3 main_v3
  let main_cst_2 : FVec F S_ .f32 := constant S_ .f32 0x00000000#32
  let main_v14 : FVec F S64 .f32 := broadcastInDim S64 ![] bcast_S_S64 main_cst_2
  let main_v15 : IVec S64 1 := cmpf .oeq main_v13 main_v14
  let main_v16 : FVec F S64x1024 .f32 := subf main_arg3 main_arg3
  let main_cst_3 : FVec F S_ .f32 := constant S_ .f32 0x00000000#32
  let main_v17 : FVec F S64x1024 .f32 := broadcastInDim S64x1024 ![] bcast_S_S64x1024 main_cst_3
  let main_v18 : IVec S64x1024 1 := cmpf .oeq main_v16 main_v17
  fn_part1 (F := F) main_arg5 main_arg6 main_arg7 main_arg8 main_arg9 main_v6 main_v9 main_v12 main_v15 main_v18
-- ==== Kernel.lean ====
abbrev S8192x3072 : Shape := ⟨2, ![8192, 3072]⟩
abbrev S8 : Shape := ⟨1, ![8]⟩
abbrev S8192x1024 : Shape := ⟨2, ![8192, 1024]⟩
abbrev S256x128 : Shape := ⟨2, ![256, 128]⟩
abbrev S2048x128 : Shape := ⟨2, ![2048, 128]⟩
abbrev S1 : Shape := ⟨1, ![1]⟩
abbrev S256x256 : Shape := ⟨2, ![256, 256]⟩
abbrev S256x1 : Shape := ⟨2, ![256, 1]⟩
abbrev S256 : Shape := ⟨1, ![256]⟩

abbrev nBuf : Space → Nat
  | .hbm => 3
  | .vmem => 8
  | .smem => 1
  | _ => 0

abbrev bufTy : (tb : Table) → Fin (tcTables nBuf tb) → BufTy
  | .hbm, ⟨0, _⟩ => ⟨S8192x3072, .f32⟩
  | .hbm, ⟨1, _⟩ => ⟨S8, .f32⟩
  | .hbm, ⟨2, _⟩ => ⟨S8192x1024, .bf16⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .bf16⟩
  | .local _ .vmem, ⟨7, _⟩ => ⟨S256x128, .bf16⟩
  | .local _ .smem, ⟨0, _⟩ => ⟨S8, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 8], ![false, false, false]⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let arg2 : BitVec 32 := BitVec.ofNat 32 (i 2).val
  let c256_i32 : BitVec 32 := 256#32
  let v14 : BitVec 32 := Scalar.muli arg2 c256_i32
  v14
def k0_off2 (i : grid0.Coords) : Fin 2 → Nat :=
  let arg2 : BitVec 32 := BitVec.ofNat 32 (i 2).val
  let c256_i32 : BitVec 32 := 256#32
  let v14 : BitVec 32 := Scalar.muli arg2 c256_i32
  let v15 : BitVec 32 := v14
  let v16 : Index := Scalar.indexCast v15
  let c0_4 : Index := 0#32
  ![v16.toNat, 0]
@[reducible] def k0_t1_loop (i : grid0.Coords) : Scf.Loop 32 :=
  let c0_i32 : BitVec 32 := 0#32
  let arg2 : BitVec 32 := BitVec.ofNat 32 (i 2).val
  let v61 : BitVec 32 := Scalar.subi arg2 c0_i32
  let c1_i32 : BitVec 32 := 1#32
  let v63 : BitVec 32 := Scalar.divsi v61 c1_i32
  let v64 : BitVec 32 := Scalar.muli v63 c1_i32
  let v65 : BitVec 32 := Scalar.addi c0_i32 v64
  let c1_i32_18 : BitVec 32 := 1#32
  ⟨c0_i32, v65, c1_i32_18⟩
def k0_mult2 (i : grid0.Coords) (k0_t1 : Fin (k0_t1_loop i).trips) : BitVec 32 :=
  let arg2 : BitVec 32 := BitVec.ofNat 32 (i 2).val
  let c1_i32_22 : BitVec 32 := 1#32
  let v70 : BitVec 32 := Scalar.subi arg2 c1_i32_22
  let c0_i32 : BitVec 32 := 0#32
  let c1_i32_18 : BitVec 32 := 1#32
  let arg8 : BitVec 32 := Scf.iv c0_i32 c1_i32_18 k0_t1
  let v71 : BitVec 32 := Scalar.subi v70 arg8
  let c256_i32_23 : BitVec 32 := 256#32
  let v72 : BitVec 32 := Scalar.muli v71 c256_i32_23
  v72
def k0_off3 (i : grid0.Coords) (k0_t1 : Fin (k0_t1_loop i).trips) : Fin 2 → Nat :=
  let arg2 : BitVec 32 := BitVec.ofNat 32 (i 2).val
  let c1_i32_22 : BitVec 32 := 1#32
  let v70 : BitVec 32 := Scalar.subi arg2 c1_i32_22
  let c0_i32 : BitVec 32 := 0#32
  let c1_i32_18 : BitVec 32 := 1#32
  let arg8 : BitVec 32 := Scf.iv c0_i32 c1_i32_18 k0_t1
  let v71 : BitVec 32 := Scalar.subi v70 arg8
  let c256_i32_23 : BitVec 32 := 256#32
  let v72 : BitVec 32 := Scalar.muli v71 c256_i32_23
  let v73 : BitVec 32 := v72
  let v74 : Index := Scalar.indexCast v73
  let c0_24 : Index := 0#32
  ![v74.toNat, 0]
@[reducible] def k0_t2_loop (i : grid0.Coords) : Scf.Loop 32 :=
  let c0_i32 : BitVec 32 := 0#32
  let arg2 : BitVec 32 := BitVec.ofNat 32 (i 2).val
  let v61 : BitVec 32 := Scalar.subi arg2 c0_i32
  let c1_i32 : BitVec 32 := 1#32
  let v63 : BitVec 32 := Scalar.divsi v61 c1_i32
  let v64 : BitVec 32 := Scalar.muli v63 c1_i32
  let v65 : BitVec 32 := Scalar.addi c0_i32 v64
  let v62 : BitVec 32 := Scalar.addi c0_i32 v61
  let c1_i32_19 : BitVec 32 := 1#32
  ⟨v65, v62, c1_i32_19⟩
def k0_mult3 (i : grid0.Coords) (k0_t2 : Fin (k0_t2_loop i).trips) : BitVec 32 :=
  let arg2 : BitVec 32 := BitVec.ofNat 32 (i 2).val
  let c1_i32_22 : BitVec 32 := 1#32
  let v70 : BitVec 32 := Scalar.subi arg2 c1_i32_22
  let c0_i32 : BitVec 32 := 0#32
  let v61 : BitVec 32 := Scalar.subi arg2 c0_i32
  let c1_i32 : BitVec 32 := 1#32
  let v63 : BitVec 32 := Scalar.divsi v61 c1_i32
  let v64 : BitVec 32 := Scalar.muli v63 c1_i32
  let v65 : BitVec 32 := Scalar.addi c0_i32 v64
  let c1_i32_19 : BitVec 32 := 1#32
  let arg8 : BitVec 32 := Scf.iv v65 c1_i32_19 k0_t2
  let v71 : BitVec 32 := Scalar.subi v70 arg8
  let c256_i32_23 : BitVec 32 := 256#32
  let v72 : BitVec 32 := Scalar.muli v71 c256_i32_23
  v72
def k0_off4 (i : grid0.Coords) (k0_t2 : Fin (k0_t2_loop i).trips) : Fin 2 → Nat :=
  let arg2 : BitVec 32 := BitVec.ofNat 32 (i 2).val
  let c1_i32_22 : BitVec 32 := 1#32
  let v70 : BitVec 32 := Scalar.subi arg2 c1_i32_22
  let c0_i32 : BitVec 32 := 0#32
  let v61 : BitVec 32 := Scalar.subi arg2 c0_i32
  let c1_i32 : BitVec 32 := 1#32
  let v63 : BitVec 32 := Scalar.divsi v61 c1_i32
  let v64 : BitVec 32 := Scalar.muli v63 c1_i32
  let v65 : BitVec 32 := Scalar.addi c0_i32 v64
  let c1_i32_19 : BitVec 32 := 1#32
  let arg8 : BitVec 32 := Scf.iv v65 c1_i32_19 k0_t2
  let v71 : BitVec 32 := Scalar.subi v70 arg8
  let c256_i32_23 : BitVec 32 := 256#32
  let v72 : BitVec 32 := Scalar.muli v71 c256_i32_23
  let v73 : BitVec 32 := v72
  let v74 : Index := Scalar.indexCast v73
  let c0_24 : Index := 0#32
  ![v74.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8192x3072 : Shape := ⟨2, ![8192, 3072]⟩
abbrev S8 : Shape := ⟨1, ![8]⟩
abbrev S4x2048x3x8x128 : Shape := ⟨5, ![4, 2048, 3, 8, 128]⟩
abbrev S2048 : Shape := ⟨1, ![2048]⟩
abbrev S4x2048x1x8x128 : Shape := ⟨5, ![4, 2048, 1, 8, 128]⟩
abbrev S4x2048x8x128 : Shape := ⟨4, ![4, 2048, 8, 128]⟩
abbrev S4x8x2048x2048 : Shape := ⟨4, ![4, 8, 2048, 2048]⟩
abbrev S_ : Shape := ⟨0, ![]⟩
abbrev S1x8x1x1 : Shape := ⟨4, ![1, 8, 1, 1]⟩
abbrev S1x2048 : Shape := ⟨2, ![1, 2048]⟩
abbrev S2048x1 : Shape := ⟨2, ![2048, 1]⟩
abbrev S2048x2048 : Shape := ⟨2, ![2048, 2048]⟩
abbrev S4x8x128x2048 : Shape := ⟨4, ![4, 8, 128, 2048]⟩
abbrev S8192x1024 : Shape := ⟨2, ![8192, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8, .f32⟩
  | .hbm, ⟨2, _⟩ => ⟨S4x2048x3x8x128, .f32⟩
  | .hbm, ⟨3, _⟩ => ⟨S2048, .i32⟩
  | .hbm, ⟨4, _⟩ => ⟨S4x2048x1x8x128, .f32⟩
  | .hbm, ⟨5, _⟩ => ⟨S4x2048x8x128, .f32⟩
  | .hbm, ⟨6, _⟩ => ⟨S4x2048x1x8x128, .f32⟩
  | .hbm, ⟨7, _⟩ => ⟨S4x2048x8x128, .f32⟩
  | .hbm, ⟨8, _⟩ => ⟨S4x2048x1x8x128, .f32⟩
  | .hbm, ⟨9, _⟩ => ⟨S4x2048x8x128, .f32⟩
  | .hbm, ⟨10, _⟩ => ⟨S4x8x2048x2048, .f32⟩
  | .hbm, ⟨11, _⟩ => ⟨S_, .f32⟩
  | .hbm, ⟨12, _⟩ => ⟨S4x8x2048x2048, .f32⟩
  | .hbm, ⟨13, _⟩ => ⟨S4x8x2048x2048, .f32⟩
  | .hbm, ⟨14, _⟩ => ⟨S1x8x1x1, .f32⟩
  | .hbm, ⟨15, _⟩ => ⟨S4x8x2048x2048, .f32⟩
  | .hbm, ⟨16, _⟩ => ⟨S4x8x2048x2048, .f32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S4x8x2048x2048, .f32⟩
  | .hbm, ⟨23, _⟩ => ⟨S4x8x2048x2048, .f32⟩
  | .hbm, ⟨24, _⟩ => ⟨S_, .f32⟩
  | .hbm, ⟨25, _⟩ => ⟨S4x8x2048x2048, .f32⟩
  | .hbm, ⟨26, _⟩ => ⟨S4x8x2048x2048, .f32⟩
  | .hbm, ⟨27, _⟩ => ⟨S4x8x2048x2048, .f32⟩
  | .hbm, ⟨28, _⟩ => ⟨S4x8x2048x2048, .f32⟩
  | .hbm, ⟨29, _⟩ => ⟨S4x8x2048x2048, .i1⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S4x8x2048x2048, .f32⟩
  | .hbm, ⟨38, _⟩ => ⟨S4x8x2048x2048, .f32⟩
  | .hbm, ⟨39, _⟩ => ⟨S_, .f32⟩
  | .hbm, ⟨40, _⟩ => ⟨S_, .f32⟩
  | .hbm, ⟨41, _⟩ => ⟨S4x8x2048x2048, .i1⟩
  | .hbm, ⟨42, _⟩ => ⟨S4x8x2048x2048, .f32⟩
  | .hbm, ⟨43, _⟩ => ⟨S4x8x2048x2048, .f32⟩
  | .hbm, ⟨44, _⟩ => ⟨S_, .f32⟩
  | .hbm, ⟨45, _⟩ => ⟨S_, .f32⟩
  | .hbm, ⟨46, _⟩ => ⟨S4x8x2048x2048, .f32⟩
  | .hbm, ⟨47, _⟩ => ⟨S4x8x2048x2048, .f32⟩
  | .hbm, ⟨48, _⟩ => ⟨S4x8x2048x2048, .f32⟩
  | .hbm, ⟨49, _⟩ => ⟨S_, .f32⟩
  | .hbm, ⟨50, _⟩ => ⟨S4x8x2048x2048, .f32⟩
  | .hbm, ⟨51, _⟩ => ⟨S4x8x2048x2048, .f32⟩
  | .hbm, ⟨52, _⟩ => ⟨S4x8x2048x2048, .f32⟩
  | .hbm, ⟨53, _⟩ => ⟨S4x8x2048x2048, .f32⟩
  | .hbm, ⟨54, _⟩ => ⟨S4x8x2048x2048, .i1⟩
  | .hbm, ⟨55, _⟩ => ⟨S4x8x2048x2048, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S4x8x2048x2048, .f32⟩
  | .hbm, ⟨60, _⟩ => ⟨S4x8x2048x2048, .f32⟩
  | .hbm, ⟨61, _⟩ => ⟨S4x8x2048x2048, .f32⟩
  | .hbm, ⟨62, _⟩ => ⟨S4x8x2048x2048, .f32⟩
  | .hbm, ⟨63, _⟩ => ⟨S4x8x2048x2048, .f32⟩
  | .hbm, ⟨64, _⟩ => ⟨S4x8x2048x2048, .f32⟩
  | .hbm, ⟨65, _⟩ => ⟨S4x8x2048x2048, .f32⟩
  | .hbm, ⟨66, _⟩ => ⟨S_, .f32⟩
  | .hbm, ⟨67, _⟩ => ⟨S_, .f32⟩
  | .hbm, ⟨68, _⟩ => ⟨S4x8x2048x2048, .i1⟩
  | .hbm, ⟨69, _⟩ => ⟨S4x8x2048x2048, .f32⟩
  | .hbm, ⟨70, _⟩ => ⟨S4x8x2048x2048, .f32⟩
  | .hbm, ⟨71, _⟩ => ⟨S4x8x128x2048, .f32⟩
  | .hbm, ⟨72, _⟩ => ⟨S4x2048x8x128, .f32⟩
  | .hbm, ⟨73, _⟩ => ⟨S8192x1024, .f32⟩
  | .hbm, ⟨74, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_v23 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩

abbrev nD : Nat := 1
abbrev τ : Topo := Topo.v7x

variable {F : FTy → Type} [FloatOps F]
-- ==== Ffn.lean ====
abbrev S8192x2048 : Shape := ⟨2, ![8192, 2048]⟩
abbrev S2048 : Shape := ⟨1, ![2048]⟩
abbrev S2048x8192 : Shape := ⟨2, ![2048, 8192]⟩
abbrev S3x8192 : Shape := ⟨2, ![3, 8192]⟩
abbrev S8192 : Shape := ⟨1, ![8192]⟩
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩
abbrev S_ : Shape := ⟨0, ![]⟩
abbrev S4x2x8192 : Shape := ⟨3, ![4, 2, 8192]⟩
abbrev S1x8192 : Shape := ⟨2, ![1, 8192]⟩
abbrev S8192x4096 : Shape := ⟨2, ![8192, 4096]⟩
abbrev S256x1024 : Shape := ⟨2, ![256, 1024]⟩
abbrev S8x1024 : Shape := ⟨2, ![8, 1024]⟩
abbrev S1x2x1024 : Shape := ⟨3, ![1, 2, 1024]⟩
abbrev S3x1024 : Shape := ⟨2, ![3, 1024]⟩
abbrev S1x1024 : Shape := ⟨2, ![1, 1024]⟩
abbrev S2x1024 : Shape := ⟨2, ![2, 1024]⟩
abbrev S1024x4096 : Shape := ⟨2, ![1024, 4096]⟩
abbrev S4096x512 : Shape := ⟨2, ![4096, 512]⟩
abbrev S1024x512 : Shape := ⟨2, ![1024, 512]⟩
abbrev S4x2048x8192 : Shape := ⟨3, ![4, 2048, 8192]⟩
abbrev S4x4x8192 : Shape := ⟨3, ![4, 4, 8192]⟩

abbrev nBuf : Space → Nat
  | .hbm => 20
  | .vmem => 41
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S3x8192, .f32⟩
  | .hbm, ⟨4, _⟩ => ⟨S8192, .f32⟩
  | .hbm, ⟨5, _⟩ => ⟨S4096x2048, .f32⟩
  | .hbm, ⟨6, _⟩ => ⟨S2048x8192, .bf16⟩
  | .hbm, ⟨7, _⟩ => ⟨S4096x2048, .bf16⟩
  | .hbm, ⟨8, _⟩ => ⟨S1x2048, .f32⟩
  | .hbm, ⟨9, _⟩ => ⟨S8192x2048, .bf16⟩
  | .hbm, ⟨10, _⟩ => ⟨S8192x8192, .f32⟩
  | .hbm, ⟨11, _⟩ => ⟨S_, .f32⟩
  | .hbm, ⟨12, _⟩ => ⟨S4x2x8192, .f32⟩
  | .hbm, ⟨13, _⟩ => ⟨S1x8192, .f32⟩
  | .hbm, ⟨14, _⟩ => ⟨S8192x4096, .bf16⟩
  | .hbm, ⟨15, _⟩ => ⟨S8192x2048, .f32⟩
  | .hbm, ⟨16, _⟩ => ⟨S4x2048x8192, .f32⟩
  | .hbm, ⟨17, _⟩ => ⟨S4x2x8192, .f32⟩
  | .hbm, ⟨18, _⟩ => ⟨S4x4x8192, .f32⟩
  | .hbm, ⟨19, _⟩ => ⟨S4x2x8192, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S8x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S1x2x1024, .f32⟩
  | .local _ .vmem, ⟨20, _⟩ => ⟨S1x2x1024, .f32⟩
  | .local _ .vmem, ⟨21, _⟩ => ⟨S1x2x1024, .f32⟩
  | .local _ .vmem, ⟨22, _⟩ => ⟨S1x2x1024, .f32⟩
  | .local _ .vmem, ⟨23, _⟩ => ⟨S3x1024, .f32⟩
  | .local _ .vmem, ⟨24, _⟩ => ⟨S3x1024, .f32⟩
  | .local _ .vmem, ⟨25, _⟩ => ⟨S3x1024, .f32⟩
  | .local _ .vmem, ⟨26, _⟩ => ⟨S3x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S256x1024, .bf16⟩
  | .local _ .vmem, ⟨32, _⟩ => ⟨S256x1024, .bf16⟩
  | .local _ .vmem, ⟨33, _⟩ => ⟨S1024x4096, .bf16⟩
  | .local _ .vmem, ⟨34, _⟩ => ⟨S1024x4096, .bf16⟩
  | .local _ .vmem, ⟨35, _⟩ => ⟨S4096x512, .bf16⟩
  | .local _ .vmem, ⟨36, _⟩ => ⟨S4096x512, .bf16⟩
  | .local _ .vmem, ⟨37, _⟩ => ⟨S1024x512, .f32⟩
  | .local _ .vmem, ⟨38, _⟩ => ⟨S1024x512, .f32⟩
  | .local _ .vmem, ⟨39, _⟩ => ⟨S1024x512, .f32⟩
  | .local _ .vmem, ⟨40, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg8_1 : Ref sig .tc := ⟨.vmem, 28, rfl⟩
abbrev cc2_stg9_0 : Ref sig .tc := ⟨.vmem, 29, rfl⟩
abbrev cc2_stg9_1 : Ref sig .tc := ⟨.vmem, 30, rfl⟩
abbrev cc2_stg10_0 : Ref sig .tc := ⟨.vmem, 31, rfl⟩
abbrev cc2_stg10_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc2_sem7_0 : DmaSem sig := 25
abbrev cc2_sem7_1 : DmaSem sig := 26
abbrev cc2_sem8_0 : DmaSem sig := 27
abbrev cc2_sem8_1 : DmaSem sig := 28
abbrev cc2_sem9_0 : DmaSem sig := 29
abbrev cc2_sem9_1 : DmaSem sig := 30
abbrev cc2_sem10_0 : DmaSem sig := 31
abbrev cc2_sem10_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![4, 8, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.addi arg2 c4_i32
  let c0_i32 : BitVec 32 := 0#32
  ![v1.toNat, v2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let v5 : BitVec 32 := Scalar.addi arg2 c0_i32_0
  let c0_i32_1 : BitVec 32 := 0#32
  ![v4.toNat, v5.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c4_i32 : BitVec 32 := 4#32
  let v5 : BitVec 32 := Scalar.addi arg2 c4_i32
  let c0_i32_0 : BitVec 32 := 0#32
  ![v4.toNat, v5.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![arg0.toNat, c0_i32.toNat, v0.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![c0_i32.toNat, v0.toNat]

def cc2_transform_8 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat]

def cc2_transform_9 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![c0_i32.toNat, v0.toNat]

def cc2_transform_10 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S8x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x2x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, true]

abbrev stage2_5 : Fin 2 → Memref sig .tc .vmem S1x2x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false, true]

abbrev stage2_6 : Fin 2 → Memref sig .tc .vmem S3x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, false, true]

abbrev stage2_7 : Fin 2 → Memref sig .tc .vmem S3x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, false, true]

abbrev stage2_8 : Fin 2 → Memref sig .tc .vmem S1x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![false, false, true]

abbrev stage2_9 : Fin 2 → Memref sig .tc .vmem S1x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![false, false, true]

abbrev stage2_10 : Fin 2 → Memref sig .tc .vmem S256x1024 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true, true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== FfnRefIdeal.lean ====
abbrev S8192x2048 : Shape := ⟨2, ![8192, 2048]⟩
abbrev S2048 : Shape := ⟨1, ![2048]⟩
abbrev S2048x8192 : Shape := ⟨2, ![2048, 8192]⟩
abbrev S3x8192 : Shape := ⟨2, ![3, 8192]⟩
abbrev S8192 : Shape := ⟨1, ![8192]⟩
abbrev S4096x2048 : Shape := ⟨2, ![4096, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2x8192 : Shape := ⟨3, ![4, 2, 8192]⟩
abbrev S4x2048x8192 : Shape := ⟨3, ![4, 2048, 8192]⟩
abbrev S4x2050x8192 : Shape := ⟨3, ![4, 2050, 8192]⟩
abbrev S1x8192 : Shape := ⟨2, ![1, 8192]⟩
abbrev S1x1x8192 : Shape := ⟨3, ![1, 1, 8192]⟩
abbrev S4x2048x4096 : Shape := ⟨3, ![4, 2048, 4096]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S3x8192, .f32⟩
  | .hbm, ⟨4, _⟩ => ⟨S8192, .f32⟩
  | .hbm, ⟨5, _⟩ => ⟨S4096x2048, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2x8192, .f32⟩
  | .hbm, ⟨25, _⟩ => ⟨S4x2048x8192, .f32⟩
  | .hbm, ⟨26, _⟩ => ⟨S4x2050x8192, .f32⟩
  | .hbm, ⟨27, _⟩ => ⟨S4x2048x8192, .f32⟩
  | .hbm, ⟨28, _⟩ => ⟨S1x8192, .f32⟩
  | .hbm, ⟨29, _⟩ => ⟨S8192, .f32⟩
  | .hbm, ⟨30, _⟩ => ⟨S1x1x8192, .f32⟩
  | .hbm, ⟨31, _⟩ => ⟨S4x2048x8192, .f32⟩
  | .hbm, ⟨32, _⟩ => ⟨S4x2048x8192, .f32⟩
  | .hbm, ⟨33, _⟩ => ⟨S_, .f32⟩
  | .hbm, ⟨34, _⟩ => ⟨S4x2048x8192, .f32⟩
  | .hbm, ⟨35, _⟩ => ⟨S4x2048x8192, .f32⟩
  | .hbm, ⟨36, _⟩ => ⟨S4x2048x8192, .f32⟩
  | .hbm, ⟨37, _⟩ => ⟨S1x8192, .f32⟩
  | .hbm, ⟨38, _⟩ => ⟨S8192, .f32⟩
  | .hbm, ⟨39, _⟩ => ⟨S1x1x8192, .f32⟩
  | .hbm, ⟨40, _⟩ => ⟨S4x2048x8192, .f32⟩
  | .hbm, ⟨41, _⟩ => ⟨S4x2048x8192, .f32⟩
  | .hbm, ⟨42, _⟩ => ⟨S4x2048x8192, .f32⟩
  | .hbm, ⟨43, _⟩ => ⟨S4x2048x8192, .f32⟩
  | .hbm, ⟨44, _⟩ => ⟨S1x8192, .f32⟩
  | .hbm, ⟨45, _⟩ => ⟨S8192, .f32⟩
  | .hbm, ⟨46, _⟩ => ⟨S1x1x8192, .f32⟩
  | .hbm, ⟨47, _⟩ => ⟨S4x2048x8192, .f32⟩
  | .hbm, ⟨48, _⟩ => ⟨S4x2048x8192, .f32⟩
  | .hbm, ⟨49, _⟩ => ⟨S4x2048x8192, .f32⟩
  | .hbm, ⟨50, _⟩ => ⟨S1x1x8192, .f32⟩
  | .hbm, ⟨51, _⟩ => ⟨S4x2048x8192, .f32⟩
  | .hbm, ⟨52, _⟩ => ⟨S4x2048x8192, .f32⟩
  | .hbm, ⟨53, _⟩ => ⟨S4x2048x4096, .f32⟩
  | .hbm, ⟨54, _⟩ => ⟨S4x2048x4096, .f32⟩
  | .hbm, ⟨55, _⟩ => ⟨S4x2048x4096, .f32⟩
  | .hbm, ⟨56, _⟩ => ⟨S4x2048x4096, .f32⟩
  | .hbm, ⟨57, _⟩ => ⟨S_, .f32⟩
  | .hbm, ⟨58, _⟩ => ⟨S4x2048x4096, .f32⟩
  | .hbm, ⟨59, _⟩ => ⟨S4x2048x4096, .f32⟩
  | .hbm, ⟨60, _⟩ => ⟨S_, .f32⟩
  | .hbm, ⟨61, _⟩ => ⟨S4x2048x4096, .f32⟩
  | .hbm, ⟨62, _⟩ => ⟨S4x2048x4096, .f32⟩
  | .hbm, ⟨63, _⟩ => ⟨S4x2048x4096, .f32⟩
  | .hbm, ⟨64, _⟩ => ⟨S4x2048x4096, .f32⟩
  | .hbm, ⟨65, _⟩ => ⟨S4x2048x2048, .f32⟩
  | .hbm, ⟨66, _⟩ => ⟨S4x2x8192, .f32⟩
  | .hbm, ⟨67, _⟩ => ⟨S4x2048x2048, .f32⟩
  | .hbm, ⟨68, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Gmlp.lean ====
abbrev S8192x2048 : Shape := ⟨2, ![8192, 2048]⟩
abbrev S2048 : Shape := ⟨1, ![2048]⟩
abbrev S2048x8192 : Shape := ⟨2, ![2048, 8192]⟩
abbrev S4096 : Shape := ⟨1, ![4096]⟩
abbrev S8x128x128 : Shape := ⟨3, ![8, 128, 128]⟩
abbrev S8x128 : Shape := ⟨2, ![8, 128]⟩
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S1x4096 : Shape := ⟨2, ![1, 4096]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩
abbrev S128x8 : Shape := ⟨2, ![128, 8]⟩
abbrev S8192x4096 : Shape := ⟨2, ![8192, 4096]⟩
abbrev S128x4096 : Shape := ⟨2, ![128, 4096]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x512 : Shape := ⟨2, ![128, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 18
  | .vmem => 29
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S4096, .f32⟩
  | .hbm, ⟨4, _⟩ => ⟨S4096, .f32⟩
  | .hbm, ⟨5, _⟩ => ⟨S8x128x128, .f32⟩
  | .hbm, ⟨6, _⟩ => ⟨S8x128, .f32⟩
  | .hbm, ⟨7, _⟩ => ⟨S4096x2048, .f32⟩
  | .hbm, ⟨8, _⟩ => ⟨S1x2048, .f32⟩
  | .hbm, ⟨9, _⟩ => ⟨S8192x2048, .bf16⟩
  | .hbm, ⟨10, _⟩ => ⟨S2048x8192, .bf16⟩
  | .hbm, ⟨11, _⟩ => ⟨S4096x2048, .bf16⟩
  | .hbm, ⟨12, _⟩ => ⟨S1x4096, .f32⟩
  | .hbm, ⟨13, _⟩ => ⟨S1x4096, .f32⟩
  | .hbm, ⟨14, _⟩ => ⟨S8192x8192, .f32⟩
  | .hbm, ⟨15, _⟩ => ⟨S128x8, .f32⟩
  | .hbm, ⟨16, _⟩ => ⟨S8192x4096, .bf16⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S1x4096, .f32⟩
  | .local _ .vmem, ⟨16, _⟩ => ⟨S1x4096, .f32⟩
  | .local _ .vmem, ⟨17, _⟩ => ⟨S8x128x128, .f32⟩
  | .local _ .vmem, ⟨18, _⟩ => ⟨S128x8, .f32⟩
  | .local _ .vmem, ⟨19, _⟩ => ⟨S128x4096, .bf16⟩
  | .local _ .vmem, ⟨20, _⟩ => ⟨S128x4096, .bf16⟩
  | .local _ .vmem, ⟨21, _⟩ => ⟨S1024x4096, .bf16⟩
  | .local _ .vmem, ⟨22, _⟩ => ⟨S1024x4096, .bf16⟩
  | .local _ .vmem, ⟨23, _⟩ => ⟨S4096x512, .bf16⟩
  | .local _ .vmem, ⟨24, _⟩ => ⟨S4096x512, .bf16⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S128x4096 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== GmlpRefIdeal.lean ====
abbrev S8192x2048 : Shape := ⟨2, ![8192, 2048]⟩
abbrev S2048 : Shape := ⟨1, ![2048]⟩
abbrev S2048x8192 : Shape := ⟨2, ![2048, 8192]⟩
abbrev S4096 : Shape := ⟨1, ![4096]⟩
abbrev S8x128x128 : Shape := ⟨3, ![8, 128, 128]⟩
abbrev S8x128 : Shape := ⟨2, ![8, 128]⟩
abbrev S4096x2048 : Shape := ⟨2, ![4096, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x8192 : Shape := ⟨3, ![4, 2048, 8192]⟩
abbrev S4x2048x4096 : Shape := ⟨3, ![4, 2048, 4096]⟩
abbrev S1x1x4096 : Shape := ⟨3, ![1, 1, 4096]⟩
abbrev S128x128 : Shape := ⟨2, ![128, 128]⟩
abbrev S4x16x128x8x512 : Shape := ⟨5, ![4, 16, 128, 8, 512]⟩
abbrev S8x4x16x512x128 : Shape := ⟨5, ![8, 4, 16, 512, 128]⟩
abbrev S128x8 : Shape := ⟨2, ![128, 8]⟩
abbrev S1x1x128x8x1 : Shape := ⟨5, ![1, 1, 128, 8, 1]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S4096, .f32⟩
  | .hbm, ⟨4, _⟩ => ⟨S4096, .f32⟩
  | .hbm, ⟨5, _⟩ => ⟨S8x128x128, .f32⟩
  | .hbm, ⟨6, _⟩ => ⟨S8x128, .f32⟩
  | .hbm, ⟨7, _⟩ => ⟨S4096x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S4x2048x8192, .f32⟩
  | .hbm, ⟨26, _⟩ => ⟨S4x2048x8192, .f32⟩
  | .hbm, ⟨27, _⟩ => ⟨S4x2048x8192, .f32⟩
  | .hbm, ⟨28, _⟩ => ⟨S_, .f32⟩
  | .hbm, ⟨29, _⟩ => ⟨S4x2048x8192, .f32⟩
  | .hbm, ⟨30, _⟩ => ⟨S4x2048x8192, .f32⟩
  | .hbm, ⟨31, _⟩ => ⟨S4x2048x8192, .f32⟩
  | .hbm, ⟨32, _⟩ => ⟨S_, .f32⟩
  | .hbm, ⟨33, _⟩ => ⟨S4x2048x8192, .f32⟩
  | .hbm, ⟨34, _⟩ => ⟨S4x2048x8192, .f32⟩
  | .hbm, ⟨35, _⟩ => ⟨S4x2048x8192, .f32⟩
  | .hbm, ⟨36, _⟩ => ⟨S_, .f32⟩
  | .hbm, ⟨37, _⟩ => ⟨S4x2048x8192, .f32⟩
  | .hbm, ⟨38, _⟩ => ⟨S4x2048x8192, .f32⟩
  | .hbm, ⟨39, _⟩ => ⟨S_, .f32⟩
  | .hbm, ⟨40, _⟩ => ⟨S4x2048x8192, .f32⟩
  | .hbm, ⟨41, _⟩ => ⟨S4x2048x8192, .f32⟩
  | .hbm, ⟨42, _⟩ => ⟨S4x2048x8192, .f32⟩
  | .hbm, ⟨43, _⟩ => ⟨S4x2048x4096, .f32⟩
  | .hbm, ⟨44, _⟩ => ⟨S4x2048x4096, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S4x2048x4096, .f32⟩
  | .hbm, ⟨52, _⟩ => ⟨S4x2048x4096, .f32⟩
  | .hbm, ⟨53, _⟩ => ⟨S4x2048x4096, .f32⟩
  | .hbm, ⟨54, _⟩ => ⟨S_, .f32⟩
  | .hbm, ⟨55, _⟩ => ⟨S4x2048, .f32⟩
  | .hbm, ⟨56, _⟩ => ⟨S4x2048x1, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S4x2048x4096, .f32⟩
  | .hbm, ⟨61, _⟩ => ⟨S4x2048x4096, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S4x2048x1, .f32⟩
  | .hbm, ⟨66, _⟩ => ⟨S4x2048x4096, .f32⟩
  | .hbm, ⟨67, _⟩ => ⟨S4x2048x4096, .f32⟩
  | .hbm, ⟨68, _⟩ => ⟨S1x1x4096, .f32⟩
  | .hbm, ⟨69, _⟩ => ⟨S4x2048x4096, .f32⟩
  | .hbm, ⟨70, _⟩ => ⟨S4x2048x4096, .f32⟩
  | .hbm, ⟨71, _⟩ => ⟨S1x1x4096, .f32⟩
  | .hbm, ⟨72, _⟩ => ⟨S4x2048x4096, .f32⟩
  | .hbm, ⟨73, _⟩ => ⟨S4x2048x4096, .f32⟩
  | .hbm, ⟨74, _⟩ => ⟨S_, .i1⟩
  | .hbm, ⟨75, _⟩ => ⟨S128x128, .i1⟩
  | .hbm, ⟨76, _⟩ => ⟨S128x128, .i32⟩
  | .hbm, ⟨77, _⟩ => ⟨S_, .i32⟩
  | .hbm, ⟨78, _⟩ => ⟨S128x128, .i32⟩
  | .hbm, ⟨79, _⟩ => ⟨S128x128, .i32⟩
  | .hbm, ⟨80, _⟩ => ⟨S128x128, .i32⟩
  | .hbm, ⟨81, _⟩ => ⟨S128x128, .i1⟩
  | .hbm, ⟨82, _⟩ => ⟨S_, .i1⟩
  | .hbm, ⟨83, _⟩ => ⟨S128x128, .i1⟩
  | .hbm, ⟨84, _⟩ => ⟨S128x128, .i1⟩
  | .hbm, ⟨85, _⟩ => ⟨S_, .f32⟩
  | .hbm, ⟨86, _⟩ => ⟨S_, .f32⟩
  | .hbm, ⟨87, _⟩ => ⟨S8x128x128, .i1⟩
  | .hbm, ⟨88, _⟩ => ⟨S8x128x128, .f32⟩
  | .hbm, ⟨89, _⟩ => ⟨S8x128x128, .f32⟩
  | .hbm, ⟨90, _⟩ => ⟨S4x16x128x8x512, .f32⟩
  | .hbm, ⟨91, _⟩ => ⟨S8x4x16x512x128, .f32⟩
  | .hbm, ⟨92, _⟩ => ⟨S4x16x128x8x512, .f32⟩
  | .hbm, ⟨93, _⟩ => ⟨S128x8, .f32⟩
  | .hbm, ⟨94, _⟩ => ⟨S1x1x128x8x1, .f32⟩
  | .hbm, ⟨95, _⟩ => ⟨S4x16x128x8x512, .f32⟩
  | .hbm, ⟨96, _⟩ => ⟨S4x16x128x8x512, .f32⟩
  | .hbm, ⟨97, _⟩ => ⟨S4x2048x4096, .f32⟩
  | .hbm, ⟨98, _⟩ => ⟨S4x2048x4096, .f32⟩
  | .hbm, ⟨99, _⟩ => ⟨S4x2048x2048, .f32⟩
  | .hbm, ⟨100, _⟩ => ⟨S4x2048x2048, .f32⟩
  | .hbm, ⟨101, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c : Ref sig .tc := ⟨.hbm, 74, rfl⟩
abbrev main_v54 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_c_0 : Ref sig .tc := ⟨.hbm, 82, rfl⟩
abbrev main_call0_v5 : Ref sig .tc := ⟨.hbm, 83, rfl⟩
abbrev main_v55 : Ref sig .tc := ⟨.hbm, 84, rfl⟩
abbrev main_cst_11 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩

abbrev nD : Nat := 1
abbrev τ : Topo := Topo.v7x

variable {F : FTy → Type} [FloatOps F]
-- ==== EvenIn.lean ====
abbrev S8192x2048 : Shape := ⟨2, ![8192, 2048]⟩
abbrev S2048 : Shape := ⟨1, ![2048]⟩
abbrev S2048x6432 : Shape := ⟨2, ![2048, 6432]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x3072 : Shape := ⟨2, ![2048, 3072]⟩
abbrev S2048x3360 : Shape := ⟨2, ![2048, 3360]⟩
abbrev S2048x64 : Shape := ⟨2, ![2048, 64]⟩
abbrev S_ : Shape := ⟨0, ![]⟩
abbrev S2048x128 : Shape := ⟨2, ![2048, 128]⟩
abbrev S2048x160 : Shape := ⟨2, ![2048, 160]⟩
abbrev S2048x256 : Shape := ⟨2, ![2048, 256]⟩
abbrev S2048x3584 : Shape := ⟨2, ![2048, 3584]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩
abbrev S8192x3584 : Shape := ⟨2, ![8192, 3584]⟩
abbrev S2048x512 : Shape := ⟨2, ![2048, 512]⟩
abbrev S1024x512 : Shape := ⟨2, ![1024, 512]⟩
abbrev S8192x64 : Shape := ⟨2, ![8192, 64]⟩
abbrev S8192x160 : Shape := ⟨2, ![8192, 160]⟩
abbrev S8192x3360 : Shape := ⟨2, ![8192, 3360]⟩

abbrev nBuf : Space → Nat
  | .hbm => 30
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6432, .f32⟩
  | .hbm, ⟨3, _⟩ => ⟨S1x2048, .f32⟩
  | .hbm, ⟨4, _⟩ => ⟨S8192x2048, .bf16⟩
  | .hbm, ⟨5, _⟩ => ⟨S2048x3072, .f32⟩
  | .hbm, ⟨6, _⟩ => ⟨S2048x3072, .bf16⟩
  | .hbm, ⟨7, _⟩ => ⟨S2048x3360, .f32⟩
  | .hbm, ⟨8, _⟩ => ⟨S2048x3072, .f32⟩
  | .hbm, ⟨9, _⟩ => ⟨S2048x64, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x64, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x160, .f32⟩
  | .hbm, ⟨18, _⟩ => ⟨S_, .i32⟩
  | .hbm, ⟨19, _⟩ => ⟨S_, .f32⟩
  | .hbm, ⟨20, _⟩ => ⟨S2048x256, .f32⟩
  | .hbm, ⟨21, _⟩ => ⟨S2048x3584, .f32⟩
  | .hbm, ⟨22, _⟩ => ⟨S2048x3584, .bf16⟩
  | .hbm, ⟨23, _⟩ => ⟨S8192x3072, .f32⟩
  | .hbm, ⟨24, _⟩ => ⟨S8192x3584, .f32⟩
  | .hbm, ⟨25, _⟩ => ⟨S8192x3072, .f32⟩
  | .hbm, ⟨26, _⟩ => ⟨S8192x64, .f32⟩
  | .hbm, ⟨27, _⟩ => ⟨S8192x64, .f32⟩
  | .hbm, ⟨28, _⟩ => ⟨S8192x160, .f32⟩
  | .hbm, ⟨29, _⟩ => ⟨S8192x3360, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x2048, .bf16⟩
  | .local _ .vmem, ⟨13, _⟩ => ⟨S2048x512, .bf16⟩
  | .local _ .vmem, ⟨14, _⟩ => ⟨S2048x512, .bf16⟩
  | .local _ .vmem, ⟨15, _⟩ => ⟨S1024x512, .f32⟩
  | .local _ .vmem, ⟨16, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call2_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 7], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== EvenInRefIdeal.lean ====
abbrev S8192x2048 : Shape := ⟨2, ![8192, 2048]⟩
abbrev S2048 : Shape := ⟨1, ![2048]⟩
abbrev S2048x6432 : Shape := ⟨2, ![2048, 6432]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x6432 : Shape := ⟨3, ![4, 2048, 6432]⟩
abbrev S4x2048x3072 : Shape := ⟨3, ![4, 2048, 3072]⟩
abbrev S4x2048x3360 : Shape := ⟨3, ![4, 2048, 3360]⟩
abbrev S8192x3072 : Shape := ⟨2, ![8192, 3072]⟩
abbrev S8192x3360 : Shape := ⟨2, ![8192, 3360]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6432, .f32⟩
  | .hbm, ⟨3, _⟩ => ⟨S4x2048x2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S4x2048x6432, .f32⟩
  | .hbm, ⟨21, _⟩ => ⟨S4x2048x3072, .f32⟩
  | .hbm, ⟨22, _⟩ => ⟨S4x2048x3360, .f32⟩
  | .hbm, ⟨23, _⟩ => ⟨S8192x3072, .f32⟩
  | .hbm, ⟨24, _⟩ => ⟨S8192x3360, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== EvenOut.lean ====
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S2048x2048, .bf16⟩
  | .hbm, ⟨5, _⟩ => ⟨S8192x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenOutRefIdeal.lean ====
abbrev S8192x1024 : Shape := ⟨2, ![8192, 1024]⟩
abbrev S2048x2048 : Shape := ⟨2, ![2048, 2048]⟩
abbrev S8192x2048 : Shape := ⟨2, ![8192, 2048]⟩
abbrev S4x2048x1024 : Shape := ⟨3, ![4, 2048, 1024]⟩
abbrev S4x2048x2048 : Shape := ⟨3, ![4, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S4x2048x1024, .bf16⟩
  | .hbm, ⟨5, _⟩ => ⟨S4x2048x1024, .bf16⟩
  | .hbm, ⟨6, _⟩ => ⟨S4x2048x2048, .f32⟩
  | .hbm, ⟨7, _⟩ => ⟨S4x2048x2048, .bf16⟩
  | .hbm, ⟨8, _⟩ => ⟨S4x2048x2048, .f32⟩
  | .hbm, ⟨9, _⟩ => ⟨S4x2048x2048, .f32⟩
  | .hbm, ⟨10, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Prep.lean ====
abbrev S8192x3584 : Shape := ⟨2, ![8192, 3584]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16x64 : Shape := ⟨2, ![16, 64]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S128x1024 : Shape := ⟨2, ![128, 1024]⟩
abbrev S256x1024 : Shape := ⟨2, ![256, 1024]⟩
abbrev S1x3360 : Shape := ⟨2, ![1, 3360]⟩
abbrev S1x3072 : Shape := ⟨2, ![1, 3072]⟩
abbrev S1x64 : Shape := ⟨2, ![1, 64]⟩
abbrev S1x128 : Shape := ⟨2, ![1, 128]⟩
abbrev S1x160 : Shape := ⟨2, ![1, 160]⟩
abbrev S1x256 : Shape := ⟨2, ![1, 256]⟩
abbrev S1x3584 : Shape := ⟨2, ![1, 3584]⟩
abbrev S4x3584 : Shape := ⟨2, ![4, 3584]⟩
abbrev S4x1x3584 : Shape := ⟨3, ![4, 1, 3584]⟩
abbrev S8192x1024 : Shape := ⟨2, ![8192, 1024]⟩
abbrev S256x3584 : Shape := ⟨2, ![256, 3584]⟩
abbrev S8x3584 : Shape := ⟨2, ![8, 3584]⟩
abbrev S1x1x3584 : Shape := ⟨3, ![1, 1, 3584]⟩
abbrev S256x128 : Shape := ⟨2, ![256, 128]⟩
abbrev S256x256 : Shape := ⟨2, ![256, 256]⟩

abbrev nBuf : Space → Nat
  | .hbm => 87
  | .vmem => 35
  | .smem => 0
  | _ => 0

abbrev bufTy : (tb : Table) → Fin (tcTables nBuf tb) → BufTy
  | .hbm, ⟨0, _⟩ => ⟨S8192x3584, .f32⟩
  | .hbm, ⟨1, _⟩ => ⟨S3360, .f32⟩
  | .hbm, ⟨2, _⟩ => ⟨S1024, .f32⟩
  | .hbm, ⟨3, _⟩ => ⟨S64x1024, .f32⟩
  | .hbm, ⟨4, _⟩ => ⟨S1024, .f32⟩
  | .hbm, ⟨5, _⟩ => ⟨S64x1024, .f32⟩
  | .hbm, ⟨6, _⟩ => ⟨S160x1024, .f32⟩
  | .hbm, ⟨7, _⟩ => ⟨S1024, .f32⟩
  | .hbm, ⟨8, _⟩ => ⟨S1024, .f32⟩
  | .hbm, ⟨9, _⟩ => ⟨S16x64, .f32⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S1x1024, .i32⟩
  | .hbm, ⟨31, _⟩ => ⟨S1024x1024, .i32⟩
  | .hbm, ⟨32, _⟩ => ⟨S1024x1024, .i32⟩
  | .hbm, ⟨33, _⟩ => ⟨S1024x1024, .i1⟩
  | .hbm, ⟨34, _⟩ => ⟨S1024x1024, .bf16⟩
  | .hbm, ⟨35, _⟩ => ⟨S_, .i32⟩
  | .hbm, ⟨36, _⟩ => ⟨S_, .f32⟩
  | .hbm, ⟨37, _⟩ => ⟨S128x1024, .f32⟩
  | .hbm, ⟨38, _⟩ => ⟨S128x1024, .bf16⟩
  | .hbm, ⟨39, _⟩ => ⟨S128x1024, .f32⟩
  | .hbm, ⟨40, _⟩ => ⟨S128x1024, .f32⟩
  | .hbm, ⟨41, _⟩ => ⟨S128x1024, .bf16⟩
  | .hbm, ⟨42, _⟩ => ⟨S_, .i32⟩
  | .hbm, ⟨43, _⟩ => ⟨S_, .f32⟩
  | .hbm, ⟨44, _⟩ => ⟨S128x1024, .f32⟩
  | .hbm, ⟨45, _⟩ => ⟨S128x1024, .bf16⟩
  | .hbm, ⟨46, _⟩ => ⟨S128x1024, .f32⟩
  | .hbm, ⟨47, _⟩ => ⟨S128x1024, .f32⟩
  | .hbm, ⟨48, _⟩ => ⟨S128x1024, .bf16⟩
  | .hbm, ⟨49, _⟩ => ⟨S_, .i32⟩
  | .hbm, ⟨50, _⟩ => ⟨S_, .f32⟩
  | .hbm, ⟨51, _⟩ => ⟨S256x1024, .f32⟩
  | .hbm, ⟨52, _⟩ => ⟨S256x1024, .bf16⟩
  | .hbm, ⟨53, _⟩ => ⟨S256x1024, .f32⟩
  | .hbm, ⟨54, _⟩ => ⟨S256x1024, .f32⟩
  | .hbm, ⟨55, _⟩ => ⟨S256x1024, .bf16⟩
  | .hbm, ⟨56, _⟩ => ⟨S1x3360, .f32⟩
  | .hbm, ⟨57, _⟩ => ⟨S1x3072, .f32⟩
  | .hbm, ⟨58, _⟩ => ⟨S1x64, .f32⟩
  | .hbm, ⟨59, _⟩ => ⟨S_, .i32⟩
  | .hbm, ⟨60, _⟩ => ⟨S_, .f32⟩
  | .hbm, ⟨61, _⟩ => ⟨S1x128, .f32⟩
  | .hbm, ⟨62, _⟩ => ⟨S1x64, .f32⟩
  | .hbm, ⟨63, _⟩ => ⟨S_, .i32⟩
  | .hbm, ⟨64, _⟩ => ⟨S_, .f32⟩
  | .hbm, ⟨65, _⟩ => ⟨S1x128, .f32⟩
  | .hbm, ⟨66, _⟩ => ⟨S1x160, .f32⟩
  | .hbm, ⟨67, _⟩ => ⟨S_, .i32⟩
  | .hbm, ⟨68, _⟩ => ⟨S_, .f32⟩
  | .hbm, ⟨69, _⟩ => ⟨S1x256, .f32⟩
  | .hbm, ⟨70, _⟩ => ⟨S1x3584, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S4x3584, .f32⟩
  | .hbm, ⟨78, _⟩ => ⟨S4x1x3584, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .local _ .vmem, ⟨0, _⟩ => ⟨S256x3584, .f32⟩
  | .local _ .vmem, ⟨1, _⟩ => ⟨S256x3584, .f32⟩
  | .local _ .vmem, ⟨2, _⟩ => ⟨S8x3584, .f32⟩
  | .local _ .vmem, ⟨3, _⟩ => ⟨S8x3584, .f32⟩
  | .local _ .vmem, ⟨4, _⟩ => ⟨S1x1x3584, .f32⟩
  | .local _ .vmem, ⟨5, _⟩ => ⟨S1x1x3584, .f32⟩
  | .local _ .vmem, ⟨6, _⟩ => ⟨S1x3584, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S256x1024, .bf16⟩
  | .local _ .vmem, ⟨17, _⟩ => ⟨S256x1024, .bf16⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c_0 : Ref sig .tc := ⟨.hbm, 35, rfl⟩
abbrev main_call1_v0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c_1 : Ref sig .tc := ⟨.hbm, 42, rfl⟩
abbrev main_call2_v0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_2 : Ref sig .tc := ⟨.hbm, 49, rfl⟩
abbrev main_call3_v0 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_3 : Ref sig .tc := ⟨.hbm, 59, rfl⟩
abbrev main_call4_v0 : Ref sig .tc := ⟨.hbm, 60, rfl⟩
abbrev main_v26 : Ref sig .tc := ⟨.hbm, 61, rfl⟩
abbrev main_v27 : Ref sig .tc := ⟨.hbm, 62, rfl⟩
abbrev main_c_4 : Ref sig .tc := ⟨.hbm, 63, rfl⟩
abbrev main_call5_v0 : Ref sig .tc := ⟨.hbm, 64, rfl⟩
abbrev main_v28 : Ref sig .tc := ⟨.hbm, 65, rfl⟩
abbrev main_v29 : Ref sig .tc := ⟨.hbm, 66, rfl⟩
abbrev main_c_5 : Ref sig .tc := ⟨.hbm, 67, rfl⟩
abbrev main_call6_v0 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst : Ref sig .tc := ⟨.hbm, 76, rfl⟩
abbrev main_v37 : Ref sig .tc := ⟨.hbm, 77, rfl⟩
abbrev main_v38 : Ref sig .tc := ⟨.hbm, 78, rfl⟩
abbrev main_v39_0 : Ref sig .tc := ⟨.hbm, 79, rfl⟩
abbrev main_v39_1 : Ref sig .tc := ⟨.hbm, 80, rfl⟩
abbrev main_v39_2 : Ref sig .tc := ⟨.hbm, 81, rfl⟩
abbrev main_v39_3 : Ref sig .tc := ⟨.hbm, 82, rfl⟩
abbrev main_v39_4 : Ref sig .tc := ⟨.hbm, 83, rfl⟩
abbrev main_v39_5 : Ref sig .tc := ⟨.hbm, 84, rfl⟩
abbrev main_v39_6 : Ref sig .tc := ⟨.hbm, 85, rfl⟩
abbrev main_v39_7 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== PrepRefIdeal.lean ====
abbrev S8192x3584 : Shape := ⟨2, ![8192, 3584]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16x64 : Shape := ⟨2, ![16, 64]⟩
abbrev S8192x3136 : Shape := ⟨2, ![8192, 3136]⟩
abbrev S8192x64 : Shape := ⟨2, ![8192, 64]⟩
abbrev S8192x160 : Shape := ⟨2, ![8192, 160]⟩
abbrev S8192x3360 : Shape := ⟨2, ![8192, 3360]⟩
abbrev S4x2048x3360 : Shape := ⟨3, ![4, 2048, 3360]⟩
abbrev S_ : Shape := ⟨0, ![]⟩
abbrev S4x3360 : Shape := ⟨2, ![4, 3360]⟩
abbrev S4x1x3360 : Shape := ⟨3, ![4, 1, 3360]⟩
abbrev S4x2047x3360 : Shape := ⟨3, ![4, 2047, 3360]⟩
abbrev S1x1x3360 : Shape := ⟨3, ![1, 1, 3360]⟩
abbrev S4x2048x1024 : Shape := ⟨3, ![4, 2048, 1024]⟩
abbrev S4x2048x64 : Shape := ⟨3, ![4, 2048, 64]⟩
abbrev S4x2048x160 : Shape := ⟨3, ![4, 2048, 160]⟩
abbrev S1x1x1024 : Shape := ⟨3, ![1, 1, 1024]⟩
abbrev S4x2048x16x64 : Shape := ⟨4, ![4, 2048, 16, 64]⟩
abbrev S4x2048x16 : Shape := ⟨3, ![4, 2048, 16]⟩
abbrev S4x2048x16x1 : Shape := ⟨4, ![4, 2048, 16, 1]⟩
abbrev S1x1x16x64 : Shape := ⟨4, ![1, 1, 16, 64]⟩
abbrev S8192x1024 : Shape := ⟨2, ![8192, 1024]⟩

abbrev nBuf : Space → Nat
  | .hbm => 126
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S3360, .f32⟩
  | .hbm, ⟨2, _⟩ => ⟨S1024, .f32⟩
  | .hbm, ⟨3, _⟩ => ⟨S64x1024, .f32⟩
  | .hbm, ⟨4, _⟩ => ⟨S1024, .f32⟩
  | .hbm, ⟨5, _⟩ => ⟨S64x1024, .f32⟩
  | .hbm, ⟨6, _⟩ => ⟨S160x1024, .f32⟩
  | .hbm, ⟨7, _⟩ => ⟨S1024, .f32⟩
  | .hbm, ⟨8, _⟩ => ⟨S1024, .f32⟩
  | .hbm, ⟨9, _⟩ => ⟨S16x64, .f32⟩
  | .hbm, ⟨10, _⟩ => ⟨S8192x3136, .f32⟩
  | .hbm, ⟨11, _⟩ => ⟨S8192x64, .f32⟩
  | .hbm, ⟨12, _⟩ => ⟨S8192x160, .f32⟩
  | .hbm, ⟨13, _⟩ => ⟨S8192x3360, .f32⟩
  | .hbm, ⟨14, _⟩ => ⟨S4x2048x3360, .f32⟩
  | .hbm, ⟨15, _⟩ => ⟨S_, .f32⟩
  | .hbm, ⟨16, _⟩ => ⟨S4x3360, .f32⟩
  | .hbm, ⟨17, _⟩ => ⟨S4x1x3360, .f32⟩
  | .hbm, ⟨18, _⟩ => ⟨S4x2047x3360, .f32⟩
  | .hbm, ⟨19, _⟩ => ⟨S4x2048x3360, .f32⟩
  | .hbm, ⟨20, _⟩ => ⟨S4x2048x3360, .f32⟩
  | .hbm, ⟨21, _⟩ => ⟨S1x1x3360, .f32⟩
  | .hbm, ⟨22, _⟩ => ⟨S4x2048x3360, .f32⟩
  | .hbm, ⟨23, _⟩ => ⟨S4x2048x3360, .f32⟩
  | .hbm, ⟨24, _⟩ => ⟨S4x2048x3360, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x64, .f32⟩
  | .hbm, ⟨29, _⟩ => ⟨S4x2048x64, .f32⟩
  | .hbm, ⟨30, _⟩ => ⟨S4x2048x160, .f32⟩
  | .hbm, ⟨31, _⟩ => ⟨S4x2048x64, .f32⟩
  | .hbm, ⟨32, _⟩ => ⟨S4x2048x1024, .f32⟩
  | .hbm, ⟨33, _⟩ => ⟨S1x1x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .i1⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S4x2048x1024, .f32⟩
  | .hbm, ⟨59, _⟩ => ⟨S1x1x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S4x2048x1024, .f32⟩
  | .hbm, ⟨64, _⟩ => ⟨S_, .f32⟩
  | .hbm, ⟨65, _⟩ => ⟨S4x2048x1024, .f32⟩
  | .hbm, ⟨66, _⟩ => ⟨S4x2048x1024, .f32⟩
  | .hbm, ⟨67, _⟩ => ⟨S_, .f32⟩
  | .hbm, ⟨68, _⟩ => ⟨S4x2048x1024, .f32⟩
  | .hbm, ⟨69, _⟩ => ⟨S4x2048x1024, .f32⟩
  | .hbm, ⟨70, _⟩ => ⟨S4x2048x160, .f32⟩
  | .hbm, ⟨71, _⟩ => ⟨S4x2048x160, .f32⟩
  | .hbm, ⟨72, _⟩ => ⟨S_, .f32⟩
  | .hbm, ⟨73, _⟩ => ⟨S4x2048x160, .f32⟩
  | .hbm, ⟨74, _⟩ => ⟨S4x2048x160, .f32⟩
  | .hbm, ⟨75, _⟩ => ⟨S_, .f32⟩
  | .hbm, ⟨76, _⟩ => ⟨S4x2048x160, .f32⟩
  | .hbm, ⟨77, _⟩ => ⟨S4x2048x160, .f32⟩
  | .hbm, ⟨78, _⟩ => ⟨S4x2048x1024, .f32⟩
  | .hbm, ⟨79, _⟩ => ⟨S1x1x1024, .f32⟩
  | .hbm, ⟨80, _⟩ => ⟨S4x2048x1024, .f32⟩
  | .hbm, ⟨81, _⟩ => ⟨S4x2048x1024, .f32⟩
  | .hbm, ⟨82, _⟩ => ⟨S4x2048x16x64, .f32⟩
  | .hbm, ⟨83, _⟩ => ⟨S4x2048x16x64, .f32⟩
  | .hbm, ⟨84, _⟩ => ⟨S_, .f32⟩
  | .hbm, ⟨85, _⟩ => ⟨S4x2048x16, .f32⟩
  | .hbm, ⟨86, _⟩ => ⟨S4x2048x16x1, .f32⟩
  | .hbm, ⟨87, _⟩ => ⟨S4x2048x16x1, .f32⟩
  | .hbm, ⟨88, _⟩ => ⟨S_, .f32⟩
  | .hbm, ⟨89, _⟩ => ⟨S4x2048x16x1, .f32⟩
  | .hbm, ⟨90, _⟩ => ⟨S4x2048x16x1, .f32⟩
  | .hbm, ⟨91, _⟩ => ⟨S4x2048x16x64, .f32⟩
  | .hbm, ⟨92, _⟩ => ⟨S4x2048x16x64, .f32⟩
  | .hbm, ⟨93, _⟩ => ⟨S_, .f32⟩
  | .hbm, ⟨94, _⟩ => ⟨S4x2048x1024, .f32⟩
  | .hbm, ⟨95, _⟩ => ⟨S4x2048x1024, .f32⟩
  | .hbm, ⟨96, _⟩ => ⟨S1x1x1024, .f32⟩
  | .hbm, ⟨97, _⟩ => ⟨S4x2048x1024, .f32⟩
  | .hbm, ⟨98, _⟩ => ⟨S4x2048x1024, .f32⟩
  | .hbm, ⟨99, _⟩ => ⟨S_, .f32⟩
  | .hbm, ⟨100, _⟩ => ⟨S4x2048x1024, .f32⟩
  | .hbm, ⟨101, _⟩ => ⟨S4x2048x1024, .f32⟩
  | .hbm, ⟨102, _⟩ => ⟨S4x2048x1024, .f32⟩
  | .hbm, ⟨103, _⟩ => ⟨S4x2048x16x64, .f32⟩
  | .hbm, ⟨104, _⟩ => ⟨S4x2048x16x64, .f32⟩
  | .hbm, ⟨105, _⟩ => ⟨S4x2048x16x64, .f32⟩
  | .hbm, ⟨106, _⟩ => ⟨S4x2048x16x64, .f32⟩
  | .hbm, ⟨107, _⟩ => ⟨S4x2048x16x64, .f32⟩
  | .hbm, ⟨108, _⟩ => ⟨S4x2048x16x64, .f32⟩
  | .hbm, ⟨109, _⟩ => ⟨S1x1x16x64, .f32⟩
  | .hbm, ⟨110, _⟩ => ⟨S4x2048x16x64, .f32⟩
  | .hbm, ⟨111, _⟩ => ⟨S4x2048x16x64, .f32⟩
  | .hbm, ⟨112, _⟩ => ⟨S_, .f32⟩
  | .hbm, ⟨113, _⟩ => ⟨S4x2048x16, .f32⟩
  | .hbm, ⟨114, _⟩ => ⟨S4x2048x16x1, .f32⟩
  | .hbm, ⟨115, _⟩ => ⟨S4x2048x16x64, .f32⟩
  | .hbm, ⟨116, _⟩ => ⟨S4x2048x16x64, .f32⟩
  | .hbm, ⟨117, _⟩ => ⟨S4x2048x16x64, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x1024, .f32⟩
  | .hbm, ⟨122, _⟩ => ⟨S8192x1024, .f32⟩
  | .hbm, ⟨123, _⟩ => ⟨S8192x1024, .f32⟩
  | .hbm, ⟨124, _⟩ => ⟨S8192x1024, .f32⟩
  | .hbm, ⟨125, _⟩ => ⟨S8192x1024, .f32⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_v26 : Ref sig .tc := ⟨.hbm, 50, rfl⟩
abbrev main_v27 : Ref sig .tc := ⟨.hbm, 51, rfl⟩
abbrev main_cst_0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_1 : Ref sig .tc := ⟨.hbm, 64, rfl⟩
abbrev main_v39 : Ref sig .tc := ⟨.hbm, 65, rfl⟩
abbrev main_v40 : Ref sig .tc := ⟨.hbm, 66, rfl⟩
abbrev main_cst_2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_3 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_5 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_6 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_7 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_8 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_9 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩

abbrev nD : Nat := 1
abbrev τ : Topo := Topo.v7x

variable {F : FTy → Type} [FloatOps F]
-- ==== Post.lean ====
abbrev S8192x1024 : Shape := ⟨2, ![8192, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S512x1024 : Shape := ⟨2, ![512, 1024]⟩

abbrev nBuf : Space → Nat
  | .hbm => 33
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1x1024, .i32⟩
  | .hbm, ⟨26, _⟩ => ⟨S1024x1024, .i32⟩
  | .hbm, ⟨27, _⟩ => ⟨S1024x1024, .i32⟩
  | .hbm, ⟨28, _⟩ => ⟨S1024x1024, .i1⟩
  | .hbm, ⟨29, _⟩ => ⟨S1024x1024, .bf16⟩
  | .hbm, ⟨30, _⟩ => ⟨S1x1024, .f32⟩
  | .hbm, ⟨31, _⟩ => ⟨S1x1024, .f32⟩
  | .hbm, ⟨32, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PostRefIdeal.lean ====
abbrev S8192x1024 : Shape := ⟨2, ![8192, 1024]⟩
abbrev S1024 : Shape := ⟨1, ![1024]⟩
abbrev S4x2048x16x64 : Shape := ⟨4, ![4, 2048, 16, 64]⟩
abbrev S4x2048x1024 : Shape := ⟨3, ![4, 2048, 1024]⟩
abbrev S_ : Shape := ⟨0, ![]⟩
abbrev S4x2048x16 : Shape := ⟨3, ![4, 2048, 16]⟩
abbrev S4x2048x16x1 : Shape := ⟨4, ![4, 2048, 16, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S4x2048x16x64, .f32⟩
  | .hbm, ⟨6, _⟩ => ⟨S4x2048x16x64, .f32⟩
  | .hbm, ⟨7, _⟩ => ⟨S4x2048x1024, .f32⟩
  | .hbm, ⟨8, _⟩ => ⟨S_, .f32⟩
  | .hbm, ⟨9, _⟩ => ⟨S4x2048x16, .f32⟩
  | .hbm, ⟨10, _⟩ => ⟨S4x2048x16x1, .f32⟩
  | .hbm, ⟨11, _⟩ => ⟨S_, .f32⟩
  | .hbm, ⟨12, _⟩ => ⟨S4x2048x16x1, .f32⟩
  | .hbm, ⟨13, _⟩ => ⟨S4x2048x16x1, .f32⟩
  | .hbm, ⟨14, _⟩ => ⟨S4x2048x16x64, .f32⟩
  | .hbm, ⟨15, _⟩ => ⟨S4x2048x16x64, .f32⟩
  | .hbm, ⟨16, _⟩ => ⟨S4x2048x16x64, .f32⟩
  | .hbm, ⟨17, _⟩ => ⟨S_, .f32⟩
  | .hbm, ⟨18, _⟩ => ⟨S4x2048x16, .f32⟩
  | .hbm, ⟨19, _⟩ => ⟨S4x2048x16x1, .f32⟩
  | .hbm, ⟨20, _⟩ => ⟨S_, .f32⟩
  | .hbm, ⟨21, _⟩ => ⟨S4x2048x16x1, .f32⟩
  | .hbm, ⟨22, _⟩ => ⟨S4x2048x16x1, .f32⟩
  | .hbm, ⟨23, _⟩ => ⟨S4x2048x16x64, .f32⟩
  | .hbm, ⟨24, _⟩ => ⟨S4x2048x16x64, .f32⟩
  | .hbm, ⟨25, _⟩ => ⟨S_, .f32⟩
  | .hbm, ⟨26, _⟩ => ⟨S4x2048x16x1, .f32⟩
  | .hbm, ⟨27, _⟩ => ⟨S4x2048x16x1, .f32⟩
  | .hbm, ⟨28, _⟩ => ⟨S4x2048x16x1, .f32⟩
  | .hbm, ⟨29, _⟩ => ⟨S4x2048x16x64, .f32⟩
  | .hbm, ⟨30, _⟩ => ⟨S4x2048x16x64, .f32⟩
  | .hbm, ⟨31, _⟩ => ⟨S4x2048x1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S8192x1024, .f32⟩
  | .hbm, ⟨42, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Final.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S4x2048x2048 : Shape := ⟨3, ![4, 2048, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .hbm, ⟨4, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S8192x2048 : Shape := ⟨2, ![8192, 2048]⟩
abbrev S2048 : Shape := ⟨1, ![2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x2048, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Short.lean ====
abbrev S64x2048 : Shape := ⟨2, ![64, 2048]⟩
abbrev S2048 : Shape := ⟨1, ![2048]⟩
abbrev S2048x8192 : Shape := ⟨2, ![2048, 8192]⟩
abbrev S4096 : Shape := ⟨1, ![4096]⟩
abbrev S8x128x128 : Shape := ⟨3, ![8, 128, 128]⟩
abbrev S8x128 : Shape := ⟨2, ![8, 128]⟩
abbrev S4096x2048 : Shape := ⟨2, ![4096, 2048]⟩
abbrev S1x2048 : Shape := ⟨2, ![1, 2048]⟩
abbrev S64 : Shape := ⟨1, ![64]⟩
abbrev S64x1 : Shape := ⟨2, ![64, 1]⟩
abbrev S1x4096 : Shape := ⟨2, ![1, 4096]⟩
abbrev S64x8192 : Shape := ⟨2, ![64, 8192]⟩
abbrev S2048x1024 : Shape := ⟨2, ![2048, 1024]⟩
abbrev S64x1024 : Shape := ⟨2, ![64, 1024]⟩
abbrev S8x8 : Shape := ⟨2, ![8, 8]⟩
abbrev S_ : Shape := ⟨0, ![]⟩
abbrev S8x8x8 : Shape := ⟨3, ![8, 8, 8]⟩
abbrev S1x8x1x8x1 : Shape := ⟨5, ![1, 8, 1, 8, 1]⟩
abbrev S8x1x8x1x8 : Shape := ⟨5, ![8, 1, 8, 1, 8]⟩
abbrev S8x8x8x8x8 : Shape := ⟨5, ![8, 8, 8, 8, 8]⟩
abbrev S8x64x64 : Shape := ⟨3, ![8, 64, 64]⟩
abbrev S1x8x1x8 : Shape := ⟨4, ![1, 8, 1, 8]⟩
abbrev S8x8x1x8 : Shape := ⟨4, ![8, 8, 1, 8]⟩
abbrev S64x8 : Shape := ⟨2, ![64, 8]⟩
abbrev S64x4096 : Shape := ⟨2, ![64, 4096]⟩
abbrev S64x64 : Shape := ⟨2, ![64, 64]⟩
abbrev S1x64x64 : Shape := ⟨3, ![1, 64, 64]⟩
abbrev S64x512 : Shape := ⟨2, ![64, 512]⟩
abbrev S4096x512 : Shape := ⟨2, ![4096, 512]⟩
abbrev S8x8x4096 : Shape := ⟨3, ![8, 8, 4096]⟩

abbrev nBuf : Space → Nat
  | .hbm => 38
  | .vmem => 23
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x8192, .f32⟩
  | .hbm, ⟨3, _⟩ => ⟨S4096, .f32⟩
  | .hbm, ⟨4, _⟩ => ⟨S4096, .f32⟩
  | .hbm, ⟨5, _⟩ => ⟨S8x128x128, .f32⟩
  | .hbm, ⟨6, _⟩ => ⟨S8x128, .f32⟩
  | .hbm, ⟨7, _⟩ => ⟨S4096x2048, .f32⟩
  | .hbm, ⟨8, _⟩ => ⟨S1x2048, .f32⟩
  | .hbm, ⟨9, _⟩ => ⟨S64x2048, .bf16⟩
  | .hbm, ⟨10, _⟩ => ⟨S2048x8192, .bf16⟩
  | .hbm, ⟨11, _⟩ => ⟨S4096x2048, .bf16⟩
  | .hbm, ⟨12, _⟩ => ⟨S1x4096, .f32⟩
  | .hbm, ⟨13, _⟩ => ⟨S1x4096, .f32⟩
  | .hbm, ⟨14, _⟩ => ⟨S64x8192, .f32⟩
  | .hbm, ⟨15, _⟩ => ⟨S8x8, .i32⟩
  | .hbm, ⟨16, _⟩ => ⟨S8x8, .i32⟩
  | .hbm, ⟨17, _⟩ => ⟨S_, .i32⟩
  | .hbm, ⟨18, _⟩ => ⟨S8x8, .i32⟩
  | .hbm, ⟨19, _⟩ => ⟨S8x8, .i32⟩
  | .hbm, ⟨20, _⟩ => ⟨S8x8, .i1⟩
  | .hbm, ⟨21, _⟩ => ⟨S8x8, .f32⟩
  | .hbm, ⟨22, _⟩ => ⟨S8x8x8, .f32⟩
  | .hbm, ⟨23, _⟩ => ⟨S1x8x1x8x1, .f32⟩
  | .hbm, ⟨24, _⟩ => ⟨S8x1x8x1x8, .f32⟩
  | .hbm, ⟨25, _⟩ => ⟨S8x8x8x8x8, .f32⟩
  | .hbm, ⟨26, _⟩ => ⟨S8x8x8x8x8, .f32⟩
  | .hbm, ⟨27, _⟩ => ⟨S8x8x8x8x8, .f32⟩
  | .hbm, ⟨28, _⟩ => ⟨S8x64x64, .f32⟩
  | .hbm, ⟨29, _⟩ => ⟨S8x8, .f32⟩
  | .hbm, ⟨30, _⟩ => ⟨S8x8, .f32⟩
  | .hbm, ⟨31, _⟩ => ⟨S1x8x1x8, .f32⟩
  | .hbm, ⟨32, _⟩ => ⟨S8x8x1x8, .f32⟩
  | .hbm, ⟨33, _⟩ => ⟨S64x8, .f32⟩
  | .hbm, ⟨34, _⟩ => ⟨S64x4096, .bf16⟩
  | .hbm, ⟨35, _⟩ => ⟨S64x4096, .f32⟩
  | .hbm, ⟨36, _⟩ => ⟨S64x2048, .f32⟩
  | .hbm, ⟨37, _⟩ => ⟨S8x8x4096, .f32⟩
  | .local _ .vmem, ⟨0, _⟩ => ⟨S64x2048, .f32⟩
  | .local _ .vmem, ⟨1, _⟩ => ⟨S1x2048, .f32⟩
  | .local _ .vmem, ⟨2, _⟩ => ⟨S64x2048, .bf16⟩
  | .local _ .vmem, ⟨3, _⟩ => ⟨S64x2048, .bf16⟩
  | .local _ .vmem, ⟨4, _⟩ => ⟨S2048x1024, .bf16⟩
  | .local _ .vmem, ⟨5, _⟩ => ⟨S2048x1024, .bf16⟩
  | .local _ .vmem, ⟨6, _⟩ => ⟨S64x1024, .f32⟩
  | .local _ .vmem, ⟨7, _⟩ => ⟨S64x1024, .f32⟩
  | .local _ .vmem, ⟨8, _⟩ => ⟨S64x4096, .f32⟩
  | .local _ .vmem, ⟨9, _⟩ => ⟨S64x4096, .f32⟩
  | .local _ .vmem, ⟨10, _⟩ => ⟨S1x4096, .f32⟩
  | .local _ .vmem, ⟨11, _⟩ => ⟨S1x4096, .f32⟩
  | .local _ .vmem, ⟨12, _⟩ => ⟨S8x64x64, .f32⟩
  | .local _ .vmem, ⟨13, _⟩ => ⟨S64x8, .f32⟩
  | .local _ .vmem, ⟨14, _⟩ => ⟨S64x4096, .bf16⟩
  | .local _ .vmem, ⟨15, _⟩ => ⟨S64x4096, .f32⟩
  | .local _ .vmem, ⟨16, _⟩ => ⟨S64x4096, .bf16⟩
  | .local _ .vmem, ⟨17, _⟩ => ⟨S4096x512, .bf16⟩
  | .local _ .vmem, ⟨18, _⟩ => ⟨S4096x512, .bf16⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S64x512, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev cc2_sem6_0 : DmaSem sig := 14
abbrev cc2_sem7_0 : DmaSem sig := 15
abbrev cc3_sem0_0 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S64x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S64x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S64x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x4096 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S64x4096 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S64x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S64x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S64x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== ShortRefIdeal.lean ====
abbrev S64x2048 : Shape := ⟨2, ![64, 2048]⟩
abbrev S2048 : Shape := ⟨1, ![2048]⟩
abbrev S2048x8192 : Shape := ⟨2, ![2048, 8192]⟩
abbrev S4096 : Shape := ⟨1, ![4096]⟩
abbrev S8x128x128 : Shape := ⟨3, ![8, 128, 128]⟩
abbrev S8x128 : Shape := ⟨2, ![8, 128]⟩
abbrev S4096x2048 : Shape := ⟨2, ![4096, 2048]⟩
abbrev S8x8x2048 : Shape := ⟨3, ![8, 8, 2048]⟩
abbrev S_ : Shape := ⟨0, ![]⟩
abbrev S8x8 : Shape := ⟨2, ![8, 8]⟩
abbrev S8x8x1 : Shape := ⟨3, ![8, 8, 1]⟩
abbrev S1x1x2048 : Shape := ⟨3, ![1, 1, 2048]⟩
abbrev S8x8x8192 : Shape := ⟨3, ![8, 8, 8192]⟩
abbrev S8x8x4096 : Shape := ⟨3, ![8, 8, 4096]⟩
abbrev S1x1x4096 : Shape := ⟨3, ![1, 1, 4096]⟩
abbrev S8x8x8 : Shape := ⟨3, ![8, 8, 8]⟩
abbrev S8x1x8x8x512 : Shape := ⟨5, ![8, 1, 8, 8, 512]⟩
abbrev S8x8x1x512x8 : Shape := ⟨5, ![8, 8, 1, 512, 8]⟩
abbrev S1x1x8x8x1 : Shape := ⟨5, ![1, 1, 8, 8, 1]⟩

abbrev nBuf : Space → Nat
  | .hbm => 104
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x8192, .f32⟩
  | .hbm, ⟨3, _⟩ => ⟨S4096, .f32⟩
  | .hbm, ⟨4, _⟩ => ⟨S4096, .f32⟩
  | .hbm, ⟨5, _⟩ => ⟨S8x128x128, .f32⟩
  | .hbm, ⟨6, _⟩ => ⟨S8x128, .f32⟩
  | .hbm, ⟨7, _⟩ => ⟨S4096x2048, .f32⟩
  | .hbm, ⟨8, _⟩ => ⟨S8x8x2048, .f32⟩
  | .hbm, ⟨9, _⟩ => ⟨S8x8x2048, .f32⟩
  | .hbm, ⟨10, _⟩ => ⟨S_, .f32⟩
  | .hbm, ⟨11, _⟩ => ⟨S8x8, .f32⟩
  | .hbm, ⟨12, _⟩ => ⟨S8x8x1, .f32⟩
  | .hbm, ⟨13, _⟩ => ⟨S_, .f32⟩
  | .hbm, ⟨14, _⟩ => ⟨S8x8x1, .f32⟩
  | .hbm, ⟨15, _⟩ => ⟨S8x8x1, .f32⟩
  | .hbm, ⟨16, _⟩ => ⟨S_, .f32⟩
  | .hbm, ⟨17, _⟩ => ⟨S8x8x1, .f32⟩
  | .hbm, ⟨18, _⟩ => ⟨S8x8x1, .f32⟩
  | .hbm, ⟨19, _⟩ => ⟨S8x8x1, .f32⟩
  | .hbm, ⟨20, _⟩ => ⟨S8x8x2048, .f32⟩
  | .hbm, ⟨21, _⟩ => ⟨S8x8x2048, .f32⟩
  | .hbm, ⟨22, _⟩ => ⟨S1x1x2048, .f32⟩
  | .hbm, ⟨23, _⟩ => ⟨S8x8x2048, .f32⟩
  | .hbm, ⟨24, _⟩ => ⟨S8x8x2048, .f32⟩
  | .hbm, ⟨25, _⟩ => ⟨S8x8x8192, .f32⟩
  | .hbm, ⟨26, _⟩ => ⟨S8x8x8192, .f32⟩
  | .hbm, ⟨27, _⟩ => ⟨S8x8x8192, .f32⟩
  | .hbm, ⟨28, _⟩ => ⟨S_, .f32⟩
  | .hbm, ⟨29, _⟩ => ⟨S8x8x8192, .f32⟩
  | .hbm, ⟨30, _⟩ => ⟨S8x8x8192, .f32⟩
  | .hbm, ⟨31, _⟩ => ⟨S8x8x8192, .f32⟩
  | .hbm, ⟨32, _⟩ => ⟨S_, .f32⟩
  | .hbm, ⟨33, _⟩ => ⟨S8x8x8192, .f32⟩
  | .hbm, ⟨34, _⟩ => ⟨S8x8x8192, .f32⟩
  | .hbm, ⟨35, _⟩ => ⟨S8x8x8192, .f32⟩
  | .hbm, ⟨36, _⟩ => ⟨S_, .f32⟩
  | .hbm, ⟨37, _⟩ => ⟨S8x8x8192, .f32⟩
  | .hbm, ⟨38, _⟩ => ⟨S8x8x8192, .f32⟩
  | .hbm, ⟨39, _⟩ => ⟨S_, .f32⟩
  | .hbm, ⟨40, _⟩ => ⟨S8x8x8192, .f32⟩
  | .hbm, ⟨41, _⟩ => ⟨S8x8x8192, .f32⟩
  | .hbm, ⟨42, _⟩ => ⟨S8x8x8192, .f32⟩
  | .hbm, ⟨43, _⟩ => ⟨S8x8x4096, .f32⟩
  | .hbm, ⟨44, _⟩ => ⟨S8x8x4096, .f32⟩
  | .hbm, ⟨45, _⟩ => ⟨S_, .f32⟩
  | .hbm, ⟨46, _⟩ => ⟨S8x8, .f32⟩
  | .hbm, ⟨47, _⟩ => ⟨S8x8x1, .f32⟩
  | .hbm, ⟨48, _⟩ => ⟨S_, .f32⟩
  | .hbm, ⟨49, _⟩ => ⟨S8x8x1, .f32⟩
  | .hbm, ⟨50, _⟩ => ⟨S8x8x1, .f32⟩
  | .hbm, ⟨51, _⟩ => ⟨S8x8x4096, .f32⟩
  | .hbm, ⟨52, _⟩ => ⟨S8x8x4096, .f32⟩
  | .hbm, ⟨53, _⟩ => ⟨S8x8x4096, .f32⟩
  | .hbm, ⟨54, _⟩ => ⟨S_, .f32⟩
  | .hbm, ⟨55, _⟩ => ⟨S8x8, .f32⟩
  | .hbm, ⟨56, _⟩ => ⟨S8x8x1, .f32⟩
  | .hbm, ⟨57, _⟩ => ⟨S_, .f32⟩
  | .hbm, ⟨58, _⟩ => ⟨S8x8x1, .f32⟩
  | .hbm, ⟨59, _⟩ => ⟨S8x8x1, .f32⟩
  | .hbm, ⟨60, _⟩ => ⟨S8x8x4096, .f32⟩
  | .hbm, ⟨61, _⟩ => ⟨S8x8x4096, .f32⟩
  | .hbm, ⟨62, _⟩ => ⟨S_, .f32⟩
  | .hbm, ⟨63, _⟩ => ⟨S8x8x1, .f32⟩
  | .hbm, ⟨64, _⟩ => ⟨S8x8x1, .f32⟩
  | .hbm, ⟨65, _⟩ => ⟨S8x8x1, .f32⟩
  | .hbm, ⟨66, _⟩ => ⟨S8x8x4096, .f32⟩
  | .hbm, ⟨67, _⟩ => ⟨S8x8x4096, .f32⟩
  | .hbm, ⟨68, _⟩ => ⟨S1x1x4096, .f32⟩
  | .hbm, ⟨69, _⟩ => ⟨S8x8x4096, .f32⟩
  | .hbm, ⟨70, _⟩ => ⟨S8x8x4096, .f32⟩
  | .hbm, ⟨71, _⟩ => ⟨S1x1x4096, .f32⟩
  | .hbm, ⟨72, _⟩ => ⟨S8x8x4096, .f32⟩
  | .hbm, ⟨73, _⟩ => ⟨S8x8x4096, .f32⟩
  | .hbm, ⟨74, _⟩ => ⟨S_, .i1⟩
  | .hbm, ⟨75, _⟩ => ⟨S8x8, .i1⟩
  | .hbm, ⟨76, _⟩ => ⟨S8x8, .i32⟩
  | .hbm, ⟨77, _⟩ => ⟨S_, .i32⟩
  | .hbm, ⟨78, _⟩ => ⟨S8x8, .i32⟩
  | .hbm, ⟨79, _⟩ => ⟨S8x8, .i32⟩
  | .hbm, ⟨80, _⟩ => ⟨S8x8, .i32⟩
  | .hbm, ⟨81, _⟩ => ⟨S8x8, .i1⟩
  | .hbm, ⟨82, _⟩ => ⟨S_, .i1⟩
  | .hbm, ⟨83, _⟩ => ⟨S8x8, .i1⟩
  | .hbm, ⟨84, _⟩ => ⟨S8x8, .i1⟩
  | .hbm, ⟨85, _⟩ => ⟨S8x8x8, .f32⟩
  | .hbm, ⟨86, _⟩ => ⟨S_, .f32⟩
  | .hbm, ⟨87, _⟩ => ⟨S_, .f32⟩
  | .hbm, ⟨88, _⟩ => ⟨S8x8x8, .i1⟩
  | .hbm, ⟨89, _⟩ => ⟨S8x8x8, .f32⟩
  | .hbm, ⟨90, _⟩ => ⟨S8x8x8, .f32⟩
  | .hbm, ⟨91, _⟩ => ⟨S8x1x8x8x512, .f32⟩
  | .hbm, ⟨92, _⟩ => ⟨S8x8x1x512x8, .f32⟩
  | .hbm, ⟨93, _⟩ => ⟨S8x1x8x8x512, .f32⟩
  | .hbm, ⟨94, _⟩ => ⟨S8x8, .f32⟩
  | .hbm, ⟨95, _⟩ => ⟨S8x8, .f32⟩
  | .hbm, ⟨96, _⟩ => ⟨S1x1x8x8x1, .f32⟩
  | .hbm, ⟨97, _⟩ => ⟨S8x1x8x8x512, .f32⟩
  | .hbm, ⟨98, _⟩ => ⟨S8x1x8x8x512, .f32⟩
  | .hbm, ⟨99, _⟩ => ⟨S8x8x4096, .f32⟩
  | .hbm, ⟨100, _⟩ => ⟨S8x8x4096, .f32⟩
  | .hbm, ⟨101, _⟩ => ⟨S8x8x2048, .f32⟩
  | .hbm, ⟨102, _⟩ => ⟨S8x8x2048, .f32⟩
  | .hbm, ⟨103, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c : Ref sig .tc := ⟨.hbm, 74, rfl⟩
abbrev main_v54 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_c_0 : Ref sig .tc := ⟨.hbm, 82, rfl⟩
abbrev main_call0_v5 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]
-- ==== EvenInS.lean ====
abbrev S64x2048 : Shape := ⟨2, ![64, 2048]⟩
abbrev S2048 : Shape := ⟨1, ![2048]⟩
abbrev S2048x6432 : Shape := ⟨2, ![2048, 6432]⟩
abbrev S1x2048 : Shape := ⟨2, ![1, 2048]⟩
abbrev S64 : Shape := ⟨1, ![64]⟩
abbrev S64x1 : Shape := ⟨2, ![64, 1]⟩
abbrev S2048x3072 : Shape := ⟨2, ![2048, 3072]⟩
abbrev S2048x3360 : Shape := ⟨2, ![2048, 3360]⟩
abbrev S2048x64 : Shape := ⟨2, ![2048, 64]⟩
abbrev S_ : Shape := ⟨0, ![]⟩
abbrev S2048x128 : Shape := ⟨2, ![2048, 128]⟩
abbrev S2048x160 : Shape := ⟨2, ![2048, 160]⟩
abbrev S2048x256 : Shape := ⟨2, ![2048, 256]⟩
abbrev S2048x3584 : Shape := ⟨2, ![2048, 3584]⟩
abbrev S64x3072 : Shape := ⟨2, ![64, 3072]⟩
abbrev S2048x1024 : Shape := ⟨2, ![2048, 1024]⟩
abbrev S64x1024 : Shape := ⟨2, ![64, 1024]⟩
abbrev S64x3584 : Shape := ⟨2, ![64, 3584]⟩
abbrev S2048x512 : Shape := ⟨2, ![2048, 512]⟩
abbrev S64x512 : Shape := ⟨2, ![64, 512]⟩
abbrev S64x64 : Shape := ⟨2, ![64, 64]⟩
abbrev S64x160 : Shape := ⟨2, ![64, 160]⟩
abbrev S64x3360 : Shape := ⟨2, ![64, 3360]⟩

abbrev nBuf : Space → Nat
  | .hbm => 30
  | .vmem => 13
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x6432, .f32⟩
  | .hbm, ⟨3, _⟩ => ⟨S1x2048, .f32⟩
  | .hbm, ⟨4, _⟩ => ⟨S64x2048, .bf16⟩
  | .hbm, ⟨5, _⟩ => ⟨S2048x3072, .f32⟩
  | .hbm, ⟨6, _⟩ => ⟨S2048x3072, .bf16⟩
  | .hbm, ⟨7, _⟩ => ⟨S2048x3360, .f32⟩
  | .hbm, ⟨8, _⟩ => ⟨S2048x3072, .f32⟩
  | .hbm, ⟨9, _⟩ => ⟨S2048x64, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x64, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x160, .f32⟩
  | .hbm, ⟨18, _⟩ => ⟨S_, .i32⟩
  | .hbm, ⟨19, _⟩ => ⟨S_, .f32⟩
  | .hbm, ⟨20, _⟩ => ⟨S2048x256, .f32⟩
  | .hbm, ⟨21, _⟩ => ⟨S2048x3584, .f32⟩
  | .hbm, ⟨22, _⟩ => ⟨S2048x3584, .bf16⟩
  | .hbm, ⟨23, _⟩ => ⟨S64x3072, .f32⟩
  | .hbm, ⟨24, _⟩ => ⟨S64x3584, .f32⟩
  | .hbm, ⟨25, _⟩ => ⟨S64x3072, .f32⟩
  | .hbm, ⟨26, _⟩ => ⟨S64x64, .f32⟩
  | .hbm, ⟨27, _⟩ => ⟨S64x64, .f32⟩
  | .hbm, ⟨28, _⟩ => ⟨S64x160, .f32⟩
  | .hbm, ⟨29, _⟩ => ⟨S64x3360, .f32⟩
  | .local _ .vmem, ⟨0, _⟩ => ⟨S64x2048, .f32⟩
  | .local _ .vmem, ⟨1, _⟩ => ⟨S1x2048, .f32⟩
  | .local _ .vmem, ⟨2, _⟩ => ⟨S64x2048, .bf16⟩
  | .local _ .vmem, ⟨3, _⟩ => ⟨S64x2048, .bf16⟩
  | .local _ .vmem, ⟨4, _⟩ => ⟨S2048x1024, .bf16⟩
  | .local _ .vmem, ⟨5, _⟩ => ⟨S2048x1024, .bf16⟩
  | .local _ .vmem, ⟨6, _⟩ => ⟨S64x1024, .f32⟩
  | .local _ .vmem, ⟨7, _⟩ => ⟨S64x1024, .f32⟩
  | .local _ .vmem, ⟨8, _⟩ => ⟨S64x2048, .bf16⟩
  | .local _ .vmem, ⟨9, _⟩ => ⟨S2048x512, .bf16⟩
  | .local _ .vmem, ⟨10, _⟩ => ⟨S2048x512, .bf16⟩
  | .local _ .vmem, ⟨11, _⟩ => ⟨S64x512, .f32⟩
  | .local _ .vmem, ⟨12, _⟩ => ⟨S64x512, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call2_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S64x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 7], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S64x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S64x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== EvenInSRefIdeal.lean ====
abbrev S64x2048 : Shape := ⟨2, ![64, 2048]⟩
abbrev S2048 : Shape := ⟨1, ![2048]⟩
abbrev S2048x6432 : Shape := ⟨2, ![2048, 6432]⟩
abbrev S8x8x2048 : Shape := ⟨3, ![8, 8, 2048]⟩
abbrev S_ : Shape := ⟨0, ![]⟩
abbrev S8x8 : Shape := ⟨2, ![8, 8]⟩
abbrev S8x8x1 : Shape := ⟨3, ![8, 8, 1]⟩
abbrev S1x1x2048 : Shape := ⟨3, ![1, 1, 2048]⟩
abbrev S8x8x6432 : Shape := ⟨3, ![8, 8, 6432]⟩
abbrev S8x8x3072 : Shape := ⟨3, ![8, 8, 3072]⟩
abbrev S8x8x3360 : Shape := ⟨3, ![8, 8, 3360]⟩
abbrev S64x3072 : Shape := ⟨2, ![64, 3072]⟩
abbrev S64x3360 : Shape := ⟨2, ![64, 3360]⟩

abbrev nBuf : Space → Nat
  | .hbm => 25
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x6432, .f32⟩
  | .hbm, ⟨3, _⟩ => ⟨S8x8x2048, .f32⟩
  | .hbm, ⟨4, _⟩ => ⟨S8x8x2048, .f32⟩
  | .hbm, ⟨5, _⟩ => ⟨S_, .f32⟩
  | .hbm, ⟨6, _⟩ => ⟨S8x8, .f32⟩
  | .hbm, ⟨7, _⟩ => ⟨S8x8x1, .f32⟩
  | .hbm, ⟨8, _⟩ => ⟨S_, .f32⟩
  | .hbm, ⟨9, _⟩ => ⟨S8x8x1, .f32⟩
  | .hbm, ⟨10, _⟩ => ⟨S8x8x1, .f32⟩
  | .hbm, ⟨11, _⟩ => ⟨S_, .f32⟩
  | .hbm, ⟨12, _⟩ => ⟨S8x8x1, .f32⟩
  | .hbm, ⟨13, _⟩ => ⟨S8x8x1, .f32⟩
  | .hbm, ⟨14, _⟩ => ⟨S8x8x1, .f32⟩
  | .hbm, ⟨15, _⟩ => ⟨S8x8x2048, .f32⟩
  | .hbm, ⟨16, _⟩ => ⟨S8x8x2048, .f32⟩
  | .hbm, ⟨17, _⟩ => ⟨S1x1x2048, .f32⟩
  | .hbm, ⟨18, _⟩ => ⟨S8x8x2048, .f32⟩
  | .hbm, ⟨19, _⟩ => ⟨S8x8x2048, .f32⟩
  | .hbm, ⟨20, _⟩ => ⟨S8x8x6432, .f32⟩
  | .hbm, ⟨21, _⟩ => ⟨S8x8x3072, .f32⟩
  | .hbm, ⟨22, _⟩ => ⟨S8x8x3360, .f32⟩
  | .hbm, ⟨23, _⟩ => ⟨S64x3072, .f32⟩
  | .hbm, ⟨24, _⟩ => ⟨S64x3360, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== EvenOutS.lean ====
abbrev S64x1024 : Shape := ⟨2, ![64, 1024]⟩
abbrev S2048x2048 : Shape := ⟨2, ![2048, 2048]⟩
abbrev S64x2048 : Shape := ⟨2, ![64, 2048]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S64x1024, .bf16⟩
  | .hbm, ⟨1, _⟩ => ⟨S64x1024, .bf16⟩
  | .hbm, ⟨2, _⟩ => ⟨S2048x2048, .f32⟩
  | .hbm, ⟨3, _⟩ => ⟨S64x2048, .f32⟩
  | .hbm, ⟨4, _⟩ => ⟨S2048x2048, .bf16⟩
  | .hbm, ⟨5, _⟩ => ⟨S64x2048, .bf16⟩
  | .hbm, ⟨6, _⟩ => ⟨S64x2048, .f32⟩
  | .local _ .vmem, ⟨0, _⟩ => ⟨S64x2048, .bf16⟩
  | .local _ .vmem, ⟨1, _⟩ => ⟨S2048x1024, .bf16⟩
  | .local _ .vmem, ⟨2, _⟩ => ⟨S2048x1024, .bf16⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenOutSRefIdeal.lean ====
abbrev S64x1024 : Shape := ⟨2, ![64, 1024]⟩
abbrev S2048x2048 : Shape := ⟨2, ![2048, 2048]⟩
abbrev S64x2048 : Shape := ⟨2, ![64, 2048]⟩
abbrev S8x8x1024 : Shape := ⟨3, ![8, 8, 1024]⟩
abbrev S8x8x2048 : Shape := ⟨3, ![8, 8, 2048]⟩

abbrev nBuf : Space → Nat
  | .hbm => 11
  | .vmem => 0
  | .smem => 0
  | _ => 0

abbrev bufTy : (tb : Table) → Fin (tcTables nBuf tb) → BufTy
  | .hbm, ⟨0, _⟩ => ⟨S64x1024, .bf16⟩
  | .hbm, ⟨1, _⟩ => ⟨S64x1024, .bf16⟩
  | .hbm, ⟨2, _⟩ => ⟨S2048x2048, .f32⟩
  | .hbm, ⟨3, _⟩ => ⟨S64x2048, .f32⟩
  | .hbm, ⟨4, _⟩ => ⟨S8x8x1024, .bf16⟩
  | .hbm, ⟨5, _⟩ => ⟨S8x8x1024, .bf16⟩
  | .hbm, ⟨6, _⟩ => ⟨S8x8x2048, .f32⟩
  | .hbm, ⟨7, _⟩ => ⟨S8x8x2048, .bf16⟩
  | .hbm, ⟨8, _⟩ => ⟨S8x8x2048, .f32⟩
  | .hbm, ⟨9, _⟩ => ⟨S8x8x2048, .f32⟩
  | .hbm, ⟨10, _⟩ => ⟨S64x2048, .f32⟩
  | _, _ => ⟨S64x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== PostS.lean ====
abbrev S64x1024 : Shape := ⟨2, ![64, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 33
  | .vmem => 7
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S1024, .f32⟩
  | .hbm, ⟨4, _⟩ => ⟨S1024, .f32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1x1024, .i32⟩
  | .hbm, ⟨26, _⟩ => ⟨S1024x1024, .i32⟩
  | .hbm, ⟨27, _⟩ => ⟨S1024x1024, .i32⟩
  | .hbm, ⟨28, _⟩ => ⟨S1024x1024, .i1⟩
  | .hbm, ⟨29, _⟩ => ⟨S1024x1024, .bf16⟩
  | .hbm, ⟨30, _⟩ => ⟨S1x1024, .f32⟩
  | .hbm, ⟨31, _⟩ => ⟨S1x1024, .f32⟩
  | .hbm, ⟨32, _⟩ => ⟨S64x1024, .bf16⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S64x1024, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== PostSRefIdeal.lean ====
abbrev S64x1024 : Shape := ⟨2, ![64, 1024]⟩
abbrev S1024 : Shape := ⟨1, ![1024]⟩
abbrev S8x8x16x64 : Shape := ⟨4, ![8, 8, 16, 64]⟩
abbrev S8x8x1024 : Shape := ⟨3, ![8, 8, 1024]⟩
abbrev S_ : Shape := ⟨0, ![]⟩
abbrev S8x8x16 : Shape := ⟨3, ![8, 8, 16]⟩
abbrev S8x8x16x1 : Shape := ⟨4, ![8, 8, 16, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S1024, .f32⟩
  | .hbm, ⟨4, _⟩ => ⟨S1024, .f32⟩
  | .hbm, ⟨5, _⟩ => ⟨S8x8x16x64, .f32⟩
  | .hbm, ⟨6, _⟩ => ⟨S8x8x16x64, .f32⟩
  | .hbm, ⟨7, _⟩ => ⟨S8x8x1024, .f32⟩
  | .hbm, ⟨8, _⟩ => ⟨S_, .f32⟩
  | .hbm, ⟨9, _⟩ => ⟨S8x8x16, .f32⟩
  | .hbm, ⟨10, _⟩ => ⟨S8x8x16x1, .f32⟩
  | .hbm, ⟨11, _⟩ => ⟨S_, .f32⟩
  | .hbm, ⟨12, _⟩ => ⟨S8x8x16x1, .f32⟩
  | .hbm, ⟨13, _⟩ => ⟨S8x8x16x1, .f32⟩
  | .hbm, ⟨14, _⟩ => ⟨S8x8x16x64, .f32⟩
  | .hbm, ⟨15, _⟩ => ⟨S8x8x16x64, .f32⟩
  | .hbm, ⟨16, _⟩ => ⟨S8x8x16x64, .f32⟩
  | .hbm, ⟨17, _⟩ => ⟨S_, .f32⟩
  | .hbm, ⟨18, _⟩ => ⟨S8x8x16, .f32⟩
  | .hbm, ⟨19, _⟩ => ⟨S8x8x16x1, .f32⟩
  | .hbm, ⟨20, _⟩ => ⟨S_, .f32⟩
  | .hbm, ⟨21, _⟩ => ⟨S8x8x16x1, .f32⟩
  | .hbm, ⟨22, _⟩ => ⟨S8x8x16x1, .f32⟩
  | .hbm, ⟨23, _⟩ => ⟨S8x8x16x64, .f32⟩
  | .hbm, ⟨24, _⟩ => ⟨S8x8x16x64, .f32⟩
  | .hbm, ⟨25, _⟩ => ⟨S_, .f32⟩
  | .hbm, ⟨26, _⟩ => ⟨S8x8x16x1, .f32⟩
  | .hbm, ⟨27, _⟩ => ⟨S8x8x16x1, .f32⟩
  | .hbm, ⟨28, _⟩ => ⟨S8x8x16x1, .f32⟩
  | .hbm, ⟨29, _⟩ => ⟨S8x8x16x64, .f32⟩
  | .hbm, ⟨30, _⟩ => ⟨S8x8x16x64, .f32⟩
  | .hbm, ⟨31, _⟩ => ⟨S8x8x1024, .f32⟩
  | .hbm, ⟨32, _⟩ => ⟨S1x1x1024, .f32⟩
  | .hbm, ⟨33, _⟩ => ⟨S8x8x1024, .f32⟩
  | .hbm, ⟨34, _⟩ => ⟨S8x8x1024, .f32⟩
  | .hbm, ⟨35, _⟩ => ⟨S1x1x1024, .f32⟩
  | .hbm, ⟨36, _⟩ => ⟨S8x8x1024, .f32⟩
  | .hbm, ⟨37, _⟩ => ⟨S8x8x1024, .f32⟩
  | .hbm, ⟨38, _⟩ => ⟨S8x8x1024, .f32⟩
  | .hbm, ⟨39, _⟩ => ⟨S8x8x1024, .f32⟩
  | .hbm, ⟨40, _⟩ => ⟨S8x8x1024, .f32⟩
  | .hbm, ⟨41, _⟩ => ⟨S64x1024, .f32⟩
  | .hbm, ⟨42, _⟩ => ⟨S64x1024, .bf16⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== FinalS.lean ====
abbrev S64x2048 : Shape := ⟨2, ![64, 2048]⟩
abbrev S2048 : Shape := ⟨1, ![2048]⟩
abbrev S1x2048 : Shape := ⟨2, ![1, 2048]⟩
abbrev S64 : Shape := ⟨1, ![64]⟩
abbrev S64x1 : Shape := ⟨2, ![64, 1]⟩
abbrev S8x8x2048 : Shape := ⟨3, ![8, 8, 2048]⟩

abbrev nBuf : Space → Nat
  | .hbm => 5
  | .vmem => 3
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S1x2048, .f32⟩
  | .hbm, ⟨3, _⟩ => ⟨S64x2048, .f32⟩
  | .hbm, ⟨4, _⟩ => ⟨S8x8x2048, .f32⟩
  | .local _ .vmem, ⟨0, _⟩ => ⟨S64x2048, .f32⟩
  | .local _ .vmem, ⟨1, _⟩ => ⟨S1x2048, .f32⟩
  | .local _ .vmem, ⟨2, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== FinalSRefIdeal.lean ====
abbrev S64x2048 : Shape := ⟨2, ![64, 2048]⟩
abbrev S2048 : Shape := ⟨1, ![2048]⟩
abbrev S8x8x2048 : Shape := ⟨3, ![8, 8, 2048]⟩
abbrev S_ : Shape := ⟨0, ![]⟩
abbrev S8x8 : Shape := ⟨2, ![8, 8]⟩
abbrev S8x8x1 : Shape := ⟨3, ![8, 8, 1]⟩
abbrev S1x1x2048 : Shape := ⟨3, ![1, 1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S8x8x2048, .f32⟩
  | .hbm, ⟨3, _⟩ => ⟨S8x8x2048, .f32⟩
  | .hbm, ⟨4, _⟩ => ⟨S_, .f32⟩
  | .hbm, ⟨5, _⟩ => ⟨S8x8, .f32⟩
  | .hbm, ⟨6, _⟩ => ⟨S8x8x1, .f32⟩
  | .hbm, ⟨7, _⟩ => ⟨S_, .f32⟩
  | .hbm, ⟨8, _⟩ => ⟨S8x8x1, .f32⟩
  | .hbm, ⟨9, _⟩ => ⟨S8x8x1, .f32⟩
  | .hbm, ⟨10, _⟩ => ⟨S_, .f32⟩
  | .hbm, ⟨11, _⟩ => ⟨S8x8x1, .f32⟩
  | .hbm, ⟨12, _⟩ => ⟨S8x8x1, .f32⟩
  | .hbm, ⟨13, _⟩ => ⟨S8x8x1, .f32⟩
  | .hbm, ⟨14, _⟩ => ⟨S8x8x2048, .f32⟩
  | .hbm, ⟨15, _⟩ => ⟨S8x8x2048, .f32⟩
  | .hbm, ⟨16, _⟩ => ⟨S1x1x2048, .f32⟩
  | .hbm, ⟨17, _⟩ => ⟨S8x8x2048, .f32⟩
  | .hbm, ⟨18, _⟩ => ⟨S8x8x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.PFrame.lean ====
/-
  THE FRAME of `PrepIdeal`, the projections' elementwise half: the program up to its one region, what the body leaves in each result's buffer, the body's
  triple, the run and the unchanged arguments, for any values. The text follows the one written with the program; the body obligation takes more
  room than is given there.
-/
module

public import proofs.«01_k».proof.Proof.Gen.PrepIdeal.Launch
public import proofs.«01_k».proof.Proof.Gen.PrepIdeal.Skeleton
public import proofs.«01_k».proof.Proof.Gen.PrepIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of full extents goes through its axes one coordinate at a time
set_option maxRecDepth 16384

noncomputable section

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1440000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 1).trans (((dats 0 c).arrAt_in 1 rfl _).trans ((hA c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

abbrev r0_0 : Rect S256x3584 := Rect.unit (s := S256x3584) ![0, 0] S256x3584.size inb_S256x3584_S256x3584_0_0
abbrev r0_1 : Rect S1x1x3584 := Rect.unit (s := S1x1x3584) ![0, 0, 0] S1x1x3584.size inb_S1x1x3584_S1x1x3584_0_0_0
abbrev r0_2 : Rect S8x3584 := Rect.unit (s := S8x3584) ![7, 0] S1x3584.size inb_S8x3584_S1x3584_7_0
abbrev r0_3 : Rect S1x3584 := Rect.unit (s := S1x3584) ![0, 0] S1x3584.size inb_S1x3584_S1x3584_0_0
abbrev r0_4 : Rect S1024x1024 := Rect.unit (s := S1024x1024) ![0, 0] S1024x1024.size inb_S1024x1024_S1024x1024_0_0
abbrev r0_5 : Rect S1x1024 := Rect.unit (s := S1x1024) ![0, 0] S1x1024.size inb_S1x1024_S1x1024_0_0
abbrev r0_6 : Rect S128x1024 := Rect.unit (s := S128x1024) ![0, 0] S128x1024.size inb_S128x1024_S128x1024_0_0
abbrev r0_7 : Rect S256x1024 := Rect.unit (s := S256x1024) ![0, 0] S256x1024.size inb_S256x1024_S256x1024_0_0

def k0_pay29 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S256x1024 .f32 :=
  k0_pay5 i (View.ld x0 r0_0) (View.ld x2 r0_1) (View.ld x1 r0_2) (View.ld x3 r0_3)
def k0_pay30 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S256x1024 .f32 :=
  k0_pay6 i (View.ld x0 r0_0) (View.ld x2 r0_1) (View.ld x1 r0_2) (View.ld x3 r0_3)
def k0_pay31 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S256x1024 .f32 :=
  k0_pay7 i (View.ld x0 r0_0) (View.ld x2 r0_1) (View.ld x1 r0_2) (View.ld x3 r0_3)
def k0_pay32 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S256x128 .f32 :=
  k0_pay8 i (View.ld x0 r0_0) (View.ld x2 r0_1) (View.ld x1 r0_2) (View.ld x3 r0_3)
def k0_pay33 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S1024x1024 .bf16 :=
  k0_pay10 (View.ld x15 r0_4)
def k0_pay34 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S1x1024 .f32 :=
  k0_pay18 (View.ld x5 r0_5)
def k0_pay35 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S128x1024 .bf16 :=
  k0_pay19 (View.ld x11 r0_6)
def k0_pay36 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S256x128 .bf16 :=
  k0_pay21 (k0_pay32 i x0 x1 x2 x3 x4 x5 x6 x7 x8 x9 x10 x11 x12 x13 x14 x15)
def k0_pay37 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S256x1024 .f32 :=
  k0_pay22 (k0_pay32 i x0 x1 x2 x3 x4 x5 x6 x7 x8 x9 x10 x11 x12 x13 x14 x15) (View.ld x11 r0_6)
def k0_pay38 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S256x1024 .f32 :=
  k0_pay23 (k0_pay32 i x0 x1 x2 x3 x4 x5 x6 x7 x8 x9 x10 x11 x12 x13 x14 x15) (View.ld x12 r0_6)
def k0_pay39 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S256x1024 .f32 :=
  k0_pay26 (k0_pay30 i x0 x1 x2 x3 x4 x5 x6 x7 x8 x9 x10 x11 x12 x13 x14 x15) (k0_pay33 i x0 x1 x2 x3 x4 x5 x6 x7 x8 x9 x10 x11 x12 x13 x14 x15) (View.ld x6 r0_5)
def k0_pay40 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S256x1024 .f32 :=
  k0_pay27 (k0_pay34 i x0 x1 x2 x3 x4 x5 x6 x7 x8 x9 x10 x11 x12 x13 x14 x15) (k0_pay35 i x0 x1 x2 x3 x4 x5 x6 x7 x8 x9 x10 x11 x12 x13 x14 x15) (k0_pay36 i x0 x1 x2 x3 x4 x5 x6 x7 x8 x9 x10 x11 x12 x13 x14 x15) (k0_pay37 i x0 x1 x2 x3 x4 x5 x6 x7 x8 x9 x10 x11 x12 x13 x14 x15) (k0_pay38 i x0 x1 x2 x3 x4 x5 x6 x7 x8 x9 x10 x11 x12 x13 x14 x15) (View.ld x7 r0_5)
def k0_pay41 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : FVec F S256x1024 .f32 :=
  k0_pay28 (F := F)

def out0_16 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : Vec F S256x1024 .f32 :=
  View.canon [⟨r0_7, k0_pay29 i x0 x1 x2 x3 x4 x5 x6 x7 x8 x9 x10 x11 x12 x13 x14 x15⟩]

theorem cover0_16 (p0 : Vec F S256x1024 .f32) (y : S256x1024.Idx) :
    ∃ pc ∈ ([⟨r0_7, p0⟩] : List (View.Piece (Elt F) S256x1024 .f32)), y ∈ pc.1.set :=
  View.cover_of_tiled [⟨r0_7, p0⟩] S256x1024.size (by rfl) y

def out0_17 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : Vec F S256x1024 .f32 :=
  View.canon [⟨r0_7, k0_pay17 (k0_pay11 (View.ld x4 r0_5)) (k0_pay13 (View.ld x9 r0_6)) (k0_pay14 (View.ld x10 r0_6)) (k0_pay15 i (View.ld x0 r0_0) (View.ld x2 r0_1) (View.ld x1 r0_2) (View.ld x3 r0_3)) (k0_pay16 i (View.ld x0 r0_0) (View.ld x2 r0_1) (View.ld x1 r0_2) (View.ld x3 r0_3))⟩]

theorem cover0_17 (p0 : Vec F S256x1024 .f32) (y : S256x1024.Idx) :
    ∃ pc ∈ ([⟨r0_7, p0⟩] : List (View.Piece (Elt F) S256x1024 .f32)), y ∈ pc.1.set :=
  View.cover_of_tiled [⟨r0_7, p0⟩] S256x1024.size (by rfl) y

def out0_18 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : Vec F S256x1024 .f32 :=
  View.canon [⟨r0_7, k0_pay1 (k0_pay30 i x0 x1 x2 x3 x4 x5 x6 x7 x8 x9 x10 x11 x12 x13 x14 x15) (k0_pay40 i x0 x1 x2 x3 x4 x5 x6 x7 x8 x9 x10 x11 x12 x13 x14 x15) (k0_pay41 i x0 x1 x2 x3 x4 x5 x6 x7 x8 x9 x10 x11 x12 x13 x14 x15)⟩]

theorem cover0_18 (p0 : Vec F S256x1024 .f32) (y : S256x1024.Idx) :
    ∃ pc ∈ ([⟨r0_7, p0⟩] : List (View.Piece (Elt F) S256x1024 .f32)), y ∈ pc.1.set :=
  View.cover_of_tiled [⟨r0_7, p0⟩] S256x1024.size (by rfl) y

def out0_19 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : Vec F S256x1024 .f32 :=
  View.canon [⟨r0_7, k0_pay39 i x0 x1 x2 x3 x4 x5 x6 x7 x8 x9 x10 x11 x12 x13 x14 x15⟩]

theorem cover0_19 (p0 : Vec F S256x1024 .f32) (y : S256x1024.Idx) :
    ∃ pc ∈ ([⟨r0_7, p0⟩] : List (View.Piece (Elt F) S256x1024 .f32)), y ∈ pc.1.set :=
  View.cover_of_tiled [⟨r0_7, p0⟩] S256x1024.size (by rfl) y

def out0_20 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : Vec F S256x1024 .f32 :=
  View.canon [⟨r0_7, k0_pay3 (k0_pay24 (k0_pay34 i x0 x1 x2 x3 x4 x5 x6 x7 x8 x9 x10 x11 x12 x13 x14 x15) (k0_pay35 i x0 x1 x2 x3 x4 x5 x6 x7 x8 x9 x10 x11 x12 x13 x14 x15) (k0_pay36 i x0 x1 x2 x3 x4 x5 x6 x7 x8 x9 x10 x11 x12 x13 x14 x15) (k0_pay37 i x0 x1 x2 x3 x4 x5 x6 x7 x8 x9 x10 x11 x12 x13 x14 x15) (k0_pay38 i x0 x1 x2 x3 x4 x5 x6 x7 x8 x9 x10 x11 x12 x13 x14 x15)) (k0_pay39 i x0 x1 x2 x3 x4 x5 x6 x7 x8 x9 x10 x11 x12 x13 x14 x15)⟩]

theorem cover0_20 (p0 : Vec F S256x1024 .f32) (y : S256x1024.Idx) :
    ∃ pc ∈ ([⟨r0_7, p0⟩] : List (View.Piece (Elt F) S256x1024 .f32)), y ∈ pc.1.set :=
  View.cover_of_tiled [⟨r0_7, p0⟩] S256x1024.size (by rfl) y

def out0_21 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : Vec F S256x1024 .f32 :=
  View.canon [⟨r0_7, k0_pay31 i x0 x1 x2 x3 x4 x5 x6 x7 x8 x9 x10 x11 x12 x13 x14 x15⟩]

theorem cover0_21 (p0 : Vec F S256x1024 .f32) (y : S256x1024.Idx) :
    ∃ pc ∈ ([⟨r0_7, p0⟩] : List (View.Piece (Elt F) S256x1024 .f32)), y ∈ pc.1.set :=
  View.cover_of_tiled [⟨r0_7, p0⟩] S256x1024.size (by rfl) y

def out0_22 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : Vec F S256x1024 .f32 :=
  View.canon [⟨r0_7, k0_pay25 (k0_pay9 i (View.ld x0 r0_0) (View.ld x2 r0_1) (View.ld x1 r0_2) (View.ld x3 r0_3)) (View.ld x13 r0_7) (View.ld x14 r0_7)⟩]

theorem cover0_22 (p0 : Vec F S256x1024 .f32) (y : S256x1024.Idx) :
    ∃ pc ∈ ([⟨r0_7, p0⟩] : List (View.Piece (Elt F) S256x1024 .f32)), y ∈ pc.1.set :=
  View.cover_of_tiled [⟨r0_7, p0⟩] S256x1024.size (by rfl) y

def out0_23 (i : grid0.Coords) (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) : Vec F S256x1024 .f32 :=
  View.canon [⟨r0_7, k0_pay2 (k0_pay29 i x0 x1 x2 x3 x4 x5 x6 x7 x8 x9 x10 x11 x12 x13 x14 x15) (k0_pay30 i x0 x1 x2 x3 x4 x5 x6 x7 x8 x9 x10 x11 x12 x13 x14 x15) (k0_pay31 i x0 x1 x2 x3 x4 x5 x6 x7 x8 x9 x10 x11 x12 x13 x14 x15) (k0_pay33 i x0 x1 x2 x3 x4 x5 x6 x7 x8 x9 x10 x11 x12 x13 x14 x15) (k0_pay40 i x0 x1 x2 x3 x4 x5 x6 x7 x8 x9 x10 x11 x12 x13 x14 x15) (k0_pay41 i x0 x1 x2 x3 x4 x5 x6 x7 x8 x9 x10 x11 x12 x13 x14 x15) (View.ld x8 r0_5)⟩]

theorem cover0_23 (p0 : Vec F S256x1024 .f32) (y : S256x1024.Idx) :
    ∃ pc ∈ ([⟨r0_7, p0⟩] : List (View.Piece (Elt F) S256x1024 .f32)), y ∈ pc.1.set :=
  View.cover_of_tiled [⟨r0_7, p0⟩] S256x1024.size (by rfl) y

set_option maxHeartbeats 1000000 in
theorem sound_kernel (c : Dev nD) (E : Set ℕ) (i : grid0.Coords) (arg2 : Memref sig .tc .vmem S256x3584 .f32) (harg2 : arg2.IsWhole) (arg3 : Memref sig .tc .vmem S8x3584 .f32) (harg3 : arg3.IsWhole) (arg4 : Memref sig .tc .vmem S1x1x3584 .f32) (harg4 : arg4.IsWhole) (arg5 : Memref sig .tc .vmem S1x3584 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S1024x1024 .bf16) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole)
    (x0 : Vec F S256x3584 .f32) (x1 : Vec F S8x3584 .f32) (x2 : Vec F S1x1x3584 .f32) (x3 : Vec F S1x3584 .f32) (x4 : Vec F S1x1024 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S128x1024 .bf16) (x12 : Vec F S128x1024 .bf16) (x13 : Vec F S256x1024 .bf16) (x14 : Vec F S256x1024 .bf16) (x15 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (out0_16 i x0 x1 x2 x3 x4 x5 x6 x7 x8 x9 x10 x11 x12 x13 x14 x15) ∗ owns (c : Thread nD τ) arg19 fullShare (out0_17 i x0 x1 x2 x3 x4 x5 x6 x7 x8 x9 x10 x11 x12 x13 x14 x15) ∗ owns (c : Thread nD τ) arg20 fullShare (out0_18 i x0 x1 x2 x3 x4 x5 x6 x7 x8 x9 x10 x11 x12 x13 x14 x15) ∗ owns (c : Thread nD τ) arg21 fullShare (out0_19 i x0 x1 x2 x3 x4 x5 x6 x7 x8 x9 x10 x11 x12 x13 x14 x15) ∗ owns (c : Thread nD τ) arg22 fullShare (out0_20 i x0 x1 x2 x3 x4 x5 x6 x7 x8 x9 x10 x11 x12 x13 x14 x15) ∗ owns (c : Thread nD τ) arg23 fullShare (out0_21 i x0 x1 x2 x3 x4 x5 x6 x7 x8 x9 x10 x11 x12 x13 x14 x15) ∗ owns (c : Thread nD τ) arg24 fullShare (out0_22 i x0 x1 x2 x3 x4 x5 x6 x7 x8 x9 x10 x11 x12 x13 x14 x15) ∗ owns (c : Thread nD τ) arg25 fullShare (out0_23 i x0 x1 x2 x3 x4 x5 x6 x7 x8 x9 x10 x11 x12 x13 x14 x15)) -∗ K ⟨⟩))
      ⊢ wp frame (wpE (defs₀ (F := F)) Variants.none c none) E (cc0_rw_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_rw_prep_eq_skeleton]; unfold cc0_rw_prep_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 24, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body obligation at every point: the body's triple restated, with room for its twenty-four windows. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame_shared`'s implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.PrepIdeal.Gen

end
-- ==== Proof.StickMath.lean ====
/-
  STICK-BREAKING ATTENTION over the extended reals: the scalar functions of one score and the sums over the keys of one
  query row. `lsR z` is the logarithm of `1 - sigmoid z`, `lbR z` that of `sigmoid z`, both in the form that the kernel and the
  reference share once the sign of `z` is settled. For a query row `t` with scores `z s`, `stay z t s` is `lsR (z s)` for a key
  before the query and 0 after it; `tail` is its sum over the keys from `n` on; `att z t s` is the weight of key `s`.
-/
module

public import Idealize.ShloMosaic.PureOps.Ideal
public import Mathlib.Algebra.BigOperators.Intervals
public import Mathlib.Algebra.BigOperators.Fin

@[expose] public section

noncomputable section

namespace Cert.Stick

open Idealize.ShloMosaic

/-- A finite sum of reals read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  (EReal.coe_strictMono.monotone.map_max)

theorem coe_min (x y : ℝ) : ((min x y : ℝ) : EReal) = min (x : EReal) (y : EReal) :=
  (EReal.coe_strictMono.monotone.map_min)

/-- The correction `log (1 + exp (-|z|))` that both logarithms share. -/
def spR (z : ℝ) : ℝ := Real.log (1 + Real.exp (-|z|))
/-- The logarithm of `1 - sigmoid z`. -/
def lsR (z : ℝ) : ℝ := -(max z 0) - spR z
/-- The logarithm of `sigmoid z`. -/
def lbR (z : ℝ) : ℝ := min z 0 - spR z

theorem log1p_coe {x : ℝ} (hx : 0 ≤ x) : Ideal.log1p (x : EReal) = ((Real.log (1 + x) : ℝ) : EReal) := by
  have h : (1 : EReal) + (x : EReal) = ((1 + x : ℝ) : EReal) := by rw [EReal.coe_add, EReal.coe_one]
  unfold Ideal.log1p
  rw [h, Ideal.log_coe, if_neg (by linarith)]

theorem abs_coe (z : ℝ) : max (z : EReal) (-(z : EReal)) = ((|z| : ℝ) : EReal) := by
  rw [← EReal.coe_neg, ← coe_max]; rfl

/-- The kernel's spelling of the correction. -/
theorem sp_kernel (z : ℝ) : Ideal.log1p (Ideal.exp (0 - max (z : EReal) (-(z : EReal)))) = ((spR z : ℝ) : EReal) := by
  rw [abs_coe, ← EReal.coe_zero, ← EReal.coe_sub, Ideal.exp_coe, log1p_coe (Real.exp_pos _).le, zero_sub]; rfl

/-- The kernel's spelling of `lsR`. -/
theorem ls_kernel (z : ℝ) : (0 : EReal) - max (z : EReal) 0 - ((spR z : ℝ) : EReal) = ((lsR z : ℝ) : EReal) := by
  rw [← EReal.coe_zero, ← coe_max, ← EReal.coe_sub, ← EReal.coe_sub, zero_sub]; rfl

/-- The kernel's spelling of `lbR`. -/
theorem lb_kernel (z : ℝ) : min (z : EReal) 0 - ((spR z : ℝ) : EReal) = ((lbR z : ℝ) : EReal) := by
  rw [← EReal.coe_zero, ← coe_min, ← EReal.coe_sub]; rfl

/-- The reference's `log_sigmoid`, as its negated softplus of the negated argument spells it. -/
theorem logsig_ref (y : ℝ) :
    -(max (-(y : EReal)) 0 + Ideal.log1p (Ideal.exp (-(max (-(y : EReal) - 0) (-(-(y : EReal) - 0))))))
      = ((lbR y : ℝ) : EReal) := by
  rw [sub_zero, ← EReal.coe_neg, abs_coe, ← EReal.coe_neg, Ideal.exp_coe, log1p_coe (Real.exp_pos _).le, ← EReal.coe_zero,
    ← coe_max, ← EReal.coe_add, ← EReal.coe_neg, abs_neg, neg_add']
  congr 1
  unfold lbR spR
  rw [show -max (-y) 0 = min y 0 by rw [← neg_zero, max_neg_neg, neg_neg, neg_zero]]

theorem lb_neg (z : ℝ) : lbR (-z) = lsR z := by
  unfold lbR lsR spR
  rw [abs_neg]
  congr 1
  rcases le_total z 0 with h | h
  · rw [max_eq_right h, min_eq_right (by linarith)]; simp
  · rw [max_eq_left h, min_eq_left (by linarith)]

variable (z : ℕ → ℝ) (t : ℕ)

/-- What key `s` leaves of the stick for the keys before it. -/
def stay (s : ℕ) : ℝ := if s < t then lsR (z s) else 0
/-- What the keys from `n` on leave together. -/
def tail (n : ℕ) : ℝ := ∑ s ∈ Finset.Ico n 2048, stay z t s
/-- The weight of key `s`. -/
def att (s : ℕ) : EReal := if s < t then ((Real.exp (lbR (z s) + tail z t (s + 1)) : ℝ) : EReal) else 0

theorem tail_split {a b : ℕ} (hab : a ≤ b) (hb : b ≤ 2048) : tail z t a = ∑ s ∈ Finset.Ico a b, stay z t s + tail z t b :=
  (Finset.sum_Ico_consecutive _ hab hb).symm

/-- Past the query nothing is left out. -/
theorem tail_after {n : ℕ} (h : t ≤ n) : tail z t n = 0 :=
  Finset.sum_eq_zero fun s hs => if_neg (by have := (Finset.mem_Ico.mp hs).1; omega)

/-- The sum over a block of 256 keys of what lies after key `c` of it is the sum over an interval. -/
theorem sum_after (f : ℕ → ℝ) (a : ℕ) (c : ℕ) (hc : c < 256) :
    ∑ x : Fin 256, (if c < x.val then f (a + x.val) else 0) = ∑ s ∈ Finset.Ico (a + c + 1) (a + 256), f s := by
  rw [Fin.sum_univ_eq_sum_range (fun x => if c < x then f (a + x) else 0) 256, ← Finset.sum_filter]
  have e : (Finset.range 256).filter (fun x => c < x) = Finset.Ico (c + 1) 256 := by
    ext x; rw [Finset.mem_filter, Finset.mem_range, Finset.mem_Ico]; omega
  rw [e, Finset.sum_Ico_add f (c + 1) 256 a, show c + 1 + a = a + c + 1 by omega, add_comm 256 a]

/-- A sum over a block of 256 keys is the sum over an interval. -/
theorem sum_block {M : Type*} [AddCommMonoid M] (f : ℕ → M) (a : ℕ) :
    ∑ x : Fin 256, f (a + x.val) = ∑ s ∈ Finset.Ico a (a + 256), f s := by
  rw [Fin.sum_univ_eq_sum_range (fun x => f (a + x)) 256]
  have := Finset.sum_Ico_add f 0 256 a
  rw [← Finset.range_eq_Ico, zero_add, add_comm 256 a] at this
  exact this

/-- What the kernel adds to a key's own logarithm, for key `c` of the block at `a`: the block's later keys and the blocks after. -/
theorem tail_in_block (a c : ℕ) (hc : c < 256) (ha : a + 256 ≤ 2048) :
    tail z t (a + 256) + ∑ x : Fin 256, (if c < x.val then stay z t (a + x.val) else 0) = tail z t (a + c + 1) := by
  rw [sum_after (stay z t) a c hc, tail_split z t (a := a + c + 1) (b := a + 256) (by omega) ha, add_comm]

/-- The weighted sum of `V` over the keys from `n` on. -/
def wsum (V : ℕ → EReal) (n : ℕ) : EReal := ∑ s ∈ Finset.Ico n 2048, att z t s * V s

theorem wsum_block (V : ℕ → EReal) (a : ℕ) (ha : a + 256 ≤ 2048) :
    wsum z t V (a + 256) + ∑ x : Fin 256, att z t (a + x.val) * V (a + x.val) = wsum z t V a := by
  rw [sum_block (fun s => att z t s * V s) a, add_comm]
  exact Finset.sum_Ico_consecutive _ (by omega) ha

theorem wsum_after (V : ℕ → EReal) {n : ℕ} (h : t ≤ n) : wsum z t V n = 0 :=
  Finset.sum_eq_zero fun s hs => by
    rw [att, if_neg (by have := (Finset.mem_Ico.mp hs).1; omega), zero_mul]

theorem tail_block (a : ℕ) (ha : a + 256 ≤ 2048) :
    tail z t (a + 256) + ∑ x : Fin 256, stay z t (a + x.val) = tail z t a := by
  rw [sum_block (stay z t) a, add_comm]
  exact (tail_split z t (by omega) ha).symm

end Cert.Stick

end
-- ==== Proof.PMath.lean ====
/-
  THE ELEMENTWISE HALF OF THE RECURRENCE, as plain functions of one row: the mixed row `X` gives the receptance, key and value columns and the three
  low-rank columns; the dot products with the low-rank weights and the sums over a head are left as arguments here, since the kernel takes them in two
  halves and the reference in one.
-/
module

public import Idealize.ShloMosaic.Lib.Pipeline.ValueKit
public import proofs.«01_k».proof.Proof.StickMath

@[expose] public section

noncomputable section

namespace Cert.PrepSpec

open Idealize.ShloMosaic

/-- One half, as the decay takes it. -/
def half : EReal := Ideal.ofBits .f32 0x3F000000#32
/-- The least norm of a key. -/
def least : EReal := Ideal.ofBits .f32 0x2B8CBCCC#32

/-- A value moved a share `mu` towards the value `p` of the row before. -/
def mix (x p mu : EReal) : EReal := x + (p - x) * mu
/-- `log (1 + e^x)`. -/
def soft (x : EReal) : EReal := max x 0 + Ideal.log1p (Ideal.exp (-(max x (-x))))
/-- The decay of a channel. -/
def dec (y : EReal) : EReal := Ideal.exp (-(Ideal.exp (-(soft (-y)) - half)))
/-- A scaled key over its head's norm. -/
def nrm (s n : EReal) : EReal := Ideal.div s (max (Ideal.sqrt n) least)
/-- The key as the recurrence takes it. -/
def kmod (k a ka : EReal) : EReal := k * (1 + (a - 1) * ka)

/-- A dot product with the left side in two halves, the right side in two halves and their fourth product left out. -/
def d3 {n : ℕ} (f h l : Fin n → EReal) : EReal := (∑ j, f j * h j + ∑ j, f j * l j) + ∑ j, (f j - f j) * h j
/-- A sum against a matrix of ones and zeros, the summand in two halves. -/
def hs {n : ℕ} (f o : Fin n → EReal) : EReal := ∑ j, f j * o j + ∑ j, (f j - f j) * o j

/-- The comparison with itself that only an undefined value fails. -/
theorem cmp_self (x : EReal) : Ideal.cmp .one x x = 0#1 := by
  show BitVec.ofBool (decide (x ≠ x)) = 0#1
  simp
theorem cmp_self' (x : EReal) : Ideal.cmp .une x x = 0#1 := by
  show BitVec.ofBool (decide (x ≠ x)) = 0#1
  simp
theorem ze : Ideal.ofBits .f32 0x00000000#32 = 0 := Ideal.ofBits_zero .f32
theorem on : Ideal.ofBits .f32 0x3F800000#32 = 1 := Ideal.ofBits_one_f32
theorem zsub (x : EReal) : 0 - x = -x := by rw [sub_eq_add_neg, zero_add]
theorem subz (x : EReal) : x - 0 = x := by rw [sub_eq_add_neg, neg_zero, add_zero]

theorem sub_self_coe (x : ℝ) : (x : EReal) - (x : EReal) = 0 := by rw [← EReal.coe_sub, sub_self, EReal.coe_zero]

/-- Of reals, the halves below are zero, and columns beyond `k` whose weights are zero drop. -/
theorem d3_real {n : ℕ} (k : ℕ) (hk : k ≤ n) (f h l : Fin n → EReal) (w : Fin k → EReal)
    (hf : ∀ j : Fin n, j.val < k → ∃ x : ℝ, f j = (x : EReal)) (hw : ∀ j : Fin k, ∃ x : ℝ, w j = (x : EReal))
    (hh : ∀ j : Fin k, h ⟨j.val, by omega⟩ = w j) (hl : ∀ j : Fin k, l ⟨j.val, by omega⟩ = w j - w j)
    (hh0 : ∀ j : Fin n, k ≤ j.val → h j = 0) (hl0 : ∀ j : Fin n, k ≤ j.val → l j = 0 - 0) :
    d3 f h l = ∑ j : Fin k, f ⟨j.val, by omega⟩ * w j := by
  have e2 : ∀ j : Fin n, f j * l j = 0 := fun j => by
    by_cases hj : j.val < k
    · obtain ⟨x, hx⟩ := hw ⟨j.val, hj⟩
      rw [show l j = 0 from (hl ⟨j.val, hj⟩).trans (by rw [hx, sub_self_coe]), mul_zero]
    · rw [hl0 j (by omega), subz, mul_zero]
  have e3 : ∀ j : Fin n, (f j - f j) * h j = 0 := fun j => by
    by_cases hj : j.val < k
    · obtain ⟨x, hx⟩ := hf j hj
      rw [hx, sub_self_coe, zero_mul]
    · rw [hh0 j (by omega), mul_zero]
  obtain ⟨d, rfl⟩ := Nat.exists_eq_add_of_le hk
  unfold d3
  rw [Finset.sum_congr rfl (fun j _ => e2 j), Finset.sum_congr rfl (fun j _ => e3 j), Finset.sum_const_zero, add_zero, add_zero, Fin.sum_univ_add]
  have e4 : ∑ j : Fin d, f (Fin.natAdd k j) * h (Fin.natAdd k j) = 0 := Finset.sum_eq_zero fun j _ => by
    rw [hh0 _ (by show k ≤ k + j.val; omega), mul_zero]
  rw [e4, add_zero]
  exact Finset.sum_congr rfl fun j _ => congrArg (f ⟨j.val, by omega⟩ * ·) (hh j)

/-- Of reals, the sum against the matrix of ones within a head is the head's sum. -/
theorem hs_real (f : Fin 1024 → EReal) (o : Fin 1024 → EReal) (c : Fin 1024) (hf : ∀ j, ∃ x : ℝ, f j = (x : EReal))
    (ho : ∀ j, o j = if j.val / 64 = c.val / 64 then 1 else 0) :
    hs f o = ∑ n : Fin 64, f ⟨64 * (c.val / 64) + n.val, by omega⟩ := by
  have e3 : ∀ j, (f j - f j) * o j = 0 := fun j => by
    obtain ⟨x, hx⟩ := hf j
    rw [hx, sub_self_coe, zero_mul]
  unfold hs
  rw [Finset.sum_congr rfl (fun j _ => e3 j), Finset.sum_const_zero, add_zero]
  have e1 : ∀ j, f j * o j = if j.val / 64 = c.val / 64 then f j else 0 := fun j => by
    rw [ho]; split
    · rw [mul_one]
    · rw [mul_zero]
  rw [Finset.sum_congr rfl (fun j _ => e1 j), ← Finset.sum_filter]
  refine (Finset.sum_nbij' (i := fun n : Fin 64 => (⟨64 * (c.val / 64) + n.val, by omega⟩ : Fin 1024))
    (j := fun j : Fin 1024 => (⟨j.val % 64, by omega⟩ : Fin 64)) ?_ ?_ ?_ ?_ ?_).symm
  · intro n _
    rw [Finset.mem_filter]
    exact ⟨Finset.mem_univ _, by show (64 * (c.val / 64) + n.val) / 64 = _; omega⟩
  · intro j _; exact Finset.mem_univ _
  · intro n _; exact Fin.ext (by show (64 * (c.val / 64) + n.val) % 64 = n.val; omega)
  · intro j hj
    rw [Finset.mem_filter] at hj
    exact Fin.ext (by show 64 * (c.val / 64) + j.val % 64 = j.val; omega)
  · intro n _; rfl

theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, EReal.coe_mul a b⟩
theorem real_add {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, EReal.coe_add a b⟩
theorem real_sub {x y : EReal} (hx : ∃ r : ℝ, x = (r : EReal)) (hy : ∃ r : ℝ, y = (r : EReal)) : ∃ r : ℝ, x - y = (r : EReal) := by
  obtain ⟨a, rfl⟩ := hx
  obtain ⟨b, rfl⟩ := hy
  exact ⟨a - b, EReal.coe_sub a b⟩
theorem real_one : ∃ r : ℝ, (1 : EReal) = (r : EReal) := ⟨1, rfl⟩
theorem real_zero : ∃ r : ℝ, (0 : EReal) = (r : EReal) := ⟨0, rfl⟩

theorem real_tanh (x : EReal) : ∃ r : ℝ, Ideal.tanh x = (r : EReal) := by
  induction x using EReal.rec with
  | bot => exact ⟨-1, rfl⟩
  | coe r => exact ⟨_, rfl⟩
  | top => exact ⟨1, rfl⟩

theorem real_div_one {y : EReal} (hy : 0 < y) : ∃ r : ℝ, Ideal.div 1 y = (r : EReal) := by
  unfold Ideal.div
  rw [if_neg hy.ne']
  induction y using EReal.rec with
  | bot => exact absurd hy (by decide)
  | coe r => exact ⟨r⁻¹, by rw [one_mul, EReal.coe_inv]⟩
  | top => exact ⟨0, by rw [one_mul, EReal.inv_top, EReal.coe_zero]⟩

theorem exp_nonneg (x : EReal) : 0 ≤ Ideal.exp x := by
  induction x using EReal.rec with
  | bot => exact le_refl _
  | coe r => exact EReal.coe_nonneg.2 (Real.exp_pos r).le
  | top => exact le_top

theorem real_logistic (x : EReal) : ∃ r : ℝ, Ideal.logistic x = (r : EReal) :=
  real_div_one (lt_of_lt_of_le zero_lt_one (le_add_of_nonneg_right (exp_nonneg _)))

end Cert.PrepSpec

end
-- ==== Proof.PHost.lean ====
/-
  WHAT THE HOST PREPARES for the elementwise half: the weights widened with zero rows and split into a leading and a following part, the widened
  mixing weights, and the matrix that tells which channels share a head.
-/
module

public import proofs.«01_k».proof.Proof.PFrame
public import proofs.«01_k».proof.Proof.PMath
public import Idealize.ShloMosaic.Lib.Pipeline.ValueKit

@[expose] public section

set_option maxRecDepth 16384

noncomputable section

namespace Cert.PrepIdeal.Val

open Cert.PrepIdeal Cert.PrepIdeal.Gen
open Idealize.ShloMosaic Idealize.ShloMosaic.TcCoe Idealize.ShloMosaic.Tactic
open Idealize.SL.Sem

/-- The number a widened place holds. -/
def zp : FVec Ideal S_ .f32 := sitofp .f32 (constantI S_ 32 0#32)
/-- Weights with zero rows behind them. -/
def wp64 (w : FVec Ideal S64x1024 .f32) : FVec Ideal S128x1024 .f32 := pad S128x1024 ![0, 0] ![64, 0] ![0, 0] w zp pads_S64x1024_S128x1024_0640_000 h_S_
def wp160 (w : FVec Ideal S160x1024 .f32) : FVec Ideal S256x1024 .f32 := pad S256x1024 ![0, 0] ![96, 0] ![0, 0] w zp pads_S160x1024_S256x1024_0960_000 h_S_
/-- The mixing weights as one row, its cuts, and the widened row. -/
def mr (u : FVec Ideal S3360 .f32) : FVec Ideal S1x3360 .f32 := broadcastInDim S1x3360 ![1] bcast_S3360_S1x3360_1 u
def m0 (u : FVec Ideal S3360 .f32) : FVec Ideal S1x3072 .f32 := extractStridedSlice S1x3072 ![0, 0] (mr u) slices_S1x3360_S1x3072_0_0
def m1 (u : FVec Ideal S3360 .f32) : FVec Ideal S1x128 .f32 :=
  pad S1x128 ![0, 0] ![0, 64] ![0, 0] (extractStridedSlice S1x64 ![0, 3072] (mr u) slices_S1x3360_S1x64_0_3072) zp pads_S1x64_S1x128_000_0640 h_S_
def m2 (u : FVec Ideal S3360 .f32) : FVec Ideal S1x128 .f32 :=
  pad S1x128 ![0, 0] ![0, 64] ![0, 0] (extractStridedSlice S1x64 ![0, 3136] (mr u) slices_S1x3360_S1x64_0_3136) zp pads_S1x64_S1x128_000_0640 h_S_
def m3 (u : FVec Ideal S3360 .f32) : FVec Ideal S1x256 .f32 :=
  pad S1x256 ![0, 0] ![0, 96] ![0, 0] (extractStridedSlice S1x160 ![0, 3200] (mr u) slices_S1x3360_S1x160_0_3200) zp pads_S1x160_S1x256_000_0960 h_S_
def mc (u : FVec Ideal S3360 .f32) : FVec Ideal S1x3584 .f32 :=
  concatenate S1x3584 1 [⟨S1x3072, m0 u⟩, ⟨S1x128, m1 u⟩, ⟨S1x128, m2 u⟩, ⟨S1x256, m3 u⟩] concatenates_S1x3072_S1x128_S1x128_S1x256_S1x3584_d1
/-- A vector of channels as a row. -/
def rw1 (w : FVec Ideal S1024 .f32) : FVec Ideal S1x1024 .f32 := broadcastInDim S1x1024 ![1] bcast_S1024_S1x1024_1 w
/-- The head of a channel, as the host divides. -/
def hd : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32))) (broadcastInDim S1024 ![] bcast_S_S1024 (constantI S_ 32 0#32))))
    (subi (Host.divsi (iotaInDim S1024 32 0) (broadcastInDim S1024 ![] bcast_S_S1024 (constantI S_ 32 64#32))) (broadcastInDim S1024 ![] bcast_S_S1024 (constantI S_ 32 1#32)))
    (Host.divsi (iotaInDim S1024 32 0) (broadcastInDim S1024 ![] bcast_S_S1024 (constantI S_ 32 64#32)))
/-- One where two channels share a head. -/
def sh : FVec Ideal S1024x1024 .bf16 :=
  uitofp .bf16 (cmpi .eq (broadcastInDim S1024x1024 ![0, 1] bcast_S1024x1_S1024x1024_0_1 (broadcastInDim S1024x1 ![0] bcast_S1024_S1024x1_0 hd))
    (broadcastInDim S1024x1024 ![0, 1] bcast_S1x1024_S1024x1024_0_1 (broadcastInDim S1x1024 ![1] bcast_S1024_S1x1024_1 hd)))

variable (m : (ℓ : Loc nD τ sig) → Buf (Elt Ideal) ℓ) (c : Dev nD)
theorem v_v7 : V m c main_v7 = (sh) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v7) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v9 : V m c main_v9 = (truncf .bf16 (wp64 (m ((c : Thread nD τ).loc main_arg3))) bitsLt_bf16_f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v9) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v12 : V m c main_v12 = (truncf .bf16 (subf (wp64 (m ((c : Thread nD τ).loc main_arg3))) (extf .f32 (truncf .bf16 (wp64 (m ((c : Thread nD τ).loc main_arg3))) bitsLt_bf16_f32) bitsLt_bf16_f32)) bitsLt_bf16_f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v12) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v14 : V m c main_v14 = (truncf .bf16 (wp64 (m ((c : Thread nD τ).loc main_arg5))) bitsLt_bf16_f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v14) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v17 : V m c main_v17 = (truncf .bf16 (subf (wp64 (m ((c : Thread nD τ).loc main_arg5))) (extf .f32 (truncf .bf16 (wp64 (m ((c : Thread nD τ).loc main_arg5))) bitsLt_bf16_f32) bitsLt_bf16_f32)) bitsLt_bf16_f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v17) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v19 : V m c main_v19 = (truncf .bf16 (wp160 (m ((c : Thread nD τ).loc main_arg6))) bitsLt_bf16_f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v19) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v22 : V m c main_v22 = (truncf .bf16 (subf (wp160 (m ((c : Thread nD τ).loc main_arg6))) (extf .f32 (truncf .bf16 (wp160 (m ((c : Thread nD τ).loc main_arg6))) bitsLt_bf16_f32) bitsLt_bf16_f32)) bitsLt_bf16_f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v22) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v31 : V m c main_v31 = (mc (m ((c : Thread nD τ).loc main_arg1))) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v31) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v32 : V m c main_v32 = (rw1 (m ((c : Thread nD τ).loc main_arg2))) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v32) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v33 : V m c main_v33 = (rw1 (m ((c : Thread nD τ).loc main_arg4))) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v33) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v34 : V m c main_v34 = (rw1 (m ((c : Thread nD τ).loc main_arg7))) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v34) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v35 : V m c main_v35 = (rw1 (m ((c : Thread nD τ).loc main_arg8))) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v35) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v36 : V m c main_v36 = (shapeCast S1x1024 (m ((c : Thread nD τ).loc main_arg9)) shapeCasts_S16x64_S1x1024) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v36) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl
theorem v_v38 : V m c main_v38 = (shapeCast S4x1x3584 (broadcastInDim S4x3584 ![] bcast_S_S4x3584 (constant (F := Ideal) S_ .f32 0x00000000#32)) shapeCasts_S4x3584_S4x1x3584) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v38) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl

end Cert.PrepIdeal.Val

end
-- ==== Proof.PPay.lean ====
/-
  THE BODY of the elementwise half, at a row and a column: the values it computes, from the blocks it reads.
-/
module

public import proofs.«01_k».proof.Proof.Gen.PrepIdeal.Skeleton
public import proofs.«01_k».proof.Proof.PMath

@[expose] public section

set_option maxRecDepth 16384

noncomputable section

namespace Cert.PrepIdeal.Val

open Cert.PrepIdeal Cert.PrepIdeal.Gen Idealize.ShloMosaic Idealize.ShloMosaic.TcCoe Idealize.SL.Sem
open Cert.PrepSpec

theorem eq_small (a b : ℕ) (ha : a < 2 ^ 32) (hb : b < 2 ^ 32) :
    IntOp.cmpi CmpIPredicate.eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    rwa [BitVec.toNat_ofNat, BitVec.toNat_ofNat, Nat.mod_eq_of_lt ha, Nat.mod_eq_of_lt hb] at this
  · rintro rfl; rfl

theorem sel_ofBool {α : Type} (p : Prop) [Decidable p] (x y : α) : Scalar.select (BitVec.ofBool (decide p)) x y = if p then x else y := by
  by_cases h : p <;> simp [Scalar.select, h]

theorem sel_zero {α : Type} (x y : α) : Scalar.select 0#1 x y = y := rfl

theorem rowsel (r : Fin 256) (k : ℕ) (hk : k < 2 ^ 32) (x y : EReal) :
    Scalar.select (IntOp.cmpi CmpIPredicate.eq (BitVec.ofNat 32 r.val) (BitVec.ofNat 32 k)) x y = if r.val = k then x else y := by
  rw [eq_small _ _ (by omega) hk, sel_ofBool]

section mixed
variable (i : grid0.Coords) (v0 : Vec Ideal S256x3584 .f32) (v2 : Vec Ideal S1x1x3584 .f32) (v4 : Vec Ideal S1x3584 .f32) (v14 : Vec Ideal S1x3584 .f32)

/-- The row before. -/
def prv (r : Fin 256) (q : Fin 3584) : EReal :=
  if r.val = 0 then (if (i 1).val = 0 then v2 (ix3 (0 : Fin 1) (0 : Fin 1) q) else v4 (ix2 (0 : Fin 1) q)) else v0 (ix2 (⟨r.val - 1, by omega⟩ : Fin 256) q)

/-- The mixed row. -/
def mx (r : Fin 256) (q : Fin 3584) : EReal := mix (v0 (ix2 r q)) (prv i v0 v2 v4 r q) (v14 (ix2 (0 : Fin 1) q))

theorem rot_at (r : Fin 256) (q : Fin 3584) (k : ℕ) (hk : k ≤ r.val) (h : (r.val + 256 - k) % 256 < 256) :
    v0 (ix2 (⟨(r.val + 256 - k) % 256, h⟩ : Fin 256) q) = v0 (ix2 (⟨r.val - k, by omega⟩ : Fin 256) q) := by
  have e : (⟨(r.val + 256 - k) % 256, h⟩ : Fin 256) = ⟨r.val - k, by omega⟩ := Fin.ext (by dsimp only; omega)
  rw [e]

theorem pay4_at (r : Fin 256) (q : Fin 3584) : k0_pay4 i v0 v2 v4 v14 (ix2 r q) = mx i v0 v2 v4 v14 r q := by
  have hi : (i 1).val < 8 := (i 1).isLt
  have e : Scalar.cmpi .eq (BitVec.ofNat 32 (i 1).val) 0#32 = BitVec.ofBool (decide ((i 1).val = 0)) := eq_small _ 0 (by omega) (by omega)
  unfold k0_pay4 mx mix prv
  dsimp only
  rw [e, sel_ofBool]
  by_cases h0 : (i 1).val = 0
  · simp only [if_pos h0]
    pointwise []
    refine congrArg (fun z => _ + (z - _) * _) ((rowsel r 0 (by omega) _ _).trans ?_)
    split
    · rfl
    · exact rot_at v0 r q 1 (by omega) _
  · simp only [if_neg h0]
    pointwise []
    refine congrArg (fun z => _ + (z - _) * _) ((rowsel r 0 (by omega) _ _).trans ?_)
    split
    · rfl
    · exact rot_at v0 r q 1 (by omega) _

theorem pay5_at (r : Fin 256) (c : Fin 1024) : k0_pay5 i v0 v2 v4 v14 (ix2 r c) = mx i v0 v2 v4 v14 r ⟨c.val, by omega⟩ :=
  (extractStridedSlice_apply ![0, 0] (k0_pay4 i v0 v2 v4 v14) slices_S256x3584_o0_0_S256x1024 (ix2 r c) (ix2 r (⟨c.val, by omega⟩ : Fin 3584)) (fun a => match a with
    | ⟨0, _⟩ => by show r.val = 0 + r.val; omega
    | ⟨1, _⟩ => by show c.val = 0 + c.val; omega)).trans (pay4_at i v0 v2 v4 v14 r _)
theorem pay6_at (r : Fin 256) (c : Fin 1024) : k0_pay6 i v0 v2 v4 v14 (ix2 r c) = mx i v0 v2 v4 v14 r ⟨1024 + c.val, by omega⟩ :=
  (extractStridedSlice_apply ![0, 1024] (k0_pay4 i v0 v2 v4 v14) slices_S256x3584_o0_1024_S256x1024 (ix2 r c) (ix2 r (⟨1024 + c.val, by omega⟩ : Fin 3584)) (fun a => match a with
    | ⟨0, _⟩ => by show r.val = 0 + r.val; omega
    | ⟨1, _⟩ => by show 1024 + c.val = 1024 + c.val; omega)).trans (pay4_at i v0 v2 v4 v14 r _)
theorem pay7_at (r : Fin 256) (c : Fin 1024) : k0_pay7 i v0 v2 v4 v14 (ix2 r c) = mx i v0 v2 v4 v14 r ⟨2048 + c.val, by omega⟩ :=
  (extractStridedSlice_apply ![0, 2048] (k0_pay4 i v0 v2 v4 v14) slices_S256x3584_o0_2048_S256x1024 (ix2 r c) (ix2 r (⟨2048 + c.val, by omega⟩ : Fin 3584)) (fun a => match a with
    | ⟨0, _⟩ => by show r.val = 0 + r.val; omega
    | ⟨1, _⟩ => by show 2048 + c.val = 2048 + c.val; omega)).trans (pay4_at i v0 v2 v4 v14 r _)
theorem pay8_at (r : Fin 256) (c : Fin 128) : k0_pay8 i v0 v2 v4 v14 (ix2 r c) = mx i v0 v2 v4 v14 r ⟨3200 + c.val, by omega⟩ :=
  (extractStridedSlice_apply ![0, 3200] (k0_pay4 i v0 v2 v4 v14) slices_S256x3584_o0_3200_S256x128 (ix2 r c) (ix2 r (⟨3200 + c.val, by omega⟩ : Fin 3584)) (fun a => match a with
    | ⟨0, _⟩ => by show r.val = 0 + r.val; omega
    | ⟨1, _⟩ => by show 3200 + c.val = 3200 + c.val; omega)).trans (pay4_at i v0 v2 v4 v14 r _)
theorem pay9_at (r : Fin 256) (c : Fin 256) : k0_pay9 i v0 v2 v4 v14 (ix2 r c) = mx i v0 v2 v4 v14 r ⟨3328 + c.val, by omega⟩ :=
  (extractStridedSlice_apply ![0, 3328] (k0_pay4 i v0 v2 v4 v14) slices_S256x3584_o0_3328_S256x256 (ix2 r c) (ix2 r (⟨3328 + c.val, by omega⟩ : Fin 3584)) (fun a => match a with
    | ⟨0, _⟩ => by show r.val = 0 + r.val; omega
    | ⟨1, _⟩ => by show 3328 + c.val = 3328 + c.val; omega)).trans (pay4_at i v0 v2 v4 v14 r _)
theorem pay12_at (r : Fin 256) (c : Fin 128) : k0_pay12 i v0 v2 v4 v14 (ix2 r c) = Ideal.tanh (mx i v0 v2 v4 v14 r ⟨3072 + c.val, by omega⟩) :=
  congrArg Ideal.tanh ((extractStridedSlice_apply _ _ _ _ (ix2 r (⟨3072 + c.val, by omega⟩ : Fin 3584)) (fun a => match a with
    | ⟨0, _⟩ => by show r.val = 0 + r.val; omega
    | ⟨1, _⟩ => by show 3072 + c.val = 3072 + c.val; omega)).trans (pay4_at i v0 v2 v4 v14 r _))
theorem pay15_at (r : Fin 256) (c : Fin 128) : k0_pay15 i v0 v2 v4 v14 (ix2 r c) = Ideal.tanh (mx i v0 v2 v4 v14 r ⟨3072 + c.val, by omega⟩) :=
  pay12_at i v0 v2 v4 v14 r c
theorem pay16_at (r : Fin 256) (c : Fin 128) : k0_pay16 i v0 v2 v4 v14 (ix2 r c)
    = Ideal.tanh (mx i v0 v2 v4 v14 r ⟨3072 + c.val, by omega⟩) - Ideal.tanh (mx i v0 v2 v4 v14 r ⟨3072 + c.val, by omega⟩) :=
  congrArg₂ (· - ·) (pay12_at i v0 v2 v4 v14 r c) (pay12_at i v0 v2 v4 v14 r c)

end mixed

/-- The decay, of the dot product's three parts. -/
theorem pay17_at (b : FVec Ideal S1x1024 .f32) (h l : FVec Ideal S128x1024 .bf16) (x y : FVec Ideal S256x128 .bf16) (r : Fin 256) (c : Fin 1024) :
    k0_pay17 b h l x y (ix2 r c) = dec (b (ix2 (0 : Fin 1) c)
      + ((∑ j : Fin 128, x (ix2 r j) * h (ix2 j c) + ∑ j : Fin 128, x (ix2 r j) * l (ix2 j c)) + ∑ j : Fin 128, y (ix2 r j) * h (ix2 j c))) := by
  pointwise [k0_pay17, dec, soft, half]
  simp only [ze, zsub, subz, zero_add]
  rw [if_neg (fun h => h rfl)]
  rfl

theorem pay24_at (b : FVec Ideal S1x1024 .f32) (h : FVec Ideal S128x1024 .bf16) (y : FVec Ideal S256x128 .bf16) (p q : FVec Ideal S256x1024 .f32) (r : Fin 256) (c : Fin 1024) :
    k0_pay24 b h y p q (ix2 r c) = Ideal.logistic (b (ix2 (0 : Fin 1) c) + ((p (ix2 r c) + q (ix2 r c)) + ∑ j : Fin 128, y (ix2 r j) * h (ix2 j c))) := by
  pointwise [k0_pay24]

theorem pay22_at (x : FVec Ideal S256x128 .f32) (h : FVec Ideal S128x1024 .bf16) (r : Fin 256) (c : Fin 1024) :
    k0_pay22 x h (ix2 r c) = ∑ j : Fin 128, x (ix2 r j) * h (ix2 j c) := by
  pointwise [k0_pay22, k0_pay20, k0_pay19]
theorem pay23_at (x : FVec Ideal S256x128 .f32) (h : FVec Ideal S128x1024 .bf16) (r : Fin 256) (c : Fin 1024) :
    k0_pay23 x h (ix2 r c) = ∑ j : Fin 128, x (ix2 r j) * h (ix2 j c) := by
  pointwise [k0_pay23, k0_pay20]

/-- The rate, of a row's columns. -/
theorem rate_at (b : FVec Ideal S1x1024 .f32) (h l : FVec Ideal S128x1024 .bf16) (x : FVec Ideal S256x128 .f32) (r : Fin 256) (c : Fin 1024) :
    k0_pay24 (k0_pay18 b) (k0_pay19 h) (k0_pay21 x) (k0_pay22 x h) (k0_pay23 x l) (ix2 r c)
      = Ideal.logistic (b (ix2 (0 : Fin 1) c) + d3 (fun j : Fin 128 => x (ix2 r j)) (fun j => h (ix2 j c)) (fun j => l (ix2 j c))) := by
  rw [pay24_at, pay22_at, pay23_at]
  pointwise [k0_pay18, k0_pay19, k0_pay21, k0_pay20, d3]

theorem pay25_at (x : FVec Ideal S256x256 .f32) (h l : FVec Ideal S256x1024 .bf16) (r : Fin 256) (c : Fin 1024) :
    k0_pay25 x h l (ix2 r c) = d3 (fun j : Fin 256 => Ideal.logistic (x (ix2 r j))) (fun j => h (ix2 j c)) (fun j => l (ix2 j c)) := by
  pointwise [k0_pay25, d3]

theorem pay26_at (k : FVec Ideal S256x1024 .f32) (o : FVec Ideal S1024x1024 .bf16) (g : FVec Ideal S1x1024 .f32) (r : Fin 256) (c : Fin 1024) :
    k0_pay26 k o g (ix2 r c) = nrm (k (ix2 r c) * g (ix2 (0 : Fin 1) c))
      (hs (fun n : Fin 1024 => (k (ix2 r n) * g (ix2 (0 : Fin 1) n)) * (k (ix2 r n) * g (ix2 (0 : Fin 1) n))) (fun n => o (ix2 n c))) := by
  pointwise [k0_pay26, nrm, hs, least]

theorem pay27_at (b : FVec Ideal S1x1024 .f32) (h : FVec Ideal S128x1024 .bf16) (y : FVec Ideal S256x128 .bf16) (p q : FVec Ideal S256x1024 .f32) (g : FVec Ideal S1x1024 .f32)
    (r : Fin 256) (c : Fin 1024) : k0_pay27 b h y p q g (ix2 r c) = (k0_pay24 b h y p q (ix2 r c) - 1) * g (ix2 (0 : Fin 1) c) := by
  pointwise [k0_pay27]

theorem pay1_at (k d : FVec Ideal S256x1024 .f32) (r : Fin 256) (c : Fin 1024) :
    k0_pay1 k d (k0_pay28 (F := Ideal)) (ix2 r c) = k (ix2 r c) * (1 + d (ix2 r c)) := by
  pointwise [k0_pay1, k0_pay28]

theorem pay2_at (x k v : FVec Ideal S256x1024 .f32) (o : FVec Ideal S1024x1024 .bf16) (d e : FVec Ideal S256x1024 .f32) (g : FVec Ideal S1x1024 .f32) (r : Fin 256) (c : Fin 1024) :
    k0_pay2 x k v o d e g (ix2 r c) = hs (fun n : Fin 1024 => x (ix2 r n) * k0_pay1 k d e (ix2 r n) * g (ix2 (0 : Fin 1) n)) (fun n => o (ix2 n c)) * v (ix2 r c) := by
  pointwise [k0_pay2, hs]

end Cert.PrepIdeal.Val

end
-- ==== Proof.PReg.lean ====
/-
  THE ARRAYS the elementwise half leaves, as functions of the arrays it reads: a row is mixed with the row before it, the first row of a batch
  with the row given as the start.
-/
module

public import proofs.«01_k».proof.Proof.PFrame
public import proofs.«01_k».proof.Proof.PPay

@[expose] public section

set_option maxRecDepth 16384

noncomputable section

namespace Cert.PrepIdeal.Val

open Cert.PrepIdeal Cert.PrepIdeal.Gen Idealize.ShloMosaic Idealize.ShloMosaic.TcCoe Idealize.SL.Sem
open Cert.PrepSpec

section rows
variable (X : Fin 3584 → EReal)

/-- The receptance, the key and the value of a channel. -/
def kR (c : Fin 1024) : EReal := X ⟨c.val, by omega⟩
def kK (c : Fin 1024) : EReal := X ⟨1024 + c.val, by omega⟩
def kV (c : Fin 1024) : EReal := X ⟨2048 + c.val, by omega⟩
/-- The decay. -/
def kW (b : FVec Ideal S1x1024 .f32) (h l : FVec Ideal S128x1024 .bf16) (c : Fin 1024) : EReal :=
  dec (b (ix2 (0 : Fin 1) c) + d3 (fun j : Fin 128 => Ideal.tanh (X ⟨3072 + j.val, by omega⟩)) (fun j => h (ix2 j c)) (fun j => l (ix2 j c)))
/-- The rate. -/
def kA (b : FVec Ideal S1x1024 .f32) (h l : FVec Ideal S128x1024 .bf16) (c : Fin 1024) : EReal :=
  Ideal.logistic (b (ix2 (0 : Fin 1) c) + d3 (fun j : Fin 128 => X ⟨3200 + j.val, by omega⟩) (fun j => h (ix2 j c)) (fun j => l (ix2 j c)))
/-- The gate. -/
def kG (h l : FVec Ideal S256x1024 .bf16) (c : Fin 1024) : EReal :=
  d3 (fun j : Fin 256 => Ideal.logistic (X ⟨3328 + j.val, by omega⟩)) (fun j => h (ix2 j c)) (fun j => l (ix2 j c))
/-- The scaled key. -/
def kS (g : FVec Ideal S1x1024 .f32) (c : Fin 1024) : EReal := kK X c * g (ix2 (0 : Fin 1) c)
/-- The scaled key over its head's norm. -/
def kN (g : FVec Ideal S1x1024 .f32) (o : FVec Ideal S1024x1024 .bf16) (c : Fin 1024) : EReal :=
  nrm (kS X g c) (hs (fun n => kS X g n * kS X g n) (fun n => o (ix2 n c)))
/-- The key as the recurrence takes it. -/
def kM (b : FVec Ideal S1x1024 .f32) (h l : FVec Ideal S128x1024 .bf16) (g : FVec Ideal S1x1024 .f32) (c : Fin 1024) : EReal :=
  kmod (kK X c) (kA X b h l c) (g (ix2 (0 : Fin 1) c))
/-- The bonus. -/
def kB (b : FVec Ideal S1x1024 .f32) (h l : FVec Ideal S128x1024 .bf16) (g : FVec Ideal S1x1024 .f32) (rk : FVec Ideal S1x1024 .f32) (o : FVec Ideal S1024x1024 .bf16) (c : Fin 1024) : EReal :=
  hs (fun n => kR X n * kM X b h l g n * rk (ix2 (0 : Fin 1) n)) (fun n => o (ix2 n c)) * kV X c
end rows

section outs
variable (i : grid0.Coords) (x0 : Vec Ideal S256x3584 .f32) (x1 : Vec Ideal S8x3584 .f32) (x2 : Vec Ideal S1x1x3584 .f32) (x3 : Vec Ideal S1x3584 .f32) (x4 : Vec Ideal S1x1024 .f32) (x5 : Vec Ideal S1x1024 .f32) (x6 : Vec Ideal S1x1024 .f32) (x7 : Vec Ideal S1x1024 .f32) (x8 : Vec Ideal S1x1024 .f32) (x9 : Vec Ideal S128x1024 .bf16) (x10 : Vec Ideal S128x1024 .bf16) (x11 : Vec Ideal S128x1024 .bf16) (x12 : Vec Ideal S128x1024 .bf16) (x13 : Vec Ideal S256x1024 .bf16) (x14 : Vec Ideal S256x1024 .bf16) (x15 : Vec Ideal S1024x1024 .bf16) (r : Fin 256) (c : Fin 1024)

/-- The mixed row of a block. -/
def bX (q : Fin 3584) : EReal := mx i x0 x2 (View.ld x1 r0_2) x3 r q

theorem out16_at : out0_16 i x0 x1 x2 x3 x4 x5 x6 x7 x8 x9 x10 x11 x12 x13 x14 x15 (ix2 r c) = kR (bX i x0 x1 x2 x3 r) c := by
  frame_out [k0_pay29, k0_pay30, k0_pay31, k0_pay32, k0_pay33, k0_pay34, k0_pay35, k0_pay36, k0_pay37, k0_pay38, k0_pay39, k0_pay40, k0_pay41]
  exact pay5_at i x0 x2 _ x3 r c

theorem out17_at : out0_17 i x0 x1 x2 x3 x4 x5 x6 x7 x8 x9 x10 x11 x12 x13 x14 x15 (ix2 r c) = kW (bX i x0 x1 x2 x3 r) x4 x9 x10 c := by
  frame_out [k0_pay29, k0_pay30, k0_pay31, k0_pay32, k0_pay33, k0_pay34, k0_pay35, k0_pay36, k0_pay37, k0_pay38, k0_pay39, k0_pay40, k0_pay41]
  rw [pay17_at]
  unfold kW d3
  simp only [pay15_at, pay16_at]
  pointwise [k0_pay11, k0_pay13, k0_pay14]
  rfl

theorem out18_at : out0_18 i x0 x1 x2 x3 x4 x5 x6 x7 x8 x9 x10 x11 x12 x13 x14 x15 (ix2 r c) = kM (bX i x0 x1 x2 x3 r) x5 x11 x12 x7 c := by
  frame_out [k0_pay29, k0_pay30, k0_pay31, k0_pay32, k0_pay33, k0_pay34, k0_pay35, k0_pay36, k0_pay37, k0_pay38, k0_pay39, k0_pay40, k0_pay41]
  rw [pay1_at, pay27_at, rate_at, pay6_at]
  simp only [pay8_at]
  rfl

theorem out19_at : out0_19 i x0 x1 x2 x3 x4 x5 x6 x7 x8 x9 x10 x11 x12 x13 x14 x15 (ix2 r c) = kN (bX i x0 x1 x2 x3 r) x6 x15 c := by
  frame_out [k0_pay29, k0_pay30, k0_pay31, k0_pay32, k0_pay33, k0_pay34, k0_pay35, k0_pay36, k0_pay37, k0_pay38, k0_pay39, k0_pay40, k0_pay41]
  rw [pay26_at]
  simp only [pay6_at]
  pointwise [k0_pay10]
  rfl

theorem out20_at : out0_20 i x0 x1 x2 x3 x4 x5 x6 x7 x8 x9 x10 x11 x12 x13 x14 x15 (ix2 r c) = kN (bX i x0 x1 x2 x3 r) x6 x15 c * kA (bX i x0 x1 x2 x3 r) x5 x11 x12 c := by
  frame_out [k0_pay29, k0_pay30, k0_pay31, k0_pay32, k0_pay33, k0_pay34, k0_pay35, k0_pay36, k0_pay37, k0_pay38, k0_pay39, k0_pay40, k0_pay41]
  change k0_pay26 _ _ _ (ix2 r c) * k0_pay24 _ _ _ _ _ (ix2 r c) = _
  rw [pay26_at, rate_at]
  simp only [pay6_at, pay8_at]
  pointwise [k0_pay10]
  rfl

theorem out21_at : out0_21 i x0 x1 x2 x3 x4 x5 x6 x7 x8 x9 x10 x11 x12 x13 x14 x15 (ix2 r c) = kV (bX i x0 x1 x2 x3 r) c := by
  frame_out [k0_pay29, k0_pay30, k0_pay31, k0_pay32, k0_pay33, k0_pay34, k0_pay35, k0_pay36, k0_pay37, k0_pay38, k0_pay39, k0_pay40, k0_pay41]
  exact pay7_at i x0 x2 _ x3 r c

theorem out22_at : out0_22 i x0 x1 x2 x3 x4 x5 x6 x7 x8 x9 x10 x11 x12 x13 x14 x15 (ix2 r c) = kG (bX i x0 x1 x2 x3 r) x13 x14 c := by
  frame_out [k0_pay29, k0_pay30, k0_pay31, k0_pay32, k0_pay33, k0_pay34, k0_pay35, k0_pay36, k0_pay37, k0_pay38, k0_pay39, k0_pay40, k0_pay41]
  rw [pay25_at]
  simp only [pay9_at]
  rfl

theorem out23_at : out0_23 i x0 x1 x2 x3 x4 x5 x6 x7 x8 x9 x10 x11 x12 x13 x14 x15 (ix2 r c) = kB (bX i x0 x1 x2 x3 r) x5 x11 x12 x7 x8 x15 c := by
  frame_out [k0_pay29, k0_pay30, k0_pay31, k0_pay32, k0_pay33, k0_pay34, k0_pay35, k0_pay36, k0_pay37, k0_pay38, k0_pay39, k0_pay40, k0_pay41]
  rw [pay2_at]
  simp only [pay1_at, pay27_at, rate_at, pay5_at, pay6_at, pay7_at, pay8_at]
  pointwise [k0_pay10]
  rfl

end outs

/-- The mixed row of the arrays. -/
def rX (Z : FVec Ideal S8192x3584 .f32) (P : FVec Ideal S4x1x3584 .f32) (M : FVec Ideal S1x3584 .f32) (R : Fin 8192) (q : Fin 3584) : EReal :=
  mix (Z (ix2 R q)) (if R.val % 2048 = 0 then P (ix3 (⟨R.val / 2048, by omega⟩ : Fin 4) (0 : Fin 1) q) else Z (ix2 (⟨R.val - 1, by omega⟩ : Fin 8192) q)) (M (ix2 (0 : Fin 1) q))

variable (m : (ℓ : Loc nD τ sig) → Buf (Elt Ideal) ℓ) (c : Dev nD) (t : Fin cfg0.N)

theorem idx0 : ∀ t : Fin cfg0.N,
    win0_0.index t = ![(grid0.coords t 0).val * 8 + (grid0.coords t 1).val, 0]
    ∧ win0_1.index t = ![((grid0.coords t 0).val * 8 + (grid0.coords t 1).val) * 32 - 1, 0]
    ∧ win0_2.index t = ![(grid0.coords t 0).val, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![(grid0.coords t 0).val * 8 + (grid0.coords t 1).val, 0]
    ∧ win0_17.index t = ![(grid0.coords t 0).val * 8 + (grid0.coords t 1).val, 0]
    ∧ win0_18.index t = ![(grid0.coords t 0).val * 8 + (grid0.coords t 1).val, 0]
    ∧ win0_19.index t = ![(grid0.coords t 0).val * 8 + (grid0.coords t 1).val, 0]
    ∧ win0_20.index t = ![(grid0.coords t 0).val * 8 + (grid0.coords t 1).val, 0]
    ∧ win0_21.index t = ![(grid0.coords t 0).val * 8 + (grid0.coords t 1).val, 0]
    ∧ win0_22.index t = ![(grid0.coords t 0).val * 8 + (grid0.coords t 1).val, 0]
    ∧ win0_23.index t = ![(grid0.coords t 0).val * 8 + (grid0.coords t 1).val, 0] :=
  (by decide +kernel : ∀ t : Fin grid0.N, _)

theorem co_lt (t : Fin cfg0.N) : (grid0.coords t 0).val < 4 ∧ (grid0.coords t 1).val < 8 :=
  ⟨(grid0.coords t 0).isLt, (grid0.coords t 1).isLt⟩

/-- The array's row of a block's row. -/
def RW (r : Fin 256) : Fin 8192 := ⟨2048 * (grid0.coords t 0).val + 256 * (grid0.coords t 1).val + r.val, by obtain ⟨h0, h1⟩ := co_lt t; omega⟩

theorem b0_at (r : Fin 256) (q : Fin 3584) : (iblk m c 0 t : Vec Ideal S256x3584 .f32) (ix2 r q) = (V m c main_arg0) (ix2 (RW t r) q) := by
  obtain ⟨h0, h1⟩ := co_lt t
  unfold RW
  blk_ext [iblk, idx0 t]
theorem b1_at (hi : (grid0.coords t 1).val ≠ 0) (q : Fin 3584) (R : Fin 8192) (hR : R.val = 2048 * (grid0.coords t 0).val + 256 * (grid0.coords t 1).val - 1) :
    View.ld (iblk m c 1 t : Vec Ideal S8x3584 .f32) r0_2 (ix2 (0 : Fin 1) q) = (V m c main_arg0) (ix2 R q) := by
  obtain ⟨h0, h1⟩ := co_lt t
  have e : R = ⟨2048 * (grid0.coords t 0).val + 256 * (grid0.coords t 1).val - 1, by omega⟩ := Fin.ext hR
  rw [e]
  pointwise []
  blk_ext [iblk, idx0 t]
theorem b2_at (q : Fin 3584) (b : Fin 4) (hb : b.val = (grid0.coords t 0).val) :
    (iblk m c 2 t : Vec Ideal S1x1x3584 .f32) (ix3 (0 : Fin 1) (0 : Fin 1) q) = (V m c main_v38) (ix3 b (0 : Fin 1) q) := by
  obtain ⟨h0, h1⟩ := co_lt t
  have e : b = ⟨(grid0.coords t 0).val, by omega⟩ := Fin.ext hb
  rw [e]
  blk_ext [iblk, idx0 t]
theorem b3_eq : (iblk m c 3 t : Vec Ideal S1x3584 .f32) = V m c main_v31 := by
  funext y
  blk_point [iblk, idx0 t]
theorem b4_eq : (iblk m c 4 t : Vec Ideal S1x1024 .f32) = V m c main_v32 := by
  funext y
  blk_point [iblk, idx0 t]
theorem b5_eq : (iblk m c 5 t : Vec Ideal S1x1024 .f32) = V m c main_v33 := by
  funext y
  blk_point [iblk, idx0 t]
theorem b6_eq : (iblk m c 6 t : Vec Ideal S1x1024 .f32) = V m c main_v34 := by
  funext y
  blk_point [iblk, idx0 t]
theorem b7_eq : (iblk m c 7 t : Vec Ideal S1x1024 .f32) = V m c main_v35 := by
  funext y
  blk_point [iblk, idx0 t]
theorem b8_eq : (iblk m c 8 t : Vec Ideal S1x1024 .f32) = V m c main_v36 := by
  funext y
  blk_point [iblk, idx0 t]
theorem b9_eq : (iblk m c 9 t : Vec Ideal S128x1024 .bf16) = V m c main_v9 := by
  funext y
  blk_point [iblk, idx0 t]
theorem b10_eq : (iblk m c 10 t : Vec Ideal S128x1024 .bf16) = V m c main_v12 := by
  funext y
  blk_point [iblk, idx0 t]
theorem b11_eq : (iblk m c 11 t : Vec Ideal S128x1024 .bf16) = V m c main_v14 := by
  funext y
  blk_point [iblk, idx0 t]
theorem b12_eq : (iblk m c 12 t : Vec Ideal S128x1024 .bf16) = V m c main_v17 := by
  funext y
  blk_point [iblk, idx0 t]
theorem b13_eq : (iblk m c 13 t : Vec Ideal S256x1024 .bf16) = V m c main_v19 := by
  funext y
  blk_point [iblk, idx0 t]
theorem b14_eq : (iblk m c 14 t : Vec Ideal S256x1024 .bf16) = V m c main_v22 := by
  funext y
  blk_point [iblk, idx0 t]
theorem b15_eq : (iblk m c 15 t : Vec Ideal S1024x1024 .bf16) = V m c main_v7 := by
  funext y
  blk_point [iblk, idx0 t]

theorem row_eq (r : Fin 256) : bX (grid0.coords t) (iblk m c 0 t) (iblk m c 1 t) (iblk m c 2 t) (iblk m c 3 t) r = rX (V m c main_arg0) (V m c main_v38) (V m c main_v31) (RW t r) := by
  funext q
  obtain ⟨h0, h1⟩ := co_lt t
  unfold bX mx rX
  have hR : (RW t r).val = 2048 * (grid0.coords t 0).val + 256 * (grid0.coords t 1).val + r.val := rfl
  have e3 : (iblk m c 3 t : Vec Ideal S1x3584 .f32) (ix2 (0 : Fin 1) q) = (V m c main_v31) (ix2 (0 : Fin 1) q) := congrFun (b3_eq m c t) _
  refine (congrArg₂ (mix · · _) (b0_at m c t r q) ?_).trans (congrArg (mix _ _) e3)
  unfold prv
  by_cases hr : r.val = 0
  · rw [if_pos hr]
    by_cases hi : (grid0.coords t 1).val = 0
    · rw [if_pos hi, if_pos (by omega)]
      exact b2_at m c t q _ (by show (RW t r).val / 2048 = _; omega)
    · rw [if_neg hi, if_neg (by omega)]
      exact b1_at m c t hi q _ (by show (RW t r).val - 1 = _; omega)
  · rw [if_neg hr, if_neg (by omega)]
    refine (b0_at m c t _ q).trans (congrArg (fun R => (V m c main_arg0) (ix2 R q)) (Fin.ext ?_))
    show 2048 * (grid0.coords t 0).val + 256 * (grid0.coords t 1).val + (r.val - 1) = (RW t r).val - 1
    omega

theorem arr16 : (dats m 0 c).arrAt 16 cfg0.N = (fun i => kR (rX (V m c main_arg0) (V m c main_v38) (V m c main_v31) (i 0)) (i 1) : FVec Ideal S8192x1024 .f32) := by
  refine (dats m 0 c).arrAt_eq_of_covers 16 _ (by decide +kernel) fun t _ y => ?_
  blk_simp
  rw [after0_16]
  obtain ⟨h0, h1⟩ := co_lt t
  have hy0 : (y 0).val < 256 := (y 0).isLt
  have hy1 : (y 1).val < 1024 := (y 1).isLt
  have hy : y = ix2 (⟨(y 0).val, hy0⟩ : Fin 256) (⟨(y 1).val, hy1⟩ : Fin 1024) := by
    funext a; match a with | ⟨0, _⟩ => rfl | ⟨1, _⟩ => rfl
  refine (congrArg (out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) hy).trans ((out16_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).trans ?_)
  rw [row_eq]
  have e0 : ((((cfg0.win 16).blk t).view.emb y) 0) = RW t ⟨(y 0).val, hy0⟩ := Fin.ext (by
    blk_simp [idx0 t]; show _ = 2048 * (grid0.coords t 0).val + 256 * (grid0.coords t 1).val + (y 0).val; omega)
  have e1 : ((((cfg0.win 16).blk t).view.emb y) 1) = (⟨(y 1).val, hy1⟩ : Fin 1024) := Fin.ext (by
    blk_simp [idx0 t])
  rw [e0, e1]

theorem arr17 : (dats m 0 c).arrAt 17 cfg0.N = (fun i => kW (rX (V m c main_arg0) (V m c main_v38) (V m c main_v31) (i 0)) (V m c main_v32) (V m c main_v9) (V m c main_v12) (i 1) : FVec Ideal S8192x1024 .f32) := by
  refine (dats m 0 c).arrAt_eq_of_covers 17 _ (by decide +kernel) fun t _ y => ?_
  blk_simp
  rw [after0_17]
  obtain ⟨h0, h1⟩ := co_lt t
  have hy0 : (y 0).val < 256 := (y 0).isLt
  have hy1 : (y 1).val < 1024 := (y 1).isLt
  have hy : y = ix2 (⟨(y 0).val, hy0⟩ : Fin 256) (⟨(y 1).val, hy1⟩ : Fin 1024) := by
    funext a; match a with | ⟨0, _⟩ => rfl | ⟨1, _⟩ => rfl
  refine (congrArg (out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) hy).trans ((out17_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).trans ?_)
  rw [row_eq, b4_eq, b9_eq, b10_eq]
  have e0 : ((((cfg0.win 17).blk t).view.emb y) 0) = RW t ⟨(y 0).val, hy0⟩ := Fin.ext (by
    blk_simp [idx0 t]; show _ = 2048 * (grid0.coords t 0).val + 256 * (grid0.coords t 1).val + (y 0).val; omega)
  have e1 : ((((cfg0.win 17).blk t).view.emb y) 1) = (⟨(y 1).val, hy1⟩ : Fin 1024) := Fin.ext (by
    blk_simp [idx0 t])
  rw [e0, e1]

theorem arr18 : (dats m 0 c).arrAt 18 cfg0.N = (fun i => kM (rX (V m c main_arg0) (V m c main_v38) (V m c main_v31) (i 0)) (V m c main_v33) (V m c main_v14) (V m c main_v17) (V m c main_v35) (i 1) : FVec Ideal S8192x1024 .f32) := by
  refine (dats m 0 c).arrAt_eq_of_covers 18 _ (by decide +kernel) fun t _ y => ?_
  blk_simp
  rw [after0_18]
  obtain ⟨h0, h1⟩ := co_lt t
  have hy0 : (y 0).val < 256 := (y 0).isLt
  have hy1 : (y 1).val < 1024 := (y 1).isLt
  have hy : y = ix2 (⟨(y 0).val, hy0⟩ : Fin 256) (⟨(y 1).val, hy1⟩ : Fin 1024) := by
    funext a; match a with | ⟨0, _⟩ => rfl | ⟨1, _⟩ => rfl
  refine (congrArg (out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) hy).trans ((out18_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).trans ?_)
  rw [row_eq, b5_eq, b7_eq, b11_eq, b12_eq]
  have e0 : ((((cfg0.win 18).blk t).view.emb y) 0) = RW t ⟨(y 0).val, hy0⟩ := Fin.ext (by
    blk_simp [idx0 t]; show _ = 2048 * (grid0.coords t 0).val + 256 * (grid0.coords t 1).val + (y 0).val; omega)
  have e1 : ((((cfg0.win 18).blk t).view.emb y) 1) = (⟨(y 1).val, hy1⟩ : Fin 1024) := Fin.ext (by
    blk_simp [idx0 t])
  rw [e0, e1]

theorem arr19 : (dats m 0 c).arrAt 19 cfg0.N = (fun i => kN (rX (V m c main_arg0) (V m c main_v38) (V m c main_v31) (i 0)) (V m c main_v34) (V m c main_v7) (i 1) : FVec Ideal S8192x1024 .f32) := by
  refine (dats m 0 c).arrAt_eq_of_covers 19 _ (by decide +kernel) fun t _ y => ?_
  blk_simp
  rw [after0_19]
  obtain ⟨h0, h1⟩ := co_lt t
  have hy0 : (y 0).val < 256 := (y 0).isLt
  have hy1 : (y 1).val < 1024 := (y 1).isLt
  have hy : y = ix2 (⟨(y 0).val, hy0⟩ : Fin 256) (⟨(y 1).val, hy1⟩ : Fin 1024) := by
    funext a; match a with | ⟨0, _⟩ => rfl | ⟨1, _⟩ => rfl
  refine (congrArg (out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) hy).trans ((out19_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).trans ?_)
  rw [row_eq, b6_eq, b15_eq]
  have e0 : ((((cfg0.win 19).blk t).view.emb y) 0) = RW t ⟨(y 0).val, hy0⟩ := Fin.ext (by
    blk_simp [idx0 t]; show _ = 2048 * (grid0.coords t 0).val + 256 * (grid0.coords t 1).val + (y 0).val; omega)
  have e1 : ((((cfg0.win 19).blk t).view.emb y) 1) = (⟨(y 1).val, hy1⟩ : Fin 1024) := Fin.ext (by
    blk_simp [idx0 t])
  rw [e0, e1]

theorem arr20 : (dats m 0 c).arrAt 20 cfg0.N = (fun i => kN (rX (V m c main_arg0) (V m c main_v38) (V m c main_v31) (i 0)) (V m c main_v34) (V m c main_v7) (i 1) * kA (rX (V m c main_arg0) (V m c main_v38) (V m c main_v31) (i 0)) (V m c main_v33) (V m c main_v14) (V m c main_v17) (i 1) : FVec Ideal S8192x1024 .f32) := by
  refine (dats m 0 c).arrAt_eq_of_covers 20 _ (by decide +kernel) fun t _ y => ?_
  blk_simp
  rw [after0_20]
  obtain ⟨h0, h1⟩ := co_lt t
  have hy0 : (y 0).val < 256 := (y 0).isLt
  have hy1 : (y 1).val < 1024 := (y 1).isLt
  have hy : y = ix2 (⟨(y 0).val, hy0⟩ : Fin 256) (⟨(y 1).val, hy1⟩ : Fin 1024) := by
    funext a; match a with | ⟨0, _⟩ => rfl | ⟨1, _⟩ => rfl
  refine (congrArg (out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) hy).trans ((out20_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).trans ?_)
  rw [row_eq, b5_eq, b6_eq, b11_eq, b12_eq, b15_eq]
  have e0 : ((((cfg0.win 20).blk t).view.emb y) 0) = RW t ⟨(y 0).val, hy0⟩ := Fin.ext (by
    blk_simp [idx0 t]; show _ = 2048 * (grid0.coords t 0).val + 256 * (grid0.coords t 1).val + (y 0).val; omega)
  have e1 : ((((cfg0.win 20).blk t).view.emb y) 1) = (⟨(y 1).val, hy1⟩ : Fin 1024) := Fin.ext (by
    blk_simp [idx0 t])
  rw [e0, e1]

theorem arr21 : (dats m 0 c).arrAt 21 cfg0.N = (fun i => kV (rX (V m c main_arg0) (V m c main_v38) (V m c main_v31) (i 0)) (i 1) : FVec Ideal S8192x1024 .f32) := by
  refine (dats m 0 c).arrAt_eq_of_covers 21 _ (by decide +kernel) fun t _ y => ?_
  blk_simp
  rw [after0_21]
  obtain ⟨h0, h1⟩ := co_lt t
  have hy0 : (y 0).val < 256 := (y 0).isLt
  have hy1 : (y 1).val < 1024 := (y 1).isLt
  have hy : y = ix2 (⟨(y 0).val, hy0⟩ : Fin 256) (⟨(y 1).val, hy1⟩ : Fin 1024) := by
    funext a; match a with | ⟨0, _⟩ => rfl | ⟨1, _⟩ => rfl
  refine (congrArg (out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) hy).trans ((out21_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).trans ?_)
  rw [row_eq]
  have e0 : ((((cfg0.win 21).blk t).view.emb y) 0) = RW t ⟨(y 0).val, hy0⟩ := Fin.ext (by
    blk_simp [idx0 t]; show _ = 2048 * (grid0.coords t 0).val + 256 * (grid0.coords t 1).val + (y 0).val; omega)
  have e1 : ((((cfg0.win 21).blk t).view.emb y) 1) = (⟨(y 1).val, hy1⟩ : Fin 1024) := Fin.ext (by
    blk_simp [idx0 t])
  rw [e0, e1]

theorem arr22 : (dats m 0 c).arrAt 22 cfg0.N = (fun i => kG (rX (V m c main_arg0) (V m c main_v38) (V m c main_v31) (i 0)) (V m c main_v19) (V m c main_v22) (i 1) : FVec Ideal S8192x1024 .f32) := by
  refine (dats m 0 c).arrAt_eq_of_covers 22 _ (by decide +kernel) fun t _ y => ?_
  blk_simp
  rw [after0_22]
  obtain ⟨h0, h1⟩ := co_lt t
  have hy0 : (y 0).val < 256 := (y 0).isLt
  have hy1 : (y 1).val < 1024 := (y 1).isLt
  have hy : y = ix2 (⟨(y 0).val, hy0⟩ : Fin 256) (⟨(y 1).val, hy1⟩ : Fin 1024) := by
    funext a; match a with | ⟨0, _⟩ => rfl | ⟨1, _⟩ => rfl
  refine (congrArg (out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) hy).trans ((out22_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).trans ?_)
  rw [row_eq, b13_eq, b14_eq]
  have e0 : ((((cfg0.win 22).blk t).view.emb y) 0) = RW t ⟨(y 0).val, hy0⟩ := Fin.ext (by
    blk_simp [idx0 t]; show _ = 2048 * (grid0.coords t 0).val + 256 * (grid0.coords t 1).val + (y 0).val; omega)
  have e1 : ((((cfg0.win 22).blk t).view.emb y) 1) = (⟨(y 1).val, hy1⟩ : Fin 1024) := Fin.ext (by
    blk_simp [idx0 t])
  rw [e0, e1]

theorem arr23 : (dats m 0 c).arrAt 23 cfg0.N = (fun i => kB (rX (V m c main_arg0) (V m c main_v38) (V m c main_v31) (i 0)) (V m c main_v33) (V m c main_v14) (V m c main_v17) (V m c main_v35) (V m c main_v36) (V m c main_v7) (i 1) : FVec Ideal S8192x1024 .f32) := by
  refine (dats m 0 c).arrAt_eq_of_covers 23 _ (by decide +kernel) fun t _ y => ?_
  blk_simp
  rw [after0_23]
  obtain ⟨h0, h1⟩ := co_lt t
  have hy0 : (y 0).val < 256 := (y 0).isLt
  have hy1 : (y 1).val < 1024 := (y 1).isLt
  have hy : y = ix2 (⟨(y 0).val, hy0⟩ : Fin 256) (⟨(y 1).val, hy1⟩ : Fin 1024) := by
    funext a; match a with | ⟨0, _⟩ => rfl | ⟨1, _⟩ => rfl
  refine (congrArg (out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) hy).trans ((out23_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).trans ?_)
  rw [row_eq, b5_eq, b7_eq, b8_eq, b11_eq, b12_eq, b15_eq]
  have e0 : ((((cfg0.win 23).blk t).view.emb y) 0) = RW t ⟨(y 0).val, hy0⟩ := Fin.ext (by
    blk_simp [idx0 t]; show _ = 2048 * (grid0.coords t 0).val + 256 * (grid0.coords t 1).val + (y 0).val; omega)
  have e1 : ((((cfg0.win 23).blk t).view.emb y) 1) = (⟨(y 1).val, hy1⟩ : Fin 1024) := Fin.ext (by
    blk_simp [idx0 t])
  rw [e0, e1]

end Cert.PrepIdeal.Val

end
-- ==== Proof.PHostAt.lean ====
/-
  WHAT THE HOST PREPARES, read at an entry.
-/
module

public import proofs.«01_k».proof.Proof.PHost
public import proofs.«01_k».proof.Proof.PReg
public import Idealize.ShloMosaic.Lib.KernelVsHost

@[expose] public section

set_option maxRecDepth 16384

noncomputable section

namespace Cert.PrepIdeal.Val

open Cert.PrepIdeal Cert.PrepIdeal.Gen
open Idealize.ShloMosaic Idealize.ShloMosaic.TcCoe
open Idealize.SL.Sem Cert.PrepSpec

theorem zp_at (i : S_.Idx) : zp i = 0 := by
  show (((0#32 : BitVec 32).toInt : ℝ) : EReal) = 0
  simp

theorem wp64_in (w : FVec Ideal S64x1024 .f32) (j : Fin 128) (k : Fin 64) (c : Fin 1024) (h : j.val = k.val) : wp64 w (ix2 j c) = w (ix2 k c) :=
  pad_apply_of_inside ![0, 0] ![64, 0] ![0, 0] w zp pads_S64x1024_S128x1024_0640_000 h_S_ (ix2 j c) (ix2 k c) (fun a => match a with
    | ⟨0, _⟩ => by show j.val = 0 + k.val * (0 + 1); omega
    | ⟨1, _⟩ => by show c.val = 0 + c.val * (0 + 1); omega)
theorem wp64_out (w : FVec Ideal S64x1024 .f32) (j : Fin 128) (c : Fin 1024) (h : 64 ≤ j.val) : wp64 w (ix2 j c) = 0 := by
  refine (pad_apply_of_not_inside (s := S64x1024) (t := S128x1024) ![0, 0] ![64, 0] ![0, 0] w zp pads_S64x1024_S128x1024_0640_000 h_S_ (ix2 j c) (0 : Fin 2) (fun hn => ?_)).trans (zp_at _)
  have h3 : (j.val - 0) / (0 + 1) < 64 := hn.2.2
  omega
theorem wp160_in (w : FVec Ideal S160x1024 .f32) (j : Fin 256) (k : Fin 160) (c : Fin 1024) (h : j.val = k.val) : wp160 w (ix2 j c) = w (ix2 k c) :=
  pad_apply_of_inside ![0, 0] ![96, 0] ![0, 0] w zp pads_S160x1024_S256x1024_0960_000 h_S_ (ix2 j c) (ix2 k c) (fun a => match a with
    | ⟨0, _⟩ => by show j.val = 0 + k.val * (0 + 1); omega
    | ⟨1, _⟩ => by show c.val = 0 + c.val * (0 + 1); omega)
theorem wp160_out (w : FVec Ideal S160x1024 .f32) (j : Fin 256) (c : Fin 1024) (h : 160 ≤ j.val) : wp160 w (ix2 j c) = 0 := by
  refine (pad_apply_of_not_inside (s := S160x1024) (t := S256x1024) ![0, 0] ![96, 0] ![0, 0] w zp pads_S160x1024_S256x1024_0960_000 h_S_ (ix2 j c) (0 : Fin 2) (fun hn => ?_)).trans (zp_at _)
  have h3 : (j.val - 0) / (0 + 1) < 160 := hn.2.2
  omega
theorem rw1_at (w : FVec Ideal S1024 .f32) (c : Fin 1024) : rw1 w (ix2 (0 : Fin 1) c) = w (ix1 c) :=
  broadcastInDim_apply _ bcast_S1024_S1x1024_1 w _ (ix1 c) (fun a => match a with
    | ⟨0, _⟩ => by show c.val = if (1024 : Nat) = 1 then 0 else c.val; rw [if_neg (by decide)])
theorem mr_at (u : FVec Ideal S3360 .f32) (p : Fin 3360) : mr u (ix2 (0 : Fin 1) p) = u (ix1 p) :=
  broadcastInDim_apply _ bcast_S3360_S1x3360_1 u _ (ix1 p) (fun a => match a with
    | ⟨0, _⟩ => by show p.val = if (3360 : Nat) = 1 then 0 else p.val; rw [if_neg (by decide)])

theorem mc_at0 (u : FVec Ideal S3360 .f32) (q : Fin 3584) (p : Fin 3360) (hq : q.val < 3072) (h : p.val = q.val) : mc u (ix2 (0 : Fin 1) q) = u (ix1 p) := by
  refine (concatenate_apply_piece (t := S1x3584) 1 [⟨S1x3072, m0 u⟩, ⟨S1x128, m1 u⟩, ⟨S1x128, m2 u⟩, ⟨S1x256, m3 u⟩]
    concatenates_S1x3072_S1x128_S1x128_S1x256_S1x3584_d1 (ix2 (0 : Fin 1) q) 0 (by simp) S1x3072 (m0 u) rfl rfl 0 rfl
    (ix2 (0 : Fin 1) ⟨q.val, hq⟩) (fun b hb => ?_) ?_).trans ?_
  · match b with
    | ⟨0, _⟩ => rfl
    | ⟨1, _⟩ => exact absurd rfl hb
  · show 0 + q.val = q.val; omega
  exact (extractStridedSlice_apply ![0, 0] (mr u) slices_S1x3360_S1x3072_0_0 (ix2 (0 : Fin 1) ⟨q.val, hq⟩) (ix2 (0 : Fin 1) p) (fun a => match a with
    | ⟨0, _⟩ => by show 0 = 0 + 0; omega
    | ⟨1, _⟩ => by show p.val = 0 + q.val; omega)).trans (mr_at u p)
theorem mc_at1 (u : FVec Ideal S3360 .f32) (q : Fin 3584) (p : Fin 3360) (j : Fin 64) (hq : q.val = 3072 + j.val) (h : p.val = 3072 + j.val) : mc u (ix2 (0 : Fin 1) q) = u (ix1 p) := by
  refine (concatenate_apply_piece (t := S1x3584) 1 [⟨S1x3072, m0 u⟩, ⟨S1x128, m1 u⟩, ⟨S1x128, m2 u⟩, ⟨S1x256, m3 u⟩]
    concatenates_S1x3072_S1x128_S1x128_S1x256_S1x3584_d1 (ix2 (0 : Fin 1) q) 1 (by simp) S1x128 (m1 u) rfl rfl 3072 rfl
    (ix2 (0 : Fin 1) ⟨j.val, by omega⟩) (fun b hb => ?_) ?_).trans ?_
  · match b with
    | ⟨0, _⟩ => rfl
    | ⟨1, _⟩ => exact absurd rfl hb
  · show 3072 + j.val = q.val; omega
  refine (pad_apply_of_inside ![0, 0] ![0, 64] ![0, 0] (extractStridedSlice S1x64 ![0, 3072] (mr u) slices_S1x3360_S1x64_0_3072) zp pads_S1x64_S1x128_000_0640 h_S_ _ (ix2 (0 : Fin 1) j : S1x64.Idx) (fun a => ?_)).trans ?_
  · match a with
    | ⟨0, _⟩ => show 0 = 0 + 0 * (0 + 1); omega
    | ⟨1, _⟩ => show j.val = 0 + j.val * (0 + 1); omega
  exact (extractStridedSlice_apply ![0, 3072] (mr u) slices_S1x3360_S1x64_0_3072 (ix2 (0 : Fin 1) j) (ix2 (0 : Fin 1) p) (fun a => match a with
    | ⟨0, _⟩ => by show 0 = 0 + 0; omega
    | ⟨1, _⟩ => by show p.val = 3072 + j.val; omega)).trans (mr_at u p)
theorem mc_at2 (u : FVec Ideal S3360 .f32) (q : Fin 3584) (p : Fin 3360) (j : Fin 64) (hq : q.val = 3200 + j.val) (h : p.val = 3136 + j.val) : mc u (ix2 (0 : Fin 1) q) = u (ix1 p) := by
  refine (concatenate_apply_piece (t := S1x3584) 1 [⟨S1x3072, m0 u⟩, ⟨S1x128, m1 u⟩, ⟨S1x128, m2 u⟩, ⟨S1x256, m3 u⟩]
    concatenates_S1x3072_S1x128_S1x128_S1x256_S1x3584_d1 (ix2 (0 : Fin 1) q) 2 (by simp) S1x128 (m2 u) rfl rfl 3200 rfl
    (ix2 (0 : Fin 1) ⟨j.val, by omega⟩) (fun b hb => ?_) ?_).trans ?_
  · match b with
    | ⟨0, _⟩ => rfl
    | ⟨1, _⟩ => exact absurd rfl hb
  · show 3200 + j.val = q.val; omega
  refine (pad_apply_of_inside ![0, 0] ![0, 64] ![0, 0] (extractStridedSlice S1x64 ![0, 3136] (mr u) slices_S1x3360_S1x64_0_3136) zp pads_S1x64_S1x128_000_0640 h_S_ _ (ix2 (0 : Fin 1) j : S1x64.Idx) (fun a => ?_)).trans ?_
  · match a with
    | ⟨0, _⟩ => show 0 = 0 + 0 * (0 + 1); omega
    | ⟨1, _⟩ => show j.val = 0 + j.val * (0 + 1); omega
  exact (extractStridedSlice_apply ![0, 3136] (mr u) slices_S1x3360_S1x64_0_3136 (ix2 (0 : Fin 1) j) (ix2 (0 : Fin 1) p) (fun a => match a with
    | ⟨0, _⟩ => by show 0 = 0 + 0; omega
    | ⟨1, _⟩ => by show p.val = 3136 + j.val; omega)).trans (mr_at u p)
theorem mc_at3 (u : FVec Ideal S3360 .f32) (q : Fin 3584) (p : Fin 3360) (j : Fin 160) (hq : q.val = 3328 + j.val) (h : p.val = 3200 + j.val) : mc u (ix2 (0 : Fin 1) q) = u (ix1 p) := by
  refine (concatenate_apply_piece (t := S1x3584) 1 [⟨S1x3072, m0 u⟩, ⟨S1x128, m1 u⟩, ⟨S1x128, m2 u⟩, ⟨S1x256, m3 u⟩]
    concatenates_S1x3072_S1x128_S1x128_S1x256_S1x3584_d1 (ix2 (0 : Fin 1) q) 3 (by simp) S1x256 (m3 u) rfl rfl 3328 rfl
    (ix2 (0 : Fin 1) ⟨j.val, by omega⟩) (fun b hb => ?_) ?_).trans ?_
  · match b with
    | ⟨0, _⟩ => rfl
    | ⟨1, _⟩ => exact absurd rfl hb
  · show 3328 + j.val = q.val; omega
  refine (pad_apply_of_inside ![0, 0] ![0, 96] ![0, 0] (extractStridedSlice S1x160 ![0, 3200] (mr u) slices_S1x3360_S1x160_0_3200) zp pads_S1x160_S1x256_000_0960 h_S_ _ (ix2 (0 : Fin 1) j : S1x160.Idx) (fun a => ?_)).trans ?_
  · match a with
    | ⟨0, _⟩ => show 0 = 0 + 0 * (0 + 1); omega
    | ⟨1, _⟩ => show j.val = 0 + j.val * (0 + 1); omega
  exact (extractStridedSlice_apply ![0, 3200] (mr u) slices_S1x3360_S1x160_0_3200 (ix2 (0 : Fin 1) j) (ix2 (0 : Fin 1) p) (fun a => match a with
    | ⟨0, _⟩ => by show 0 = 0 + 0; omega
    | ⟨1, _⟩ => by show p.val = 3200 + j.val; omega)).trans (mr_at u p)

theorem rk_at (w : FVec Ideal S16x64 .f32) (n : Fin 1024) :
    shapeCast S1x1024 w shapeCasts_S16x64_S1x1024 (ix2 (0 : Fin 1) n) = w (ix2 (⟨n.val / 64, by omega⟩ : Fin 16) (⟨n.val % 64, by omega⟩ : Fin 64)) :=
  shapeCast_apply w shapeCasts_S16x64_S1x1024 _ _ (by
    rewrite [Shape.rowMajor_val_two, Shape.rowMajor_val_two]
    show n.val / 64 * 64 + n.val % 64 = 0 * 1024 + n.val
    omega)

/-- The head of a channel is its number over 64. -/
theorem hd_at : ∀ n : Fin 1024, hd (ix1 n) = BitVec.ofNat 32 (n.val / 64) := by decide +kernel

theorem sh_at (n c : Fin 1024) : sh (ix2 n c) = if n.val / 64 = c.val / 64 then 1 else 0 := by
  have e1 : broadcastInDim S1024x1024 ![0, 1] bcast_S1024x1_S1024x1024_0_1 (broadcastInDim S1024x1 ![0] bcast_S1024_S1024x1_0 hd) (ix2 n c) = hd (ix1 n) :=
    (broadcastInDim_apply _ bcast_S1024x1_S1024x1024_0_1 _ _ (ix2 n (0 : Fin 1)) (fun a => match a with
      | ⟨0, _⟩ => by show n.val = if (1024 : Nat) = 1 then 0 else n.val; rw [if_neg (by decide)]
      | ⟨1, _⟩ => by show 0 = if (1 : Nat) = 1 then 0 else c.val; rw [if_pos rfl])).trans
    (broadcastInDim_apply _ bcast_S1024_S1024x1_0 _ _ (ix1 n) (fun a => match a with
      | ⟨0, _⟩ => by show n.val = if (1024 : Nat) = 1 then 0 else n.val; rw [if_neg (by decide)]))
  have e2 : broadcastInDim S1024x1024 ![0, 1] bcast_S1x1024_S1024x1024_0_1 (broadcastInDim S1x1024 ![1] bcast_S1024_S1x1024_1 hd) (ix2 n c) = hd (ix1 c) :=
    (broadcastInDim_apply _ bcast_S1x1024_S1024x1024_0_1 _ _ (ix2 (0 : Fin 1) c) (fun a => match a with
      | ⟨0, _⟩ => by show 0 = if (1 : Nat) = 1 then 0 else n.val; rw [if_pos rfl]
      | ⟨1, _⟩ => by show c.val = if (1024 : Nat) = 1 then 0 else c.val; rw [if_neg (by decide)])).trans
    (broadcastInDim_apply _ bcast_S1024_S1x1024_1 _ _ (ix1 c) (fun a => match a with
      | ⟨0, _⟩ => by show c.val = if (1024 : Nat) = 1 then 0 else c.val; rw [if_neg (by decide)]))
  show ((((IntOp.cmpi .eq (broadcastInDim S1024x1024 ![0, 1] bcast_S1024x1_S1024x1024_0_1 (broadcastInDim S1024x1 ![0] bcast_S1024_S1024x1_0 hd) (ix2 n c))
    (broadcastInDim S1024x1024 ![0, 1] bcast_S1x1024_S1024x1024_0_1 (broadcastInDim S1x1024 ![1] bcast_S1024_S1x1024_1 hd) (ix2 n c))).toNat : ℕ) : ℝ) : EReal) = _
  rw [e1, e2, hd_at, hd_at]
  by_cases h : n.val / 64 = c.val / 64
  · rw [if_pos h, h]
    simp [IntOp.cmpi]
  · rw [if_neg h]
    have hne : BitVec.ofNat 32 (n.val / 64) ≠ BitVec.ofNat 32 (c.val / 64) := fun he => h (by
      have h2 := congrArg BitVec.toNat he
      rw [BitVec.toNat_ofNat, BitVec.toNat_ofNat, Nat.mod_eq_of_lt (by omega), Nat.mod_eq_of_lt (by omega)] at h2
      exact h2)
    simp [IntOp.cmpi, hne]

end Cert.PrepIdeal.Val

end
-- ==== Proof.PRef.lean ====
/-
  THE ELEMENTWISE HALF, THE REFERENCE: its eight results, at a row and a channel, as functions of the row mixed with the row before it.
-/
module

public import proofs.«01_k».proof.Proof.PMath
public import proofs.«01_k».proof.Proof.Gen.PrepRefIdeal.Read
public import Idealize.ShloMosaic.Lib.KernelVsHost

@[expose] public section

set_option maxRecDepth 16384

noncomputable section

namespace Cert.PrepSpec

open Cert.PrepRefIdeal Idealize.ShloMosaic

/-- The column of the widened row a kept column comes from. -/
def pc (u : Fin 3360) : Fin 3584 := if u.val < 3136 then ⟨u.val, by omega⟩ else if u.val < 3200 then ⟨u.val + 64, by omega⟩ else ⟨u.val + 128, by omega⟩
theorem pc_0 (u : Fin 3360) (h : u.val < 3136) : (pc u).val = u.val := by unfold pc; rw [if_pos h]
theorem pc_1 (u : Fin 3360) (h : 3136 ≤ u.val) (h2 : u.val < 3200) : (pc u).val = u.val + 64 := by unfold pc; rw [if_neg (by omega), if_pos h2]
theorem pc_2 (u : Fin 3360) (h : 3200 ≤ u.val) : (pc u).val = u.val + 128 := by unfold pc; rw [if_neg (by omega), if_neg (by omega)]

/-- A row mixed with the row before it, nothing before the first row of a batch. -/
def sX (Z : FVec Ideal S8192x3584 .f32) (M : FVec Ideal S3360 .f32) (R : Fin 8192) (u : Fin 3360) : EReal :=
  mix (Z (ix2 R (pc u))) (if R.val % 2048 = 0 then 0 else Z (ix2 (⟨R.val - 1, by omega⟩ : Fin 8192) (pc u))) (M (ix1 u))

section rows
variable (Y : Fin 3360 → EReal)

/-- The receptance, the key and the value of a channel. -/
def qR (c : Fin 1024) : EReal := Y ⟨c.val, by omega⟩
def qK (c : Fin 1024) : EReal := Y ⟨1024 + c.val, by omega⟩
def qV (c : Fin 1024) : EReal := Y ⟨2048 + c.val, by omega⟩
/-- The decay, the rate, the gate. -/
def qW (b : FVec Ideal S1024 .f32) (w : FVec Ideal S64x1024 .f32) (c : Fin 1024) : EReal :=
  dec (b (ix1 c) + ∑ j : Fin 64, Ideal.tanh (Y ⟨3072 + j.val, by omega⟩) * w (ix2 j c))
def qA (b : FVec Ideal S1024 .f32) (w : FVec Ideal S64x1024 .f32) (c : Fin 1024) : EReal :=
  Ideal.logistic (b (ix1 c) + ∑ j : Fin 64, Y ⟨3136 + j.val, by omega⟩ * w (ix2 j c))
def qG (w : FVec Ideal S160x1024 .f32) (c : Fin 1024) : EReal := ∑ j : Fin 160, Ideal.logistic (Y ⟨3200 + j.val, by omega⟩) * w (ix2 j c)
/-- The scaled key, and it over its head's norm. -/
def qS (g : FVec Ideal S1024 .f32) (c : Fin 1024) : EReal := qK Y c * g (ix1 c)
def qN (g : FVec Ideal S1024 .f32) (c : Fin 1024) : EReal :=
  nrm (qS Y g c) (∑ n : Fin 64, qS Y g ⟨64 * (c.val / 64) + n.val, by omega⟩ * qS Y g ⟨64 * (c.val / 64) + n.val, by omega⟩)
/-- The key as the recurrence takes it. -/
def qM (b : FVec Ideal S1024 .f32) (w : FVec Ideal S64x1024 .f32) (g : FVec Ideal S1024 .f32) (c : Fin 1024) : EReal :=
  kmod (qK Y c) (qA Y b w c) (g (ix1 c))
/-- A summand of the bonus, and the bonus. -/
def qT (b : FVec Ideal S1024 .f32) (w : FVec Ideal S64x1024 .f32) (g : FVec Ideal S1024 .f32) (rk : FVec Ideal S16x64 .f32) (c : Fin 1024) : EReal :=
  qR Y c * qM Y b w g c * rk (ix2 (⟨c.val / 64, by omega⟩ : Fin 16) (⟨c.val % 64, by omega⟩ : Fin 64))
def qB (b : FVec Ideal S1024 .f32) (w : FVec Ideal S64x1024 .f32) (g : FVec Ideal S1024 .f32) (rk : FVec Ideal S16x64 .f32) (c : Fin 1024) : EReal :=
  (∑ n : Fin 64, qT Y b w g rk ⟨64 * (c.val / 64) + n.val, by omega⟩) * qV Y c
end rows

end Cert.PrepSpec

namespace Cert.PrepRefIdeal.Val

open Cert.PrepRefIdeal Cert.PrepRefIdeal.Gen Cert.PrepRefIdeal.Read Idealize.ShloMosaic Idealize.ShloMosaic.TcCoe Idealize.SL.Sem
open Cert.PrepSpec

variable (x0 : FVec Ideal S8192x3584 .f32) (x1 : FVec Ideal S3360 .f32) (x2 : FVec Ideal S1024 .f32) (x3 : FVec Ideal S64x1024 .f32)
  (x4 : FVec Ideal S1024 .f32) (x5 : FVec Ideal S64x1024 .f32) (x6 : FVec Ideal S160x1024 .f32) (x7 x8 : FVec Ideal S1024 .f32) (x9 : FVec Ideal S16x64 .f32)

theorem v3_at (R : Fin 8192) (u : Fin 3360) : val_main_v3 (F := Ideal) x0 (ix2 R u) = x0 (ix2 R (pc u)) := by
  unfold val_main_v3
  by_cases h : u.val < 3136
  · refine (concatenate_apply_piece (t := S8192x3360) 1 [⟨S8192x3136, val_main_v0 (F := Ideal) x0⟩, ⟨S8192x64, val_main_v1 (F := Ideal) x0⟩, ⟨S8192x160, val_main_v2 (F := Ideal) x0⟩]
      concatenates_S8192x3136_S8192x64_S8192x160_S8192x3360_d1 (ix2 R u) 0 (by simp) S8192x3136 (val_main_v0 (F := Ideal) x0) rfl rfl 0 rfl
      (ix2 R ⟨u.val, h⟩) (fun b hb => ?_) ?_).trans ?_
    · match b with
      | ⟨0, _⟩ => rfl
      | ⟨1, _⟩ => exact absurd rfl hb
    · show 0 + u.val = u.val; omega
    rw [val_main_v0_apply]
    refine congrArg x0 (funext fun b => Fin.ext ?_)
    match b with
    | ⟨0, _⟩ => rfl
    | ⟨1, _⟩ => exact (pc_0 u h).symm
  by_cases h2 : u.val < 3200
  · refine (concatenate_apply_piece (t := S8192x3360) 1 [⟨S8192x3136, val_main_v0 (F := Ideal) x0⟩, ⟨S8192x64, val_main_v1 (F := Ideal) x0⟩, ⟨S8192x160, val_main_v2 (F := Ideal) x0⟩]
      concatenates_S8192x3136_S8192x64_S8192x160_S8192x3360_d1 (ix2 R u) 1 (by simp) S8192x64 (val_main_v1 (F := Ideal) x0) rfl rfl 3136 rfl
      (ix2 R ⟨u.val - 3136, by omega⟩) (fun b hb => ?_) ?_).trans ?_
    · match b with
      | ⟨0, _⟩ => rfl
      | ⟨1, _⟩ => exact absurd rfl hb
    · show 3136 + (u.val - 3136) = u.val; omega
    rw [val_main_v1_apply]
    refine congrArg x0 (funext fun b => Fin.ext ?_)
    match b with
    | ⟨0, _⟩ => rfl
    | ⟨1, _⟩ => refine Eq.trans ?_ (pc_1 u (by omega) h2).symm; show 3200 + (u.val - 3136) = _; omega
  · refine (concatenate_apply_piece (t := S8192x3360) 1 [⟨S8192x3136, val_main_v0 (F := Ideal) x0⟩, ⟨S8192x64, val_main_v1 (F := Ideal) x0⟩, ⟨S8192x160, val_main_v2 (F := Ideal) x0⟩]
      concatenates_S8192x3136_S8192x64_S8192x160_S8192x3360_d1 (ix2 R u) 2 (by simp) S8192x160 (val_main_v2 (F := Ideal) x0) rfl rfl 3200 rfl
      (ix2 R ⟨u.val - 3200, by omega⟩) (fun b hb => ?_) ?_).trans ?_
    · match b with
      | ⟨0, _⟩ => rfl
      | ⟨1, _⟩ => exact absurd rfl hb
    · show 3200 + (u.val - 3200) = u.val; omega
    rw [val_main_v2_apply]
    refine congrArg x0 (funext fun b => Fin.ext ?_)
    match b with
    | ⟨0, _⟩ => rfl
    | ⟨1, _⟩ => refine Eq.trans ?_ (pc_2 u (by omega)).symm; show 3328 + (u.val - 3200) = _; omega

/-- The row of the flat array. -/
def fr (p : Fin 4) (t : Fin 2048) : Fin 8192 := ⟨2048 * p.val + t.val, by omega⟩

theorem v4_at (p : Fin 4) (t : Fin 2048) (u : Fin 3360) : val_main_v4 (F := Ideal) x0 (ix3 p t u) = x0 (ix2 (fr p t) (pc u)) := by
  rw [val_main_v4_apply]
  refine (congrArg (val_main_v3 (F := Ideal) x0) (funext fun b => Fin.ext ?_)).trans (v3_at x0 (fr p t) u)
  match b with
  | ⟨0, _⟩ => show ((p.val * 2048 + t.val) * 3360 + u.val) / 3360 = 2048 * p.val + t.val; omega
  | ⟨1, _⟩ => show ((p.val * 2048 + t.val) * 3360 + u.val) % 3360 = u.val; omega

theorem v8_at (p : Fin 4) (t : Fin 2048) (u : Fin 3360) :
    val_main_v8 (F := Ideal) x0 (ix3 p t u) = if (fr p t).val % 2048 = 0 then 0 else x0 (ix2 (⟨(fr p t).val - 1, by have := (fr p t).isLt; omega⟩ : Fin 8192) (pc u)) := by
  unfold val_main_v8
  have hf : (fr p t).val = 2048 * p.val + t.val := rfl
  by_cases h : t.val = 0
  · rw [if_pos (by omega)]
    refine (concatenate_pair_apply_left (t := S4x2048x3360) 1 (val_main_v6 (F := Ideal)) (val_main_v7 (F := Ideal) x0) _ _ rfl (ix3 p (0 : Fin 1) u) fun b => ?_).trans ?_
    · match b with
      | ⟨0, _⟩ => rfl
      | ⟨1, _⟩ => exact h.symm
      | ⟨2, _⟩ => rfl
    rw [val_main_v6_apply, val_main_v5_apply, val_main_cst_apply]
    exact ze
  · rw [if_neg (by omega)]
    refine (concatenate_pair_apply_right (t := S4x2048x3360) 1 (val_main_v6 (F := Ideal)) (val_main_v7 (F := Ideal) x0) _ _ rfl rfl (ix3 p (⟨t.val - 1, by omega⟩ : Fin 2047) u) (fun b hb => ?_) ?_).trans ?_
    · match b with
      | ⟨0, _⟩ => rfl
      | ⟨1, _⟩ => exact absurd rfl hb
      | ⟨2, _⟩ => rfl
    · show t.val - 1 + 1 = t.val; omega
    rw [val_main_v7_apply]
    refine (congrArg (val_main_v4 (F := Ideal) x0) (a₂ := ix3 p (⟨t.val - 1, by omega⟩ : Fin 2048) u) (funext fun b => Fin.ext ?_)).trans ((v4_at x0 p _ u).trans ?_)
    · match b with
      | ⟨0, _⟩ => rfl
      | ⟨1, _⟩ => rfl
      | ⟨2, _⟩ => rfl
    refine congrArg x0 (congrArg (fun r => ix2 r (pc u)) (Fin.ext ?_))
    show 2048 * p.val + (t.val - 1) = 2048 * p.val + t.val - 1
    omega

theorem v11_at (i : S4x2048x3360.Idx) (u : Fin 3360) (h : u.val = (i 2).val) : val_main_v11 (F := Ideal) x1 i = x1 (ix1 u) := by
  rw [val_main_v11_apply, val_main_v10_apply]
  refine congrArg x1 (funext fun b => Fin.ext ?_)
  match b with
  | ⟨0, _⟩ => exact h.symm

theorem v13_at (i : S4x2048x3360.Idx) (R : Fin 8192) (u : Fin 3360) (hr : R.val = 2048 * (i 0).val + (i 1).val) (hu : u.val = (i 2).val) :
    val_main_v13 (F := Ideal) x0 x1 i = sX x0 x1 R u := by
  obtain ⟨p, hp⟩ : ∃ p : Fin 4, p.val = (i 0).val := ⟨⟨(i 0).val, (i 0).isLt⟩, rfl⟩
  obtain ⟨t, ht⟩ : ∃ t : Fin 2048, t.val = (i 1).val := ⟨⟨(i 1).val, (i 1).isLt⟩, rfl⟩
  have hi : i = ix3 p t u := funext fun b => Fin.ext (match b with
    | ⟨0, _⟩ => hp.symm
    | ⟨1, _⟩ => ht.symm
    | ⟨2, _⟩ => hu.symm)
  have hR : R = fr p t := Fin.ext (by show R.val = 2048 * p.val + t.val; omega)
  subst hR
  rw [val_main_v13_apply, val_main_v12_apply, val_main_v9_apply, v11_at x1 i u hu, hi, v4_at, v8_at]
  rfl

section flat
variable (i : S4x2048x1024.Idx) (R : Fin 8192) (c : Fin 1024) (hr : R.val = 2048 * (i 0).val + (i 1).val) (hc : c.val = (i 2).val)
include hr hc

theorem v14_at : val_main_v14 (F := Ideal) x0 x1 i = qR (sX x0 x1 R) c := by
  rw [val_main_v14_apply]
  exact v13_at x0 x1 (idx_main_v14 i) R _ hr hc
theorem v15_at : val_main_v15 (F := Ideal) x0 x1 i = qK (sX x0 x1 R) c := by
  rw [val_main_v15_apply]
  exact v13_at x0 x1 (idx_main_v15 i) R _ hr (by show 1024 + c.val = 1024 + (i 2).val; omega)
theorem v16_at : val_main_v16 (F := Ideal) x0 x1 i = qV (sX x0 x1 R) c := by
  rw [val_main_v16_apply]
  exact v13_at x0 x1 (idx_main_v16 i) R _ hr (by show 2048 + c.val = 2048 + (i 2).val; omega)

theorem v21_at : val_main_v21 (F := Ideal) x0 x1 x3 i = ∑ j : Fin 64, Ideal.tanh (sX x0 x1 R ⟨3072 + j.val, by omega⟩) * x3 (ix2 j c) := by
  rw [val_main_v21_apply]
  refine Finset.sum_congr rfl fun j _ => congrArg₂ (· * ·) ?_ (congrArg x3 (funext fun b => Fin.ext ?_))
  · rw [val_main_v20_apply, val_main_v17_apply]
    exact congrArg Ideal.tanh (v13_at x0 x1 (idx_main_v17 (lidx_main_v21 i j)) R _ hr rfl)
  · match b with
    | ⟨0, _⟩ => rfl
    | ⟨1, _⟩ => exact hc.symm
theorem v33_at : val_main_v33 (F := Ideal) x0 x1 x5 i = ∑ j : Fin 64, sX x0 x1 R ⟨3136 + j.val, by omega⟩ * x5 (ix2 j c) := by
  rw [val_main_v33_apply]
  refine Finset.sum_congr rfl fun j _ => congrArg₂ (· * ·) ?_ (congrArg x5 (funext fun b => Fin.ext ?_))
  · rw [val_main_v18_apply]
    exact v13_at x0 x1 (idx_main_v18 (lidx_main_v33 i j)) R _ hr rfl
  · match b with
    | ⟨0, _⟩ => rfl
    | ⟨1, _⟩ => exact hc.symm
theorem v49_at : val_main_v49 (F := Ideal) x0 x1 x6 i = qG (sX x0 x1 R) x6 c := by
  rw [val_main_v49_apply]
  refine Finset.sum_congr rfl fun j _ => congrArg₂ (· * ·) ?_ (congrArg x6 (funext fun b => Fin.ext ?_))
  · rw [val_main_v48_apply, val_main_v47_apply, val_main_v46_apply, val_main_v45_apply, val_main_v44_apply, val_main_v43_apply, val_main_v19_apply, val_main_cst_3_apply, val_main_cst_4_apply,
      v13_at x0 x1 (idx_main_v19 (lidx_main_v49 i j)) R ⟨3200 + j.val, by omega⟩ hr rfl]
    show Ideal.div (Ideal.ofBits .f32 0x3F800000#32) (Ideal.ofBits .f32 0x3F800000#32 + Ideal.exp (-(sX x0 x1 R ⟨3200 + j.val, by omega⟩))) = _
    rw [on]
    rfl
  · match b with
    | ⟨0, _⟩ => rfl
    | ⟨1, _⟩ => exact hc.symm

theorem v23_at : val_main_v23 (F := Ideal) x2 i = x2 (ix1 c) := by
  rw [val_main_v23_apply, val_main_v22_apply]
  refine congrArg x2 (funext fun b => Fin.ext ?_)
  match b with
  | ⟨0, _⟩ => exact hc.symm
theorem v35_at : val_main_v35 (F := Ideal) x4 i = x4 (ix1 c) := v23_at x4 i R c hr hc
theorem v51_at : val_main_v51 (F := Ideal) x7 i = x7 (ix1 c) := v23_at x7 i R c hr hc
theorem v65_at : val_main_v65 (F := Ideal) x8 i = x8 (ix1 c) := v23_at x8 i R c hr hc

theorem v32_at : val_main_v32 (F := Ideal) x0 x1 x2 x3 i = qW (sX x0 x1 R) x2 x3 c := by
  have e24 : val_main_v24 (F := Ideal) x0 x1 x2 x3 i = x2 (ix1 c) + ∑ j : Fin 64, Ideal.tanh (sX x0 x1 R ⟨3072 + j.val, by omega⟩) * x3 (ix2 j c) := by
    rw [val_main_v24_apply, v23_at x2 i R c hr hc, v21_at x0 x1 x3 i R c hr hc]
    rfl
  simp only [val_main_v32_apply, val_main_v31_apply, val_main_v30_apply, val_main_v29_apply, val_main_v28_apply, val_main_cst_0_apply, val_main_v27_apply, val_main_v26_apply,
    val_main_call0_v4_apply, val_main_call0_v11_apply, val_main_call0_v1_apply, val_main_call0_v0_apply, val_main_call0_v10_apply, val_main_call0_v9_apply, val_main_call0_v8_apply,
    val_main_call0_v7_apply, val_main_call0_v3_apply, val_main_call0_v2_apply, val_main_call0_cst_apply, val_main_v25_apply, e24]
  unfold qW
  generalize x2 (ix1 c) + ∑ j : Fin 64, Ideal.tanh (sX x0 x1 R ⟨3072 + j.val, by omega⟩) * x3 (ix2 j c) = y
  show Ideal.exp (-(Ideal.exp (-(Scalar.select (Ideal.cmp .une (-y - Ideal.ofBits .f32 0x00000000#32) (-y - Ideal.ofBits .f32 0x00000000#32)) _
    (max (-y) (Ideal.ofBits .f32 0x00000000#32) + Ideal.log1p (Ideal.exp (-(max (-y - Ideal.ofBits .f32 0x00000000#32) (-(-y - Ideal.ofBits .f32 0x00000000#32))))))) - half))) = dec y
  rw [cmp_self', ze, subz]
  rfl

theorem v42_at : val_main_v42 (F := Ideal) x0 x1 x4 x5 i = qA (sX x0 x1 R) x4 x5 c := by
  rw [val_main_v42_apply, val_main_v41_apply, val_main_v40_apply, val_main_v39_apply, val_main_v38_apply, val_main_v37_apply, val_main_v36_apply, val_main_cst_1_apply, val_main_cst_2_apply,
    v35_at x4 i R c hr hc, v33_at x0 x1 x5 i R c hr hc]
  show Ideal.div (Ideal.ofBits .f32 0x3F800000#32) (Ideal.ofBits .f32 0x3F800000#32 + Ideal.exp (-(x4 (ix1 c) + ∑ j : Fin 64, sX x0 x1 R ⟨3136 + j.val, by omega⟩ * x5 (ix2 j c)))) = _
  rw [on]
  rfl
theorem v52_at : val_main_v52 (F := Ideal) x0 x1 x7 i = qS (sX x0 x1 R) x7 c := by
  rw [val_main_v52_apply, v15_at x0 x1 i R c hr hc, v51_at x7 i R c hr hc]
  rfl
theorem v69_at : val_main_v69 (F := Ideal) x0 x1 x4 x5 x8 i = qM (sX x0 x1 R) x4 x5 x8 c := by
  rw [val_main_v69_apply, val_main_v68_apply, val_main_v67_apply, val_main_v66_apply, val_main_v63_apply, val_main_v62_apply, val_main_cst_7_apply, val_main_cst_8_apply,
    v15_at x0 x1 i R c hr hc, v42_at x0 x1 x4 x5 i R c hr hc, v65_at x8 i R c hr hc]
  show qK (sX x0 x1 R) c * (Ideal.ofBits .f32 0x3F800000#32 + (qA (sX x0 x1 R) x4 x5 c - Ideal.ofBits .f32 0x3F800000#32) * x8 (ix1 c)) = _
  rw [on]
  rfl
end flat

section heads
theorem ih0 (i : S4x2048x16x64.Idx) : ((idx_main_v53 i) 0).val = (i 0).val := by
  have h0 : (i 0).val < 4 := (i 0).isLt
  have h1 : (i 1).val < 2048 := (i 1).isLt
  have h2 : (i 2).val < 16 := (i 2).isLt
  have h3 : (i 3).val < 64 := (i 3).isLt
  show ((((i 0).val * 2048 + (i 1).val) * 16 + (i 2).val) * 64 + (i 3).val) / 2097152 = _
  omega
theorem ih1 (i : S4x2048x16x64.Idx) : ((idx_main_v53 i) 1).val = (i 1).val := by
  have h0 : (i 0).val < 4 := (i 0).isLt
  have h1 : (i 1).val < 2048 := (i 1).isLt
  have h2 : (i 2).val < 16 := (i 2).isLt
  have h3 : (i 3).val < 64 := (i 3).isLt
  show ((((i 0).val * 2048 + (i 1).val) * 16 + (i 2).val) * 64 + (i 3).val) / 1024 % 2048 = _
  omega
theorem ih2 (i : S4x2048x16x64.Idx) : ((idx_main_v53 i) 2).val = 64 * (i 2).val + (i 3).val := by
  have h0 : (i 0).val < 4 := (i 0).isLt
  have h1 : (i 1).val < 2048 := (i 1).isLt
  have h2 : (i 2).val < 16 := (i 2).isLt
  have h3 : (i 3).val < 64 := (i 3).isLt
  show ((((i 0).val * 2048 + (i 1).val) * 16 + (i 2).val) * 64 + (i 3).val) % 1024 = _
  omega

variable (i : S4x2048x16x64.Idx) (R : Fin 8192) (c : Fin 1024) (hr : R.val = 2048 * (i 0).val + (i 1).val) (hc : c.val = 64 * (i 2).val + (i 3).val)
include hr hc

theorem hr' : R.val = 2048 * ((idx_main_v53 i) 0).val + ((idx_main_v53 i) 1).val := by rw [ih0, ih1]; exact hr
theorem hc' : c.val = ((idx_main_v53 i) 2).val := by rw [ih2]; exact hc

theorem v53_at : val_main_v53 (F := Ideal) x0 x1 x7 i = qS (sX x0 x1 R) x7 c := by
  rw [val_main_v53_apply]
  exact v52_at x0 x1 x7 _ R c (hr' i R c hr hc) (hc' i R c hr hc)
theorem v70_at : val_main_v70 (F := Ideal) x0 x1 x4 x5 x8 i = qM (sX x0 x1 R) x4 x5 x8 c := by
  rw [val_main_v70_apply]
  exact v69_at x0 x1 x4 x5 x8 _ R c (hr' i R c hr hc) (hc' i R c hr hc)
theorem v71_at : val_main_v71 (F := Ideal) x0 x1 i = qR (sX x0 x1 R) c := by
  rw [val_main_v71_apply]
  exact v14_at x0 x1 _ R c (hr' i R c hr hc) (hc' i R c hr hc)
theorem v72_at : val_main_v72 (F := Ideal) x0 x1 i = qV (sX x0 x1 R) c := by
  rw [val_main_v72_apply]
  exact v16_at x0 x1 _ R c (hr' i R c hr hc) (hc' i R c hr hc)
theorem v73_at : val_main_v73 (F := Ideal) x0 x1 x4 x5 i = qA (sX x0 x1 R) x4 x5 c := by
  rw [val_main_v73_apply]
  exact v42_at x0 x1 x4 x5 _ R c (hr' i R c hr hc) (hc' i R c hr hc)
theorem v74_at : val_main_v74 (F := Ideal) x0 x1 x2 x3 i = qW (sX x0 x1 R) x2 x3 c := by
  rw [val_main_v74_apply]
  exact v32_at x0 x1 x2 x3 _ R c (hr' i R c hr hc) (hc' i R c hr hc)

theorem v61_at : val_main_v61 (F := Ideal) x0 x1 x7 i = qN (sX x0 x1 R) x7 c := by
  have h3 : (i 3).val < 64 := (i 3).isLt
  rw [val_main_v61_apply, val_main_v60_apply, val_main_v59_apply, val_main_v58_apply, val_main_cst_6_apply, val_main_v57_apply, val_main_v56_apply, val_main_v55_apply, val_main_cst_5_apply,
    v53_at x0 x1 x7 i R c hr hc]
  have es : ∀ n : Fin 64, val_main_v54 (F := Ideal) x0 x1 x7 (idx_main_v55 (idx_main_v56 (idx_main_v60 i)) n)
      = qS (sX x0 x1 R) x7 ⟨64 * (c.val / 64) + n.val, by omega⟩ * qS (sX x0 x1 R) x7 ⟨64 * (c.val / 64) + n.val, by omega⟩ := fun n => by
    rw [val_main_v54_apply, v53_at x0 x1 x7 (idx_main_v55 (idx_main_v56 (idx_main_v60 i)) n) R ⟨64 * (c.val / 64) + n.val, by omega⟩ hr
      (by show 64 * (c.val / 64) + n.val = 64 * (i 2).val + n.val; omega)]
    rfl
  rw [Finset.sum_congr rfl (fun n _ => es n)]
  show Ideal.div _ (max (Ideal.sqrt (Ideal.ofBits .f32 0x00000000#32 + _)) least) = _
  rw [ze, zero_add]
  rfl

theorem v78_at : val_main_v78 (F := Ideal) x0 x1 x4 x5 x8 x9 i = qT (sX x0 x1 R) x4 x5 x8 x9 c := by
  have h3 : (i 3).val < 64 := (i 3).isLt
  rw [val_main_v78_apply, val_main_v77_apply, val_main_v76_apply, val_main_v75_apply, v71_at x0 x1 i R c hr hc, v70_at x0 x1 x4 x5 x8 i R c hr hc]
  refine congrArg (qR (sX x0 x1 R) c * qM (sX x0 x1 R) x4 x5 x8 c * ·) (congrArg x9 (funext fun b => Fin.ext ?_))
  match b with
  | ⟨0, _⟩ => show (i 2).val = c.val / 64; omega
  | ⟨1, _⟩ => show (i 3).val = c.val % 64; omega

theorem v82_at : val_main_v82 (F := Ideal) x0 x1 x4 x5 x8 x9 i = qB (sX x0 x1 R) x4 x5 x8 x9 c := by
  have h3 : (i 3).val < 64 := (i 3).isLt
  rw [val_main_v82_apply, val_main_v81_apply, val_main_v80_apply, val_main_v79_apply, val_main_cst_9_apply, v72_at x0 x1 i R c hr hc]
  have es : ∀ n : Fin 64, val_main_v78 (F := Ideal) x0 x1 x4 x5 x8 x9 (idx_main_v79 (idx_main_v80 (idx_main_v81 i)) n)
      = qT (sX x0 x1 R) x4 x5 x8 x9 ⟨64 * (c.val / 64) + n.val, by omega⟩ := fun n =>
    v78_at x0 x1 x4 x5 x8 x9 (idx_main_v79 (idx_main_v80 (idx_main_v81 i)) n) R ⟨64 * (c.val / 64) + n.val, by omega⟩ hr
      (by show 64 * (c.val / 64) + n.val = 64 * (i 2).val + n.val; omega)
  rw [Finset.sum_congr rfl (fun n _ => es n)]
  show (Ideal.ofBits .f32 0x00000000#32 + _) * _ = _
  rw [ze, zero_add]
  rfl

theorem v83_at : val_main_v83 (F := Ideal) x0 x1 x4 x5 x7 i = qN (sX x0 x1 R) x7 c * qA (sX x0 x1 R) x4 x5 c := by
  rw [val_main_v83_apply, v61_at x0 x1 x7 i R c hr hc, v73_at x0 x1 x4 x5 i R c hr hc]
  rfl
end heads

section out
variable (R : Fin 8192) (c : Fin 1024)

theorem oh0 : R.val = 2048 * ((idx_main_v84 (ix2 R c)) 0).val + ((idx_main_v84 (ix2 R c)) 1).val := by
  show R.val = 2048 * ((R.val * 1024 + c.val) / 2097152) + (R.val * 1024 + c.val) / 1024 % 2048
  omega
theorem oh1 : c.val = 64 * ((idx_main_v84 (ix2 R c)) 2).val + ((idx_main_v84 (ix2 R c)) 3).val := by
  show c.val = 64 * ((R.val * 1024 + c.val) / 64 % 16) + (R.val * 1024 + c.val) % 64
  omega

theorem v84_at : val_main_v84 (F := Ideal) x0 x1 (ix2 R c) = qR (sX x0 x1 R) c := by
  rw [val_main_v84_apply]
  exact v71_at x0 x1 _ R c (oh0 R c) (oh1 R c)
theorem v85_at : val_main_v85 (F := Ideal) x0 x1 x2 x3 (ix2 R c) = qW (sX x0 x1 R) x2 x3 c := by
  rw [val_main_v85_apply]
  exact v74_at x0 x1 x2 x3 _ R c (oh0 R c) (oh1 R c)
theorem v86_at : val_main_v86 (F := Ideal) x0 x1 x4 x5 x8 (ix2 R c) = qM (sX x0 x1 R) x4 x5 x8 c := by
  rw [val_main_v86_apply]
  exact v70_at x0 x1 x4 x5 x8 _ R c (oh0 R c) (oh1 R c)
theorem v87_at : val_main_v87 (F := Ideal) x0 x1 x7 (ix2 R c) = qN (sX x0 x1 R) x7 c := by
  rw [val_main_v87_apply]
  exact v61_at x0 x1 x7 _ R c (oh0 R c) (oh1 R c)
theorem v88_at : val_main_v88 (F := Ideal) x0 x1 x4 x5 x7 (ix2 R c) = qN (sX x0 x1 R) x7 c * qA (sX x0 x1 R) x4 x5 c := by
  rw [val_main_v88_apply]
  exact v83_at x0 x1 x4 x5 x7 _ R c (oh0 R c) (oh1 R c)
theorem v89_at : val_main_v89 (F := Ideal) x0 x1 (ix2 R c) = qV (sX x0 x1 R) c := by
  rw [val_main_v89_apply]
  exact v72_at x0 x1 _ R c (oh0 R c) (oh1 R c)
theorem v90_at : val_main_v90 (F := Ideal) x0 x1 x6 (ix2 R c) = qG (sX x0 x1 R) x6 c := by
  rw [val_main_v90_apply]
  refine v49_at x0 x1 x6 _ R c ?_ ?_
  · show R.val = 2048 * ((R.val * 1024 + c.val) / 2097152) + (R.val * 1024 + c.val) / 1024 % 2048
    omega
  · show c.val = (R.val * 1024 + c.val) % 1024
    omega
theorem v91_at : val_main_v91 (F := Ideal) x0 x1 x4 x5 x8 x9 (ix2 R c) = qB (sX x0 x1 R) x4 x5 x8 x9 c := by
  rw [val_main_v91_apply]
  exact v82_at x0 x1 x4 x5 x8 x9 _ R c (oh0 R c) (oh1 R c)
end out

end Cert.PrepRefIdeal.Val

end
-- ==== Proof.KPay.lean ====
/-
  THE KERNEL'S PAYLOADS AT AN INDEX. `core0` … are the diagonal block's, `step…` one trip's of the loop over the blocks before it: each is
  stated for scores that are real, given as `hz`, and read through the scalar functions of StickMath.
-/
module

public import proofs.«01_k».proof.Proof.StickMath
public import proofs.«01_k».proof.Proof.Gen.KernelIdeal.Value
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Idealize.SL.Sem
open Cert.Stick

/-- The literal `1 / sqrt 128` as the programs write it. -/
abbrev SC : EReal := Ideal.ofBits .f32 0x3DB504F3#32

theorem toInt_small (a : ℕ) (h : a < 2 ^ 31) : (BitVec.ofNat 32 a).toInt = a := by
  rw [BitVec.toInt_eq_toNat_of_lt (by rw [BitVec.toNat_ofNat]; omega), BitVec.toNat_ofNat, Nat.mod_eq_of_lt (by omega)]

/-- The comparison of two small indices, as a decision. -/
theorem slt_small (a b : ℕ) (ha : a < 2 ^ 31) (hb : b < 2 ^ 31) :
    IntOp.cmpi CmpIPredicate.slt (BitVec.ofNat 32 a) (BitVec.ofNat 32 b) = BitVec.ofBool (decide (a < b)) := by
  show BitVec.ofBool (BitVec.slt _ _) = _
  congr 1
  rw [BitVec.slt_eq_decide, toInt_small a ha, toInt_small b hb]
  simp

theorem select_ofBool {α : Type} (p : Prop) [Decidable p] (x y : α) : Scalar.select (BitVec.ofBool (decide p)) x y = if p then x else y := by
  by_cases h : p <;> simp [Scalar.select, h]

theorem pay16_at (x c : Fin 256) : k0_pay16 (F := Ideal) (ix2 x c) = if c.val < x.val then 1 else 0 := by
  pointwise [k0_pay16]
  have : IntOp.cmpi CmpIPredicate.sgt (BitVec.ofNat 32 x.val) (BitVec.ofNat 32 c.val) = IntOp.cmpi CmpIPredicate.slt (BitVec.ofNat 32 c.val) (BitVec.ofNat 32 x.val) := rfl
  rw [this, slt_small _ _ (by omega) (by omega), select_ofBool]

theorem pay19_at (r c : Fin 256) : k0_pay19 (ix2 r c) = BitVec.ofBool (decide (c.val < r.val)) := by
  pointwise [k0_pay19]
  exact slt_small _ _ (by omega) (by omega)

section step
variable (v1 : Elt Ideal .f32) (v3 : FVec Ideal S256x128 .bf16) (v75 v78 : Vec Ideal S256x128 .f32)
  (zz : Fin 256 → Fin 256 → ℝ)

/-- The scores of a block at `(r, c)`. -/
theorem pay5_at (r c : Fin 256) : k0_pay5 v1 v3 v75 (ix2 r c) = (∑ d : Fin 128, v3 (ix2 r d) * v75 (ix2 c d)) * SC + v1 := by
  pointwise [k0_pay5]

theorem pay6_at (hz : ∀ r c, k0_pay5 v1 v3 v75 (ix2 r c) = ((zz r c : ℝ) : EReal)) (r c : Fin 256) :
    k0_pay6 v1 v3 v75 (ix2 r c) = ((spR (zz r c) : ℝ) : EReal) := by
  pointwise [k0_pay6]
  rw [hz]; exact sp_kernel _

theorem pay7_at (hz : ∀ r c, k0_pay5 v1 v3 v75 (ix2 r c) = ((zz r c : ℝ) : EReal)) (r c : Fin 256) :
    k0_pay7 v1 v3 v75 (ix2 r c) = ((lsR (zz r c) : ℝ) : EReal) := by
  pointwise [k0_pay7]
  rw [pay6_at v1 v3 v75 zz hz, hz]; exact ls_kernel _

/-- The product of a real row with the 0-1 triangle: the sum of what lies after column `c`. -/
theorem tri_sum (f : Fin 256 → ℝ) (c : Fin 256) :
    ∑ x : Fin 256, ((f x : ℝ) : EReal) * k0_pay16 (F := Ideal) (ix2 x c) = ((∑ x : Fin 256, (if c.val < x.val then f x else 0) : ℝ) : EReal) := by
  rw [coe_sum]
  refine Finset.sum_congr rfl fun x _ => ?_
  rw [pay16_at]
  split
  · rw [mul_one]
  · rw [mul_zero, EReal.coe_zero]

/-- The rounding's remainder is zero. -/
theorem tri_zero (f : Fin 256 → ℝ) (c : Fin 256) :
    ∑ x : Fin 256, (((f x : ℝ) : EReal) - ((f x : ℝ) : EReal)) * k0_pay16 (F := Ideal) (ix2 x c) = 0 :=
  Finset.sum_eq_zero fun x _ => by rw [← EReal.coe_sub, sub_self, EReal.coe_zero, zero_mul]

/-- One trip's carry. -/
theorem pay9_at (hz : ∀ r c, k0_pay5 v1 v3 v75 (ix2 r c) = ((zz r c : ℝ) : EReal)) (arg9 : FVec Ideal S256x1 .f32) (r : Fin 256) (car : ℝ)
    (hcar : arg9 (ix2 r (0 : Fin 1)) = (car : EReal)) :
    k0_pay9 v1 v3 arg9 v75 (ix2 r (0 : Fin 1)) = ((car + ∑ x : Fin 256, lsR (zz r x) : ℝ) : EReal) := by
  pointwise [k0_pay9]
  rw [hcar, EReal.coe_add, coe_sum]
  congr 1
  exact Finset.sum_congr rfl fun x _ => pay7_at v1 v3 v75 zz hz r x

/-- One trip's weighted sum. -/
theorem pay8_at (hz : ∀ r c, k0_pay5 v1 v3 v75 (ix2 r c) = ((zz r c : ℝ) : EReal)) (arg9 : FVec Ideal S256x1 .f32) (arg10 : FVec Ideal S256x128 .f32)
    (r : Fin 256) (d : Fin 128) (car : ℝ) (hcar : arg9 (ix2 r (0 : Fin 1)) = (car : EReal)) :
    k0_pay8 v1 v3 (k0_pay16 (F := Ideal)) arg9 arg10 v75 v78 (ix2 r d)
      = arg10 (ix2 r d) + ∑ c : Fin 256, ((Real.exp (lbR (zz r c) + (car + ∑ x : Fin 256, if c.val < x.val then lsR (zz r x) else 0)) : ℝ) : EReal) * v78 (ix2 c d) := by
  pointwise [k0_pay8]
  congr 1
  refine Finset.sum_congr rfl fun c _ => ?_
  congr 1
  rw [hz, pay6_at v1 v3 v75 zz hz, lb_kernel, hcar]
  simp only [pay7_at v1 v3 v75 zz hz]
  rw [tri_sum (fun x => lsR (zz r x)) c, tri_zero (fun x => lsR (zz r x)) c, add_zero, ← EReal.coe_add, ← EReal.coe_add, Ideal.exp_coe]

end step

section diag
variable (v1 : Elt Ideal .f32) (v2 v17 v20 : Vec Ideal S256x128 .f32) (zz : Fin 256 → Fin 256 → ℝ)

theorem pay21_at (r c : Fin 256) : k0_pay21 v1 v2 v17 (ix2 r c) = (∑ d : Fin 128, v2 (ix2 r d) * v17 (ix2 c d)) * SC + v1 := by
  pointwise [k0_pay21, k0_pay15]

theorem pay22_at (hz : ∀ r c, k0_pay21 v1 v2 v17 (ix2 r c) = ((zz r c : ℝ) : EReal)) (r c : Fin 256) :
    k0_pay22 v1 v2 v17 (ix2 r c) = ((spR (zz r c) : ℝ) : EReal) := by
  pointwise [k0_pay22]
  rw [hz]; exact sp_kernel _

/-- The diagonal block's masked logarithm. -/
theorem pay1_at (hz : ∀ r c, k0_pay21 v1 v2 v17 (ix2 r c) = ((zz r c : ℝ) : EReal)) (r c : Fin 256) :
    k0_pay1 k0_pay19 (k0_pay24 v1 v2 v17) (k0_pay25 (F := Ideal)) (ix2 r c) = ((if c.val < r.val then lsR (zz r c) else 0 : ℝ) : EReal) := by
  pointwise [k0_pay1, k0_pay24, k0_pay25]
  rw [pay22_at v1 v2 v17 zz hz, hz, ls_kernel, pay19_at, select_ofBool]
  split
  · rfl
  · rw [EReal.coe_zero]

/-- The diagonal block's carry. -/
theorem pay3_at (hz : ∀ r c, k0_pay21 v1 v2 v17 (ix2 r c) = ((zz r c : ℝ) : EReal)) (r : Fin 256) :
    k0_pay3 (k0_pay17 (F := Ideal)) k0_pay19 (k0_pay24 v1 v2 v17) (k0_pay25 (F := Ideal)) (ix2 r (0 : Fin 1))
      = ((∑ x : Fin 256, (if x.val < r.val then lsR (zz r x) else 0) : ℝ) : EReal) := by
  pointwise [k0_pay3, k0_pay17]
  rw [coe_sum]
  exact Finset.sum_congr rfl fun x _ => pay1_at v1 v2 v17 zz hz r x

/-- The diagonal block's weighted sum. -/
theorem pay2_at (hz : ∀ r c, k0_pay21 v1 v2 v17 (ix2 r c) = ((zz r c : ℝ) : EReal)) (r : Fin 256) (d : Fin 128) :
    k0_pay2 (k0_pay16 (F := Ideal)) (k0_pay17 (F := Ideal)) (k0_pay18 (F := Ideal)) k0_pay19 (k0_pay20 v20) (k0_pay23 v1 v2 v17) (k0_pay24 v1 v2 v17) (k0_pay25 (F := Ideal)) (ix2 r d)
      = ∑ c : Fin 256, (if c.val < r.val then
          ((Real.exp (lbR (zz r c) + ∑ x : Fin 256, if c.val < x.val then (if x.val < r.val then lsR (zz r x) else 0) else 0) : ℝ) : EReal) else 0) * v20 (ix2 c d) := by
  pointwise [k0_pay2, k0_pay17, k0_pay18, k0_pay20, k0_pay23]
  refine Finset.sum_congr rfl fun c _ => ?_
  rw [pay19_at, select_ofBool]
  split
  · congr 1
    rw [pay22_at v1 v2 v17 zz hz, hz, lb_kernel]
    simp only [pay1_at v1 v2 v17 zz hz]
    rw [tri_sum (fun x => if x.val < r.val then lsR (zz r x) else 0) c, tri_zero (fun x => if x.val < r.val then lsR (zz r x) else 0) c, add_zero, ← EReal.coe_add, Ideal.exp_coe]
  · rw [zero_mul]

end diag

end Cert.KernelIdeal.Val

end
-- ==== Proof.KBody.lean ====
/-
  THE KERNEL'S BODY AT ONE GRID POINT: what it stores for query row `r` and column `d` of its block is the weighted sum of the
  values over all keys, `Cert.Stick.wsum`, whenever the block's scores are real. The loop over the earlier key blocks goes backwards,
  and before trip `k` the carried pair is `tail` and `wsum` from key `256 * (n - k)` on, `n` the query block's number.
-/
module

public import proofs.«01_k».proof.Proof.KPay

@[expose] public section

set_option maxRecDepth 16384

noncomputable section

namespace Cert.KernelIdeal.Val

open Cert.KernelIdeal Cert.KernelIdeal.Gen Idealize.ShloMosaic Idealize.ShloMosaic.TcCoe Idealize.SL.Sem
open Cert.Stick

/-- Row `n` of a key or value block, zero past its end. -/
def rdB (x : Vec Ideal S2048x128 .f32) (n : ℕ) (d : Fin 128) : EReal := if h : n < 2048 then x (ix2 (⟨n, h⟩ : Fin 2048) d) else 0

/-- 256 rows of such a block from row `o` on. -/
theorem ld_at (x : Vec Ideal S2048x128 .f32) (off : Fin 2 → ℕ) (inb : ∀ a, off a + S256x128.size a ≤ S2048x128.size a) (o : ℕ)
    (ho : off = ![o, 0]) (r : Fin 256) (d : Fin 128) :
    View.ld x (Rect.unit (s := S2048x128) off S256x128.size inb) (ix2 r d) = rdB x (o + r.val) d := by
  subst ho
  have hb : o + r.val < 2048 := by
    have := inb 0
    change o + 256 ≤ 2048 at this
    omega
  rw [rdB, dif_pos hb]
  refine congrArg x (funext fun a => Fin.ext ?_)
  match a with
  | ⟨0, _⟩ => show o + 1 * r.val = o + r.val; omega
  | ⟨1, _⟩ => show 0 + 1 * d.val = d.val; omega

theorem off1_eq (i : grid0.Coords) : k0_off1 i = ![(i 1).val] := by
  have h : ∀ n : Fin 8, (Scalar.indexCast (BitVec.ofNat 32 n.val)).toNat = n.val := by decide +kernel
  exact congrArg (fun x : ℕ => (![x] : Fin 1 → ℕ)) (h (i 1))
theorem off2_eq (i : grid0.Coords) : k0_off2 i = ![256 * (i 2).val, 0] := by
  have h : ∀ n : Fin 8, (Scalar.indexCast (Scalar.muli (BitVec.ofNat 32 n.val) 256#32)).toNat = 256 * n.val := by decide +kernel
  exact congrArg (fun x : ℕ => (![x, 0] : Fin 2 → ℕ)) (h (i 2))
theorem trips1 (i : grid0.Coords) : (k0_t1_loop i).trips = (i 2).val := by
  have h : ∀ n : Fin 8, Scf.trips 0#32 (Scalar.addi 0#32 (Scalar.muli (Scalar.divsi (Scalar.subi (BitVec.ofNat 32 n.val) 0#32) 1#32) 1#32)) 1#32 = n.val := by
    decide +kernel
  exact h (i 2)
theorem trips2 (i : grid0.Coords) : (k0_t2_loop i).trips = 0 := by
  have h : ∀ n : Fin 8, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by
    decide +kernel
  exact h (i 2)
theorem off3_eq (i : grid0.Coords) (k : Fin (k0_t1_loop i).trips) : k0_off3 i k = ![256 * ((i 2).val - 1 - k.val), 0] := by
  have h : ∀ n k : Fin 8, k.val < n.val → (Scalar.indexCast (Scalar.muli (Scalar.subi (Scalar.subi (BitVec.ofNat 32 n.val) 1#32) (Scf.iv 0#32 1#32 k.val)) 256#32)).toNat
      = 256 * (n.val - 1 - k.val) := by decide +kernel
  have hk : k.val < (i 2).val := lt_of_lt_of_eq k.isLt (trips1 i)
  exact congrArg (fun x : ℕ => (![x, 0] : Fin 2 → ℕ)) (h (i 2) ⟨k.val, hk.trans (i 2).isLt⟩ hk)

theorem zeros2 : (![0, 0] : Fin 2 → ℕ) = fun _ => 0 := by funext a; match a with | ⟨0, _⟩ => rfl | ⟨1, _⟩ => rfl

section body
variable (c : Dev nD) (i : grid0.Coords) (arg3 : Memref sig .tc .smem S8 .f32) (harg3 : arg3.IsWhole) (arg4 : Memref sig .tc .vmem S256x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S256x128 .bf16) (harg7 : arg7.IsWhole)
    (x0 : Vec Ideal S8 .f32) (x1 : Vec Ideal S256x128 .f32) (x2 : Vec Ideal S2048x128 .f32) (x3 : Vec Ideal S2048x128 .f32)

/-- One trip's pair. -/
theorem trip_eq (𝒱 : Variants) (bd : Option 𝒱.V) (arg2 : BitVec 32) (v1 : Elt Ideal .f32) (v3 : FVec Ideal S256x128 .bf16) (v10 : FVec Ideal S256x256 .bf16)
    (k : Fin (k0_t1_loop i).trips) (acc : FVec Ideal S256x1 .f32 × FVec Ideal S256x128 .f32) :
    tripR_k0_t1 𝒱 c bd i arg3 harg3 arg4 harg4 arg5 harg5 arg6 harg6 arg7 harg7 arg2 v1 v3 v10 (harg5.unread x2) (harg6.unread x3) k acc
      = (k0_pay9 v1 v3 acc.1 (View.ld x2 (Rect.unit (s := S2048x128) (k0_off3 i k) S256x128.size (k0_off3_inb i k))),
         k0_pay8 v1 v3 v10 acc.1 acc.2 (View.ld x2 (Rect.unit (s := S2048x128) (k0_off3 i k) S256x128.size (k0_off3_inb i k)))
          (View.ld x3 (Rect.unit (s := S2048x128) (k0_off3 i k) S256x128.size (k0_off3_inb i k)))) := by
  unfold tripR_k0_t1 trip_k0_t1
  dsimp only
  sl_unfold_words
  simp only [View.readAt_eq_ld, harg3.read_unread, harg4.read_unread, harg5.read_unread, harg6.read_unread]

/-- The block's bias as the body loads it. -/
abbrev bia : EReal := View.ld x0 (Rect.unit (s := S8) (k0_off1 i) S1.size (k0_off1_inb i)) (Shape.Idx.first (s := S1) (numel1_S1.symm ▸ Nat.one_pos))

variable (z : Fin 256 → ℕ → ℝ)
  (hz : ∀ r : Fin 256, ∀ s < 2048, (∑ d : Fin 128, x1 (ix2 r d) * rdB x2 s d) * SC + bia i x0 = ((z r s : ℝ) : EReal))

/-- The carried pair the diagonal block leaves. -/
abbrev init0 : FVec Ideal S256x1 .f32 × FVec Ideal S256x128 .f32 :=
  let ks := View.ld x2 (Rect.unit (s := S2048x128) (k0_off2 i) S256x128.size (k0_off2_inb i))
  let vs := View.ld x3 (Rect.unit (s := S2048x128) (k0_off2 i) S256x128.size (k0_off2_inb i))
  (k0_pay3 (k0_pay17 (F := Ideal)) k0_pay19 (k0_pay24 (bia i x0) x1 ks) (k0_pay25 (F := Ideal)),
   k0_pay2 (k0_pay16 (F := Ideal)) (k0_pay17 (F := Ideal)) (k0_pay18 (F := Ideal)) k0_pay19 (k0_pay20 vs) (k0_pay23 (bia i x0) x1 ks) (k0_pay24 (bia i x0) x1 ks) (k0_pay25 (F := Ideal)))

include hz in
theorem init_car (r : Fin 256) :
    (init0 i x0 x1 x2 x3).1 (ix2 r (0 : Fin 1)) = ((tail (z r) (256 * (i 2).val + r.val) (256 * (i 2).val) : ℝ) : EReal) := by
  have hn := (i 2).isLt; change (i 2).val < 8 at hn
  dsimp only [init0]
  rw [pay3_at _ _ _ (fun r x => z r (256 * (i 2).val + x.val))]
  · rw [← tail_block (z r) _ (256 * (i 2).val) (by omega), tail_after _ _ (by omega), zero_add]
    congr 1
    refine Finset.sum_congr rfl fun x _ => ?_
    unfold stay
    simp only [add_lt_add_iff_left]
  · intro r x
    rw [pay21_at, ← hz r (256 * (i 2).val + x.val) (by omega)]
    simp only [ld_at x2 _ _ _ (off2_eq i)]

include hz in
theorem init_acc (r : Fin 256) (d : Fin 128) :
    (init0 i x0 x1 x2 x3).2 (ix2 r d) = wsum (z r) (256 * (i 2).val + r.val) (fun s => rdB x3 s d) (256 * (i 2).val) := by
  have hn := (i 2).isLt; change (i 2).val < 8 at hn
  dsimp only [init0]
  rw [pay2_at _ _ _ _ (fun r x => z r (256 * (i 2).val + x.val))]
  · rw [← wsum_block (z r) _ _ (256 * (i 2).val) (by omega), wsum_after _ _ _ (by omega), zero_add]
    refine Finset.sum_congr rfl fun x _ => ?_
    rw [ld_at x3 _ _ _ (off2_eq i)]
    congr 1
    unfold att
    simp only [add_lt_add_iff_left]
    congr 4
    rw [← tail_in_block (z r) _ (256 * (i 2).val) x.val x.isLt (by omega), tail_after _ _ (by omega), zero_add]
    refine Finset.sum_congr rfl fun y _ => ?_
    unfold stay
    simp only [add_lt_add_iff_left]
  · intro r x
    rw [pay21_at, ← hz r (256 * (i 2).val + x.val) (by omega)]
    simp only [ld_at x2 _ _ _ (off2_eq i)]

include hz in
/-- The carried pair before trip `k`. -/
theorem st_inv (𝒱 : Variants) (bd : Option 𝒱.V) (arg2 : BitVec 32) (k : ℕ) (hk : k ≤ (i 2).val) (r : Fin 256) :
    (st_k0_t1 𝒱 c bd i arg3 harg3 arg4 harg4 arg5 harg5 arg6 harg6 arg7 harg7 arg2 (bia i x0) (k0_pay15 x1) (k0_pay16 (F := Ideal)) (harg5.unread x2) (harg6.unread x3) (init0 i x0 x1 x2 x3) k).1 (ix2 r (0 : Fin 1))
        = ((tail (z r) (256 * (i 2).val + r.val) (256 * ((i 2).val - k)) : ℝ) : EReal)
    ∧ ∀ d : Fin 128, (st_k0_t1 𝒱 c bd i arg3 harg3 arg4 harg4 arg5 harg5 arg6 harg6 arg7 harg7 arg2 (bia i x0) (k0_pay15 x1) (k0_pay16 (F := Ideal)) (harg5.unread x2) (harg6.unread x3) (init0 i x0 x1 x2 x3) k).2 (ix2 r d)
        = wsum (z r) (256 * (i 2).val + r.val) (fun s => rdB x3 s d) (256 * ((i 2).val - k)) := by
  have hn := (i 2).isLt; change (i 2).val < 8 at hn
  induction k with
  | zero =>
    rw [st_k0_t1_zero]
    exact ⟨init_car i x0 x1 x2 x3 z hz r, fun d => init_acc i x0 x1 x2 x3 z hz r d⟩
  | succ k ih =>
    obtain ⟨ih1, ih2⟩ := ih (by omega)
    have hs := st_k0_t1_succ 𝒱 c bd i arg3 harg3 arg4 harg4 arg5 harg5 arg6 harg6 arg7 harg7 arg2 (bia i x0) (k0_pay15 x1) (k0_pay16 (F := Ideal)) (harg5.unread x2) (harg6.unread x3) (init0 i x0 x1 x2 x3) ⟨k, by rw [trips1]; omega⟩
    rw [trip_eq] at hs
    rw [hs]
    have ho := off3_eq i ⟨k, by rw [trips1]; omega⟩
    have e : 256 * ((i 2).val - k) = 256 * ((i 2).val - 1 - k) + 256 := by omega
    have e' : 256 * ((i 2).val - (k + 1)) = 256 * ((i 2).val - 1 - k) := by omega
    rw [e] at ih1
    simp only [e] at ih2
    rw [e']
    have hzz : ∀ r x : Fin 256, k0_pay5 (bia i x0) (k0_pay15 x1) (View.ld x2 (Rect.unit (s := S2048x128) (k0_off3 i ⟨k, by rw [trips1]; omega⟩) S256x128.size (k0_off3_inb i ⟨k, by rw [trips1]; omega⟩))) (ix2 r x) = ((z r (256 * ((i 2).val - 1 - k) + x.val) : ℝ) : EReal) := by
      intro r x
      rw [pay5_at, ← hz r (256 * ((i 2).val - 1 - k) + x.val) (by omega)]
      simp only [ld_at x2 _ _ _ ho]
      rfl
    have hst : ∀ x : Fin 256, lsR (z r (256 * ((i 2).val - 1 - k) + x.val)) = stay (z r) (256 * (i 2).val + r.val) (256 * ((i 2).val - 1 - k) + x.val) := by
      intro x; rw [stay, if_pos (by omega)]
    constructor
    · refine (pay9_at _ _ _ (fun r x => z r (256 * ((i 2).val - 1 - k) + x.val)) hzz _ r _ ih1).trans ?_
      simp only [hst]
      rw [tail_block (z r) _ _ (by omega)]
    · intro d
      refine (pay8_at _ _ _ _ (fun r x => z r (256 * ((i 2).val - 1 - k) + x.val)) hzz _ _ r d _ ih1).trans ?_
      rw [ih2 d, ← wsum_block (z r) _ _ (256 * ((i 2).val - 1 - k)) (by omega)]
      congr 1
      refine Finset.sum_congr rfl fun x _ => ?_
      rw [ld_at x3 _ _ _ ho]
      congr 1
      rw [att, if_pos (by omega)]
      congr 3
      simp only [hst]
      exact tail_in_block (z r) _ _ x.val x.isLt (by omega)

include hz in
/-- What the body stores. -/
theorem out_at (r : Fin 256) (d : Fin 128) :
    out0_A_4 c i arg3 harg3 arg4 harg4 arg5 harg5 arg6 harg6 arg7 harg7 x0 x1 x2 x3 (ix2 r d)
      = wsum (z r) (256 * (i 2).val + r.val) (fun s => rdB x3 s d) 0 := by
  unfold out0_A_4
  rw [View.read_writes_eq_canon _ _ _ (cover0_A_4 c i arg3 harg3 arg4 harg4 arg5 harg5 arg6 harg6 arg7 harg7 x0 x1 x2 x3)]
  unfold kernelRun0_A
  dsimp only
  sl_unfold_words
  rw [View.canon_unit_zero (S := S256x128) zeros2]
  simp only [View.readAt_eq_ld, harg3.read_unread, harg4.read_unread, harg5.read_unread, harg6.read_unread]
  simp only [View.ld_unit_zero (S := S256x128) zeros2]
  change (st_k0_t2 (F := Ideal) Variants.none c none i arg3 harg3 arg4 harg4 arg5 harg5 arg6 harg6 arg7 harg7 (BitVec.ofNat 32 (i 2).val) (bia i x0) (k0_pay15 x1)
      (k0_pay16 (F := Ideal)) _ (harg5.unread x2) (harg6.unread x3)
      (st_k0_t1 Variants.none c none i arg3 harg3 arg4 harg4 arg5 harg5 arg6 harg6 arg7 harg7 (BitVec.ofNat 32 (i 2).val) (bia i x0) (k0_pay15 x1) (k0_pay16 (F := Ideal)) (harg5.unread x2) (harg6.unread x3) (init0 i x0 x1 x2 x3) (k0_t1_loop i).trips)
      (k0_t2_loop i).trips).2 (ix2 r d) = _
  rw [trips2, st_k0_t2_zero, trips1]
  have h := (st_inv c i arg3 harg3 arg4 harg4 arg5 harg5 arg6 harg6 arg7 harg7 x0 x1 x2 x3 z hz Variants.none none (BitVec.ofNat 32 (i 2).val) (i 2).val le_rfl r).2 d
  rwa [Nat.sub_self, Nat.mul_zero] at h

end body

end Cert.KernelIdeal.Val

end
-- ==== Proof.KArr.lean ====
/-
  THE KERNEL'S RESULT ARRAY as one function `G` of the two arguments: at row `2048 b + t` and column `128 h + d` the weighted sum of the values
  of batch `b` and head `h` over the keys before `t`.
-/
module

public import proofs.«01_k».proof.Proof.KBody

@[expose] public section

set_option maxRecDepth 16384

noncomputable section

namespace Cert.KernelIdeal.Val

open Cert.KernelIdeal Cert.KernelIdeal.Gen Idealize.ShloMosaic Idealize.ShloMosaic.TcCoe Idealize.SL.Sem
open Cert.Stick

/-- The projected rows at natural coordinates, zero outside. -/
def rd (X : FVec Ideal S8192x3072 .f32) (r c : ℕ) : EReal :=
  if h : r < 8192 ∧ c < 3072 then X (ix2 (⟨r, h.1⟩ : Fin 8192) (⟨c, h.2⟩ : Fin 3072)) else 0
/-- The head biases likewise. -/
def rb (B : FVec Ideal S8 .f32) (h : ℕ) : EReal := if hh : h < 8 then B (ix1 (⟨h, hh⟩ : Fin 8)) else 0

/-- The score of key `s` for query `t` in batch `b`, head `h`. -/
def score (X : FVec Ideal S8192x3072 .f32) (B : FVec Ideal S8 .f32) (b h t s : ℕ) : EReal :=
  (∑ d : Fin 128, rd X (2048 * b + t) (128 * h + d.val) * rd X (2048 * b + s) (1024 + 128 * h + d.val)) * SC + rb B h
/-- … as a real. -/
def scR (X : FVec Ideal S8192x3072 .f32) (B : FVec Ideal S8 .f32) (b h t s : ℕ) : ℝ := (score X B b h t s).toReal

/-- Every score of the attention is real. -/
def RealScores (X : FVec Ideal S8192x3072 .f32) (B : FVec Ideal S8 .f32) : Prop :=
  ∀ b < 4, ∀ h < 8, ∀ t < 2048, ∀ s < 2048, score X B b h t s = ((scR X B b h t s : ℝ) : EReal)

/-- The attention's result at natural coordinates. -/
def attn (X : FVec Ideal S8192x3072 .f32) (B : FVec Ideal S8 .f32) (b h t d : ℕ) : EReal :=
  wsum (scR X B b h t) t (fun s => if s < 2048 then rd X (2048 * b + s) (2048 + 128 * h + d) else 0) 0

/-- The result array. -/
def G (X : FVec Ideal S8192x3072 .f32) (B : FVec Ideal S8 .f32) : FVec Ideal S8192x1024 .bf16 :=
  fun j => attn X B ((j 0).val / 2048) ((j 1).val / 128) ((j 0).val % 2048) ((j 1).val % 128)

variable (m : (ℓ : Loc nD τ sig) → Buf (Elt Ideal) ℓ)

theorem idx : ∀ t : Fin cfg0.N,
    win0_0.index t = ![0]
    ∧ win0_1.index t = ![(grid0.coords t 0).val * 8 + (grid0.coords t 2).val, (grid0.coords t 1).val]
    ∧ win0_2.index t = ![(grid0.coords t 0).val, 8 + (grid0.coords t 1).val]
    ∧ win0_3.index t = ![(grid0.coords t 0).val, 16 + (grid0.coords t 1).val]
    ∧ win0_4.index t = ![(grid0.coords t 0).val * 8 + (grid0.coords t 2).val, (grid0.coords t 1).val] :=
  (by decide +kernel : ∀ t : Fin grid0.N, _)

theorem coords_lt (t : Fin cfg0.N) : (grid0.coords t 0).val < 4 ∧ (grid0.coords t 1).val < 8 ∧ (grid0.coords t 2).val < 8 :=
  ⟨(grid0.coords t 0).isLt, (grid0.coords t 1).isLt, (grid0.coords t 2).isLt⟩

variable (c : Dev nD) (t : Fin cfg0.N)

theorem q_at (r : Fin 256) (d : Fin 128) : (iblk m c 1 t : Vec Ideal S256x128 .f32) (ix2 r d)
    = rd (m ((c : Thread nD τ).loc main_arg0)) (2048 * (grid0.coords t 0).val + (256 * (grid0.coords t 2).val + r.val)) (128 * (grid0.coords t 1).val + d.val) := by
  obtain ⟨h0, h1, h2⟩ := coords_lt t
  rw [rd, dif_pos ⟨by omega, by omega⟩]
  blk_ext [iblk, V, idx t]

theorem k_at (s : ℕ) (hs : s < 2048) (d : Fin 128) : rdB (iblk m c 2 t) s d
    = rd (m ((c : Thread nD τ).loc main_arg0)) (2048 * (grid0.coords t 0).val + s) (1024 + 128 * (grid0.coords t 1).val + d.val) := by
  obtain ⟨h0, h1, h2⟩ := coords_lt t
  rw [rd, dif_pos ⟨by omega, by omega⟩, rdB, dif_pos hs]
  blk_ext [iblk, V, idx t]

theorem v_at (s : ℕ) (d : Fin 128) : rdB (iblk m c 3 t) s d
    = if s < 2048 then rd (m ((c : Thread nD τ).loc main_arg0)) (2048 * (grid0.coords t 0).val + s) (2048 + 128 * (grid0.coords t 1).val + d.val) else 0 := by
  obtain ⟨h0, h1, h2⟩ := coords_lt t
  rw [rdB]
  split
  · rw [rd, dif_pos ⟨by omega, by omega⟩]
    blk_ext [iblk, V, idx t]
  · rfl

theorem b_at : bia (grid0.coords t) (iblk m c 0 t) = rb (m ((c : Thread nD τ).loc main_arg1)) (grid0.coords t 1).val := by
  obtain ⟨h0, h1, h2⟩ := coords_lt t
  rw [rb, dif_pos h1]
  have e := off1_eq (grid0.coords t)
  have h : ∀ (x : Vec Ideal S8 .f32) (off : Fin 1 → ℕ) (inb : ∀ a, off a + S1.size a ≤ S8.size a) (n : ℕ) (hn : n < 8) (hp : 0 < S1.numel), off = ![n] →
      View.ld x (Rect.unit (s := S8) off S1.size inb) (Shape.Idx.first (s := S1) hp) = x (ix1 (⟨n, hn⟩ : Fin 8)) := by
    intro x off inb n hn hp ho
    subst ho
    refine congrArg x (funext fun a => Fin.ext ?_)
    match a with
    | ⟨0, _⟩ =>
      show n + 1 * ((Shape.Idx.first (s := S1) hp) 0).val = n
      have := ((Shape.Idx.first (s := S1) hp) 0).isLt
      change _ < 1 at this
      omega
  refine (h _ _ _ _ h1 _ e).trans ?_
  blk_ext [iblk, V, idx t]

/-- What the point writes, at coordinates. -/
theorem point_at (hX : RealScores (m ((c : Thread nD τ).loc main_arg0)) (m ((c : Thread nD τ).loc main_arg1))) (r : Fin 256) (d : Fin 128) :
    outsAt0 m c t (ix2 r d) = attn (m ((c : Thread nD τ).loc main_arg0)) (m ((c : Thread nD τ).loc main_arg1)) (grid0.coords t 0).val (grid0.coords t 1).val
      (256 * (grid0.coords t 2).val + r.val) d.val := by
  obtain ⟨h0, h1, h2⟩ := coords_lt t
  unfold outsAt0
  rw [out_at c (grid0.coords t) _ _ _ _ _ _ _ _ _ _ _ _ _ _
    (fun r s => scR (m ((c : Thread nD τ).loc main_arg0)) (m ((c : Thread nD τ).loc main_arg1)) (grid0.coords t 0).val (grid0.coords t 1).val (256 * (grid0.coords t 2).val + r.val) s)]
  · unfold attn
    congr 1
    funext s
    exact v_at m c t s d
  · intro r s hs
    rw [← hX _ h0 _ h1 _ (by omega) s hs, score, b_at]
    congr 2
    refine Finset.sum_congr rfl fun d _ => ?_
    rw [q_at, k_at m c t s hs]

theorem final (hX : RealScores (m ((c : Thread nD τ).loc main_arg0)) (m ((c : Thread nD τ).loc main_arg1))) :
    (dats m 0 c).arrAt 4 (cfgs 0).N = G (m ((c : Thread nD τ).loc main_arg0)) (m ((c : Thread nD τ).loc main_arg1)) := by
  refine (dats m 0 c).arrAt_eq_of_covers 4 _ (by decide +kernel) fun t _ y => ?_
  blk_simp
  rw [after0_4]
  obtain ⟨h0, h1, h2⟩ := coords_lt t
  have hy0 : (y 0).val < 256 := (y 0).isLt
  have hy1 : (y 1).val < 128 := (y 1).isLt
  have hy : y = ix2 (⟨(y 0).val, hy0⟩ : Fin 256) (⟨(y 1).val, hy1⟩ : Fin 128) := by
    funext a; match a with | ⟨0, _⟩ => rfl | ⟨1, _⟩ => rfl
  refine (congrArg (outsAt0 m c t) hy).trans ((point_at m c t hX _ _).trans ?_)
  unfold G
  have e0 : ((((cfg0.win 4).blk t).view.emb y) 0).val = 2048 * (grid0.coords t 0).val + (256 * (grid0.coords t 2).val + (y 0).val) := by
    blk_simp [idx t]; omega
  have e1 : ((((cfg0.win 4).blk t).view.emb y) 1).val = 128 * (grid0.coords t 1).val + (y 1).val := by
    blk_simp [idx t]; omega
  change _ = attn _ _ (((((cfg0.win 4).blk t).view.emb y) 0).val / 2048) (((((cfg0.win 4).blk t).view.emb y) 1).val / 128)
    (((((cfg0.win 4).blk t).view.emb y) 0).val % 2048) (((((cfg0.win 4).blk t).view.emb y) 1).val % 128)
  rw [e0, e1]
  congr 1 <;> (dsimp only; omega)

end Cert.KernelIdeal.Val

end
-- ==== Proof.KRef.lean ====
/-
  THE REFERENCE'S RESULT is the same function `G` of the two arguments: its scores, its two `log_sigmoid`s (whose branch for an undefined difference is
  never taken), its cumulative sum over the keys from the last one down, and its weighted sum, each at coordinates.
-/
module

public import proofs.«01_k».proof.Proof.KArr
public import proofs.«01_k».proof.Proof.Gen.ReferenceIdeal.Read

@[expose] public section

set_option maxRecDepth 16384

noncomputable section

namespace Cert.ReferenceIdeal.Val

open Cert.ReferenceIdeal Cert.ReferenceIdeal.Gen Cert.ReferenceIdeal.Read Idealize.ShloMosaic Idealize.ShloMosaic.TcCoe Idealize.SL.Sem
open Cert.Stick Cert.KernelIdeal.Val

/-! ## The cumulative sum -/

theorem foldl_add {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A position in a window of the whole last axis is its place on that axis. -/
def lastEquiv : (⟨4, ![1, 1, 1, 2048]⟩ : Shape).Idx ≃ Fin 2048 where
  toFun w := w 3
  invFun k := fun a => match a with
    | ⟨0, _⟩ => (⟨0, Nat.one_pos⟩ : Fin 1)
    | ⟨1, _⟩ => (⟨0, Nat.one_pos⟩ : Fin 1)
    | ⟨2, _⟩ => (⟨0, Nat.one_pos⟩ : Fin 1)
    | ⟨3, _⟩ => k
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- The reference's window sum along the last axis: the sum of what lies at and after the place. -/
theorem suffix_sum (x : S4x8x2048x2048.Idx → EReal) (f : ℕ → EReal) (h : S4x8x2048x2048.ReduceWindows (![1, 1, 1, 2048] : Fin 4 → ℕ) ![1, 1, 1, 1] ![0, 0, 0, 0] ![0, 0, 0, 2047] S4x8x2048x2048)
    (b : Fin 4) (hd : Fin 8) (t s : Fin 2048) (hx : ∀ s' : Fin 2048, x (ix4 b hd t s') = f s'.val) :
    Ideal.hostReduceWindowAdd (s := S4x8x2048x2048) (t := S4x8x2048x2048) ![1, 1, 1, 2048] ![1, 1, 1, 1] ![0, 0, 0, 0] ![0, 0, 0, 2047] h x 0 (ix4 b hd t s)
      = ∑ s' ∈ Finset.Ico s.val 2048, f s' := by
  unfold Ideal.hostReduceWindowAdd Host.reduceWindow
  dsimp only
  rw [foldl_add, zero_add, ← Fin.sum_univ_def]
  refine (Fintype.sum_equiv ((Shape.rowMajor ⟨4, ![1, 1, 1, 2048]⟩).symm.trans lastEquiv) _ (fun k : Fin 2048 => if s.val + k.val < 2048 then f (s.val + k.val) else 0) fun n => ?_).trans ?_
  · rw [Equiv.trans_apply]
    have w0 : ((Shape.rowMajor ⟨4, ![1, 1, 1, 2048]⟩).symm n 0).val = 0 := by have : ((Shape.rowMajor ⟨4, ![1, 1, 1, 2048]⟩).symm n 0).val < 1 := ((Shape.rowMajor ⟨4, ![1, 1, 1, 2048]⟩).symm n 0).isLt; omega
    have w1 : ((Shape.rowMajor ⟨4, ![1, 1, 1, 2048]⟩).symm n 1).val = 0 := by have : ((Shape.rowMajor ⟨4, ![1, 1, 1, 2048]⟩).symm n 1).val < 1 := ((Shape.rowMajor ⟨4, ![1, 1, 1, 2048]⟩).symm n 1).isLt; omega
    have w2 : ((Shape.rowMajor ⟨4, ![1, 1, 1, 2048]⟩).symm n 2).val = 0 := by have : ((Shape.rowMajor ⟨4, ![1, 1, 1, 2048]⟩).symm n 2).val < 1 := ((Shape.rowMajor ⟨4, ![1, 1, 1, 2048]⟩).symm n 2).isLt; omega
    have hk : (lastEquiv ((Shape.rowMajor ⟨4, ![1, 1, 1, 2048]⟩).symm n)).val = ((Shape.rowMajor ⟨4, ![1, 1, 1, 2048]⟩).symm n 3).val := rfl
    rw [hk]
    split
    · next hin =>
      have h3 := (hin 3).2
      change s.val * 1 + ((Shape.rowMajor ⟨4, ![1, 1, 1, 2048]⟩).symm n 3).val - 0 < 2048 at h3
      rw [if_pos (by omega), ← hx ⟨s.val + ((Shape.rowMajor ⟨4, ![1, 1, 1, 2048]⟩).symm n 3).val, by omega⟩]
      refine congrArg x (funext fun a => Fin.ext ?_)
      match a with
      | ⟨0, _⟩ => show b.val * 1 + ((Shape.rowMajor ⟨4, ![1, 1, 1, 2048]⟩).symm n 0).val - 0 = b.val; omega
      | ⟨1, _⟩ => show hd.val * 1 + ((Shape.rowMajor ⟨4, ![1, 1, 1, 2048]⟩).symm n 1).val - 0 = hd.val; omega
      | ⟨2, _⟩ => show t.val * 1 + ((Shape.rowMajor ⟨4, ![1, 1, 1, 2048]⟩).symm n 2).val - 0 = t.val; omega
      | ⟨3, _⟩ => show s.val * 1 + ((Shape.rowMajor ⟨4, ![1, 1, 1, 2048]⟩).symm n 3).val - 0 = s.val + ((Shape.rowMajor ⟨4, ![1, 1, 1, 2048]⟩).symm n 3).val; omega
    · next hin =>
      rw [if_neg]
      intro hlt
      refine hin fun a => ?_
      match a with
      | ⟨0, _⟩ => show 0 ≤ b.val * 1 + ((Shape.rowMajor ⟨4, ![1, 1, 1, 2048]⟩).symm n 0).val ∧ b.val * 1 + ((Shape.rowMajor ⟨4, ![1, 1, 1, 2048]⟩).symm n 0).val - 0 < 4; omega
      | ⟨1, _⟩ => show 0 ≤ hd.val * 1 + ((Shape.rowMajor ⟨4, ![1, 1, 1, 2048]⟩).symm n 1).val ∧ hd.val * 1 + ((Shape.rowMajor ⟨4, ![1, 1, 1, 2048]⟩).symm n 1).val - 0 < 8; omega
      | ⟨2, _⟩ => show 0 ≤ t.val * 1 + ((Shape.rowMajor ⟨4, ![1, 1, 1, 2048]⟩).symm n 2).val ∧ t.val * 1 + ((Shape.rowMajor ⟨4, ![1, 1, 1, 2048]⟩).symm n 2).val - 0 < 2048; omega
      | ⟨3, _⟩ => show 0 ≤ s.val * 1 + ((Shape.rowMajor ⟨4, ![1, 1, 1, 2048]⟩).symm n 3).val ∧ s.val * 1 + ((Shape.rowMajor ⟨4, ![1, 1, 1, 2048]⟩).symm n 3).val - 0 < 2048; omega
  rw [Fin.sum_univ_eq_sum_range (fun k => if s.val + k < 2048 then f (s.val + k) else 0) 2048, ← Finset.sum_filter]
  have e : (Finset.range 2048).filter (fun k => s.val + k < 2048) = Finset.Ico 0 (2048 - s.val) := by
    ext k; rw [Finset.mem_filter, Finset.mem_range, Finset.mem_Ico]; omega
  rw [e, Finset.sum_Ico_add f 0 (2048 - s.val) s.val]
  congr 2 <;> omega

/-! ## The operands -/

variable (X : FVec Ideal Cert.KernelIdeal.S8192x3072 .f32) (B : FVec Ideal Cert.KernelIdeal.S8 .f32)

theorem v0_at (i : S4x2048x3x8x128.Idx) : val_main_v0 (F := Ideal) X i = rd X (2048 * (i 0).val + (i 1).val) (1024 * (i 2).val + 128 * (i 3).val + (i 4).val) := by
  have h0 : (i 0).val < 4 := (i 0).isLt
  have h1 : (i 1).val < 2048 := (i 1).isLt
  have h2 : (i 2).val < 3 := (i 2).isLt
  have h3 : (i 3).val < 8 := (i 3).isLt
  have h4 : (i 4).val < 128 := (i 4).isLt
  rw [val_main_v0_apply, rd, dif_pos ⟨by omega, by omega⟩]
  refine congrArg X (funext fun a => Fin.ext ?_)
  match a with
  | ⟨0, _⟩ => show (((((i 0).val * 2048 + (i 1).val) * 3 + (i 2).val) * 8 + (i 3).val) * 128 + (i 4).val) / 3072 = 2048 * (i 0).val + (i 1).val; omega
  | ⟨1, _⟩ => show (((((i 0).val * 2048 + (i 1).val) * 3 + (i 2).val) * 8 + (i 3).val) * 128 + (i 4).val) % 3072 = 1024 * (i 2).val + 128 * (i 3).val + (i 4).val; omega

theorem v3_at (i : S4x2048x8x128.Idx) : val_main_v3 (F := Ideal) X i = rd X (2048 * (i 0).val + (i 1).val) (128 * (i 2).val + (i 3).val) := by
  have h0 : (i 0).val < 4 := (i 0).isLt
  have h1 : (i 1).val < 2048 := (i 1).isLt
  have h2 : (i 2).val < 8 := (i 2).isLt
  have h3 : (i 3).val < 128 := (i 3).isLt
  rw [val_main_v3_apply, val_main_v2_apply, v0_at]
  dsimp only
  congr 1 <;> omega

theorem v5_at (i : S4x2048x8x128.Idx) : val_main_v5 (F := Ideal) X i = rd X (2048 * (i 0).val + (i 1).val) (1024 + 128 * (i 2).val + (i 3).val) := by
  have h0 : (i 0).val < 4 := (i 0).isLt
  have h1 : (i 1).val < 2048 := (i 1).isLt
  have h2 : (i 2).val < 8 := (i 2).isLt
  have h3 : (i 3).val < 128 := (i 3).isLt
  rw [val_main_v5_apply, val_main_v4_apply, v0_at]
  dsimp only
  congr 1 <;> omega

theorem v7_at (i : S4x2048x8x128.Idx) : val_main_v7 (F := Ideal) X i = rd X (2048 * (i 0).val + (i 1).val) (2048 + 128 * (i 2).val + (i 3).val) := by
  have h0 : (i 0).val < 4 := (i 0).isLt
  have h1 : (i 1).val < 2048 := (i 1).isLt
  have h2 : (i 2).val < 8 := (i 2).isLt
  have h3 : (i 3).val < 128 := (i 3).isLt
  rw [val_main_v7_apply, val_main_v6_apply, v0_at]
  dsimp only
  congr 1 <;> omega

theorem v13_at (i : S4x8x2048x2048.Idx) : val_main_v13 (F := Ideal) X B i = score X B (i 0).val (i 1).val (i 2).val (i 3).val := by
  have h1 : (i 1).val < 8 := (i 1).isLt
  rw [val_main_v13_apply, val_main_v10_apply, val_main_v8_apply, val_main_v9_apply, val_main_cst_apply, val_main_v12_apply, val_main_v11_apply]
  show (∑ k : Fin 128, _) * SC + B _ = _
  unfold score
  rw [rb, dif_pos h1]
  refine congrArg₂ (· + ·) (congrArg (· * SC) (Finset.sum_congr rfl fun k _ => ?_)) (congrArg B (funext fun a => ?_))
  · rw [v3_at, v5_at]
  · match a with | ⟨0, _⟩ => rfl

theorem v18_at (i : S2048x2048.Idx) : val_main_v18 (F := Ideal) i = BitVec.ofBool (decide ((i 1).val < (i 0).val)) := by
  have h0 : (i 0).val < 2048 := (i 0).isLt
  have h1 : (i 1).val < 2048 := (i 1).isLt
  rw [val_main_v18_apply, val_main_v16_apply, val_main_v17_apply, val_main_v14_apply, val_main_v15_apply, val_main_v1_apply, val_main_v1_apply]
  exact slt_small (i 1).val (i 0).val (by omega) (by omega)

theorem zero_lit : (FloatOps.ofBits .f32 0x00000000#32 : Ideal .f32) = 0 := Ideal.ofBits_zero .f32

theorem une_self (x : EReal) : FloatOps.cmpf (F := Ideal) (φ := .f32) .une x x = 0#1 := by
  show BitVec.ofBool (decide (x ≠ x)) = 0#1
  simp

/-! ## Where the scores are real -/

variable (hX : RealScores X B)
include hX

theorem v13_real (i : S4x8x2048x2048.Idx) : val_main_v13 (F := Ideal) X B i = ((scR X B (i 0).val (i 1).val (i 2).val (i 3).val : ℝ) : EReal) :=
  (v13_at X B i).trans (hX _ (i 0).isLt _ (i 1).isLt _ (i 2).isLt _ (i 3).isLt)

theorem v20_real (i : S4x8x2048x2048.Idx) : val_main_v20 (F := Ideal) X B i = ((lsR (scR X B (i 0).val (i 1).val (i 2).val (i 3).val) : ℝ) : EReal) := by
  rw [val_main_v20_apply, val_main_call0_v1_apply, val_main_call0_call0_v11_apply, val_main_call0_call0_v4_apply, une_self,
    val_main_call0_call0_v10_apply, val_main_call0_call0_v9_apply, val_main_call0_call0_v8_apply, val_main_call0_call0_v7_apply, val_main_call0_call0_v3_apply,
    val_main_call0_call0_v1_apply, val_main_call0_v0_apply, val_main_v19_apply, val_main_call0_call0_v0_apply, val_main_call0_call0_v2_apply, val_main_call0_call0_cst_apply,
    zero_lit, v13_real X B hX]
  generalize scR X B _ _ _ _ = z
  rw [← lb_neg]
  refine Eq.trans ?_ (logsig_ref (-z))
  rw [EReal.coe_neg]
  rfl

theorem v24_real (i : S4x8x2048x2048.Idx) : val_main_v24 (F := Ideal) X B i = ((lbR (scR X B (i 0).val (i 1).val (i 2).val (i 3).val) : ℝ) : EReal) := by
  rw [val_main_v24_apply, val_main_call3_v1_apply, val_main_call3_call0_v11_apply, val_main_call3_call0_v4_apply, une_self,
    val_main_call3_call0_v10_apply, val_main_call3_call0_v9_apply, val_main_call3_call0_v8_apply, val_main_call3_call0_v7_apply, val_main_call3_call0_v3_apply,
    val_main_call3_call0_v1_apply, val_main_call3_v0_apply, val_main_call3_call0_v0_apply, val_main_call3_call0_v2_apply, val_main_call3_call0_cst_apply,
    zero_lit, v13_real X B hX]
  generalize scR X B _ _ _ _ = z
  exact logsig_ref z

theorem v21_real (i : S4x8x2048x2048.Idx) : val_main_v21 (F := Ideal) X B i
    = ((stay (scR X B (i 0).val (i 1).val (i 2).val) (i 2).val (i 3).val : ℝ) : EReal) := by
  rw [val_main_v21_apply, val_main_call1_v1_apply, v18_at, select_ofBool, v20_real X B hX, val_main_call1_v2_apply, val_main_call1_v0_apply, val_main_cst_0_apply, zero_lit]
  unfold stay
  show (if (i 3).val < (i 2).val then _ else _) = _
  split
  · rfl
  · rw [EReal.coe_zero]

theorem v22_real (b : Fin 4) (h : Fin 8) (t s : Fin 2048) : val_main_v22 (F := Ideal) X B (ix4 b h t s) = ((tail (scR X B b.val h.val t.val) t.val s.val : ℝ) : EReal) := by
  have hx : ∀ s' : Fin 2048, val_main_v21 (F := Ideal) X B (ix4 b h t s') = ((stay (scR X B b.val h.val t.val) t.val s'.val : ℝ) : EReal) := fun s' => v21_real X B hX _
  have hi : (val_main_call2_v0 (F := Ideal)) (Shape.Idx.first h_S_) = 0 := by
    rw [val_main_call2_v0_apply, val_main_call2_cst_apply, zero_lit]
  unfold val_main_v22 Host.reduceWindowAdd
  rw [hi, Ideal.hostReduceWindowAdd_def, tail, coe_sum]
  generalize val_main_v21 (F := Ideal) X B = y at hx ⊢
  exact suffix_sum y (fun s' => ((stay (scR X B b.val h.val t.val) t.val s' : ℝ) : EReal)) _ b h t s hx

theorem v27_real (b : Fin 4) (h : Fin 8) (t s : Fin 2048) : val_main_v27 (F := Ideal) X B (ix4 b h t s) = att (scR X B b.val h.val t.val) t.val s.val := by
  have hs := s.isLt
  rw [val_main_v27_apply, val_main_call4_v1_apply, v18_at, select_ofBool, val_main_v26_apply, val_main_v25_apply, val_main_v23_apply, v22_real X B hX, v21_real X B hX, v24_real X B hX,
    val_main_call4_v2_apply, val_main_call4_v0_apply, val_main_cst_1_apply, zero_lit]
  unfold att
  show (if s.val < t.val then _ else _) = _
  refine if_congr Iff.rfl ?_ rfl
  show Ideal.exp (((lbR (scR X B b.val h.val t.val s.val) : ℝ) : EReal) + (((tail (scR X B b.val h.val t.val) t.val s.val : ℝ) : EReal) - ((stay (scR X B b.val h.val t.val) t.val s.val : ℝ) : EReal))) = _
  rw [← EReal.coe_sub, ← EReal.coe_add, Ideal.exp_coe, tail_split (scR X B b.val h.val t.val) t.val (a := s.val) (b := s.val + 1) (by omega) (by omega), Nat.Ico_succ_singleton, Finset.sum_singleton,
    add_sub_cancel_left]

/-- The reference's result. -/
theorem v31_eq : val_main_v31 (F := Ideal) X B = G X B := by
  funext j
  have h0 : (j 0).val < 8192 := (j 0).isLt
  have h1 : (j 1).val < 1024 := (j 1).isLt
  rw [val_main_v31_apply, val_main_v30_apply, val_main_v29_apply, val_main_v28_apply]
  unfold G attn wsum
  show (∑ k : Fin 2048, _) = _
  rw [← Finset.range_eq_Ico, ← Fin.sum_univ_eq_sum_range (fun s => att (scR X B ((j 0).val / 2048) ((j 1).val / 128) ((j 0).val % 2048)) ((j 0).val % 2048) s
    * (if s < 2048 then rd X (2048 * ((j 0).val / 2048) + s) (2048 + 128 * ((j 1).val / 128) + (j 1).val % 128) else 0)) 2048]
  refine Finset.sum_congr rfl fun k _ => ?_
  rw [mul_comm, if_pos k.isLt, v7_at]
  have e : ridx_main_v28 (idx_main_v29 (idx_main_v30 j)) k
      = ix4 (⟨(j 0).val / 2048, by omega⟩ : Fin 4) (⟨(j 1).val / 128, by omega⟩ : Fin 8) (⟨(j 0).val % 2048, by omega⟩ : Fin 2048) k := by
    funext a
    refine Fin.ext ?_
    match a with
    | ⟨0, _⟩ => show ((j 0).val * 1024 + (j 1).val) / 2097152 = (j 0).val / 2048; omega
    | ⟨1, _⟩ => show ((j 0).val * 1024 + (j 1).val) / 128 % 8 = (j 1).val / 128; omega
    | ⟨2, _⟩ => show ((j 0).val * 1024 + (j 1).val) / 1024 % 2048 = (j 0).val % 2048; omega
    | ⟨3, _⟩ => rfl
  rw [e, v27_real X B hX]
  congr 1
  show rd X (2048 * (((j 0).val * 1024 + (j 1).val) / 2097152) + k.val) (2048 + 128 * (((j 0).val * 1024 + (j 1).val) / 128 % 8) + ((j 0).val * 1024 + (j 1).val) % 128) = _
  congr 1 <;> omega

end Cert.ReferenceIdeal.Val

end
-- ==== Proof.KPre.lean ====
/-
  THE PRECONDITION says that the queries, the keys and the head biases are finite (`x - x = 0`), so every score is real.
-/
module

public import proofs.«01_k».proof.Proof.KRef
public import proofs.«01_k».proof.Pre_finite_inputs

@[expose] public section

set_option maxRecDepth 16384

noncomputable section

namespace Cert.Pre_finite_inputs.Val

open Cert.Pre_finite_inputs Idealize.ShloMosaic Idealize.ShloMosaic.TcCoe
open Cert.Stick Cert.KernelIdeal.Val

/-- The predicate's shape conditions. -/
instance facts : Cert.Pre_finite_inputs.Facts := ⟨by decide, by decide, by decide⟩

theorem real_of_sub_self {x : EReal} (h : x - x = 0) : ∃ r : ℝ, x = (r : EReal) := by
  induction x using EReal.rec with
  | bot => exact absurd h (by decide)
  | coe r => exact ⟨r, rfl⟩
  | top => exact absurd h (by decide)

theorem real_of_cmp {x : EReal} (h : FloatOps.cmpf (F := Ideal) (φ := .f32) .oeq (x - x) (FloatOps.ofBits (F := Ideal) .f32 0x00000000#32) = 1#1) : ∃ r : ℝ, x = (r : EReal) := by
  rw [Cert.ReferenceIdeal.Val.zero_lit] at h
  change BitVec.ofBool (decide (x - x = 0)) = 1#1 at h
  refine real_of_sub_self ?_
  by_contra hne
  rw [decide_eq_false hne] at h
  exact absurd h (by decide)

/-- The scale is a real number. -/
theorem scale_real : ∃ r : ℝ, SC = (r : EReal) := by
  change ∃ r : ℝ, Ideal.ieee 8 23 (0x3DB504F3#32) = (r : EReal)
  unfold Ideal.ieee
  dsimp only
  rw [if_neg (by decide), if_neg (by decide)]
  exact ⟨_, rfl⟩

variable (X : FVec Ideal S8192x3072 .f32) (B : FVec Ideal S8 .f32)

theorem scores_real (h1 : (Cert.Pre_finite_inputs.fn (F := Ideal) X B).1 = fun _ => 1#1) (h2 : (Cert.Pre_finite_inputs.fn (F := Ideal) X B).2 = fun _ => 1#1) :
    RealScores X B := by
  have hq : ∀ r < 8192, ∀ c < 2048, ∃ x : ℝ, rd X r c = (x : EReal) := by
    intro r hr c hc
    have h := congrFun h1 (ix2 (⟨r, hr⟩ : Fin 8192) (⟨c, hc⟩ : Fin 2048))
    have e : extractStridedSlice S8192x2048 ![0, 0] X Facts.slices_S8192x3072_S8192x2048_0_0 (ix2 (⟨r, hr⟩ : Fin 8192) (⟨c, hc⟩ : Fin 2048)) = rd X r c := by
      rw [rd, dif_pos ⟨hr, by omega⟩]
      refine congrArg X (funext fun a => Fin.ext ?_)
      match a with
      | ⟨0, _⟩ => show 0 + r = r; omega
      | ⟨1, _⟩ => show 0 + c = c; omega
    rw [← e]
    exact real_of_cmp h
  have hb : ∀ h < 8, ∃ x : ℝ, rb B h = (x : EReal) := by
    intro h hh
    have h' := congrFun h2 (ix1 (⟨h, hh⟩ : Fin 8))
    rw [rb, dif_pos hh]
    exact real_of_cmp h'
  obtain ⟨sc, hsc⟩ := scale_real
  intro b hb4 h hh8 t ht s hs
  have hd : ∀ d : Fin 128, ∃ x : ℝ, rd X (2048 * b + t) (128 * h + d.val) * rd X (2048 * b + s) (1024 + 128 * h + d.val) = (x : EReal) := by
    intro d
    obtain ⟨x, hx⟩ := hq (2048 * b + t) (by omega) (128 * h + d.val) (by omega)
    obtain ⟨y, hy⟩ := hq (2048 * b + s) (by omega) (1024 + 128 * h + d.val) (by omega)
    exact ⟨x * y, by rw [hx, hy, EReal.coe_mul]⟩
  choose f hf using hd
  obtain ⟨β, hβ⟩ := hb h hh8
  have e : score X B b h t s = (((∑ d, f d) * sc + β : ℝ) : EReal) := by
    rw [score, hsc, hβ, EReal.coe_add, EReal.coe_mul, coe_sum]
    congr 2
    exact Finset.sum_congr rfl fun d _ => hf d
  rw [scR, e, EReal.toReal_coe]

end Cert.Pre_finite_inputs.Val

end
-- ==== Proof.PFin.lean ====
/-
  THE ELEMENTWISE HALF, KERNEL AGAINST REFERENCE: where the split columns and their weights are finite, the halves the kernel adds are zero, so the
  kernel's eight values of a row and a channel are the reference's.
-/
module

public import proofs.«01_k».proof.Proof.PHostAt
public import proofs.«01_k».proof.Proof.PRef
public import proofs.«01_k».proof.Proof.KPre
public import proofs.«01_k».proof.Pre_finite_prep

@[expose] public section

set_option maxRecDepth 16384

noncomputable section

namespace Cert.Pre_finite_prep.Val

open Cert.Pre_finite_prep Idealize.ShloMosaic Idealize.ShloMosaic.TcCoe
open Cert.Pre_finite_inputs.Val (real_of_cmp)

/-- The predicate's shape conditions. -/
instance facts : Cert.Pre_finite_prep.Facts := ⟨by decide, by decide, by decide, by decide, by decide, by decide, by decide, by decide, by decide, by decide, by decide, by decide⟩

/-- What the precondition says, entry by entry. -/
structure Fin' (x0 : FVec Ideal S8192x3584 .f32) (x1 : FVec Ideal S3360 .f32) (x3 x5 : FVec Ideal S64x1024 .f32) (x6 : FVec Ideal S160x1024 .f32)
    (x7 x8 : FVec Ideal S1024 .f32) (x9 : FVec Ideal S16x64 .f32) : Prop where
  zk : ∀ (R : Fin 8192) (q : Fin 3584), q.val < 2048 → ∃ r : ℝ, x0 (ix2 R q) = (r : EReal)
  za : ∀ (R : Fin 8192) (q : Fin 3584), 3200 ≤ q.val → q.val < 3264 → ∃ r : ℝ, x0 (ix2 R q) = (r : EReal)
  mz : ∀ u : Fin 3360, u.val < 2048 → ∃ r : ℝ, x1 (ix1 u) = (r : EReal)
  mq : ∀ u : Fin 3360, 3136 ≤ u.val → u.val < 3200 → ∃ r : ℝ, x1 (ix1 u) = (r : EReal)
  w2 : ∀ i, ∃ r : ℝ, x3 i = (r : EReal)
  a2 : ∀ i, ∃ r : ℝ, x5 i = (r : EReal)
  g2 : ∀ i, ∃ r : ℝ, x6 i = (r : EReal)
  kk : ∀ i, ∃ r : ℝ, x7 i = (r : EReal)
  ka : ∀ i, ∃ r : ℝ, x8 i = (r : EReal)
  rk : ∀ i, ∃ r : ℝ, x9 i = (r : EReal)

variable (x0 : FVec Ideal S8192x3584 .f32) (x1 : FVec Ideal S3360 .f32) (x2 : FVec Ideal S1024 .f32) (x3 : FVec Ideal S64x1024 .f32)
  (x4 : FVec Ideal S1024 .f32) (x5 : FVec Ideal S64x1024 .f32) (x6 : FVec Ideal S160x1024 .f32) (x7 x8 : FVec Ideal S1024 .f32) (x9 : FVec Ideal S16x64 .f32)

theorem fin_of
    (h0 : (Cert.Pre_finite_prep.fn (F := Ideal) x0 x1 x2 x3 x4 x5 x6 x7 x8 x9).1 = fun _ => 1#1)
    (h1 : (Cert.Pre_finite_prep.fn (F := Ideal) x0 x1 x2 x3 x4 x5 x6 x7 x8 x9).2.1 = fun _ => 1#1)
    (h2 : (Cert.Pre_finite_prep.fn (F := Ideal) x0 x1 x2 x3 x4 x5 x6 x7 x8 x9).2.2.1 = fun _ => 1#1)
    (h3 : (Cert.Pre_finite_prep.fn (F := Ideal) x0 x1 x2 x3 x4 x5 x6 x7 x8 x9).2.2.2.1 = fun _ => 1#1)
    (h4 : (Cert.Pre_finite_prep.fn (F := Ideal) x0 x1 x2 x3 x4 x5 x6 x7 x8 x9).2.2.2.2.1 = fun _ => 1#1)
    (h5 : (Cert.Pre_finite_prep.fn (F := Ideal) x0 x1 x2 x3 x4 x5 x6 x7 x8 x9).2.2.2.2.2.1 = fun _ => 1#1)
    (h6 : (Cert.Pre_finite_prep.fn (F := Ideal) x0 x1 x2 x3 x4 x5 x6 x7 x8 x9).2.2.2.2.2.2.1 = fun _ => 1#1)
    (h7 : (Cert.Pre_finite_prep.fn (F := Ideal) x0 x1 x2 x3 x4 x5 x6 x7 x8 x9).2.2.2.2.2.2.2.1 = fun _ => 1#1)
    (h8 : (Cert.Pre_finite_prep.fn (F := Ideal) x0 x1 x2 x3 x4 x5 x6 x7 x8 x9).2.2.2.2.2.2.2.2.1 = fun _ => 1#1)
    (h9 : (Cert.Pre_finite_prep.fn (F := Ideal) x0 x1 x2 x3 x4 x5 x6 x7 x8 x9).2.2.2.2.2.2.2.2.2 = fun _ => 1#1) :
    Fin' x0 x1 x3 x5 x6 x7 x8 x9 where
  zk := fun R q hq => by
    have h := congrFun h0 (ix2 R (⟨q.val, hq⟩ : Fin 2048))
    have e : extractStridedSlice S8192x2048 ![0, 0] x0 Facts.slices_S8192x3584_S8192x2048_0_0 (ix2 R (⟨q.val, hq⟩ : Fin 2048)) = x0 (ix2 R q) :=
      extractStridedSlice_apply ![0, 0] x0 Facts.slices_S8192x3584_S8192x2048_0_0 _ _ (fun a => match a with
        | ⟨0, _⟩ => by show R.val = 0 + R.val; omega
        | ⟨1, _⟩ => by show q.val = 0 + q.val; omega)
    rw [← e]
    exact real_of_cmp h
  za := fun R q hq hq2 => by
    have h := congrFun h1 (ix2 R (⟨q.val - 3200, by omega⟩ : Fin 64))
    have e : extractStridedSlice S8192x64 ![0, 3200] x0 Facts.slices_S8192x3584_S8192x64_0_3200 (ix2 R (⟨q.val - 3200, by omega⟩ : Fin 64)) = x0 (ix2 R q) :=
      extractStridedSlice_apply ![0, 3200] x0 Facts.slices_S8192x3584_S8192x64_0_3200 _ _ (fun a => match a with
        | ⟨0, _⟩ => by show R.val = 0 + R.val; omega
        | ⟨1, _⟩ => by show q.val = 3200 + (q.val - 3200); omega)
    rw [← e]
    exact real_of_cmp h
  mz := fun u hu => by
    have h := congrFun h2 (ix1 (⟨u.val, hu⟩ : Fin 2048))
    have e : extractStridedSlice S2048 ![0] x1 Facts.slices_S3360_S2048_0 (ix1 (⟨u.val, hu⟩ : Fin 2048)) = x1 (ix1 u) :=
      extractStridedSlice_apply ![0] x1 Facts.slices_S3360_S2048_0 _ _ (fun a => match a with
        | ⟨0, _⟩ => by show u.val = 0 + u.val; omega)
    rw [← e]
    exact real_of_cmp h
  mq := fun u hu hu2 => by
    have h := congrFun h3 (ix1 (⟨u.val - 3136, by omega⟩ : Fin 64))
    have e : extractStridedSlice S64 ![3136] x1 Facts.slices_S3360_S64_3136 (ix1 (⟨u.val - 3136, by omega⟩ : Fin 64)) = x1 (ix1 u) :=
      extractStridedSlice_apply ![3136] x1 Facts.slices_S3360_S64_3136 _ _ (fun a => match a with
        | ⟨0, _⟩ => by show u.val = 3136 + (u.val - 3136); omega)
    rw [← e]
    exact real_of_cmp h
  w2 := fun i => real_of_cmp (congrFun h4 i)
  a2 := fun i => real_of_cmp (congrFun h5 i)
  g2 := fun i => real_of_cmp (congrFun h6 i)
  kk := fun i => real_of_cmp (congrFun h7 i)
  ka := fun i => real_of_cmp (congrFun h8 i)
  rk := fun i => real_of_cmp (congrFun h9 i)

end Cert.Pre_finite_prep.Val

namespace Cert.PrepIdeal.Val

open Cert.PrepIdeal Cert.PrepIdeal.Gen Idealize.ShloMosaic Idealize.ShloMosaic.TcCoe Idealize.SL.Sem
open Cert.PrepSpec Cert.Pre_finite_prep.Val

/-- Nothing before the first row of a batch. -/
def z0 : FVec Ideal S4x1x3584 .f32 :=
  shapeCast S4x1x3584 (broadcastInDim S4x3584 ![] bcast_S_S4x3584 (constant (F := Ideal) S_ .f32 0x00000000#32)) shapeCasts_S4x3584_S4x1x3584
theorem z0_at (i : S4x1x3584.Idx) : z0 i = 0 := (show z0 i = Ideal.ofBits .f32 0x00000000#32 from rfl).trans ze

/-- The weights' leading and following parts. -/
def hi64 (w : FVec Ideal S64x1024 .f32) : FVec Ideal S128x1024 .bf16 := truncf .bf16 (wp64 w) bitsLt_bf16_f32
def lo64 (w : FVec Ideal S64x1024 .f32) : FVec Ideal S128x1024 .bf16 :=
  truncf .bf16 (subf (wp64 w) (extf .f32 (truncf .bf16 (wp64 w) bitsLt_bf16_f32) bitsLt_bf16_f32)) bitsLt_bf16_f32
def hi160 (w : FVec Ideal S160x1024 .f32) : FVec Ideal S256x1024 .bf16 := truncf .bf16 (wp160 w) bitsLt_bf16_f32
def lo160 (w : FVec Ideal S160x1024 .f32) : FVec Ideal S256x1024 .bf16 :=
  truncf .bf16 (subf (wp160 w) (extf .f32 (truncf .bf16 (wp160 w) bitsLt_bf16_f32) bitsLt_bf16_f32)) bitsLt_bf16_f32

theorem hi64_at (w : FVec Ideal S64x1024 .f32) (i : S128x1024.Idx) : hi64 w i = wp64 w i := rfl
theorem lo64_at (w : FVec Ideal S64x1024 .f32) (i : S128x1024.Idx) : lo64 w i = wp64 w i - wp64 w i := rfl
theorem hi160_at (w : FVec Ideal S160x1024 .f32) (i : S256x1024.Idx) : hi160 w i = wp160 w i := rfl
theorem lo160_at (w : FVec Ideal S160x1024 .f32) (i : S256x1024.Idx) : lo160 w i = wp160 w i - wp160 w i := rfl

theorem d64 (w : FVec Ideal S64x1024 .f32) (hw : ∀ i, ∃ r : ℝ, w i = (r : EReal)) (c : Fin 1024) (f : Fin 128 → EReal)
    (hf : ∀ j : Fin 128, j.val < 64 → ∃ x : ℝ, f j = (x : EReal)) :
    d3 f (fun j => hi64 w (ix2 j c)) (fun j => lo64 w (ix2 j c)) = ∑ j : Fin 64, f ⟨j.val, by omega⟩ * w (ix2 j c) :=
  d3_real 64 (by omega) f _ _ (fun j : Fin 64 => w (ix2 j c)) hf (fun j => hw _)
    (fun j => by rw [hi64_at]; exact wp64_in w _ j c rfl)
    (fun j => by rw [lo64_at, wp64_in w _ j c rfl])
    (fun j hj => by rw [hi64_at]; exact wp64_out w j c hj)
    (fun j hj => by rw [lo64_at, wp64_out w j c hj])
theorem d160 (w : FVec Ideal S160x1024 .f32) (hw : ∀ i, ∃ r : ℝ, w i = (r : EReal)) (c : Fin 1024) (f : Fin 256 → EReal)
    (hf : ∀ j : Fin 256, j.val < 160 → ∃ x : ℝ, f j = (x : EReal)) :
    d3 f (fun j => hi160 w (ix2 j c)) (fun j => lo160 w (ix2 j c)) = ∑ j : Fin 160, f ⟨j.val, by omega⟩ * w (ix2 j c) :=
  d3_real 160 (by omega) f _ _ (fun j : Fin 160 => w (ix2 j c)) hf (fun j => hw _)
    (fun j => by rw [hi160_at]; exact wp160_in w _ j c rfl)
    (fun j => by rw [lo160_at, wp160_in w _ j c rfl])
    (fun j hj => by rw [hi160_at]; exact wp160_out w j c hj)
    (fun j hj => by rw [lo160_at, wp160_out w j c hj])

section
variable (x0 : FVec Ideal S8192x3584 .f32) (x1 : FVec Ideal S3360 .f32) (x2 : FVec Ideal S1024 .f32) (x3 : FVec Ideal S64x1024 .f32)
  (x4 : FVec Ideal S1024 .f32) (x5 : FVec Ideal S64x1024 .f32) (x6 : FVec Ideal S160x1024 .f32) (x7 x8 : FVec Ideal S1024 .f32) (x9 : FVec Ideal S16x64 .f32)
variable (R : Fin 8192) (c : Fin 1024)

theorem row_at (q : Fin 3584) (u : Fin 3360) (hp : (pc u).val = q.val) (hm : mc x1 (ix2 (0 : Fin 1) q) = x1 (ix1 u)) : rX x0 z0 (mc x1) R q = sX x0 x1 R u := by
  have hq : pc u = q := Fin.ext hp
  unfold rX sX
  rw [hm, hq, z0_at]
theorem row0 (q : Fin 3584) (u : Fin 3360) (h : q.val < 3072) (hu : u.val = q.val) : rX x0 z0 (mc x1) R q = sX x0 x1 R u :=
  row_at x0 x1 R q u ((pc_0 u (by omega)).trans hu) (mc_at0 x1 q u h hu)
theorem row1 (j : Fin 64) : rX x0 z0 (mc x1) R ⟨3072 + j.val, by omega⟩ = sX x0 x1 R ⟨3072 + j.val, by omega⟩ :=
  row_at x0 x1 R _ _ (pc_0 _ (by show 3072 + j.val < 3136; omega)) (mc_at1 x1 _ _ j rfl rfl)
theorem row2 (j : Fin 64) : rX x0 z0 (mc x1) R ⟨3200 + j.val, by omega⟩ = sX x0 x1 R ⟨3136 + j.val, by omega⟩ :=
  row_at x0 x1 R _ _ ((pc_1 _ (by show 3136 ≤ 3136 + j.val; omega) (by show 3136 + j.val < 3200; omega)).trans (by show 3136 + j.val + 64 = 3200 + j.val; omega)) (mc_at2 x1 _ _ j rfl rfl)
theorem row3 (j : Fin 160) : rX x0 z0 (mc x1) R ⟨3328 + j.val, by omega⟩ = sX x0 x1 R ⟨3200 + j.val, by omega⟩ :=
  row_at x0 x1 R _ _ ((pc_2 _ (by show 3200 ≤ 3200 + j.val; omega)).trans (by show 3200 + j.val + 128 = 3328 + j.val; omega)) (mc_at3 x1 _ _ j rfl rfl)

theorem kR_eq : kR (rX x0 z0 (mc x1) R) c = qR (sX x0 x1 R) c := row0 x0 x1 R _ _ (by show c.val < 3072; omega) rfl
theorem kK_eq : kK (rX x0 z0 (mc x1) R) c = qK (sX x0 x1 R) c := row0 x0 x1 R _ _ (by show 1024 + c.val < 3072; omega) rfl
theorem kV_eq : kV (rX x0 z0 (mc x1) R) c = qV (sX x0 x1 R) c := row0 x0 x1 R _ _ (by show 2048 + c.val < 3072; omega) rfl

variable (h : Fin' x0 x1 x3 x5 x6 x7 x8 x9)
include h

theorem real_low (u : Fin 3360) (hu : u.val < 2048) : ∃ r : ℝ, sX x0 x1 R u = (r : EReal) := by
  have hp : (pc u).val < 2048 := by rw [pc_0 u (by omega)]; exact hu
  refine real_add (h.zk _ _ hp) (real_mul (real_sub ?_ (h.zk _ _ hp)) (h.mz _ hu))
  split
  · exact real_zero
  · exact h.zk _ _ hp
theorem real_a (j : Fin 64) : ∃ r : ℝ, sX x0 x1 R ⟨3136 + j.val, by omega⟩ = (r : EReal) := by
  have hp : (pc ⟨3136 + j.val, by omega⟩).val = 3136 + j.val + 64 := pc_1 _ (by show 3136 ≤ 3136 + j.val; omega) (by show 3136 + j.val < 3200; omega)
  refine real_add (h.za _ _ (by omega) (by omega)) (real_mul (real_sub ?_ (h.za _ _ (by omega) (by omega))) (h.mq _ (by show 3136 ≤ 3136 + j.val; omega) (by show 3136 + j.val < 3200; omega)))
  split
  · exact real_zero
  · exact h.za _ _ (by omega) (by omega)

theorem kW_eq : kW (rX x0 z0 (mc x1) R) (rw1 x2) (hi64 x3) (lo64 x3) c = qW (sX x0 x1 R) x2 x3 c := by
  unfold kW qW
  rw [rw1_at, d64 x3 h.w2 c _ (fun j _ => real_tanh _)]
  refine congrArg (fun s => dec (x2 (ix1 c) + s)) (Finset.sum_congr rfl fun j _ => ?_)
  show Ideal.tanh (rX x0 z0 (mc x1) R ⟨3072 + j.val, _⟩) * _ = _
  rw [row1 x0 x1 R j]
theorem kA_eq : kA (rX x0 z0 (mc x1) R) (rw1 x4) (hi64 x5) (lo64 x5) c = qA (sX x0 x1 R) x4 x5 c := by
  unfold kA qA
  rw [rw1_at, d64 x5 h.a2 c _ (fun j hj => by
    obtain ⟨r, hr⟩ := real_a x0 x1 x3 x5 x6 x7 x8 x9 R h ⟨j.val, hj⟩
    exact ⟨r, (row2 x0 x1 R ⟨j.val, hj⟩).trans hr⟩)]
  refine congrArg (fun s => Ideal.logistic (x4 (ix1 c) + s)) (Finset.sum_congr rfl fun j _ => ?_)
  show rX x0 z0 (mc x1) R ⟨3200 + j.val, _⟩ * _ = _
  rw [row2 x0 x1 R j]
theorem kG_eq : kG (rX x0 z0 (mc x1) R) (hi160 x6) (lo160 x6) c = qG (sX x0 x1 R) x6 c := by
  unfold kG qG
  rw [d160 x6 h.g2 c _ (fun j _ => real_logistic _)]
  refine Finset.sum_congr rfl fun j _ => ?_
  show Ideal.logistic (rX x0 z0 (mc x1) R ⟨3328 + j.val, _⟩) * _ = _
  rw [row3 x0 x1 R j]
omit h in
theorem kS_eq : kS (rX x0 z0 (mc x1) R) (rw1 x7) c = qS (sX x0 x1 R) x7 c := by
  unfold kS qS
  rw [rw1_at, kK_eq]
theorem real_s : ∃ r : ℝ, qS (sX x0 x1 R) x7 c = (r : EReal) :=
  real_mul (real_low x0 x1 x3 x5 x6 x7 x8 x9 R h _ (by show 1024 + c.val < 2048; omega)) (h.kk _)
theorem kN_eq : kN (rX x0 z0 (mc x1) R) (rw1 x7) sh c = qN (sX x0 x1 R) x7 c := by
  unfold kN qN
  rw [kS_eq, hs_real _ _ c (fun n => by rw [kS_eq]; exact real_mul (real_s x0 x1 x3 x5 x6 x7 x8 x9 R n h) (real_s x0 x1 x3 x5 x6 x7 x8 x9 R n h)) (fun n => sh_at n c)]
  refine congrArg (nrm _) (Finset.sum_congr rfl fun n _ => ?_)
  rw [kS_eq]
theorem kM_eq : kM (rX x0 z0 (mc x1) R) (rw1 x4) (hi64 x5) (lo64 x5) (rw1 x8) c = qM (sX x0 x1 R) x4 x5 x8 c := by
  unfold kM qM
  rw [kK_eq, kA_eq x0 x1 x3 x4 x5 x6 x7 x8 x9 R c h, rw1_at]
theorem real_t : ∃ r : ℝ, qT (sX x0 x1 R) x4 x5 x8 x9 c = (r : EReal) :=
  real_mul (real_mul (real_low x0 x1 x3 x5 x6 x7 x8 x9 R h _ (by show c.val < 2048; omega))
    (real_mul (real_low x0 x1 x3 x5 x6 x7 x8 x9 R h _ (by show 1024 + c.val < 2048; omega))
      (real_add real_one (real_mul (real_sub (real_logistic _) real_one) (h.ka _))))) (h.rk _)
theorem kB_eq : kB (rX x0 z0 (mc x1) R) (rw1 x4) (hi64 x5) (lo64 x5) (rw1 x8) (shapeCast S1x1024 x9 shapeCasts_S16x64_S1x1024) sh c = qB (sX x0 x1 R) x4 x5 x8 x9 c := by
  have et : ∀ n : Fin 1024, kR (rX x0 z0 (mc x1) R) n * kM (rX x0 z0 (mc x1) R) (rw1 x4) (hi64 x5) (lo64 x5) (rw1 x8) n * shapeCast S1x1024 x9 shapeCasts_S16x64_S1x1024 (ix2 (0 : Fin 1) n)
      = qT (sX x0 x1 R) x4 x5 x8 x9 n := fun n => by
    rw [kR_eq, kM_eq x0 x1 x3 x4 x5 x6 x7 x8 x9 R n h, rk_at]
    rfl
  unfold kB qB
  rw [kV_eq, hs_real _ _ c (fun n => by rw [et n]; exact real_t x0 x1 x3 x4 x5 x6 x7 x8 x9 R n h) (fun n => sh_at n c)]
  exact congrArg (· * _) (Finset.sum_congr rfl fun n _ => et _)
end

end Cert.PrepIdeal.Val

end
-- ==== Proof.PRun.lean ====
/-
  THE ELEMENTWISE HALF, BOTH RUNS: the eight arrays each program leaves, and that they are the same where the precondition holds.
-/
module

public import proofs.«01_k».proof.Proof.PFin
public import proofs.«01_k».proof.Defs

@[expose] public section

set_option maxRecDepth 16384

noncomputable section

namespace Cert.PrepSpec

open Cert.PrepRefIdeal Idealize.ShloMosaic Idealize.ShloMosaic.TcCoe

/- The eight arrays, of the arguments. -/
def oR (x0 : FVec Ideal S8192x3584 .f32) (x1 : FVec Ideal S3360 .f32) : FVec Ideal S8192x1024 .f32 := fun i => qR (sX x0 x1 (i 0)) (i 1)
def oW (x0 : FVec Ideal S8192x3584 .f32) (x1 : FVec Ideal S3360 .f32) (x2 : FVec Ideal S1024 .f32) (x3 : FVec Ideal S64x1024 .f32) : FVec Ideal S8192x1024 .f32 := fun i => qW (sX x0 x1 (i 0)) x2 x3 (i 1)
def oM (x0 : FVec Ideal S8192x3584 .f32) (x1 : FVec Ideal S3360 .f32) (x4 : FVec Ideal S1024 .f32) (x5 : FVec Ideal S64x1024 .f32) (x8 : FVec Ideal S1024 .f32) : FVec Ideal S8192x1024 .f32 := fun i => qM (sX x0 x1 (i 0)) x4 x5 x8 (i 1)
def oN (x0 : FVec Ideal S8192x3584 .f32) (x1 : FVec Ideal S3360 .f32) (x7 : FVec Ideal S1024 .f32) : FVec Ideal S8192x1024 .f32 := fun i => qN (sX x0 x1 (i 0)) x7 (i 1)
def oP (x0 : FVec Ideal S8192x3584 .f32) (x1 : FVec Ideal S3360 .f32) (x4 : FVec Ideal S1024 .f32) (x5 : FVec Ideal S64x1024 .f32) (x7 : FVec Ideal S1024 .f32) : FVec Ideal S8192x1024 .f32 := fun i => qN (sX x0 x1 (i 0)) x7 (i 1) * qA (sX x0 x1 (i 0)) x4 x5 (i 1)
def oV (x0 : FVec Ideal S8192x3584 .f32) (x1 : FVec Ideal S3360 .f32) : FVec Ideal S8192x1024 .f32 := fun i => qV (sX x0 x1 (i 0)) (i 1)
def oG (x0 : FVec Ideal S8192x3584 .f32) (x1 : FVec Ideal S3360 .f32) (x6 : FVec Ideal S160x1024 .f32) : FVec Ideal S8192x1024 .f32 := fun i => qG (sX x0 x1 (i 0)) x6 (i 1)
def oB (x0 : FVec Ideal S8192x3584 .f32) (x1 : FVec Ideal S3360 .f32) (x4 : FVec Ideal S1024 .f32) (x5 : FVec Ideal S64x1024 .f32) (x8 : FVec Ideal S1024 .f32) (x9 : FVec Ideal S16x64 .f32) : FVec Ideal S8192x1024 .f32 := fun i => qB (sX x0 x1 (i 0)) x4 x5 x8 x9 (i 1)

end Cert.PrepSpec

namespace Cert.PrepIdeal.Val

open Cert.PrepIdeal Cert.PrepIdeal.Gen Idealize.ShloMosaic Idealize.ShloMosaic.TcCoe Idealize.SL.Sem
open Cert.PrepSpec Cert.Pre_finite_prep.Val

variable (m : (ℓ : Loc nD τ sig) → Buf (Elt Ideal) ℓ) (ρ : Dev nD → PrngReg) (c : Dev nD)

theorem k_oR : (dats m 0 c).arrAt 16 cfg0.N = oR (m ((c : Thread nD τ).loc main_arg0)) (m ((c : Thread nD τ).loc main_arg1)) :=
  (arr16 m c).trans (by
    rw [V_main_arg0, v_v38, v_v31]
    exact funext fun i => kR_eq _ _ (i 0) (i 1))
theorem k_oW (h : Fin' (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) : (dats m 0 c).arrAt 17 cfg0.N = oW (m ((c : Thread nD τ).loc main_arg0)) (m ((c : Thread nD τ).loc main_arg1)) (m ((c : Thread nD τ).loc main_arg2)) (m ((c : Thread nD τ).loc main_arg3)) :=
  (arr17 m c).trans (by
    rw [V_main_arg0, v_v38, v_v31, v_v32, v_v9, v_v12]
    exact funext fun i => kW_eq _ _ _ _ _ _ _ _ _ (i 0) (i 1) h)
theorem k_oM (h : Fin' (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) : (dats m 0 c).arrAt 18 cfg0.N = oM (m ((c : Thread nD τ).loc main_arg0)) (m ((c : Thread nD τ).loc main_arg1)) (m ((c : Thread nD τ).loc main_arg4)) (m ((c : Thread nD τ).loc main_arg5)) (m ((c : Thread nD τ).loc main_arg8)) :=
  (arr18 m c).trans (by
    rw [V_main_arg0, v_v38, v_v31, v_v33, v_v14, v_v17, v_v35]
    exact funext fun i => kM_eq _ _ _ _ _ _ _ _ _ (i 0) (i 1) h)
theorem k_oN (h : Fin' (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) : (dats m 0 c).arrAt 19 cfg0.N = oN (m ((c : Thread nD τ).loc main_arg0)) (m ((c : Thread nD τ).loc main_arg1)) (m ((c : Thread nD τ).loc main_arg7)) :=
  (arr19 m c).trans (by
    rw [V_main_arg0, v_v38, v_v31, v_v34, v_v7]
    exact funext fun i => kN_eq _ _ _ _ _ _ _ _ (i 0) (i 1) h)
theorem k_oP (h : Fin' (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) : (dats m 0 c).arrAt 20 cfg0.N = oP (m ((c : Thread nD τ).loc main_arg0)) (m ((c : Thread nD τ).loc main_arg1)) (m ((c : Thread nD τ).loc main_arg4)) (m ((c : Thread nD τ).loc main_arg5)) (m ((c : Thread nD τ).loc main_arg7)) :=
  (arr20 m c).trans (by
    rw [V_main_arg0, v_v38, v_v31, v_v33, v_v14, v_v17, v_v34, v_v7]
    exact funext fun i => congrArg₂ (· * ·) (kN_eq _ _ _ _ _ _ _ _ (i 0) (i 1) h) (kA_eq _ _ _ _ _ _ _ _ _ (i 0) (i 1) h))
theorem k_oV : (dats m 0 c).arrAt 21 cfg0.N = oV (m ((c : Thread nD τ).loc main_arg0)) (m ((c : Thread nD τ).loc main_arg1)) :=
  (arr21 m c).trans (by
    rw [V_main_arg0, v_v38, v_v31]
    exact funext fun i => kV_eq _ _ (i 0) (i 1))
theorem k_oG (h : Fin' (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) : (dats m 0 c).arrAt 22 cfg0.N = oG (m ((c : Thread nD τ).loc main_arg0)) (m ((c : Thread nD τ).loc main_arg1)) (m ((c : Thread nD τ).loc main_arg6)) :=
  (arr22 m c).trans (by
    rw [V_main_arg0, v_v38, v_v31, v_v19, v_v22]
    exact funext fun i => kG_eq _ _ _ _ _ _ _ _ (i 0) (i 1) h)
theorem k_oB (h : Fin' (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) : (dats m 0 c).arrAt 23 cfg0.N = oB (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) :=
  (arr23 m c).trans (by
    rw [V_main_arg0, v_v38, v_v31, v_v33, v_v14, v_v17, v_v35, v_v36, v_v7]
    exact funext fun i => kB_eq _ _ _ _ _ _ _ _ _ (i 0) (i 1) h)

set_option maxHeartbeats 4000000 in
/-- The kernel's run where the precondition holds. -/
theorem run (h : ∀ c : Dev nD, Fin' (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) :
    θ_run defs (onTc (τ := τ) (main (F := Ideal))) ⟨m, fun _ => 0, ρ⟩ (fun r => ∀ c : Dev nD,
      r.2.mem ((c.tc : Thread nD τ).loc main_v39_0) = oR (m ((c : Thread nD τ).loc main_arg0)) (m ((c : Thread nD τ).loc main_arg1))
      ∧ r.2.mem ((c.tc : Thread nD τ).loc main_v39_1) = oW (m ((c : Thread nD τ).loc main_arg0)) (m ((c : Thread nD τ).loc main_arg1)) (m ((c : Thread nD τ).loc main_arg2)) (m ((c : Thread nD τ).loc main_arg3))
      ∧ r.2.mem ((c.tc : Thread nD τ).loc main_v39_2) = oM (m ((c : Thread nD τ).loc main_arg0)) (m ((c : Thread nD τ).loc main_arg1)) (m ((c : Thread nD τ).loc main_arg4)) (m ((c : Thread nD τ).loc main_arg5)) (m ((c : Thread nD τ).loc main_arg8))
      ∧ r.2.mem ((c.tc : Thread nD τ).loc main_v39_3) = oN (m ((c : Thread nD τ).loc main_arg0)) (m ((c : Thread nD τ).loc main_arg1)) (m ((c : Thread nD τ).loc main_arg7))
      ∧ r.2.mem ((c.tc : Thread nD τ).loc main_v39_4) = oP (m ((c : Thread nD τ).loc main_arg0)) (m ((c : Thread nD τ).loc main_arg1)) (m ((c : Thread nD τ).loc main_arg4)) (m ((c : Thread nD τ).loc main_arg5)) (m ((c : Thread nD τ).loc main_arg7))
      ∧ r.2.mem ((c.tc : Thread nD τ).loc main_v39_5) = oV (m ((c : Thread nD τ).loc main_arg0)) (m ((c : Thread nD τ).loc main_arg1))
      ∧ r.2.mem ((c.tc : Thread nD τ).loc main_v39_6) = oG (m ((c : Thread nD τ).loc main_arg0)) (m ((c : Thread nD τ).loc main_arg1)) (m ((c : Thread nD τ).loc main_arg6))
      ∧ r.2.mem ((c.tc : Thread nD τ).loc main_v39_7) = oB (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h' c => ⟨((h' c).1 16).trans (k_oR m c),
      ((h' c).1 17).trans (k_oW m c (h c)),
      ((h' c).1 18).trans (k_oM m c (h c)),
      ((h' c).1 19).trans (k_oN m c (h c)),
      ((h' c).1 20).trans (k_oP m c (h c)),
      ((h' c).1 21).trans (k_oV m c),
      ((h' c).1 22).trans (k_oG m c (h c)),
      ((h' c).1 23).trans (k_oB m c (h c)),
      ((h' c).1 1).trans (((dats m 0 c).arrAt_in 1 rfl _).trans ((A_eq m c 1).trans (V_main_arg0 m c))),
      ((h' c).2 main_arg1 (Pipeline.mem_restRefs_of main_arg1 (by decide) (by decide))).trans (V_main_arg1 m c),
      ((h' c).2 main_arg2 (Pipeline.mem_restRefs_of main_arg2 (by decide) (by decide))).trans (V_main_arg2 m c),
      ((h' c).2 main_arg3 (Pipeline.mem_restRefs_of main_arg3 (by decide) (by decide))).trans (V_main_arg3 m c),
      ((h' c).2 main_arg4 (Pipeline.mem_restRefs_of main_arg4 (by decide) (by decide))).trans (V_main_arg4 m c),
      ((h' c).2 main_arg5 (Pipeline.mem_restRefs_of main_arg5 (by decide) (by decide))).trans (V_main_arg5 m c),
      ((h' c).2 main_arg6 (Pipeline.mem_restRefs_of main_arg6 (by decide) (by decide))).trans (V_main_arg6 m c),
      ((h' c).2 main_arg7 (Pipeline.mem_restRefs_of main_arg7 (by decide) (by decide))).trans (V_main_arg7 m c),
      ((h' c).2 main_arg8 (Pipeline.mem_restRefs_of main_arg8 (by decide) (by decide))).trans (V_main_arg8 m c),
      ((h' c).2 main_arg9 (Pipeline.mem_restRefs_of main_arg9 (by decide) (by decide))).trans (V_main_arg9 m c)⟩) (run_main m ρ)

end Cert.PrepIdeal.Val

namespace Cert.PrepRefIdeal.Val

open Cert.PrepRefIdeal Idealize.ShloMosaic Idealize.ShloMosaic.TcCoe Idealize.SL.Sem
open Cert.PrepSpec Cert.PrepRefIdeal.Read

theorem ix2_eta (i : S8192x1024.Idx) : (ix2 (i 0 : Fin 8192) (i 1 : Fin 1024) : S8192x1024.Idx) = i := funext fun a => match a with
  | ⟨0, _⟩ => rfl
  | ⟨1, _⟩ => rfl

/- The reference's eight stages are these arrays. -/
theorem r_oR (x0 : FVec Ideal S8192x3584 .f32) (x1 : FVec Ideal S3360 .f32) : val_main_v84 (F := Ideal) x0 x1 = oR x0 x1 := funext fun i => by
  rw [← ix2_eta i]
  exact v84_at x0 x1 (i 0) (i 1)
theorem r_oW (x0 : FVec Ideal S8192x3584 .f32) (x1 : FVec Ideal S3360 .f32) (x2 : FVec Ideal S1024 .f32) (x3 : FVec Ideal S64x1024 .f32) : val_main_v85 (F := Ideal) x0 x1 x2 x3 = oW x0 x1 x2 x3 := funext fun i => by
  rw [← ix2_eta i]
  exact v85_at x0 x1 x2 x3 (i 0) (i 1)
theorem r_oM (x0 : FVec Ideal S8192x3584 .f32) (x1 : FVec Ideal S3360 .f32) (x4 : FVec Ideal S1024 .f32) (x5 : FVec Ideal S64x1024 .f32) (x8 : FVec Ideal S1024 .f32) : val_main_v86 (F := Ideal) x0 x1 x4 x5 x8 = oM x0 x1 x4 x5 x8 := funext fun i => by
  rw [← ix2_eta i]
  exact v86_at x0 x1 x4 x5 x8 (i 0) (i 1)
theorem r_oN (x0 : FVec Ideal S8192x3584 .f32) (x1 : FVec Ideal S3360 .f32) (x7 : FVec Ideal S1024 .f32) : val_main_v87 (F := Ideal) x0 x1 x7 = oN x0 x1 x7 := funext fun i => by
  rw [← ix2_eta i]
  exact v87_at x0 x1 x7 (i 0) (i 1)
theorem r_oP (x0 : FVec Ideal S8192x3584 .f32) (x1 : FVec Ideal S3360 .f32) (x4 : FVec Ideal S1024 .f32) (x5 : FVec Ideal S64x1024 .f32) (x7 : FVec Ideal S1024 .f32) : val_main_v88 (F := Ideal) x0 x1 x4 x5 x7 = oP x0 x1 x4 x5 x7 := funext fun i => by
  rw [← ix2_eta i]
  exact v88_at x0 x1 x4 x5 x7 (i 0) (i 1)
theorem r_oV (x0 : FVec Ideal S8192x3584 .f32) (x1 : FVec Ideal S3360 .f32) : val_main_v89 (F := Ideal) x0 x1 = oV x0 x1 := funext fun i => by
  rw [← ix2_eta i]
  exact v89_at x0 x1 (i 0) (i 1)
theorem r_oG (x0 : FVec Ideal S8192x3584 .f32) (x1 : FVec Ideal S3360 .f32) (x6 : FVec Ideal S160x1024 .f32) : val_main_v90 (F := Ideal) x0 x1 x6 = oG x0 x1 x6 := funext fun i => by
  rw [← ix2_eta i]
  exact v90_at x0 x1 x6 (i 0) (i 1)
theorem r_oB (x0 : FVec Ideal S8192x3584 .f32) (x1 : FVec Ideal S3360 .f32) (x4 : FVec Ideal S1024 .f32) (x5 : FVec Ideal S64x1024 .f32) (x8 : FVec Ideal S1024 .f32) (x9 : FVec Ideal S16x64 .f32) : val_main_v91 (F := Ideal) x0 x1 x4 x5 x8 x9 = oB x0 x1 x4 x5 x8 x9 := funext fun i => by
  rw [← ix2_eta i]
  exact v91_at x0 x1 x4 x5 x8 x9 (i 0) (i 1)

end Cert.PrepRefIdeal.Val

namespace Cert.Proof

open Idealize.ShloMosaic Idealize.ShloMosaic.TcCoe Idealize.SL.Sem
open Cert.Pre_finite_prep.Val

/-- The elementwise half of the recurrence's layer over the prompt, where the split columns and the weights are finite. -/
theorem prep_claim : Cert.algebraic_PrepIdeal_PrepRefIdeal_pre_finite_prep := fun m g m' g' hpre hag =>
  ⟨_, _, _, _, _, _, _, _,
    Cert.PrepIdeal.Val.run m g (fun c => fin_of _ _ _ _ _ _ _ _ _ _ (hpre c).1 (hpre c).2.1 (hpre c).2.2.1 (hpre c).2.2.2.1 (hpre c).2.2.2.2.1
      (hpre c).2.2.2.2.2.1 (hpre c).2.2.2.2.2.2.1 (hpre c).2.2.2.2.2.2.2.1 (hpre c).2.2.2.2.2.2.2.2.1 (hpre c).2.2.2.2.2.2.2.2.2),
    (θ_run _ _ _).mono (fun _ h c => ⟨
      (h c).1.trans (by
        rw [(hag c).1, (hag c).2.1]
        exact (Cert.PrepRefIdeal.Read.val_main_v84_eq _ _).trans (Cert.PrepRefIdeal.Val.r_oR _ _)),
      (h c).2.1.trans (by
        rw [Cert.PrepRefIdeal.Read.val_main_v85_eq, (hag c).1, (hag c).2.1, (hag c).2.2.1, (hag c).2.2.2.1]
        exact Cert.PrepRefIdeal.Val.r_oW _ _ _ _),
      (h c).2.2.1.trans (by
        rw [Cert.PrepRefIdeal.Read.val_main_v86_eq, (hag c).1, (hag c).2.1, (hag c).2.2.2.2.1, (hag c).2.2.2.2.2.1, (hag c).2.2.2.2.2.2.2.2.1]
        exact Cert.PrepRefIdeal.Val.r_oM _ _ _ _ _),
      (h c).2.2.2.1.trans (by
        rw [Cert.PrepRefIdeal.Read.val_main_v87_eq, (hag c).1, (hag c).2.1, (hag c).2.2.2.2.2.2.2.1]
        exact Cert.PrepRefIdeal.Val.r_oN _ _ _),
      (h c).2.2.2.2.1.trans (by
        rw [Cert.PrepRefIdeal.Read.val_main_v88_eq, (hag c).1, (hag c).2.1, (hag c).2.2.2.2.1, (hag c).2.2.2.2.2.1, (hag c).2.2.2.2.2.2.2.1]
        exact Cert.PrepRefIdeal.Val.r_oP _ _ _ _ _),
      (h c).2.2.2.2.2.1.trans (by
        rw [(hag c).1, (hag c).2.1]
        exact (Cert.PrepRefIdeal.Read.val_main_v89_eq _ _).trans (Cert.PrepRefIdeal.Val.r_oV _ _)),
      (h c).2.2.2.2.2.2.1.trans (by
        rw [(hag c).1, (hag c).2.1, (hag c).2.2.2.2.2.2.1]
        exact (Cert.PrepRefIdeal.Read.val_main_v90_eq _ _ _).trans (Cert.PrepRefIdeal.Val.r_oG _ _ _)),
      (h c).2.2.2.2.2.2.2.1.trans (by
        rw [Cert.PrepRefIdeal.Read.val_main_v91_eq, (hag c).1, (hag c).2.1, (hag c).2.2.2.2.1, (hag c).2.2.2.2.2.1, (hag c).2.2.2.2.2.2.2.2.1, (hag c).2.2.2.2.2.2.2.2.2]
        exact Cert.PrepRefIdeal.Val.r_oB _ _ _ _ _ _),
      (h c).2.2.2.2.2.2.2.2⟩) (Cert.PrepRefIdeal.Value.run m' g')⟩

theorem prep_ref_frame : Cert.quiescent_PrepRefIdeal := fun m g _ =>
  (θ_run Cert.PrepRefIdeal.defs _ _).mono (fun r h => ⟨fun c => (h c).2.2.2.2.2.2.2.2, sem_eq_zero_of_no_sems (by decide) r.2⟩)
    (Cert.PrepRefIdeal.Value.run (F := Ideal) m g)

end Cert.Proof

end
-- ==== Proof.FReg.lean ====
/-
  THE FEED-FORWARD CALLS' ARRAYS, one after the other, each as a function of the arrays it reads: the normalised rows, the product with the
  weights, and the product with the second weights on top of the residual.
-/
module

public import proofs.«01_k».proof.Proof.Gen.FfnIdeal.Frame
public import Idealize.ShloMosaic.Lib.Pipeline.ValueKit

@[expose] public section

set_option maxRecDepth 16384

noncomputable section

namespace Cert.FfnIdeal.Val

open Cert.FfnIdeal Cert.FfnIdeal.Gen Idealize.ShloMosaic Idealize.ShloMosaic.TcCoe Idealize.SL.Sem

variable (V : (c : Dev nD) → (b : Ref sig .tc) → Buf (Elt Ideal) ((c : Thread nD τ).loc b)) (c : Dev nD)

/-- A row scaled by the reciprocal root of its mean square, times the gain. -/
def rms (X : FVec Ideal S8192x2048 .f32) (g : FVec Ideal S1x2048 .f32) : FVec Ideal S8192x2048 .bf16 := fun i =>
  X (ix2 (i 0) (i 1)) * Ideal.rsqrt (Ideal.div (∑ k : Fin 2048, X (ix2 (i 0) k) * X (ix2 (i 0) k)) (Ideal.ofBits .f32 0x45000000#32) + Ideal.ofBits .f32 0x358637BD#32)
    * g (ix2 (0 : Fin 1) (i 1))

/-- The first product. -/
def up (A : FVec Ideal S8192x2048 .bf16) (B : FVec Ideal S2048x8192 .bf16) : FVec Ideal S8192x8192 .f32 := fun i =>
  ∑ k : Fin 2048, A (ix2 (i 0) k) * B (ix2 k (i 1))

/-- The second product, added to the residual. -/
def down (A : FVec Ideal S8192x4096 .bf16) (B : FVec Ideal S4096x2048 .bf16) (R : FVec Ideal S8192x2048 .f32) : FVec Ideal S8192x2048 .f32 := fun i =>
  R (ix2 (i 0) (i 1)) + ∑ k : Fin 4096, A (ix2 (i 0) k) * B (ix2 k (i 1))

theorem idx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)
theorem idx1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)
theorem idx3 : ∀ t : Fin cfg3.N, win3_0.index t = ![(grid3.coords t 0).val, 0] ∧ win3_1.index t = ![0, (grid3.coords t 1).val]
    ∧ win3_2.index t = ![(grid3.coords t 0).val, (grid3.coords t 1).val] ∧ win3_3.index t = ![(grid3.coords t 0).val, (grid3.coords t 1).val] :=
  (by decide +kernel : ∀ t : Fin grid3.N, _)

theorem arr0 : (dat0 V c).arrAt 2 cfg0.N = rms (V c main_arg0) (V c main_v2) := by
  refine (dat0 V c).arrAt_eq_of_covers 2 _ (by decide +kernel) fun t _ y => ?_
  blk_simp
  rw [after0_2]; frame_out
  pointwise [k0_pay1, rms]
  blk_point [iblk0, idx0 t]

theorem arr1 : (dat1 V c).arrAt 2 cfg1.N = up (V c main_v3) (V c main_v0) := by
  refine (dat1 V c).arrAt_eq_of_covers 2 _ (by decide +kernel) fun t _ y => ?_
  blk_simp
  rw [after1_2]; frame_out
  pointwise [k1_pay1, up]
  blk_point [iblk1, idx1 t]

theorem arr3 : (dat3 V c).arrAt 3 cfg3.N = down (V c main_v7) (V c main_v1) (V c main_arg0) := by
  refine (dat3 V c).arrAt_eq_of_covers 3 _ (by decide +kernel) fun t _ y => ?_
  blk_simp
  rw [after3_3]; frame_out
  pointwise [k3_pay1, down]
  blk_point [iblk3, idx3 t]

end Cert.FfnIdeal.Val

end
-- ==== Proof.FConv.lean ====
/-
  THE CONVOLUTION AND GATE: the array the third feed-forward call leaves, as a function of the arrays it reads. A block's row takes its own
  row of the product, the row before and the one before that; a block's first two rows take them from the block before, the first block's from the
  rows given as the start.
-/
module

public import proofs.«01_k».proof.Proof.FReg

@[expose] public section

set_option maxRecDepth 16384

noncomputable section

namespace Cert.FfnIdeal.Val

open Cert.FfnIdeal Cert.FfnIdeal.Gen Idealize.ShloMosaic Idealize.ShloMosaic.TcCoe Idealize.SL.Sem

/-- The product's rows at natural coordinates, zero outside. -/
def ru (U : FVec Ideal S8192x8192 .f32) (r n : ℕ) : EReal :=
  if h : r < 8192 ∧ n < 8192 then U (ix2 (⟨r, h.1⟩ : Fin 8192) (⟨n, h.2⟩ : Fin 8192)) else 0
/-- The start rows likewise. -/
def rp (P : FVec Ideal S4x2x8192 .f32) (b s n : ℕ) : EReal :=
  if h : b < 4 ∧ s < 2 ∧ n < 8192 then P (ix3 (⟨b, h.1⟩ : Fin 4) (⟨s, h.2.1⟩ : Fin 2) (⟨n, h.2.2⟩ : Fin 8192)) else 0
/-- The convolution's weights and bias. -/
def rw' (w : FVec Ideal S3x8192 .f32) (k n : ℕ) : EReal :=
  if h : k < 3 ∧ n < 8192 then w (ix2 (⟨k, h.1⟩ : Fin 3) (⟨n, h.2⟩ : Fin 8192)) else 0
def rbs (b : FVec Ideal S1x8192 .f32) (n : ℕ) : EReal :=
  if h : n < 8192 then b (ix2 (0 : Fin 1) (⟨n, h⟩ : Fin 8192)) else 0

/-- Row `p` of batch `b` with the two start rows in front. -/
def pd (U : FVec Ideal S8192x8192 .f32) (P : FVec Ideal S4x2x8192 .f32) (b p n : ℕ) : EReal :=
  if p < 2 then rp P b p n else ru U (2048 * b + p - 2) n

/-- Three taps and the bias. -/
def cvf (bias x0 w0 x1 w1 x2 w2 : EReal) : EReal := bias + (x0 * w0 + x1 * w1 + x2 * w2)
/-- The gate. -/
def gt (g v : EReal) : EReal := g * Ideal.logistic g * v

/-- The convolution at batch `b`, position `t`, column `n`. -/
def cv (U : FVec Ideal S8192x8192 .f32) (P : FVec Ideal S4x2x8192 .f32) (w : FVec Ideal S3x8192 .f32) (bs : FVec Ideal S1x8192 .f32) (b t n : ℕ) : EReal :=
  cvf (rbs bs n) (pd U P b t n) (rw' w 0 n) (pd U P b (t + 1) n) (rw' w 1 n) (pd U P b (t + 2) n) (rw' w 2 n)

/-- The gated rows. -/
def gated (U : FVec Ideal S8192x8192 .f32) (P : FVec Ideal S4x2x8192 .f32) (w : FVec Ideal S3x8192 .f32) (bs : FVec Ideal S1x8192 .f32) : FVec Ideal S8192x4096 .bf16 := fun i =>
  gt (cv U P w bs ((i 0).val / 2048) ((i 0).val % 2048) (i 1).val) (cv U P w bs ((i 0).val / 2048) ((i 0).val % 2048) (4096 + (i 1).val))

theorem eq_small (a b : ℕ) (ha : a < 2 ^ 32) (hb : b < 2 ^ 32) :
    IntOp.cmpi CmpIPredicate.eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    rwa [BitVec.toNat_ofNat, BitVec.toNat_ofNat, Nat.mod_eq_of_lt ha, Nat.mod_eq_of_lt hb] at this
  · rintro rfl; rfl

theorem sel_ofBool {α : Type} (p : Prop) [Decidable p] (x y : α) : Scalar.select (BitVec.ofBool (decide p)) x y = if p then x else y := by
  by_cases h : p <;> simp [Scalar.select, h]

section pay
variable (i : grid2.Coords) (v44 : Vec Ideal S256x1024 .f32) (v47 : Vec Ideal S1x2x1024 .f32) (v49 : Vec Ideal S2x1024 .f32)

/-- The two rows before a block. -/
def hal (s : Fin 2) (q : Fin 1024) : EReal := if (i 1).val = 0 then v47 (ix3 (0 : Fin 1) s q) else v49 (ix2 s q)
/-- The row before. -/
def tp1 (r : Fin 256) (q : Fin 1024) : EReal :=
  if r.val = 0 then hal i v47 v49 1 q else v44 (ix2 (⟨r.val - 1, by omega⟩ : Fin 256) q)
/-- The row before that. -/
def tp2 (r : Fin 256) (q : Fin 1024) : EReal :=
  if r.val = 0 then hal i v47 v49 0 q else if r.val = 1 then hal i v47 v49 1 q else v44 (ix2 (⟨r.val - 2, by omega⟩ : Fin 256) q)

theorem pay7_at (s : Fin 2) (q : Fin 1024) : k2_pay7 (BitVec.ofNat 32 (i 1).val) v47 v49 (ix2 s q) = hal i v47 v49 s q := by
  have hi : (i 1).val < 8 := (i 1).isLt
  have e : Scalar.cmpi .eq (BitVec.ofNat 32 (i 1).val) 0#32 = BitVec.ofBool (decide ((i 1).val = 0)) := eq_small _ 0 (by omega) (by omega)
  unfold k2_pay7 hal
  dsimp only
  rw [e, sel_ofBool]
  split <;> pointwise []

theorem rowsel (r : Fin 256) (k : ℕ) (hk : k < 2 ^ 32) (x y : EReal) :
    Scalar.select (IntOp.cmpi CmpIPredicate.eq (BitVec.ofNat 32 r.val) (BitVec.ofNat 32 k)) x y = if r.val = k then x else y := by
  rw [eq_small _ _ (by omega) hk, sel_ofBool]

theorem rot_at (r : Fin 256) (q : Fin 1024) (k : ℕ) (hk : k ≤ r.val) (h : (r.val + 256 - k) % 256 < 256) :
    v44 (ix2 (⟨(r.val + 256 - k) % 256, h⟩ : Fin 256) q) = v44 (ix2 (⟨r.val - k, by omega⟩ : Fin 256) q) := by
  have e : (⟨(r.val + 256 - k) % 256, h⟩ : Fin 256) = ⟨r.val - k, by omega⟩ := Fin.ext (by dsimp only; omega)
  rw [e]

theorem pay8_at (r : Fin 256) (q : Fin 1024) : k2_pay8 (BitVec.ofNat 32 (i 1).val) v44 v47 v49 (ix2 r q) = tp1 i v44 v47 v49 r q := by
  pointwise [k2_pay8, k2_pay6]
  refine (rowsel r 0 (by omega) _ _).trans ?_
  unfold tp1
  split
  · exact pay7_at i v47 v49 1 q
  · exact rot_at v44 r q 1 (by omega) _

theorem pay10_at (v75 : Vec Ideal S1x1024 .f32) (r : Fin 256) (q : Fin 1024) :
    k2_pay10 (BitVec.ofNat 32 (i 1).val) v44 v47 v49 v75 (ix2 r q) = tp2 i v44 v47 v49 r q * v75 (ix2 (0 : Fin 1) q) := by
  pointwise [k2_pay10, k2_pay6]
  congr 1
  refine (rowsel r 0 (by omega) _ _).trans ?_
  unfold tp2
  split
  · exact pay7_at i v47 v49 0 q
  refine (rowsel r 1 (by omega) _ _).trans ?_
  split
  · exact pay7_at i v47 v49 1 q
  · exact rot_at v44 r q 2 (by omega) _

/-- The gate's half is the other half's arithmetic, spelt in one piece. -/
theorem pay4_eq (v31 v34 : Vec Ideal S1x1024 .f32) (r : Fin 256) (q : Fin 1024) :
    k2_pay4 i v44 v47 v49 v31 v34 (ix2 r q) = tp2 i v44 v47 v49 r q * v31 (ix2 (0 : Fin 1) q) + tp1 i v44 v47 v49 r q * v34 (ix2 (0 : Fin 1) q) := by
  have e : k2_pay4 i v44 v47 v49 v31 v34 (ix2 r q)
      = k2_pay10 (BitVec.ofNat 32 (i 1).val) v44 v47 v49 v31 (ix2 r q) + k2_pay8 (BitVec.ofNat 32 (i 1).val) v44 v47 v49 (ix2 r q) * v34 (ix2 (0 : Fin 1) q) := by
    pointwise [k2_pay4, k2_pay10, k2_pay8, k2_pay7, k2_pay6, k2_pay2]
  rw [e, pay10_at, pay8_at]

end pay

/-- What a block's body leaves at a row and a column. -/
theorem out_at (i : grid2.Coords) (x0 : Vec Ideal S256x1024 .f32) (x1 : Vec Ideal S256x1024 .f32) (x2 : Vec Ideal S8x1024 .f32) (x3 : Vec Ideal S8x1024 .f32) (x4 : Vec Ideal S1x2x1024 .f32) (x5 : Vec Ideal S1x2x1024 .f32) (x6 : Vec Ideal S3x1024 .f32) (x7 : Vec Ideal S3x1024 .f32) (x8 : Vec Ideal S1x1024 .f32) (x9 : Vec Ideal S1x1024 .f32)
    (r : Fin 256) (q : Fin 1024) : out2_10 i x0 x1 x2 x3 x4 x5 x6 x7 x8 x9 (ix2 r q)
      = gt (cvf (x8 (ix2 (0 : Fin 1) q)) (tp2 i x0 x4 (View.ld x2 r2_2) r q) (x6 (ix2 (0 : Fin 3) q)) (tp1 i x0 x4 (View.ld x2 r2_2) r q) (x6 (ix2 (1 : Fin 3) q)) (x0 (ix2 r q)) (x6 (ix2 (2 : Fin 3) q)))
          (cvf (x9 (ix2 (0 : Fin 1) q)) (tp2 i x1 x5 (View.ld x3 r2_2) r q) (x7 (ix2 (0 : Fin 3) q)) (tp1 i x1 x5 (View.ld x3 r2_2) r q) (x7 (ix2 (1 : Fin 3) q)) (x1 (ix2 r q)) (x7 (ix2 (2 : Fin 3) q))) := by
  frame_out
  pointwise [k2_pay1, k2_pay2, k2_pay3, k2_pay5, k2_pay6, k2_pay9]
  rw [pay4_eq, pay10_at, pay8_at]
  pointwise [gt, cvf]

variable (V : (c : Dev nD) → (b : Ref sig .tc) → Buf (Elt Ideal) ((c : Thread nD τ).loc b)) (c : Dev nD) (t : Fin cfg2.N)

theorem idx2 : ∀ t : Fin cfg2.N,
    win2_0.index t = ![(grid2.coords t 0).val * 8 + (grid2.coords t 1).val, (grid2.coords t 2).val]
    ∧ win2_1.index t = ![(grid2.coords t 0).val * 8 + (grid2.coords t 1).val, (grid2.coords t 2).val + 4]
    ∧ win2_2.index t = ![((grid2.coords t 0).val * 8 + (grid2.coords t 1).val) * 32 - 1, (grid2.coords t 2).val]
    ∧ win2_3.index t = ![((grid2.coords t 0).val * 8 + (grid2.coords t 1).val) * 32 - 1, (grid2.coords t 2).val + 4]
    ∧ win2_4.index t = ![(grid2.coords t 0).val, 0, (grid2.coords t 2).val]
    ∧ win2_5.index t = ![(grid2.coords t 0).val, 0, (grid2.coords t 2).val + 4]
    ∧ win2_6.index t = ![0, (grid2.coords t 2).val]
    ∧ win2_7.index t = ![0, (grid2.coords t 2).val + 4]
    ∧ win2_8.index t = ![0, (grid2.coords t 2).val]
    ∧ win2_9.index t = ![0, (grid2.coords t 2).val + 4]
    ∧ win2_10.index t = ![(grid2.coords t 0).val * 8 + (grid2.coords t 1).val, (grid2.coords t 2).val] :=
  (by decide +kernel : ∀ t : Fin grid2.N, _)

theorem co_lt (t : Fin cfg2.N) : (grid2.coords t 0).val < 4 ∧ (grid2.coords t 1).val < 8 ∧ (grid2.coords t 2).val < 4 :=
  ⟨(grid2.coords t 0).isLt, (grid2.coords t 1).isLt, (grid2.coords t 2).isLt⟩

theorem r0_at (r : Fin 256) (q : Fin 1024) : (iblk2 V c 0 t : Vec Ideal S256x1024 .f32) (ix2 r q)
    = ru (V c main_v4) (2048 * (grid2.coords t 0).val + 256 * (grid2.coords t 1).val + r.val) (1024 * (grid2.coords t 2).val + q.val) := by
  obtain ⟨h0, h1, h2⟩ := co_lt t
  rw [ru, dif_pos ⟨by omega, by omega⟩]
  blk_ext [iblk2, idx2 t]
theorem r1_at (r : Fin 256) (q : Fin 1024) : (iblk2 V c 1 t : Vec Ideal S256x1024 .f32) (ix2 r q)
    = ru (V c main_v4) (2048 * (grid2.coords t 0).val + 256 * (grid2.coords t 1).val + r.val) (4096 + (1024 * (grid2.coords t 2).val + q.val)) := by
  obtain ⟨h0, h1, h2⟩ := co_lt t
  rw [ru, dif_pos ⟨by omega, by omega⟩]
  blk_ext [iblk2, idx2 t]
theorem r2_at (hi : (grid2.coords t 1).val ≠ 0) (s : Fin 2) (q : Fin 1024) : View.ld (iblk2 V c 2 t : Vec Ideal S8x1024 .f32) r2_2 (ix2 s q)
    = ru (V c main_v4) (2048 * (grid2.coords t 0).val + 256 * (grid2.coords t 1).val + s.val - 2) (1024 * (grid2.coords t 2).val + q.val) := by
  obtain ⟨h0, h1, h2⟩ := co_lt t
  rw [ru, dif_pos ⟨by omega, by omega⟩]
  pointwise []
  blk_ext [iblk2, idx2 t]
theorem r3_at (hi : (grid2.coords t 1).val ≠ 0) (s : Fin 2) (q : Fin 1024) : View.ld (iblk2 V c 3 t : Vec Ideal S8x1024 .f32) r2_2 (ix2 s q)
    = ru (V c main_v4) (2048 * (grid2.coords t 0).val + 256 * (grid2.coords t 1).val + s.val - 2) (4096 + (1024 * (grid2.coords t 2).val + q.val)) := by
  obtain ⟨h0, h1, h2⟩ := co_lt t
  rw [ru, dif_pos ⟨by omega, by omega⟩]
  pointwise []
  blk_ext [iblk2, idx2 t]
theorem r4_at (s : Fin 2) (q : Fin 1024) : (iblk2 V c 4 t : Vec Ideal S1x2x1024 .f32) (ix3 (0 : Fin 1) s q)
    = rp (V c main_v5) (grid2.coords t 0).val s.val (1024 * (grid2.coords t 2).val + q.val) := by
  obtain ⟨h0, h1, h2⟩ := co_lt t
  rw [rp, dif_pos ⟨by omega, by omega, by omega⟩]
  blk_ext [iblk2, idx2 t]
theorem r5_at (s : Fin 2) (q : Fin 1024) : (iblk2 V c 5 t : Vec Ideal S1x2x1024 .f32) (ix3 (0 : Fin 1) s q)
    = rp (V c main_v5) (grid2.coords t 0).val s.val (4096 + (1024 * (grid2.coords t 2).val + q.val)) := by
  obtain ⟨h0, h1, h2⟩ := co_lt t
  rw [rp, dif_pos ⟨by omega, by omega, by omega⟩]
  blk_ext [iblk2, idx2 t]
theorem r6_at (k : Fin 3) (q : Fin 1024) : (iblk2 V c 6 t : Vec Ideal S3x1024 .f32) (ix2 k q)
    = rw' (V c main_arg3) k.val (1024 * (grid2.coords t 2).val + q.val) := by
  obtain ⟨h0, h1, h2⟩ := co_lt t
  rw [rw', dif_pos ⟨by omega, by omega⟩]
  blk_ext [iblk2, idx2 t]
theorem r7_at (k : Fin 3) (q : Fin 1024) : (iblk2 V c 7 t : Vec Ideal S3x1024 .f32) (ix2 k q)
    = rw' (V c main_arg3) k.val (4096 + (1024 * (grid2.coords t 2).val + q.val)) := by
  obtain ⟨h0, h1, h2⟩ := co_lt t
  rw [rw', dif_pos ⟨by omega, by omega⟩]
  blk_ext [iblk2, idx2 t]
theorem r8_at (q : Fin 1024) : (iblk2 V c 8 t : Vec Ideal S1x1024 .f32) (ix2 (0 : Fin 1) q)
    = rbs (V c main_v6) (1024 * (grid2.coords t 2).val + q.val) := by
  obtain ⟨h0, h1, h2⟩ := co_lt t
  rw [rbs, dif_pos (by omega)]
  blk_ext [iblk2, idx2 t]
theorem r9_at (q : Fin 1024) : (iblk2 V c 9 t : Vec Ideal S1x1024 .f32) (ix2 (0 : Fin 1) q)
    = rbs (V c main_v6) (4096 + (1024 * (grid2.coords t 2).val + q.val)) := by
  obtain ⟨h0, h1, h2⟩ := co_lt t
  rw [rbs, dif_pos (by omega)]
  blk_ext [iblk2, idx2 t]

/-- The taps of a block whose reads are rows `o + r` of batch `b`, the rows before it from the start rows or the block before. -/
theorem taps (U : FVec Ideal S8192x8192 .f32) (P : FVec Ideal S4x2x8192 .f32) (i : grid2.Coords) (b o n : ℕ) (q : Fin 1024) (ho : o = 256 * (i 1).val)
    (v44 : Vec Ideal S256x1024 .f32) (v47 : Vec Ideal S1x2x1024 .f32) (v49 : Vec Ideal S2x1024 .f32)
    (e0 : ∀ r : Fin 256, v44 (ix2 r q) = ru U (2048 * b + o + r.val) n)
    (e1 : ∀ s : Fin 2, v47 (ix3 (0 : Fin 1) s q) = rp P b s.val n)
    (e2 : (i 1).val ≠ 0 → ∀ s : Fin 2, v49 (ix2 s q) = ru U (2048 * b + o + s.val - 2) n) (r : Fin 256) :
    v44 (ix2 r q) = pd U P b (o + r.val + 2) n ∧ tp1 i v44 v47 v49 r q = pd U P b (o + r.val + 1) n ∧ tp2 i v44 v47 v49 r q = pd U P b (o + r.val) n := by
  have hh : ∀ s : Fin 2, hal i v47 v49 s q = pd U P b (o + s.val) n := by
    intro s
    unfold hal pd
    by_cases hz : (i 1).val = 0
    · rw [if_pos hz, if_pos (by omega), e1]; congr 1; omega
    · rw [if_neg hz, if_neg (by omega), e2 hz]; congr 1; omega
  refine ⟨?_, ?_, ?_⟩
  · rw [e0, pd, if_neg (by omega)]; congr 1; omega
  · unfold tp1
    split
    · rw [hh]; congr 1; show o + 1 = _; omega
    · rw [e0, pd, if_neg (by omega)]; congr 1; dsimp only; omega
  · unfold tp2
    split
    · rw [hh]; congr 1; show o + 0 = _; omega
    split
    · rw [hh]; congr 1; show o + 1 = _; omega
    · rw [e0, pd, if_neg (by omega)]; congr 1; dsimp only; omega

theorem cvf_congr {a a' b b' d d' e e' f f' g g' h h' : EReal} (h1 : a = a') (h2 : b = b') (h3 : d = d') (h4 : e = e') (h5 : f = f') (h6 : g = g') (h7 : h = h') :
    cvf a b d e f g h = cvf a' b' d' e' f' g' h' := by subst h1 h2 h3 h4 h5 h6 h7; rfl

theorem point2 (r : Fin 256) (q : Fin 1024) :
    out2_10 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ix2 r q)
      = gt (cv (V c main_v4) (V c main_v5) (V c main_arg3) (V c main_v6) (grid2.coords t 0).val (256 * (grid2.coords t 1).val + r.val) (1024 * (grid2.coords t 2).val + q.val))
          (cv (V c main_v4) (V c main_v5) (V c main_arg3) (V c main_v6) (grid2.coords t 0).val (256 * (grid2.coords t 1).val + r.val) (4096 + (1024 * (grid2.coords t 2).val + q.val))) := by
  obtain ⟨a0, a1, a2⟩ := taps (V c main_v4) (V c main_v5) (grid2.coords t) (grid2.coords t 0).val (256 * (grid2.coords t 1).val) (1024 * (grid2.coords t 2).val + q.val) q rfl
    (iblk2 V c 0 t) (iblk2 V c 4 t) (View.ld (iblk2 V c 2 t : Vec Ideal S8x1024 .f32) r2_2) (fun r => r0_at V c t r q) (fun s => r4_at V c t s q) (fun h s => r2_at V c t h s q) r
  obtain ⟨b0, b1, b2⟩ := taps (V c main_v4) (V c main_v5) (grid2.coords t) (grid2.coords t 0).val (256 * (grid2.coords t 1).val) (4096 + (1024 * (grid2.coords t 2).val + q.val)) q rfl
    (iblk2 V c 1 t) (iblk2 V c 5 t) (View.ld (iblk2 V c 3 t : Vec Ideal S8x1024 .f32) r2_2) (fun r => r1_at V c t r q) (fun s => r5_at V c t s q) (fun h s => r3_at V c t h s q) r
  refine (out_at _ _ _ _ _ _ _ _ _ _ _ r q).trans ?_
  exact congrArg₂ gt (cvf_congr (r8_at V c t q) a2 (r6_at V c t 0 q) a1 (r6_at V c t 1 q) a0 (r6_at V c t 2 q))
    (cvf_congr (r9_at V c t q) b2 (r7_at V c t 0 q) b1 (r7_at V c t 1 q) b0 (r7_at V c t 2 q))

theorem arr2 : (dat2 V c).arrAt 10 cfg2.N = gated (V c main_v4) (V c main_v5) (V c main_arg3) (V c main_v6) := by
  refine (dat2 V c).arrAt_eq_of_covers 10 _ (by decide +kernel) fun t _ y => ?_
  blk_simp
  rw [after2_10]
  obtain ⟨h0, h1, h2⟩ := co_lt t
  have hy0 : (y 0).val < 256 := (y 0).isLt
  have hy1 : (y 1).val < 1024 := (y 1).isLt
  have hy : y = ix2 (⟨(y 0).val, hy0⟩ : Fin 256) (⟨(y 1).val, hy1⟩ : Fin 1024) := by
    funext a; match a with | ⟨0, _⟩ => rfl | ⟨1, _⟩ => rfl
  refine (congrArg (out2_10 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) hy).trans
    ((point2 V c t _ _).trans ?_)
  unfold gated
  have e0 : ((((cfg2.win 10).blk t).view.emb y) 0).val = 2048 * (grid2.coords t 0).val + (256 * (grid2.coords t 1).val + (y 0).val) := by
    blk_simp [idx2 t]; omega
  have e1 : ((((cfg2.win 10).blk t).view.emb y) 1).val = 1024 * (grid2.coords t 2).val + (y 1).val := by
    blk_simp [idx2 t]; omega
  change _ = gt (cv _ _ _ _ (((((cfg2.win 10).blk t).view.emb y) 0).val / 2048) (((((cfg2.win 10).blk t).view.emb y) 0).val % 2048) ((((cfg2.win 10).blk t).view.emb y) 1).val)
    (cv _ _ _ _ (((((cfg2.win 10).blk t).view.emb y) 0).val / 2048) (((((cfg2.win 10).blk t).view.emb y) 0).val % 2048) (4096 + ((((cfg2.win 10).blk t).view.emb y) 1).val))
  rw [e0, e1, show (2048 * (grid2.coords t 0).val + (256 * (grid2.coords t 1).val + (y 0).val)) / 2048 = (grid2.coords t 0).val by omega,
    show (2048 * (grid2.coords t 0).val + (256 * (grid2.coords t 1).val + (y 0).val)) % 2048 = 256 * (grid2.coords t 1).val + (y 0).val by omega]

end Cert.FfnIdeal.Val

end
-- ==== Proof.FRun.lean ====
/-
  THE FEED-FORWARD PROGRAM'S RUN: what each of its two results holds at the end, as a term over the arguments.
-/
module

public import proofs.«01_k».proof.Proof.FConv

@[expose] public section

set_option maxRecDepth 16384

noncomputable section

namespace Cert.FfnIdeal.Val

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The weights as the products take them. -/
def wUp (w : FVec Ideal S2048x8192 .f32) : FVec Ideal S2048x8192 .bf16 := truncf .bf16 w bitsLt_bf16_f32
def wDn (w : FVec Ideal S4096x2048 .f32) : FVec Ideal S4096x2048 .bf16 := truncf .bf16 w bitsLt_bf16_f32

/-- The first product of the arguments. -/
def upA (x : FVec Ideal S8192x2048 .f32) (g : FVec Ideal S2048 .f32) (wu : FVec Ideal S2048x8192 .f32) : FVec Ideal S8192x8192 .f32 :=
  up (rms x (shapeCast S1x2048 g shapeCasts_S2048_S1x2048)) (wUp wu)
/-- The start rows: zero. -/
def zeroA : FVec Ideal S4x2x8192 .f32 := broadcastInDim S4x2x8192 ![] bcast_S_S4x2x8192 (constant (F := Ideal) S_ .f32 0x00000000#32)
/-- The gated rows of the arguments. -/
def gateA (x : FVec Ideal S8192x2048 .f32) (g : FVec Ideal S2048 .f32) (wu : FVec Ideal S2048x8192 .f32) (cw : FVec Ideal S3x8192 .f32) (cb : FVec Ideal S8192 .f32) : FVec Ideal S8192x4096 .bf16 :=
  gated (upA x g wu) zeroA cw (broadcastInDim S1x8192 ![1] bcast_S8192_S1x8192_1 cb)
/-- The first result. -/
def Y (x : FVec Ideal S8192x2048 .f32) (g : FVec Ideal S2048 .f32) (wu : FVec Ideal S2048x8192 .f32) (cw : FVec Ideal S3x8192 .f32) (cb : FVec Ideal S8192 .f32) (wd : FVec Ideal S4096x2048 .f32) : FVec Ideal S8192x2048 .f32 :=
  down (gateA x g wu cw cb) (wDn wd) x
/-- The second result: the product's last two rows of each batch. -/
def Tl (x : FVec Ideal S8192x2048 .f32) (g : FVec Ideal S2048 .f32) (wu : FVec Ideal S2048x8192 .f32) : FVec Ideal S4x2x8192 .f32 :=
  extractStridedSlice S4x2x8192 ![0, 2, 0] (concatenate S4x4x8192 1 [⟨S4x2x8192, zeroA⟩,
    ⟨S4x2x8192, extractStridedSlice S4x2x8192 ![0, 2046, 0] (shapeCast S4x2048x8192 (upA x g wu) shapeCasts_S8192x8192_S4x2048x8192) slices_S4x2048x8192_S4x2x8192_0_2046_0⟩]
    concatenates_S4x2x8192_S4x2x8192_S4x4x8192_d1) slices_S4x4x8192_S4x2x8192_0_2_0

variable (m : (ℓ : Loc nD τ sig) → Buf (Elt Ideal) ℓ) (ρ : Dev nD → PrngReg) (c : Dev nD)

theorem w1_v0 : W1 m ρ c (Proc.devRef .tc main_v0) = wUp (m ((c : Thread nD τ).loc main_arg2)) := by
  after_results_simp <;> rfl
theorem w1_v1 : W1 m ρ c (Proc.devRef .tc main_v1) = wDn (m ((c : Thread nD τ).loc main_arg5)) := by
  after_results_simp <;> rfl
theorem w1_v2 : W1 m ρ c (Proc.devRef .tc main_v2) = shapeCast S1x2048 (m ((c : Thread nD τ).loc main_arg1) : FVec Ideal S2048 .f32) shapeCasts_S2048_S1x2048 := by
  after_results_simp <;> rfl
theorem w2_v3 : W2 m ρ c (Proc.devRef .tc main_v3) = rms (m ((c : Thread nD τ).loc main_arg0)) (shapeCast S1x2048 (m ((c : Thread nD τ).loc main_arg1) : FVec Ideal S2048 .f32) shapeCasts_S2048_S1x2048) :=
  (W2_arr m ρ c 2).trans ((arr0 (V1 m ρ) c).trans (congrArg₂ rms (W1_args m ρ c main_arg0 (by decide)) (w1_v2 m ρ c)))
theorem w3_v4 : W3 m ρ c (Proc.devRef .tc main_v4) = upA (m ((c : Thread nD τ).loc main_arg0)) (m ((c : Thread nD τ).loc main_arg1)) (m ((c : Thread nD τ).loc main_arg2)) :=
  (W3_arr m ρ c 2).trans ((arr1 (V2 m ρ) c).trans (congrArg₂ up (w2_v3 m ρ c) ((W2_of m ρ c main_v0 (by decide)).trans (w1_v0 m ρ c))))
theorem w4_v4 : W4 m ρ c (Proc.devRef .tc main_v4) = upA (m ((c : Thread nD τ).loc main_arg0)) (m ((c : Thread nD τ).loc main_arg1)) (m ((c : Thread nD τ).loc main_arg2)) :=
  (W4_of m ρ c main_v4 (by decide)).trans (w3_v4 m ρ c)
theorem w4_v5 : W4 m ρ c (Proc.devRef .tc main_v5) = zeroA := by
  after_results_simp <;> rfl
theorem w4_v6 : W4 m ρ c (Proc.devRef .tc main_v6) = broadcastInDim S1x8192 ![1] bcast_S8192_S1x8192_1 (m ((c : Thread nD τ).loc main_arg4) : FVec Ideal S8192 .f32) := by
  rw [← W3_args m ρ c main_arg4 (by decide)]
  after_results_simp <;> rfl
theorem w5_v7 : W5 m ρ c (Proc.devRef .tc main_v7) = gateA (m ((c : Thread nD τ).loc main_arg0)) (m ((c : Thread nD τ).loc main_arg1)) (m ((c : Thread nD τ).loc main_arg2))
    (m ((c : Thread nD τ).loc main_arg3)) (m ((c : Thread nD τ).loc main_arg4)) := by
  refine (W5_arr m ρ c 10).trans ((arr2 (V4 m ρ) c).trans ?_)
  unfold gateA
  rw [← w4_v4 m ρ c, ← w4_v5 m ρ c, ← w4_v6 m ρ c, ← W4_args m ρ c main_arg3 (by decide)]
theorem w5_v1 : W5 m ρ c (Proc.devRef .tc main_v1) = wDn (m ((c : Thread nD τ).loc main_arg5)) :=
  (W5_of m ρ c main_v1 (by decide)).trans ((W4_of m ρ c main_v1 (by decide)).trans ((W3_of m ρ c main_v1 (by decide)).trans ((W2_of m ρ c main_v1 (by decide)).trans (w1_v1 m ρ c))))
theorem w6_v8 : W6 m ρ c (Proc.devRef .tc main_v8) = Y (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (W6_arr m ρ c 3).trans ((arr3 (V5 m ρ) c).trans ?_)
  unfold Y
  rw [← w5_v7 m ρ c, ← w5_v1 m ρ c]
  exact congrArg (down _ _) (W5_args m ρ c main_arg0 (by decide))
theorem w6_v4 : W6 m ρ c (Proc.devRef .tc main_v4) = upA (m ((c : Thread nD τ).loc main_arg0)) (m ((c : Thread nD τ).loc main_arg1)) (m ((c : Thread nD τ).loc main_arg2)) :=
  (W6_of m ρ c main_v4 (by decide)).trans ((W5_of m ρ c main_v4 (by decide)).trans (w4_v4 m ρ c))
theorem w6_v5 : W6 m ρ c (Proc.devRef .tc main_v5) = zeroA :=
  (W6_of m ρ c main_v5 (by decide)).trans ((W5_of m ρ c main_v5 (by decide)).trans (w4_v5 m ρ c))
theorem w7_v8 : W7 m ρ c (Proc.devRef .tc main_v8) = Y (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) :=
  (W7_of m ρ c main_v8 (by decide)).trans (w6_v8 m ρ c)
theorem w7_v12 : W7 m ρ c (Proc.devRef .tc main_v12) = Tl (m ((c : Thread nD τ).loc main_arg0)) (m ((c : Thread nD τ).loc main_arg1)) (m ((c : Thread nD τ).loc main_arg2)) := by
  unfold Tl
  rw [← w6_v4 m ρ c, ← w6_v5 m ρ c]
  after_results_simp <;> rfl

-- the launch's implicit arguments are found by unifying its conclusion with this one
set_option backward.isDefEq.respectTransparency.types false in
/-- Every run ends with the two results at their terms and the arguments as launched. -/
theorem run : θ_run defs (onTc (τ := τ) (main (F := Ideal))) ⟨m, fun _ => 0, ρ⟩ (fun r => ∀ c : Dev nD,
      r.2.mem ((c.tc : Thread nD τ).loc main_v8) = Y (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c.tc : Thread nD τ).loc main_v12) = Tl (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => (fun c =>
      ⟨(h c _ (mem_uc main_v8 (by decide))).trans (w7_v8 m ρ c),
       (h c _ (mem_uc main_v12 (by decide))).trans (w7_v12 m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩))

end Cert.FfnIdeal.Val

end
-- ==== Proof.FRef.lean ====
/-
  THE FEED-FORWARD REFERENCE'S RESULTS are the same two terms of the arguments: its normalised rows, its product, its rows with the two zero rows in front,
  its three taps, its gate, and its second product, each at coordinates.
-/
module

public import proofs.«01_k».proof.Proof.FRun
public import proofs.«01_k».proof.Proof.Gen.FfnRefIdeal.Read
public import Idealize.ShloMosaic.Lib.IdealHost

@[expose] public section

set_option maxRecDepth 16384

noncomputable section

namespace Cert.FfnRefIdeal.Val

open Cert.FfnRefIdeal Cert.FfnRefIdeal.Gen Cert.FfnRefIdeal.Read Idealize.ShloMosaic Idealize.ShloMosaic.TcCoe Idealize.SL.Sem
open Cert.FfnIdeal.Val

variable (x : FVec Ideal S8192x2048 .f32) (g : FVec Ideal S2048 .f32) (wu : FVec Ideal S2048x8192 .f32) (cw : FVec Ideal S3x8192 .f32)
  (cb : FVec Ideal S8192 .f32) (wd : FVec Ideal S4096x2048 .f32)

theorem zlit : (FloatOps.ofBits .f32 0x00000000#32 : Ideal .f32) = 0 := Ideal.ofBits_zero .f32

theorem v0_at (i : S4x2048x2048.Idx) (r : Fin 8192) (k : Fin 2048) (hr : r.val = 2048 * (i 0).val + (i 1).val) (hk : k.val = (i 2).val) :
    val_main_v0 (F := Ideal) x i = x (ix2 r k) := by
  have h2 : (i 2).val < 2048 := (i 2).isLt
  rw [val_main_v0_apply]
  refine congrArg x (funext fun a => Fin.ext ?_)
  match a with
  | ⟨0, _⟩ => show (((i 0).val * 2048 + (i 1).val) * 2048 + (i 2).val) / 2048 = r.val; omega
  | ⟨1, _⟩ => show (((i 0).val * 2048 + (i 1).val) * 2048 + (i 2).val) % 2048 = k.val; omega

theorem v2_at (i : S4x2048.Idx) (r : Fin 8192) (hr : r.val = 2048 * (i 0).val + (i 1).val) :
    val_main_v2 (F := Ideal) x i = ∑ k : Fin 2048, x (ix2 r k) * x (ix2 r k) := by
  rw [val_main_v2_apply, val_main_cst_apply, zlit, zero_add]
  refine Finset.sum_congr rfl fun k _ => ?_
  rw [val_main_v1_apply, v0_at x _ r k hr rfl]
  rfl

theorem gain_at (i : S4x2048x2048.Idx) (k : Fin 2048) (hk : k.val = (i 2).val) :
    val_main_v12 (F := Ideal) g i = shapeCast Cert.FfnIdeal.S1x2048 g Cert.FfnIdeal.Gen.shapeCasts_S2048_S1x2048 (ix2 (0 : Fin 1) k) := by
  rw [val_main_v12_apply, val_main_v11_apply]
  pointwise []
  refine congrArg g (funext fun a => Fin.ext ?_)
  match a with
  | ⟨0, _⟩ => exact hk.symm

theorem v13_at (i : S4x2048x2048.Idx) (r : Fin 8192) (k : Fin 2048) (hr : r.val = 2048 * (i 0).val + (i 1).val) (hk : k.val = (i 2).val) :
    val_main_v13 (F := Ideal) x g i = rms x (shapeCast Cert.FfnIdeal.S1x2048 g Cert.FfnIdeal.Gen.shapeCasts_S2048_S1x2048) (ix2 r k) := by
  rw [val_main_v13_apply, val_main_v10_apply, gain_at g i k hk, v0_at x i r k hr hk, val_main_v9_apply, val_main_v8_apply, val_main_v7_apply, val_main_v5_apply,
    val_main_v3_apply, v2_at x _ r hr, val_main_v4_apply, val_main_v6_apply, val_main_cst_0_apply, val_main_cst_1_apply]
  rfl

theorem v15_at (i : S4x2048x8192.Idx) : val_main_v15 (F := Ideal) x g wu i = ru (upA x g wu) (2048 * (i 0).val + (i 1).val) (i 2).val := by
  have h0 : (i 0).val < 4 := (i 0).isLt
  have h1 : (i 1).val < 2048 := (i 1).isLt
  have h2 : (i 2).val < 8192 := (i 2).isLt
  rw [val_main_v15_apply, ru, dif_pos ⟨by omega, by omega⟩]
  change _ = ∑ k : Fin 2048, rms x (shapeCast Cert.FfnIdeal.S1x2048 g Cert.FfnIdeal.Gen.shapeCasts_S2048_S1x2048) (ix2 ⟨2048 * (i 0).val + (i 1).val, _⟩ k) * wu (ix2 k ⟨(i 2).val, _⟩)
  refine Finset.sum_congr rfl fun k _ => congrArg₂ (· * ·) (v13_at x g _ ⟨2048 * (i 0).val + (i 1).val, by omega⟩ k rfl rfl) (congrArg wu (funext fun a => ?_))
  match a with
  | ⟨0, _⟩ => rfl
  | ⟨1, _⟩ => rfl

theorem v16_at (i : S4x2050x8192.Idx) : val_main_v16 (F := Ideal) x g wu i = pd (upA x g wu) zeroA (i 0).val (i 1).val (i 2).val := by
  have h0 : (i 0).val < 4 := (i 0).isLt
  have h1 : (i 1).val < 2050 := (i 1).isLt
  have h2 : (i 2).val < 8192 := (i 2).isLt
  unfold pd
  by_cases hp : (i 1).val < 2
  · rw [if_pos hp, rp, dif_pos ⟨h0, hp, h2⟩]
    refine (concatenate_pair_apply_left 1 (val_main_v14 (F := Ideal)) (val_main_v15 (F := Ideal) x g wu) _ i rfl (ix3 (⟨(i 0).val, h0⟩ : Fin 4) (⟨(i 1).val, hp⟩ : Fin 2) (⟨(i 2).val, h2⟩ : Fin 8192)) fun b => ?_).trans ?_
    · match b with
      | ⟨0, _⟩ => rfl
      | ⟨1, _⟩ => rfl
      | ⟨2, _⟩ => rfl
    · rfl
  · rw [if_neg hp]
    refine (concatenate_pair_apply_right 1 (val_main_v14 (F := Ideal)) (val_main_v15 (F := Ideal) x g wu) _ i rfl rfl (ix3 (⟨(i 0).val, h0⟩ : Fin 4) (⟨(i 1).val - 2, by omega⟩ : Fin 2048) (⟨(i 2).val, h2⟩ : Fin 8192)) (fun b hb => ?_) ?_).trans ?_
    · match b with
      | ⟨0, _⟩ => rfl
      | ⟨1, _⟩ => exact absurd rfl hb
      | ⟨2, _⟩ => rfl
    · show (i 1).val - 2 + 2 = (i 1).val; omega
    · refine (v15_at x g wu _).trans ?_
      show ru _ (2048 * (i 0).val + ((i 1).val - 2)) (i 2).val = _
      congr 1; omega

/-- The taps' operands at coordinates. -/
theorem v17_at (i : S4x2048x8192.Idx) : val_main_v17 (F := Ideal) x g wu i = pd (upA x g wu) zeroA (i 0).val (i 1).val (i 2).val := by
  rw [val_main_v17_apply, v16_at]
theorem v25_at (i : S4x2048x8192.Idx) : val_main_v25 (F := Ideal) x g wu i = pd (upA x g wu) zeroA (i 0).val ((i 1).val + 1) (i 2).val := by
  rw [val_main_v25_apply, v16_at]
  dsimp only
  congr 1; omega
theorem v32_at (i : S4x2048x8192.Idx) : val_main_v32 (F := Ideal) x g wu i = pd (upA x g wu) zeroA (i 0).val ((i 1).val + 2) (i 2).val := by
  rw [val_main_v32_apply, v16_at]
  dsimp only
  congr 1; omega
theorem v21_at (i : S4x2048x8192.Idx) : val_main_v21 (F := Ideal) cw i = rw' cw 0 (i 2).val := by
  have h2 : (i 2).val < 8192 := (i 2).isLt
  rw [val_main_v21_apply, val_main_v20_apply, val_main_v19_apply, val_main_v18_apply, rw', dif_pos ⟨by omega, h2⟩]
  refine congrArg cw (funext fun a => Fin.ext ?_)
  match a with
  | ⟨0, _⟩ => first | rfl | (dsimp; omega)
  | ⟨1, _⟩ => first | rfl | (dsimp; omega)
theorem v29_at (i : S4x2048x8192.Idx) : val_main_v29 (F := Ideal) cw i = rw' cw 1 (i 2).val := by
  have h2 : (i 2).val < 8192 := (i 2).isLt
  rw [val_main_v29_apply, val_main_v28_apply, val_main_v27_apply, val_main_v26_apply, rw', dif_pos ⟨by omega, h2⟩]
  refine congrArg cw (funext fun a => Fin.ext ?_)
  match a with
  | ⟨0, _⟩ => first | rfl | (dsimp; omega)
  | ⟨1, _⟩ => first | rfl | (dsimp; omega)
theorem v36_at (i : S4x2048x8192.Idx) : val_main_v36 (F := Ideal) cw i = rw' cw 2 (i 2).val := by
  have h2 : (i 2).val < 8192 := (i 2).isLt
  rw [val_main_v36_apply, val_main_v35_apply, val_main_v34_apply, val_main_v33_apply, rw', dif_pos ⟨by omega, h2⟩]
  refine congrArg cw (funext fun a => Fin.ext ?_)
  match a with
  | ⟨0, _⟩ => first | rfl | (dsimp; omega)
  | ⟨1, _⟩ => first | rfl | (dsimp; omega)

/-- The bias as the third call takes it. -/
abbrev bsA : FVec Ideal Cert.FfnIdeal.S1x8192 .f32 := broadcastInDim Cert.FfnIdeal.S1x8192 ![1] Cert.FfnIdeal.Gen.bcast_S8192_S1x8192_1 cb

theorem v40_at (i : S4x2048x8192.Idx) : val_main_v40 (F := Ideal) cb i = rbs (bsA cb) (i 2).val := by
  have h2 : (i 2).val < 8192 := (i 2).isLt
  rw [val_main_v40_apply, val_main_v39_apply, rbs, dif_pos h2]
  pointwise [bsA]
  refine congrArg cb (funext fun a => Fin.ext ?_)
  match a with
  | ⟨0, _⟩ => rfl

theorem v41_at (i : S4x2048x8192.Idx) : val_main_v41 (F := Ideal) x g wu cw cb i = cv (upA x g wu) zeroA cw (bsA cb) (i 0).val (i 1).val (i 2).val := by
  rw [val_main_v41_apply, val_main_v38_apply, val_main_v31_apply, val_main_v24_apply, val_main_v23_apply, val_main_cst_3_apply, zlit,
    val_main_v22_apply, val_main_v30_apply, val_main_v37_apply, v40_at, v17_at, v25_at, v32_at, v21_at, v29_at, v36_at]
  show _ + (0 + _ + _ + _) = _
  rw [zero_add]
  rfl

theorem one_lit : (FloatOps.ofBits .f32 0x3F800000#32 : Ideal .f32) = (1 : EReal) := Ideal.ofBits_one_f32

theorem v45_at (i : S4x2048x4096.Idx) (r : Fin 8192) (k : Fin 4096) (hr : r.val = 2048 * (i 0).val + (i 1).val) (hk : k.val = (i 2).val) :
    val_main_v45 (F := Ideal) x g wu cw cb i = gateA x g wu cw cb (ix2 r k) := by
  have h1 : (i 1).val < 2048 := (i 1).isLt
  rw [val_main_v45_apply, val_main_v44_apply, val_main_call0_v5_apply, val_main_call0_v4_apply, val_main_call0_cst_0_apply, val_main_call0_v3_apply,
    val_main_call0_v2_apply, val_main_call0_cst_apply, val_main_call0_v1_apply, val_main_call0_v0_apply, val_main_v42_apply, val_main_v43_apply, v41_at, v41_at, one_lit]
  dsimp only
  unfold gateA gated
  change _ = gt (cv _ _ _ _ (r.val / 2048) (r.val % 2048) k.val) (cv _ _ _ _ (r.val / 2048) (r.val % 2048) (4096 + k.val))
  rw [show r.val / 2048 = (i 0).val by omega, show r.val % 2048 = (i 1).val by omega, hk]
  rfl

theorem v49_eq : val_main_v49 (F := Ideal) x g wu cw cb wd = Y x g wu cw cb wd := by
  funext i
  have h0 : (i 0).val < 8192 := (i 0).isLt
  have h1 : (i 1).val < 2048 := (i 1).isLt
  rw [val_main_v49_apply, val_main_v48_apply]
  have a0 : ((idx_main_v49 i) 0).val = (i 0).val / 2048 := by
    show ((i 0).val * 2048 + (i 1).val) / 4194304 = _; omega
  have a1 : ((idx_main_v49 i) 1).val = (i 0).val % 2048 := by
    show ((i 0).val * 2048 + (i 1).val) / 2048 % 2048 = _; omega
  have a2 : ((idx_main_v49 i) 2).val = (i 1).val := by
    show ((i 0).val * 2048 + (i 1).val) % 2048 = _
    omega
  rw [v0_at x _ ⟨(i 0).val, h0⟩ ⟨(i 1).val, h1⟩ (by rw [a0, a1]; dsimp only; omega) (by rw [a2]), val_main_v46_apply]
  unfold Y down
  show _ + _ = _ + _
  refine congrArg₂ (· + ·) rfl (Finset.sum_congr rfl fun k _ => congrArg₂ (· * ·) (v45_at x g wu cw cb _ ⟨(i 0).val, h0⟩ k ?_ rfl) (congrArg wd (funext fun a => Fin.ext ?_)))
  · show (i 0).val = 2048 * ((idx_main_v49 i) 0).val + ((idx_main_v49 i) 1).val
    rw [a0, a1]; omega
  · match a with
    | ⟨0, _⟩ => rfl
    | ⟨1, _⟩ => exact a2

theorem v47_eq : val_main_v47 (F := Ideal) x g wu = Tl x g wu := by
  funext i
  have h0 : (i 0).val < 4 := (i 0).isLt
  have h1 : (i 1).val < 2 := (i 1).isLt
  have h2 : (i 2).val < 8192 := (i 2).isLt
  rw [val_main_v47_apply, v16_at]
  unfold Tl
  generalize upA x g wu = U
  have e : ∀ j : Cert.FfnIdeal.S4x2x8192.Idx, extractStridedSlice Cert.FfnIdeal.S4x2x8192 ![0, 2046, 0] (shapeCast Cert.FfnIdeal.S4x2048x8192 U Cert.FfnIdeal.Gen.shapeCasts_S8192x8192_S4x2048x8192)
      Cert.FfnIdeal.Gen.slices_S4x2048x8192_S4x2x8192_0_2046_0 j = ru U (2048 * (j 0).val + 2046 + (j 1).val) (j 2).val := by
    intro j
    have h0 : (j 0).val < 4 := (j 0).isLt
    have h1 : (j 1).val < 2 := (j 1).isLt
    have h2 : (j 2).val < 8192 := (j 2).isLt
    rw [ru, dif_pos ⟨by omega, h2⟩]
    pointwise []
    refine congrArg U (funext fun a => Fin.ext ?_)
    match a with
    | ⟨0, _⟩ => dsimp; omega
    | ⟨1, _⟩ => first | (dsimp; done) | (dsimp; omega)
  generalize extractStridedSlice Cert.FfnIdeal.S4x2x8192 ![0, 2046, 0] (shapeCast Cert.FfnIdeal.S4x2048x8192 U Cert.FfnIdeal.Gen.shapeCasts_S8192x8192_S4x2048x8192)
      Cert.FfnIdeal.Gen.slices_S4x2048x8192_S4x2x8192_0_2046_0 = T at e ⊢
  symm
  refine (show _ = concatenate Cert.FfnIdeal.S4x4x8192 1 [⟨Cert.FfnIdeal.S4x2x8192, zeroA⟩, ⟨Cert.FfnIdeal.S4x2x8192, T⟩] Cert.FfnIdeal.Gen.concatenates_S4x2x8192_S4x2x8192_S4x4x8192_d1
      (ix3 (⟨(i 0).val, h0⟩ : Fin 4) (⟨2 + (i 1).val, by omega⟩ : Fin 4) (⟨(i 2).val, h2⟩ : Fin 8192)) from ?_).trans ?_
  · refine congrArg (concatenate _ _ _ _) (funext fun a => Fin.ext ?_)
    match a with
    | ⟨0, _⟩ => show 0 + (i 0).val = (i 0).val; omega
    | ⟨1, _⟩ => rfl
    | ⟨2, _⟩ => show 0 + (i 2).val = (i 2).val; omega
  refine (concatenate_pair_apply_right (t := Cert.FfnIdeal.S4x4x8192) 1 zeroA T _ _ rfl rfl (ix3 (⟨(i 0).val, h0⟩ : Fin 4) (⟨(i 1).val, h1⟩ : Fin 2) (⟨(i 2).val, h2⟩ : Fin 8192)) (fun b hb => ?_) ?_).trans ?_
  · match b with
    | ⟨0, _⟩ => rfl
    | ⟨1, _⟩ => exact absurd rfl hb
    | ⟨2, _⟩ => rfl
  · show (i 1).val + 2 = 2 + (i 1).val; omega
  · rw [e, pd, if_neg (by dsimp only; omega)]
    dsimp only
    congr 1
    show 2048 * (i 0).val + 2046 + (i 1).val = _
    dsimp only; omega

end Cert.FfnRefIdeal.Val

end
-- ==== Proof.GGate.lean ====
/-
  THE GATE OF THE SPATIAL MIXER, ONE BLOCK: what the body leaves at a row and a column of the 128 rows of a chunk, for each of the eight groups of columns.
-/
module

public import proofs.«01_k».proof.Proof.Gen.GmlpIdeal.Frame
public import Idealize.ShloMosaic.Lib.Pipeline.ValueKit

@[expose] public section

set_option maxRecDepth 16384

noncomputable section

namespace Cert.GmlpIdeal.Val

open Cert.GmlpIdeal Cert.GmlpIdeal.Gen Idealize.ShloMosaic Idealize.ShloMosaic.TcCoe Idealize.SL.Sem

/-- One entry of a group: the gate times the mixed row plus its bias. -/
def ent (A : Fin 128 → EReal) (B : Fin 128 → EReal) (b u : EReal) : EReal := u * (∑ s : Fin 128, A s * B s + b)

theorem sel_ofBool {α : Type} (p : Prop) [Decidable p] (x y : α) : Scalar.select (BitVec.ofBool (decide p)) x y = if p then x else y := by
  by_cases h : p <;> simp [Scalar.select, h]

section pay
variable (v27 : FVec Ideal S128x4096 .f32) (v28 v29 v34 : IVec S128x128 32) (v30 v36 v38 v41 M : IVec S128x128 1) (v32 : BitVec 32)
  (W : Vec Ideal S1x128x128 .f32) (b : Vec Ideal S128x1 .f32) (u : Vec Ideal S128x512 .f32) (r : Fin 128) (q : Fin 512) (p : Fin 4096)

/-- The masked weights. -/
def wm (r s : Fin 128) : EReal := Scalar.select (M (ix2 r s)) (W (ix3 (0 : Fin 1) r s)) 0

theorem pay8_at (hp : p.val = 0 + q.val) : k2_pay8 v27 v28 v29 v30 v32 v34 v36 v38 v41 W b u (ix2 r q) = ent (wm (k2_pay7 v28 v29 v30 v32 v34 v36 v38 v41) W r) (fun s => v27 (ix2 s p)) (b (ix2 r (0 : Fin 1))) (u (ix2 r q)) := by
  obtain rfl : p = ⟨0 + q.val, Nat.lt_of_lt_of_le (Nat.add_lt_add_left q.isLt 0) (by decide)⟩ := Fin.ext hp
  pointwise [k2_pay8, ent, wm]

theorem pay11_at (hp : p.val = 512 + q.val) : k2_pay11 (k2_pay9 v27 v28 v29 v30 v32 v34 v36 v38 v41 W b) (k2_pay10 u) (ix2 r q) = ent (wm (k2_pay7 v28 v29 v30 v32 v34 v36 v38 v41) W r) (fun s => v27 (ix2 s p)) (b (ix2 r (0 : Fin 1))) (u (ix2 r q)) := by
  obtain rfl : p = ⟨512 + q.val, Nat.lt_of_lt_of_le (Nat.add_lt_add_left q.isLt 512) (by decide)⟩ := Fin.ext hp
  pointwise [k2_pay11, k2_pay9, k2_pay10, ent, wm]

theorem pay12_at (hp : p.val = 1024 + q.val) : k2_pay12 v27 M W b u (ix2 r q) = ent (wm M W r) (fun s => v27 (ix2 s p)) (b (ix2 r (0 : Fin 1))) (u (ix2 r q)) := by
  obtain rfl : p = ⟨1024 + q.val, Nat.lt_of_lt_of_le (Nat.add_lt_add_left q.isLt 1024) (by decide)⟩ := Fin.ext hp
  pointwise [k2_pay12, ent, wm]

theorem pay13_at (hp : p.val = 1536 + q.val) : k2_pay13 v27 M W b u (ix2 r q) = ent (wm M W r) (fun s => v27 (ix2 s p)) (b (ix2 r (0 : Fin 1))) (u (ix2 r q)) := by
  obtain rfl : p = ⟨1536 + q.val, Nat.lt_of_lt_of_le (Nat.add_lt_add_left q.isLt 1536) (by decide)⟩ := Fin.ext hp
  pointwise [k2_pay13, ent, wm]

theorem pay14_at (hp : p.val = 2048 + q.val) : k2_pay14 v27 M W b u (ix2 r q) = ent (wm M W r) (fun s => v27 (ix2 s p)) (b (ix2 r (0 : Fin 1))) (u (ix2 r q)) := by
  obtain rfl : p = ⟨2048 + q.val, Nat.lt_of_lt_of_le (Nat.add_lt_add_left q.isLt 2048) (by decide)⟩ := Fin.ext hp
  pointwise [k2_pay14, ent, wm]

theorem pay15_at (hp : p.val = 2560 + q.val) : k2_pay15 v27 M W b u (ix2 r q) = ent (wm M W r) (fun s => v27 (ix2 s p)) (b (ix2 r (0 : Fin 1))) (u (ix2 r q)) := by
  obtain rfl : p = ⟨2560 + q.val, Nat.lt_of_lt_of_le (Nat.add_lt_add_left q.isLt 2560) (by decide)⟩ := Fin.ext hp
  pointwise [k2_pay15, ent, wm]

theorem pay16_at (hp : p.val = 3072 + q.val) : k2_pay16 v27 M W b u (ix2 r q) = ent (wm M W r) (fun s => v27 (ix2 s p)) (b (ix2 r (0 : Fin 1))) (u (ix2 r q)) := by
  obtain rfl : p = ⟨3072 + q.val, Nat.lt_of_lt_of_le (Nat.add_lt_add_left q.isLt 3072) (by decide)⟩ := Fin.ext hp
  pointwise [k2_pay16, ent, wm]

theorem pay17_at (hp : p.val = 3584 + q.val) : k2_pay17 v27 M W b u (ix2 r q) = ent (wm M W r) (fun s => v27 (ix2 s p)) (b (ix2 r (0 : Fin 1))) (u (ix2 r q)) := by
  obtain rfl : p = ⟨3584 + q.val, Nat.lt_of_lt_of_le (Nat.add_lt_add_left q.isLt 3584) (by decide)⟩ := Fin.ext hp
  pointwise [k2_pay17, ent, wm]

end pay

/-- A row's mean. -/
def mean (f : Fin 4096 → EReal) : EReal := Ideal.div (∑ k : Fin 4096, f k) (Ideal.ofBits .f32 0x45800000#32)
/-- The layer norm of a row, at a column with its gain and offset. -/
def lnf (f : Fin 4096 → EReal) (q : Fin 4096) (w b : EReal) : EReal :=
  (f q - mean f) * Ideal.rsqrt (Ideal.div (∑ k : Fin 4096, (f k - mean f) * (f k - mean f)) (Ideal.ofBits .f32 0x45800000#32) + Ideal.ofBits .f32 0x3727C5AC#32) * w + b

theorem pay1_at (x1 : Vec Ideal S128x4096 .f32) (x2 x3 : Vec Ideal S1x4096 .f32) (s : Fin 128) (q : Fin 4096) :
    k2_pay1 x1 x2 x3 (ix2 s q) = lnf (fun k => x1 (ix2 s k)) q (x2 (ix2 (0 : Fin 1) q)) (x3 (ix2 (0 : Fin 1) q)) := by
  pointwise [k2_pay1, lnf, mean]

section body
variable (x0 x1 : Vec Ideal S128x4096 .f32) (x2 x3 : Vec Ideal S1x4096 .f32) (x4 : Vec Ideal S8x128x128 .f32) (x5 : Vec Ideal S128x8 .f32)

/-- The mask keeps the columns up to the row. -/
theorem mask_at (r s : Fin 128) : k2_pay26 x0 x1 x2 x3 x4 x5 (ix2 r s) = BitVec.ofBool (decide (s.val ≤ r.val)) := by
  pointwise [k2_pay26, k2_pay25, k2_pay24, k2_pay23, k2_pay22, k2_pay21, k2_pay19, k2_pay18, k2_pay2, k2_pay3, k2_pay4, k2_pay5, k2_pay6, k2_pay7]

  revert r s
  decide +kernel

theorem fin_at (y : S128x4096.Idx) (g : Fin 8) (a : Fin 128) (q : Fin 512) (W : Vec Ideal S1x128x128 .f32) (b : Vec Ideal S128x1 .f32) (u : Vec Ideal S128x512 .f32)
    (h0 : (y 0).val = a.val) (hW : ∀ s : Fin 128, W (ix3 (0 : Fin 1) a s) = x4 (ix3 g (y 0) s)) (hb : b (ix2 a (0 : Fin 1)) = x5 (ix2 (y 0) g)) (hu : u (ix2 a q) = x0 (ix2 (y 0) (y 1))) :
    ent (wm (k2_pay26 x0 x1 x2 x3 x4 x5) W a) (fun s => k2_pay20 x0 x1 x2 x3 x4 x5 (ix2 s (y 1))) (b (ix2 a (0 : Fin 1))) (u (ix2 a q))
    = ent (fun s => if s.val ≤ (y 0).val then x4 (ix3 g (y 0) s) else 0)
        (fun s => lnf (fun k => x1 (ix2 s k)) (y 1) (x2 (ix2 (0 : Fin 1) (y 1))) (x3 (ix2 (0 : Fin 1) (y 1)))) (x5 (ix2 (y 0) g)) (x0 (ix2 (y 0) (y 1))) := by
  have e1 : wm (k2_pay26 x0 x1 x2 x3 x4 x5) W a = fun s => if s.val ≤ (y 0).val then x4 (ix3 g (y 0) s) else 0 := by
    funext s
    unfold wm
    rw [mask_at, sel_ofBool, hW, h0]
  have e2 : (fun s => k2_pay20 x0 x1 x2 x3 x4 x5 (ix2 s (y 1))) = fun s => lnf (fun k => x1 (ix2 s k)) (y 1) (x2 (ix2 (0 : Fin 1) (y 1))) (x3 (ix2 (0 : Fin 1) (y 1))) := by
    funext s
    have e : k2_pay20 x0 x1 x2 x3 x4 x5 = k2_pay1 x1 x2 x3 := by unfold k2_pay20; frame_out
    rw [e]
    exact pay1_at x1 x2 x3 s (y 1)
  rw [e1, e2, hb, hu]

theorem out_at (y : S128x4096.Idx) (g : Fin 8) (hg : g.val = (y 1).val / 512) : out2_6 x0 x1 x2 x3 x4 x5 y
    = ent (fun s => if s.val ≤ (y 0).val then x4 (ix3 g (y 0) s) else 0)
        (fun s => lnf (fun k => x1 (ix2 s k)) (y 1) (x2 (ix2 (0 : Fin 1) (y 1))) (x3 (ix2 (0 : Fin 1) (y 1)))) (x5 (ix2 (y 0) g)) (x0 (ix2 (y 0) (y 1))) := by
  unfold out2_6
  canon_tiles x h
  case piece0 =>
    have hx : x = ix2 (x 0) (x 1) := by funext a; match a with | ⟨0, _⟩ => rfl | ⟨1, _⟩ => rfl
    rw [hx]
    refine (pay17_at _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 7 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 7 + 1 * 0 = g.val; omega
    · match a with
      | ⟨0, _⟩ => show 0 + 1 * (x 0).val = (y 0).val; omega
      | ⟨1, _⟩ => show 3584 + 1 * (x 1).val = (y 1).val; omega
  case piece1 =>
    have hx : x = ix2 (x 0) (x 1) := by funext a; match a with | ⟨0, _⟩ => rfl | ⟨1, _⟩ => rfl
    rw [hx]
    refine (pay16_at _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 6 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 6 + 1 * 0 = g.val; omega
    · match a with
      | ⟨0, _⟩ => show 0 + 1 * (x 0).val = (y 0).val; omega
      | ⟨1, _⟩ => show 3072 + 1 * (x 1).val = (y 1).val; omega
  case piece2 =>
    have hx : x = ix2 (x 0) (x 1) := by funext a; match a with | ⟨0, _⟩ => rfl | ⟨1, _⟩ => rfl
    rw [hx]
    refine (pay15_at _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 5 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 5 + 1 * 0 = g.val; omega
    · match a with
      | ⟨0, _⟩ => show 0 + 1 * (x 0).val = (y 0).val; omega
      | ⟨1, _⟩ => show 2560 + 1 * (x 1).val = (y 1).val; omega
  case piece3 =>
    have hx : x = ix2 (x 0) (x 1) := by funext a; match a with | ⟨0, _⟩ => rfl | ⟨1, _⟩ => rfl
    rw [hx]
    refine (pay14_at _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 4 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 4 + 1 * 0 = g.val; omega
    · match a with
      | ⟨0, _⟩ => show 0 + 1 * (x 0).val = (y 0).val; omega
      | ⟨1, _⟩ => show 2048 + 1 * (x 1).val = (y 1).val; omega
  case piece4 =>
    have hx : x = ix2 (x 0) (x 1) := by funext a; match a with | ⟨0, _⟩ => rfl | ⟨1, _⟩ => rfl
    rw [hx]
    refine (pay13_at _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 3 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 3 + 1 * 0 = g.val; omega
    · match a with
      | ⟨0, _⟩ => show 0 + 1 * (x 0).val = (y 0).val; omega
      | ⟨1, _⟩ => show 1536 + 1 * (x 1).val = (y 1).val; omega
  case piece5 =>
    have hx : x = ix2 (x 0) (x 1) := by funext a; match a with | ⟨0, _⟩ => rfl | ⟨1, _⟩ => rfl
    rw [hx]
    refine (pay12_at _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 2 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 2 + 1 * 0 = g.val; omega
    · match a with
      | ⟨0, _⟩ => show 0 + 1 * (x 0).val = (y 0).val; omega
      | ⟨1, _⟩ => show 1024 + 1 * (x 1).val = (y 1).val; omega
  case piece6 =>
    have hx : x = ix2 (x 0) (x 1) := by funext a; match a with | ⟨0, _⟩ => rfl | ⟨1, _⟩ => rfl
    rw [hx]
    refine (pay11_at _ _ _ _ _ _ _ _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 1 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 1 + 1 * 0 = g.val; omega
    · match a with
      | ⟨0, _⟩ => show 0 + 1 * (x 0).val = (y 0).val; omega
      | ⟨1, _⟩ => show 512 + 1 * (x 1).val = (y 1).val; omega
  case piece7 =>
    have hx : x = ix2 (x 0) (x 1) := by funext a; match a with | ⟨0, _⟩ => rfl | ⟨1, _⟩ => rfl
    rw [hx]
    refine (pay8_at _ _ _ _ _ _ _ _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 0 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 0 + 1 * 0 = g.val; omega
    · match a with
      | ⟨0, _⟩ => show 0 + 1 * (x 0).val = (y 0).val; omega
      | ⟨1, _⟩ => show 0 + 1 * (x 1).val = (y 1).val; omega

end body

end Cert.GmlpIdeal.Val

end
-- ==== Proof.GReg.lean ====
/-
  THE MIXER'S CALLS' ARRAYS, one after the other, each as a function of the arrays it reads: the normalised rows, the product under its smooth unit, the
  gate of every chunk of 128 rows, and the second product on top of the residual.
-/
module

public import proofs.«01_k».proof.Proof.FReg
public import proofs.«01_k».proof.Proof.GGate

@[expose] public section

set_option maxRecDepth 16384

noncomputable section

namespace Cert.GmlpIdeal.Val

open Cert.GmlpIdeal Cert.GmlpIdeal.Gen Idealize.ShloMosaic Idealize.ShloMosaic.TcCoe Idealize.SL.Sem
open Cert.FfnIdeal.Val (rms down)

variable (V : (c : Dev nD) → (b : Ref sig .tc) → Buf (Elt Ideal) ((c : Thread nD τ).loc b)) (c : Dev nD)

/-- The smooth unit, in its form with the hyperbolic tangent. -/
def gelu (s : EReal) : EReal :=
  s * (Ideal.ofBits .f32 0x3F000000#32 * (Ideal.ofBits .f32 0x3F800000#32 + Ideal.tanh (Ideal.ofBits .f32 0x3F4C422A#32 * (s + Ideal.ofBits .f32 0x3D372713#32 * (s * (s * s))))))

/-- The first product under the unit. -/
def act (A : FVec Ideal S8192x2048 .bf16) (B : FVec Ideal S2048x8192 .bf16) : FVec Ideal S8192x8192 .f32 := fun i =>
  gelu (∑ k : Fin 2048, A (ix2 (i 0) k) * B (ix2 k (i 1)))

/-- A column's group, a row's place in its chunk, the rows of its chunk, and the two halves of the product's columns. -/
def grp (q : Fin 4096) : Fin 8 := ⟨q.val / 512, by omega⟩
def loc (R : Fin 8192) : Fin 128 := ⟨R.val % 128, by omega⟩
def row (R : Fin 8192) (s : Fin 128) : Fin 8192 := ⟨R.val / 128 * 128 + s.val, by omega⟩
def lo (q : Fin 4096) : Fin 8192 := ⟨q.val, by omega⟩
def hi (q : Fin 4096) : Fin 8192 := ⟨4096 + q.val, by omega⟩

/-- The gate at a row and a column: the first half times the causal mixture of the chunk's normalised second half, its bias added. -/
def gAt (Z : FVec Ideal S8192x8192 .f32) (lw lb : FVec Ideal S1x4096 .f32) (ws : FVec Ideal S8x128x128 .f32) (bs : FVec Ideal S128x8 .f32) (R : Fin 8192) (q : Fin 4096) : EReal :=
  ent (fun s => if s.val ≤ (loc R).val then ws (ix3 (grp q) (loc R) s) else 0)
    (fun s => lnf (fun k => Z (ix2 (row R s) (hi k))) q (lw (ix2 (0 : Fin 1) q)) (lb (ix2 (0 : Fin 1) q))) (bs (ix2 (loc R) (grp q))) (Z (ix2 R (lo q)))
def gate (Z : FVec Ideal S8192x8192 .f32) (lw lb : FVec Ideal S1x4096 .f32) (ws : FVec Ideal S8x128x128 .f32) (bs : FVec Ideal S128x8 .f32) : FVec Ideal S8192x4096 .bf16 := fun i =>
  gAt Z lw lb ws bs (i 0) (i 1)

theorem idx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)
theorem idx1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)
theorem idx2 : ∀ t : Fin cfg2.N, win2_0.index t = ![(grid2.coords t 0).val, 0] ∧ win2_1.index t = ![(grid2.coords t 0).val, 1] ∧ win2_2.index t = ![0, 0]
    ∧ win2_3.index t = ![0, 0] ∧ win2_4.index t = ![0, 0, 0] ∧ win2_5.index t = ![0, 0] ∧ win2_6.index t = ![(grid2.coords t 0).val, 0] :=
  (by decide +kernel : ∀ t : Fin grid2.N, _)
theorem idx3 : ∀ t : Fin cfg3.N, win3_0.index t = ![(grid3.coords t 0).val, 0] ∧ win3_1.index t = ![0, (grid3.coords t 1).val]
    ∧ win3_2.index t = ![(grid3.coords t 0).val, (grid3.coords t 1).val] ∧ win3_3.index t = ![(grid3.coords t 0).val, (grid3.coords t 1).val] :=
  (by decide +kernel : ∀ t : Fin grid3.N, _)

theorem arr0 : (dat0 V c).arrAt 2 cfg0.N = rms (V c main_arg0) (V c main_v0) := by
  refine (dat0 V c).arrAt_eq_of_covers 2 _ (by decide +kernel) fun t _ y => ?_
  blk_simp
  rw [after0_2]; frame_out
  pointwise [k0_pay1, Cert.FfnIdeal.Val.rms]
  blk_point [iblk0, idx0 t]

theorem arr1 : (dat1 V c).arrAt 2 cfg1.N = act (V c main_v1) (V c main_v2) := by
  refine (dat1 V c).arrAt_eq_of_covers 2 _ (by decide +kernel) fun t _ y => ?_
  blk_simp
  rw [after1_2]; frame_out
  pointwise [k1_pay1, act, gelu]
  blk_point [iblk1, idx1 t]

theorem arr3 : (dat3 V c).arrAt 3 cfg3.N = down (V c main_v8) (V c main_v3) (V c main_arg0) := by
  refine (dat3 V c).arrAt_eq_of_covers 3 _ (by decide +kernel) fun t _ y => ?_
  blk_simp
  rw [after3_3]; frame_out
  pointwise [k3_pay1, Cert.FfnIdeal.Val.down]
  blk_point [iblk3, idx3 t]

section gate
variable (t : Fin cfg2.N)

theorem point2 (y : S128x4096.Idx) (R : Fin 8192) (q : Fin 4096) (hR : R.val = 128 * (grid2.coords t 0).val + (y 0).val) (hq : q.val = (y 1).val) :
    out2_6 (iblk2 V c 0 t) (iblk2 V c 1 t) (iblk2 V c 2 t) (iblk2 V c 3 t) (iblk2 V c 4 t) (iblk2 V c 5 t) y
      = gAt (V c main_v6) (V c main_v4) (V c main_v5) (V c main_arg5) (V c main_v7) R q := by
  have hc : (grid2.coords t 0).val < 64 := (grid2.coords t 0).isLt
  have hy0 : (y 0).val < 128 := (y 0).isLt
  have hy1 : (y 1).val < 4096 := (y 1).isLt
  have e : (loc R).val = (y 0).val := by show R.val % 128 = _; omega
  refine (out_at (iblk2 V c 0 t) (iblk2 V c 1 t) (iblk2 V c 2 t) (iblk2 V c 3 t) (iblk2 V c 4 t) (iblk2 V c 5 t) y (grp q) (by show q.val / 512 = _; omega)).trans ?_
  have r0 : (iblk2 V c 0 t : Vec Ideal S128x4096 .f32) (ix2 (y 0) (y 1)) = (V c main_v6 : FVec Ideal S8192x8192 .f32) (ix2 R (lo q)) := by
    unfold lo; blk_ext [iblk2, idx2 t]
  have r1 : ∀ (s : Fin 128) (k : Fin 4096), (iblk2 V c 1 t : Vec Ideal S128x4096 .f32) (ix2 s k) = (V c main_v6 : FVec Ideal S8192x8192 .f32) (ix2 (row R s) (hi k)) := fun s k => by
    unfold row hi; blk_ext [iblk2, idx2 t]
  have r2 : (iblk2 V c 2 t : Vec Ideal S1x4096 .f32) (ix2 (0 : Fin 1) (y 1)) = (V c main_v4 : FVec Ideal S1x4096 .f32) (ix2 (0 : Fin 1) q) := by
    blk_ext [iblk2, idx2 t]
  have r3 : (iblk2 V c 3 t : Vec Ideal S1x4096 .f32) (ix2 (0 : Fin 1) (y 1)) = (V c main_v5 : FVec Ideal S1x4096 .f32) (ix2 (0 : Fin 1) q) := by
    blk_ext [iblk2, idx2 t]
  have r4 : ∀ s : Fin 128, (iblk2 V c 4 t : Vec Ideal S8x128x128 .f32) (ix3 (grp q) (y 0) s) = (V c main_arg5 : FVec Ideal S8x128x128 .f32) (ix3 (grp q) (loc R) s) := fun s => by
    unfold loc; blk_ext [iblk2, idx2 t]
  have r5 : (iblk2 V c 5 t : Vec Ideal S128x8 .f32) (ix2 (y 0) (grp q)) = (V c main_v7 : FVec Ideal S128x8 .f32) (ix2 (loc R) (grp q)) := by
    unfold loc; blk_ext [iblk2, idx2 t]
  have eq : y 1 = q := Fin.ext hq.symm
  unfold gAt
  refine congr (congr (congr (congrArg ent (funext fun s => ?_)) (funext fun s => ?_)) r5) r0
  · rw [e]
    exact if_congr Iff.rfl (r4 s) rfl
  · exact congr (congr (congr (congrArg lnf (funext fun k => r1 s k)) eq) r2) r3

theorem arr2 : (dat2 V c).arrAt 6 cfg2.N = gate (V c main_v6) (V c main_v4) (V c main_v5) (V c main_arg5) (V c main_v7) := by
  refine (dat2 V c).arrAt_eq_of_covers 6 _ (by decide +kernel) fun t _ y => ?_
  blk_simp
  rw [after2_6]
  refine point2 V c t y _ _ ?_ ?_
  · blk_simp [idx2 t]; omega
  · blk_simp [idx2 t] <;> try omega
end gate

end Cert.GmlpIdeal.Val

end
-- ==== Proof.GRun.lean ====
/-
  THE MIXER'S RUN: what its result holds at the end, as a term over the arguments.
-/
module

public import proofs.«01_k».proof.Proof.FReg
public import proofs.«01_k».proof.Proof.GReg

@[expose] public section

set_option maxRecDepth 16384

noncomputable section

namespace Cert.GmlpIdeal.Val

open Cert.GmlpIdeal Cert.GmlpIdeal.Gen
open Cert.FfnIdeal.Val (rms down)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The weights as the products take them, and the gate's vectors and biases as its call takes them. -/
def wI (w : FVec Ideal S2048x8192 .f32) : FVec Ideal S2048x8192 .bf16 := truncf .bf16 w bitsLt_bf16_f32
def wO (w : FVec Ideal S4096x2048 .f32) : FVec Ideal S4096x2048 .bf16 := truncf .bf16 w bitsLt_bf16_f32
def lv' (w : FVec Ideal S4096 .f32) : FVec Ideal S1x4096 .f32 := broadcastInDim S1x4096 ![1] bcast_S4096_S1x4096_1 w
def bT (b : FVec Ideal S8x128 .f32) : FVec Ideal S128x8 .f32 := transpose S128x8 [1, 0] b transposes_S8x128_S128x8_1_0

/-- The first product of the arguments under its unit, the gate of it, and the result. -/
def actA (x : FVec Ideal S8192x2048 .f32) (g : FVec Ideal S2048 .f32) (wi : FVec Ideal S2048x8192 .f32) : FVec Ideal S8192x8192 .f32 :=
  act (rms x (shapeCast S1x2048 g shapeCasts_S2048_S1x2048)) (wI wi)
def gateG (x : FVec Ideal S8192x2048 .f32) (g : FVec Ideal S2048 .f32) (wi : FVec Ideal S2048x8192 .f32) (lw lb : FVec Ideal S4096 .f32)
    (ws : FVec Ideal S8x128x128 .f32) (bs : FVec Ideal S8x128 .f32) : FVec Ideal S8192x4096 .bf16 :=
  gate (actA x g wi) (lv' lw) (lv' lb) ws (bT bs)
def Z (x : FVec Ideal S8192x2048 .f32) (g : FVec Ideal S2048 .f32) (wi : FVec Ideal S2048x8192 .f32) (lw lb : FVec Ideal S4096 .f32)
    (ws : FVec Ideal S8x128x128 .f32) (bs : FVec Ideal S8x128 .f32) (wo : FVec Ideal S4096x2048 .f32) : FVec Ideal S8192x2048 .f32 :=
  down (gateG x g wi lw lb ws bs) (wO wo) x

variable (m : (ℓ : Loc nD τ sig) → Buf (Elt Ideal) ℓ) (ρ : Dev nD → PrngReg) (c : Dev nD)

theorem w1_v0 : W1 m ρ c (Proc.devRef .tc main_v0) = shapeCast S1x2048 (m ((c : Thread nD τ).loc main_arg1) : FVec Ideal S2048 .f32) shapeCasts_S2048_S1x2048 := by
  after_results_simp <;> rfl
theorem w2_v1 : W2 m ρ c (Proc.devRef .tc main_v1) = rms (m ((c : Thread nD τ).loc main_arg0)) (shapeCast S1x2048 (m ((c : Thread nD τ).loc main_arg1) : FVec Ideal S2048 .f32) shapeCasts_S2048_S1x2048) :=
  (W2_arr m ρ c 2).trans ((arr0 (V1 m ρ) c).trans (congrArg₂ rms (W1_args m ρ c main_arg0 (by decide)) (w1_v0 m ρ c)))
theorem w3_v1 : W3 m ρ c (Proc.devRef .tc main_v1) = rms (m ((c : Thread nD τ).loc main_arg0)) (shapeCast S1x2048 (m ((c : Thread nD τ).loc main_arg1) : FVec Ideal S2048 .f32) shapeCasts_S2048_S1x2048) :=
  (W3_of m ρ c main_v1 (by decide)).trans (w2_v1 m ρ c)
theorem w3_v2 : W3 m ρ c (Proc.devRef .tc main_v2) = wI (m ((c : Thread nD τ).loc main_arg2)) := by
  rw [← W2_args m ρ c main_arg2 (by decide)]
  after_results_simp <;> rfl
theorem w3_v3 : W3 m ρ c (Proc.devRef .tc main_v3) = wO (m ((c : Thread nD τ).loc main_arg7)) := by
  rw [← W2_args m ρ c main_arg7 (by decide)]
  after_results_simp <;> rfl
theorem w3_v4 : W3 m ρ c (Proc.devRef .tc main_v4) = lv' (m ((c : Thread nD τ).loc main_arg3)) := by
  rw [← W2_args m ρ c main_arg3 (by decide)]
  after_results_simp <;> rfl
theorem w3_v5 : W3 m ρ c (Proc.devRef .tc main_v5) = lv' (m ((c : Thread nD τ).loc main_arg4)) := by
  rw [← W2_args m ρ c main_arg4 (by decide)]
  after_results_simp <;> rfl
theorem w4_v6 : W4 m ρ c (Proc.devRef .tc main_v6) = actA (m ((c : Thread nD τ).loc main_arg0)) (m ((c : Thread nD τ).loc main_arg1)) (m ((c : Thread nD τ).loc main_arg2)) :=
  (W4_arr m ρ c 2).trans ((arr1 (V3 m ρ) c).trans (congrArg₂ act (w3_v1 m ρ c) (w3_v2 m ρ c)))
theorem w5_v6 : W5 m ρ c (Proc.devRef .tc main_v6) = actA (m ((c : Thread nD τ).loc main_arg0)) (m ((c : Thread nD τ).loc main_arg1)) (m ((c : Thread nD τ).loc main_arg2)) :=
  (W5_of m ρ c main_v6 (by decide)).trans (w4_v6 m ρ c)
theorem w5_v3 : W5 m ρ c (Proc.devRef .tc main_v3) = wO (m ((c : Thread nD τ).loc main_arg7)) :=
  (W5_of m ρ c main_v3 (by decide)).trans ((W4_of m ρ c main_v3 (by decide)).trans (w3_v3 m ρ c))
theorem w5_v4 : W5 m ρ c (Proc.devRef .tc main_v4) = lv' (m ((c : Thread nD τ).loc main_arg3)) :=
  (W5_of m ρ c main_v4 (by decide)).trans ((W4_of m ρ c main_v4 (by decide)).trans (w3_v4 m ρ c))
theorem w5_v5 : W5 m ρ c (Proc.devRef .tc main_v5) = lv' (m ((c : Thread nD τ).loc main_arg4)) :=
  (W5_of m ρ c main_v5 (by decide)).trans ((W4_of m ρ c main_v5 (by decide)).trans (w3_v5 m ρ c))
theorem w5_v7 : W5 m ρ c (Proc.devRef .tc main_v7) = bT (m ((c : Thread nD τ).loc main_arg6)) := by
  rw [← W4_args m ρ c main_arg6 (by decide)]
  after_results_simp <;> rfl
theorem w6_v8 : W6 m ρ c (Proc.devRef .tc main_v8) = gateG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 6).trans ((arr2 (V5 m ρ) c).trans ?_)
  unfold gateG
  rw [← w5_v6 m ρ c, ← w5_v4 m ρ c, ← w5_v5 m ρ c, ← w5_v7 m ρ c, ← W5_args m ρ c main_arg5 (by decide)]
theorem w6_v3 : W6 m ρ c (Proc.devRef .tc main_v3) = wO (m ((c : Thread nD τ).loc main_arg7)) :=
  (W6_of m ρ c main_v3 (by decide)).trans (w5_v3 m ρ c)
theorem w7_v9 : W7 m ρ c (Proc.devRef .tc main_v9) = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W7_arr m ρ c 3).trans ((arr3 (V6 m ρ) c).trans ?_)
  unfold Z
  rw [← w6_v8 m ρ c, ← w6_v3 m ρ c]
  exact congrArg (down _ _) (W6_args m ρ c main_arg0 (by decide))

-- the launch's implicit arguments are found by unifying its conclusion with this one
set_option backward.isDefEq.respectTransparency.types false in
/-- Every run ends with the results at their terms and the arguments as launched. -/
theorem run : θ_run defs (onTc (τ := τ) (main (F := Ideal))) ⟨m, fun _ => 0, ρ⟩ (fun r => ∀ c : Dev nD,
      r.2.mem ((c.tc : Thread nD τ).loc main_v9) = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => (fun c =>
      ⟨(h c _ (mem_uc main_v9 (by decide))).trans (w7_v9 m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩))

end Cert.GmlpIdeal.Val

end
-- ==== Proof.GRef.lean ====
/-
  THE MIXER'S REFERENCE is the same term of the arguments: its normalised rows, its product under the smooth unit, the layer norm of the second half, the
  causal mixture within a chunk, its bias and its gate, and the second product, each at coordinates.
-/
module

public import proofs.«01_k».proof.Proof.GRun
public import proofs.«01_k».proof.Proof.Gen.GmlpRefIdeal.Read

@[expose] public section

set_option maxRecDepth 16384

noncomputable section

namespace Cert.GmlpRefIdeal.Val

open Cert.GmlpRefIdeal Cert.GmlpRefIdeal.Gen Cert.GmlpRefIdeal.Read Idealize.ShloMosaic Idealize.ShloMosaic.TcCoe Idealize.SL.Sem
open Cert.GmlpIdeal.Val
open Cert.FfnIdeal.Val (rms down)

variable (x : FVec Ideal S8192x2048 .f32) (g : FVec Ideal S2048 .f32) (wi : FVec Ideal S2048x8192 .f32) (lw lb : FVec Ideal S4096 .f32)
  (ws : FVec Ideal S8x128x128 .f32) (bs : FVec Ideal S8x128 .f32) (wo : FVec Ideal S4096x2048 .f32)

theorem zlit : (FloatOps.ofBits .f32 0x00000000#32 : Ideal .f32) = 0 := Ideal.ofBits_zero .f32

theorem v0_at (i : S4x2048x2048.Idx) (r : Fin 8192) (k : Fin 2048) (hr : r.val = 2048 * (i 0).val + (i 1).val) (hk : k.val = (i 2).val) :
    val_main_v0 (F := Ideal) x i = x (ix2 r k) := by
  have h2 : (i 2).val < 2048 := (i 2).isLt
  rw [val_main_v0_apply]
  refine congrArg x (funext fun a => Fin.ext ?_)
  match a with
  | ⟨0, _⟩ => show (((i 0).val * 2048 + (i 1).val) * 2048 + (i 2).val) / 2048 = r.val; omega
  | ⟨1, _⟩ => show (((i 0).val * 2048 + (i 1).val) * 2048 + (i 2).val) % 2048 = k.val; omega

theorem v2_at (i : S4x2048.Idx) (r : Fin 8192) (hr : r.val = 2048 * (i 0).val + (i 1).val) :
    val_main_v2 (F := Ideal) x i = ∑ k : Fin 2048, x (ix2 r k) * x (ix2 r k) := by
  rw [val_main_v2_apply, val_main_cst_apply, zlit, zero_add]
  refine Finset.sum_congr rfl fun k _ => ?_
  rw [val_main_v1_apply, v0_at x _ r k hr rfl]
  rfl

theorem gain_at (i : S4x2048x2048.Idx) (k : Fin 2048) (hk : k.val = (i 2).val) :
    val_main_v12 (F := Ideal) g i = shapeCast Cert.GmlpIdeal.S1x2048 g Cert.GmlpIdeal.Gen.shapeCasts_S2048_S1x2048 (ix2 (0 : Fin 1) k) := by
  rw [val_main_v12_apply, val_main_v11_apply]
  pointwise []
  refine congrArg g (funext fun a => Fin.ext ?_)
  match a with
  | ⟨0, _⟩ => exact hk.symm

theorem v13_at (i : S4x2048x2048.Idx) (r : Fin 8192) (k : Fin 2048) (hr : r.val = 2048 * (i 0).val + (i 1).val) (hk : k.val = (i 2).val) :
    val_main_v13 (F := Ideal) x g i = rms x (shapeCast Cert.GmlpIdeal.S1x2048 g Cert.GmlpIdeal.Gen.shapeCasts_S2048_S1x2048) (ix2 r k) := by
  rw [val_main_v13_apply, val_main_v10_apply, gain_at g i k hk, v0_at x i r k hr hk, val_main_v9_apply, val_main_v8_apply, val_main_v7_apply, val_main_v5_apply,
    val_main_v3_apply, v2_at x _ r hr, val_main_v4_apply, val_main_v6_apply, val_main_cst_0_apply, val_main_cst_1_apply]
  rfl

theorem v14_at (i : S4x2048x8192.Idx) (r : Fin 8192) (k : Fin 8192) (hr : r.val = 2048 * (i 0).val + (i 1).val) (hk : k.val = (i 2).val) :
    val_main_v14 (F := Ideal) x g wi i = ∑ j : Fin 2048, rms x (shapeCast Cert.GmlpIdeal.S1x2048 g Cert.GmlpIdeal.Gen.shapeCasts_S2048_S1x2048) (ix2 r j) * wi (ix2 j k) := by
  rw [val_main_v14_apply]
  refine Finset.sum_congr rfl fun j _ => congrArg₂ (· * ·) (v13_at x g _ r j hr rfl) (congrArg wi (funext fun a => Fin.ext ?_))
  match a with
  | ⟨0, _⟩ => rfl
  | ⟨1, _⟩ => exact hk.symm

theorem v27_at (i : S4x2048x8192.Idx) (r : Fin 8192) (k : Fin 8192) (hr : r.val = 2048 * (i 0).val + (i 1).val) (hk : k.val = (i 2).val) :
    val_main_v27 (F := Ideal) x g wi i = actA x g wi (ix2 r k) := by
  rw [val_main_v27_apply, val_main_v26_apply, val_main_v25_apply, val_main_v24_apply, val_main_v23_apply, val_main_v22_apply, val_main_v21_apply, val_main_v20_apply,
    val_main_v19_apply, val_main_v18_apply, val_main_v17_apply, val_main_v16_apply, val_main_v15_apply, val_main_cst_5_apply, val_main_cst_4_apply,
    val_main_cst_3_apply, val_main_cst_2_apply, v14_at x g wi i r k hr hk]
  change _ = gelu (∑ j : Fin 2048, rms x (shapeCast Cert.GmlpIdeal.S1x2048 g Cert.GmlpIdeal.Gen.shapeCasts_S2048_S1x2048) (ix2 r j) * wi (ix2 j k))
  generalize (∑ j : Fin 2048, rms x (shapeCast Cert.GmlpIdeal.S1x2048 g Cert.GmlpIdeal.Gen.shapeCasts_S2048_S1x2048) (ix2 r j) * wi (ix2 j k)) = s
  unfold gelu
  rw [← mul_comm (s * s) s]
  rfl

/-- The second half of a row of the product. -/
abbrev vrow (r : Fin 8192) : Fin 4096 → EReal := fun k => actA x g wi (ix2 r (hi k))

theorem v28_at (i : S4x2048x4096.Idx) (r : Fin 8192) (k : Fin 4096) (hr : r.val = 2048 * (i 0).val + (i 1).val) (hk : k.val = (i 2).val) :
    val_main_v28 (F := Ideal) x g wi i = actA x g wi (ix2 r (lo k)) := by
  rw [val_main_v28_apply]
  exact v27_at x g wi _ r (lo k) hr hk
theorem v29_at (i : S4x2048x4096.Idx) (r : Fin 8192) (k : Fin 4096) (hr : r.val = 2048 * (i 0).val + (i 1).val) (hk : k.val = (i 2).val) :
    val_main_v29 (F := Ideal) x g wi i = vrow x g wi r k := by
  rw [val_main_v29_apply]
  exact v27_at x g wi _ r (hi k) hr (congrArg (4096 + ·) hk)
theorem v33_at (i : S4x2048x1.Idx) (r : Fin 8192) (hr : r.val = 2048 * (i 0).val + (i 1).val) :
    val_main_v33 (F := Ideal) x g wi i = mean (vrow x g wi r) := by
  have e : val_main_v30 (F := Ideal) x g wi (idx_main_v31 i) = ∑ k : Fin 4096, vrow x g wi r k := by
    rw [val_main_v30_apply, val_main_cst_6_apply, zlit, zero_add]
    exact Finset.sum_congr rfl fun k _ => v29_at x g wi _ r k hr rfl
  rw [val_main_v33_apply, val_main_v31_apply, val_main_v32_apply, val_main_cst_7_apply, e]
  rfl
theorem v45_at (i : S4x2048x1.Idx) (r : Fin 8192) (hr : r.val = 2048 * (i 0).val + (i 1).val) :
    val_main_v45 (F := Ideal) x g wi i = Ideal.rsqrt (Ideal.div (∑ k, (vrow x g wi r k - mean (vrow x g wi r)) * (vrow x g wi r k - mean (vrow x g wi r)))
      (Ideal.ofBits .f32 0x45800000#32) + Ideal.ofBits .f32 0x3727C5AC#32) := by
  have e : val_main_v37 (F := Ideal) x g wi (idx_main_v38 i) = ∑ k, (vrow x g wi r k - mean (vrow x g wi r)) * (vrow x g wi r k - mean (vrow x g wi r)) := by
    rw [val_main_v37_apply, val_main_cst_8_apply, zlit, zero_add]
    refine Finset.sum_congr rfl fun k _ => ?_
    rw [val_main_v36_apply, val_main_v35_apply, val_main_v34_apply, v33_at x g wi (idx_main_v34 (idx_main_v37 (idx_main_v38 i) k)) r hr, v29_at x g wi (idx_main_v37 (idx_main_v38 i) k) r k hr rfl]
    rfl
  rw [val_main_v45_apply, val_main_v44_apply, val_main_v43_apply, val_main_v40_apply, val_main_v39_apply, val_main_v38_apply, val_main_cst_9_apply, val_main_cst_10_apply, e]
  rfl

theorem v49_at (i : S4x2048x4096.Idx) (k : Fin 4096) (hk : k.val = (i 2).val) : val_main_v49 (F := Ideal) lw i = lv' lw (ix2 (0 : Fin 1) k) := by
  rw [val_main_v49_apply, val_main_v48_apply]
  pointwise [lv']
  refine congrArg lw (funext fun a => Fin.ext ?_)
  match a with
  | ⟨0, _⟩ => exact hk.symm
theorem v52_at (i : S4x2048x4096.Idx) (k : Fin 4096) (hk : k.val = (i 2).val) : val_main_v52 (F := Ideal) lb i = lv' lb (ix2 (0 : Fin 1) k) := by
  rw [val_main_v52_apply, val_main_v51_apply]
  pointwise [lv']
  refine congrArg lb (funext fun a => Fin.ext ?_)
  match a with
  | ⟨0, _⟩ => exact hk.symm

theorem v53_at (i : S4x2048x4096.Idx) (r : Fin 8192) (k : Fin 4096) (hr : r.val = 2048 * (i 0).val + (i 1).val) (hk : k.val = (i 2).val) :
    val_main_v53 (F := Ideal) x g wi lw lb i = lnf (vrow x g wi r) k (lv' lw (ix2 (0 : Fin 1) k)) (lv' lb (ix2 (0 : Fin 1) k)) := by
  rw [val_main_v53_apply, val_main_v50_apply, val_main_v47_apply, val_main_v46_apply, val_main_v42_apply, val_main_v41_apply, v49_at lw i k hk, v52_at lb i k hk,
    v45_at x g wi (idx_main_v46 i) r hr, v33_at x g wi (idx_main_v41 i) r hr, v29_at x g wi i r k hr hk]
  rfl

theorem tri : ∀ r s : Fin 128, Scalar.select (IntOp.cmpi .sge (IntOp.addi (BitVec.ofNat 32 r.val) 0#32) (BitVec.ofNat 32 s.val)) (1#1) (0#1) = BitVec.ofBool (decide (s.val ≤ r.val)) := by
  decide +kernel

theorem v56_at (i : S8x128x128.Idx) (a : Fin 8) (r s : Fin 128) (ha : a.val = (i 0).val) (hr : r.val = (i 1).val) (hs : s.val = (i 2).val) :
    val_main_v56 (F := Ideal) ws i = if s.val ≤ r.val then ws (ix3 a r s) else 0 := by
  have e : i = ix3 a r s := funext fun b => Fin.ext (match b with
    | ⟨0, _⟩ => ha.symm
    | ⟨1, _⟩ => hr.symm
    | ⟨2, _⟩ => hs.symm)
  subst e
  rw [val_main_v56_apply, val_main_call1_v1_apply, val_main_call1_v2_apply, val_main_call1_v0_apply, val_main_cst_11_apply, zlit, val_main_v55_apply, val_main_call0_v4_apply,
    val_main_call0_v2_apply, val_main_call0_v0_apply, val_main_call0_v1_apply, val_main_call0_c_apply, val_main_call0_v3_apply, val_main_v54_apply, val_main_c_apply,
    val_main_call0_v5_apply, val_main_call0_c_0_apply]
  refine (congrArg (fun b => Scalar.select b (ws (ix3 a r s)) (0 : EReal)) (tri r s)).trans ?_
  exact sel_ofBool _ _ _

theorem v62_at (i : S4x16x128x8x512.Idx) (a : Fin 8) (r : Fin 128) (ha : a.val = (i 3).val) (hr : r.val = (i 2).val) :
    val_main_v62 (F := Ideal) bs i = bT bs (ix2 r a) := by
  rw [val_main_v62_apply, val_main_v61_apply, val_main_v60_apply]
  pointwise [bT]
  refine congrArg bs (funext fun b => Fin.ext ?_)
  match b with
  | ⟨0, _⟩ => exact ha.symm
  | ⟨1, _⟩ => exact hr.symm

/-- The mixture before its bias, at a batch, a chunk, a row in it, a group and a column in it. -/
theorem v59_at (i : S4x16x128x8x512.Idx) (R : Fin 8192) (q : Fin 4096) (hR : R.val = 2048 * (i 0).val + 128 * (i 1).val + (i 2).val) (hq : q.val = 512 * (i 3).val + (i 4).val) :
    val_main_v59 (F := Ideal) x g wi lw lb ws i = ∑ s : Fin 128, (if s.val ≤ (loc R).val then ws (ix3 (grp q) (loc R) s) else 0)
      * lnf (vrow x g wi (row R s)) q (lv' lw (ix2 (0 : Fin 1) q)) (lv' lb (ix2 (0 : Fin 1) q)) := by
  have h0 : (i 0).val < 4 := (i 0).isLt
  have h1 : (i 1).val < 16 := (i 1).isLt
  have h2 : (i 2).val < 128 := (i 2).isLt
  have h3 : (i 3).val < 8 := (i 3).isLt
  have h4 : (i 4).val < 512 := (i 4).isLt
  rw [val_main_v59_apply, val_main_v58_apply]
  refine Finset.sum_congr rfl fun s _ => ?_
  have hs : s.val < 128 := s.isLt
  rw [val_main_v57_apply, v56_at ws _ (grp q) (loc R) s (by show q.val / 512 = (i 3).val; omega) (by show R.val % 128 = (i 2).val; omega) rfl, mul_comm]
  refine congrArg₂ (· * ·) rfl (v53_at x g wi lw lb _ (row R s) q ?_ ?_)
  · show R.val / 128 * 128 + s.val = 2048 * ((((((i 0).val * 16 + (i 1).val) * 128 + s.val) * 8 + (i 3).val) * 512 + (i 4).val) / 8388608)
      + (((((i 0).val * 16 + (i 1).val) * 128 + s.val) * 8 + (i 3).val) * 512 + (i 4).val) / 4096 % 2048
    omega
  · show q.val = (((((i 0).val * 16 + (i 1).val) * 128 + s.val) * 8 + (i 3).val) * 512 + (i 4).val) % 4096
    omega

theorem v65_at (i : S4x2048x4096.Idx) (r : Fin 8192) (q : Fin 4096) (hr : r.val = 2048 * (i 0).val + (i 1).val) (hq : q.val = (i 2).val) :
    val_main_v65 (F := Ideal) x g wi lw lb ws bs i = gateG x g wi lw lb ws bs (ix2 r q) := by
  have h0 : (i 0).val < 4 := (i 0).isLt
  have h1 : (i 1).val < 2048 := (i 1).isLt
  have h2 : (i 2).val < 4096 := (i 2).isLt
  have a0 : ((idx_main_v64 i) 0).val = (i 0).val := by
    show (((i 0).val * 2048 + (i 1).val) * 4096 + (i 2).val) / 8388608 = _; omega
  have a1 : ((idx_main_v64 i) 1).val = (i 1).val / 128 := by
    show (((i 0).val * 2048 + (i 1).val) * 4096 + (i 2).val) / 524288 % 16 = _; omega
  have a2 : ((idx_main_v64 i) 2).val = (i 1).val % 128 := by
    show (((i 0).val * 2048 + (i 1).val) * 4096 + (i 2).val) / 4096 % 128 = _; omega
  have a3 : ((idx_main_v64 i) 3).val = (i 2).val / 512 := by
    show (((i 0).val * 2048 + (i 1).val) * 4096 + (i 2).val) / 512 % 8 = _; omega
  have a4 : ((idx_main_v64 i) 4).val = (i 2).val % 512 := by
    show (((i 0).val * 2048 + (i 1).val) * 4096 + (i 2).val) % 512 = _; omega
  rw [val_main_v65_apply, val_main_v64_apply, val_main_v63_apply, v28_at x g wi i r q hr hq,
    v59_at x g wi lw lb ws _ r q (by rw [a0, a1, a2]; omega) (by rw [a3, a4]; omega),
    v62_at bs _ (grp q) (loc r) (by rw [a3]; show q.val / 512 = _; omega) (by rw [a2]; show r.val % 128 = _; omega)]
  rfl

theorem v68_eq : val_main_v68 (F := Ideal) x g wi lw lb ws bs wo = Z x g wi lw lb ws bs wo := by
  funext i
  have h0 : (i 0).val < 8192 := (i 0).isLt
  have h1 : (i 1).val < 2048 := (i 1).isLt
  rw [val_main_v68_apply, val_main_v67_apply]
  have a0 : ((idx_main_v68 i) 0).val = (i 0).val / 2048 := by
    show ((i 0).val * 2048 + (i 1).val) / 4194304 = _; omega
  have a1 : ((idx_main_v68 i) 1).val = (i 0).val % 2048 := by
    show ((i 0).val * 2048 + (i 1).val) / 2048 % 2048 = _; omega
  have a2 : ((idx_main_v68 i) 2).val = (i 1).val := by
    show ((i 0).val * 2048 + (i 1).val) % 2048 = _
    omega
  rw [v0_at x _ ⟨(i 0).val, h0⟩ ⟨(i 1).val, h1⟩ (by rw [a0, a1]; dsimp only; omega) (by rw [a2]), val_main_v66_apply]
  unfold Z down
  show _ + _ = _ + _
  refine congrArg₂ (· + ·) rfl (Finset.sum_congr rfl fun k _ => congrArg₂ (· * ·) (v65_at x g wi lw lb ws bs _ ⟨(i 0).val, h0⟩ k ?_ rfl) (congrArg wo (funext fun a => Fin.ext ?_)))
  · show (i 0).val = 2048 * ((idx_main_v68 i) 0).val + ((idx_main_v68 i) 1).val
    rw [a0, a1]; omega
  · match a with
    | ⟨0, _⟩ => rfl
    | ⟨1, _⟩ => exact a2

end Cert.GmlpRefIdeal.Val

end
-- ==== Proof.EIn.lean ====
/-
  THE INPUT OF AN EVEN LAYER: the normalised rows times the weights, the attention's columns in one call and the recurrence's in another, whose weights
  have three groups of columns widened with zeros; those columns are cut off again afterwards.
-/
module

public import proofs.«01_k».proof.Proof.FReg
public import proofs.«01_k».proof.Proof.Gen.EvenInIdeal.Frame
public import Idealize.ShloMosaic.Lib.Pipeline.ValueKit

@[expose] public section

set_option maxRecDepth 16384

noncomputable section

namespace Cert.EvenInIdeal.Val

open Cert.EvenInIdeal Cert.EvenInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The product that gives the attention's columns. -/
def qk (A : FVec Ideal S8192x2048 .bf16) (B : FVec Ideal S2048x3072 .bf16) : FVec Ideal S8192x3072 .f32 := fun i =>
  ∑ k : Fin 2048, A (ix2 (i 0) k) * B (ix2 k (i 1))
/-- The product that gives the recurrence's columns, the widened groups among them. -/
def rp (A : FVec Ideal S8192x2048 .bf16) (B : FVec Ideal S2048x3584 .bf16) : FVec Ideal S8192x3584 .f32 := fun i =>
  ∑ k : Fin 2048, A (ix2 (i 0) k) * B (ix2 k (i 1))

section regions
variable (V : (c : Dev nD) → (b : Ref sig .tc) → Buf (Elt Ideal) ((c : Thread nD τ).loc b)) (c : Dev nD)

theorem idx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)
theorem idx1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)
theorem idx2 : ∀ t : Fin cfg2.N, win2_0.index t = ![(grid2.coords t 0).val, 0] ∧ win2_1.index t = ![0, (grid2.coords t 1).val]
    ∧ win2_2.index t = ![(grid2.coords t 0).val, (grid2.coords t 1).val] :=
  (by decide +kernel : ∀ t : Fin grid2.N, _)

theorem arr0 : (dat0 V c).arrAt 2 cfg0.N = Cert.FfnIdeal.Val.rms (V c main_arg0) (V c main_v0) := by
  refine (dat0 V c).arrAt_eq_of_covers 2 _ (by decide +kernel) fun t _ y => ?_
  blk_simp
  rw [after0_2]; frame_out
  pointwise [k0_pay1, Cert.FfnIdeal.Val.rms]
  blk_point [iblk0, idx0 t]

theorem arr1 : (dat1 V c).arrAt 2 cfg1.N = qk (V c main_v1) (V c main_v3) := by
  refine (dat1 V c).arrAt_eq_of_covers 2 _ (by decide +kernel) fun t _ y => ?_
  blk_simp
  rw [after1_2]; frame_out
  pointwise [k1_pay1, qk]
  blk_point [iblk1, idx1 t]

theorem arr2 : (dat2 V c).arrAt 2 cfg2.N = rp (V c main_v1) (V c main_v13) := by
  refine (dat2 V c).arrAt_eq_of_covers 2 _ (by decide +kernel) fun t _ y => ?_
  blk_simp
  rw [after2_2]; frame_out
  pointwise [k2_pay1, rp]
  blk_point [iblk2, idx2 t]
end regions

/-- The attention's weights. -/
def wQ (w : FVec Ideal S2048x6432 .f32) : FVec Ideal S2048x3072 .bf16 :=
  truncf .bf16 (extractStridedSlice S2048x3072 ![0, 0] w slices_S2048x6432_S2048x3072_0_0) bitsLt_bf16_f32
/-- The recurrence's weights. -/
def wT (w : FVec Ideal S2048x6432 .f32) : FVec Ideal S2048x3360 .f32 := extractStridedSlice S2048x3360 ![0, 3072] w slices_S2048x6432_S2048x3360_0_3072
/-- Their four groups of columns, three of them widened. -/
def g0 (w : FVec Ideal S2048x6432 .f32) : FVec Ideal S2048x3072 .f32 := extractStridedSlice S2048x3072 ![0, 0] (wT w) slices_S2048x3360_S2048x3072_0_0
def s1 (w : FVec Ideal S2048x6432 .f32) : FVec Ideal S2048x64 .f32 := extractStridedSlice S2048x64 ![0, 3072] (wT w) slices_S2048x3360_S2048x64_0_3072
def s2 (w : FVec Ideal S2048x6432 .f32) : FVec Ideal S2048x64 .f32 := extractStridedSlice S2048x64 ![0, 3136] (wT w) slices_S2048x3360_S2048x64_0_3136
def s3 (w : FVec Ideal S2048x6432 .f32) : FVec Ideal S2048x160 .f32 := extractStridedSlice S2048x160 ![0, 3200] (wT w) slices_S2048x3360_S2048x160_0_3200
def ze : FVec Ideal S_ .f32 := sitofp (F := Ideal) .f32 (constantI S_ 32 0#32)
def g1 (w : FVec Ideal S2048x6432 .f32) : FVec Ideal S2048x128 .f32 := pad S2048x128 ![0, 0] ![0, 64] ![0, 0] (s1 w) ze pads_S2048x64_S2048x128_000_0640 h_S_
def g2 (w : FVec Ideal S2048x6432 .f32) : FVec Ideal S2048x128 .f32 := pad S2048x128 ![0, 0] ![0, 64] ![0, 0] (s2 w) ze pads_S2048x64_S2048x128_000_0640 h_S_
def g3 (w : FVec Ideal S2048x6432 .f32) : FVec Ideal S2048x256 .f32 := pad S2048x256 ![0, 0] ![0, 96] ![0, 0] (s3 w) ze pads_S2048x160_S2048x256_000_0960 h_S_
def gc (w : FVec Ideal S2048x6432 .f32) : FVec Ideal S2048x3584 .f32 :=
  concatenate S2048x3584 1 [⟨S2048x3072, g0 w⟩, ⟨S2048x128, g1 w⟩, ⟨S2048x128, g2 w⟩, ⟨S2048x256, g3 w⟩] concatenates_S2048x3072_S2048x128_S2048x128_S2048x256_S2048x3584_d1
def wR (w : FVec Ideal S2048x6432 .f32) : FVec Ideal S2048x3584 .bf16 := truncf .bf16 (gc w) bitsLt_bf16_f32
/-- The widening cut off again. -/
def cut (y : FVec Ideal S8192x3584 .f32) : FVec Ideal S8192x3360 .f32 :=
  concatenate S8192x3360 1 [⟨S8192x3072, extractStridedSlice S8192x3072 ![0, 0] y slices_S8192x3584_S8192x3072_0_0⟩,
    ⟨S8192x64, extractStridedSlice S8192x64 ![0, 3072] y slices_S8192x3584_S8192x64_0_3072⟩,
    ⟨S8192x64, extractStridedSlice S8192x64 ![0, 3200] y slices_S8192x3584_S8192x64_0_3200⟩,
    ⟨S8192x160, extractStridedSlice S8192x160 ![0, 3328] y slices_S8192x3584_S8192x160_0_3328⟩] concatenates_S8192x3072_S8192x64_S8192x64_S8192x160_S8192x3360_d1

/-- The normalised rows of the arguments. -/
def hn (x : FVec Ideal S8192x2048 .f32) (g : FVec Ideal S2048 .f32) : FVec Ideal S8192x2048 .bf16 :=
  Cert.FfnIdeal.Val.rms x (shapeCast S1x2048 g shapeCasts_S2048_S1x2048)

variable (m : (ℓ : Loc nD τ sig) → Buf (Elt Ideal) ℓ) (ρ : Dev nD → PrngReg) (c : Dev nD)

theorem w1_v0 : W1 m ρ c (Proc.devRef .tc main_v0) = shapeCast S1x2048 (m ((c : Thread nD τ).loc main_arg1) : FVec Ideal S2048 .f32) shapeCasts_S2048_S1x2048 := by
  after_results_simp <;> rfl
theorem w2_v1 : W2 m ρ c (Proc.devRef .tc main_v1) = hn (m ((c : Thread nD τ).loc main_arg0)) (m ((c : Thread nD τ).loc main_arg1)) :=
  (W2_arr m ρ c 2).trans ((arr0 (V1 m ρ) c).trans (congrArg₂ Cert.FfnIdeal.Val.rms (W1_args m ρ c main_arg0 (by decide)) (w1_v0 m ρ c)))
theorem w3_v3 : W3 m ρ c (Proc.devRef .tc main_v3) = wQ (m ((c : Thread nD τ).loc main_arg2)) := by
  rw [← W2_args m ρ c main_arg2 (by decide)]
  after_results_simp <;> rfl
theorem w3_v4 : W3 m ρ c (Proc.devRef .tc main_v4) = wT (m ((c : Thread nD τ).loc main_arg2)) := by
  rw [← W2_args m ρ c main_arg2 (by decide)]
  after_results_simp <;> rfl
theorem w3_v5 : W3 m ρ c (Proc.devRef .tc main_v5) = g0 (m ((c : Thread nD τ).loc main_arg2)) := by
  rw [← W2_args m ρ c main_arg2 (by decide)]
  after_results_simp <;> rfl
theorem w3_v6 : W3 m ρ c (Proc.devRef .tc main_v6) = s1 (m ((c : Thread nD τ).loc main_arg2)) := by
  rw [← W2_args m ρ c main_arg2 (by decide)]
  after_results_simp <;> rfl
theorem w3_c : W3 m ρ c (Proc.devRef .tc main_c) = constantI S_ 32 0#32 := by
  after_results_simp <;> rfl
theorem w4_v7 : W4 m ρ c (Proc.devRef .tc main_v7) = g1 (m ((c : Thread nD τ).loc main_arg2)) := by
  unfold g1 ze
  rw [← w3_v6 m ρ c, ← w3_c m ρ c]
  after_results_simp <;> rfl
theorem w4_v4 : W4 m ρ c (Proc.devRef .tc main_v4) = wT (m ((c : Thread nD τ).loc main_arg2)) := (W4_of m ρ c main_v4 (by decide)).trans (w3_v4 m ρ c)
theorem w5_v8 : W5 m ρ c (Proc.devRef .tc main_v8) = s2 (m ((c : Thread nD τ).loc main_arg2)) := by
  unfold s2
  rw [← w4_v4 m ρ c]
  after_results_simp <;> rfl
theorem w5_c : W5 m ρ c (Proc.devRef .tc main_c_0) = constantI S_ 32 0#32 := by
  after_results_simp <;> rfl
theorem w6_v9 : W6 m ρ c (Proc.devRef .tc main_v9) = g2 (m ((c : Thread nD τ).loc main_arg2)) := by
  unfold g2 ze
  rw [← w5_v8 m ρ c, ← w5_c m ρ c]
  after_results_simp <;> rfl
theorem w6_v4 : W6 m ρ c (Proc.devRef .tc main_v4) = wT (m ((c : Thread nD τ).loc main_arg2)) :=
  (W6_of m ρ c main_v4 (by decide)).trans ((W5_of m ρ c main_v4 (by decide)).trans (w4_v4 m ρ c))
theorem w7_v10 : W7 m ρ c (Proc.devRef .tc main_v10) = s3 (m ((c : Thread nD τ).loc main_arg2)) := by
  unfold s3
  rw [← w6_v4 m ρ c]
  after_results_simp <;> rfl
theorem w7_c : W7 m ρ c (Proc.devRef .tc main_c_1) = constantI S_ 32 0#32 := by
  after_results_simp <;> rfl
theorem w8_v11 : W8 m ρ c (Proc.devRef .tc main_v11) = g3 (m ((c : Thread nD τ).loc main_arg2)) := by
  unfold g3 ze
  rw [← w7_v10 m ρ c, ← w7_c m ρ c]
  after_results_simp <;> rfl
theorem w8_v9 : W8 m ρ c (Proc.devRef .tc main_v9) = g2 (m ((c : Thread nD τ).loc main_arg2)) :=
  (W8_of m ρ c main_v9 (by decide)).trans ((W7_of m ρ c main_v9 (by decide)).trans (w6_v9 m ρ c))
theorem w8_v7 : W8 m ρ c (Proc.devRef .tc main_v7) = g1 (m ((c : Thread nD τ).loc main_arg2)) :=
  (W8_of m ρ c main_v7 (by decide)).trans ((W7_of m ρ c main_v7 (by decide)).trans ((W6_of m ρ c main_v7 (by decide)).trans ((W5_of m ρ c main_v7 (by decide)).trans (w4_v7 m ρ c))))
theorem w8_v5 : W8 m ρ c (Proc.devRef .tc main_v5) = g0 (m ((c : Thread nD τ).loc main_arg2)) :=
  (W8_of m ρ c main_v5 (by decide)).trans ((W7_of m ρ c main_v5 (by decide)).trans ((W6_of m ρ c main_v5 (by decide)).trans ((W5_of m ρ c main_v5 (by decide)).trans
    ((W4_of m ρ c main_v5 (by decide)).trans (w3_v5 m ρ c)))))
theorem w9_v13 : W9 m ρ c (Proc.devRef .tc main_v13) = wR (m ((c : Thread nD τ).loc main_arg2)) := by
  unfold wR gc
  rw [← w8_v11 m ρ c, ← w8_v9 m ρ c, ← w8_v7 m ρ c, ← w8_v5 m ρ c]
  after_results_simp <;> rfl
theorem w9_v1 : W9 m ρ c (Proc.devRef .tc main_v1) = hn (m ((c : Thread nD τ).loc main_arg0)) (m ((c : Thread nD τ).loc main_arg1)) :=
  (W9_of m ρ c main_v1 (by decide)).trans ((W8_of m ρ c main_v1 (by decide)).trans ((W7_of m ρ c main_v1 (by decide)).trans ((W6_of m ρ c main_v1 (by decide)).trans
    ((W5_of m ρ c main_v1 (by decide)).trans ((W4_of m ρ c main_v1 (by decide)).trans ((W3_of m ρ c main_v1 (by decide)).trans (w2_v1 m ρ c)))))))
theorem w9_v3 : W9 m ρ c (Proc.devRef .tc main_v3) = wQ (m ((c : Thread nD τ).loc main_arg2)) :=
  (W9_of m ρ c main_v3 (by decide)).trans ((W8_of m ρ c main_v3 (by decide)).trans ((W7_of m ρ c main_v3 (by decide)).trans ((W6_of m ρ c main_v3 (by decide)).trans
    ((W5_of m ρ c main_v3 (by decide)).trans ((W4_of m ρ c main_v3 (by decide)).trans (w3_v3 m ρ c))))))
theorem w10_v14 : W10 m ρ c (Proc.devRef .tc main_v14) = qk (hn (m ((c : Thread nD τ).loc main_arg0)) (m ((c : Thread nD τ).loc main_arg1))) (wQ (m ((c : Thread nD τ).loc main_arg2))) :=
  (W10_arr m ρ c 2).trans ((arr1 (V9 m ρ) c).trans (congrArg₂ qk (w9_v1 m ρ c) (w9_v3 m ρ c)))
theorem w11_v15 : W11 m ρ c (Proc.devRef .tc main_v15) = rp (hn (m ((c : Thread nD τ).loc main_arg0)) (m ((c : Thread nD τ).loc main_arg1))) (wR (m ((c : Thread nD τ).loc main_arg2))) :=
  (W11_arr m ρ c 2).trans ((arr2 (V10 m ρ) c).trans (congrArg₂ rp ((W10_of m ρ c main_v1 (by decide)).trans (w9_v1 m ρ c)) ((W10_of m ρ c main_v13 (by decide)).trans (w9_v13 m ρ c))))
theorem w12_v14 : W12 m ρ c (Proc.devRef .tc main_v14) = qk (hn (m ((c : Thread nD τ).loc main_arg0)) (m ((c : Thread nD τ).loc main_arg1))) (wQ (m ((c : Thread nD τ).loc main_arg2))) :=
  (W12_of m ρ c main_v14 (by decide)).trans ((W11_of m ρ c main_v14 (by decide)).trans (w10_v14 m ρ c))
theorem w12_v20 : W12 m ρ c (Proc.devRef .tc main_v20) = cut (rp (hn (m ((c : Thread nD τ).loc main_arg0)) (m ((c : Thread nD τ).loc main_arg1))) (wR (m ((c : Thread nD τ).loc main_arg2)))) := by
  rw [← w11_v15 m ρ c]
  after_results_simp <;> rfl

-- the launch's implicit arguments are found by unifying its conclusion with this one
set_option backward.isDefEq.respectTransparency.types false in
/-- Every run ends with the results at their terms and the arguments as launched. -/
theorem run : θ_run defs (onTc (τ := τ) (main (F := Ideal))) ⟨m, fun _ => 0, ρ⟩ (fun r => ∀ c : Dev nD,
      r.2.mem ((c.tc : Thread nD τ).loc main_v14) = qk (hn (m ((c : Thread nD τ).loc main_arg0)) (m ((c : Thread nD τ).loc main_arg1))) (wQ (m ((c : Thread nD τ).loc main_arg2)))
      ∧ r.2.mem ((c.tc : Thread nD τ).loc main_v20) = cut (rp (hn (m ((c : Thread nD τ).loc main_arg0)) (m ((c : Thread nD τ).loc main_arg1))) (wR (m ((c : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => (fun c =>
      ⟨(h c _ (mem_uc main_v14 (by decide))).trans (w12_v14 m ρ c),
       (h c _ (mem_uc main_v20 (by decide))).trans (w12_v20 m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c)⟩))

end Cert.EvenInIdeal.Val

end
-- ==== Proof.EInRef.lean ====
/-
  THE INPUT OF AN EVEN LAYER, THE REFERENCE: one product with all the weights, cut into the attention's and the recurrence's columns, is the same two
  terms of the arguments; a column of the widened weights that is kept is a column of the weights.
-/
module

public import proofs.«01_k».proof.Proof.EIn
public import proofs.«01_k».proof.Proof.Gen.EvenInRefIdeal.Read
public import Idealize.ShloMosaic.Lib.KernelVsHost

@[expose] public section

set_option maxRecDepth 16384

noncomputable section

namespace Cert.EvenInIdeal.Val

open Cert.EvenInIdeal Cert.EvenInIdeal.Gen Idealize.ShloMosaic Idealize.ShloMosaic.TcCoe Idealize.SL.Sem

variable (w : FVec Ideal S2048x6432 .f32) (y : FVec Ideal S8192x3584 .f32)

theorem wT_at (k : Fin 2048) (p : Fin 3360) (n : Fin 6432) (hn : n.val = 3072 + p.val) : wT w (ix2 k p) = w (ix2 k n) :=
  extractStridedSlice_apply ![0, 3072] w slices_S2048x6432_S2048x3360_0_3072 (ix2 k p) (ix2 k n) (fun a => match a with
    | ⟨0, _⟩ => by show k.val = 0 + k.val; omega
    | ⟨1, _⟩ => by show n.val = 3072 + p.val; omega)

theorem gc_at0 (k : Fin 2048) (q : Fin 3584) (n : Fin 6432) (h1 : 0 ≤ q.val) (h2 : q.val < 3072) (hn : n.val = q.val - 0 + 3072) :
    gc w (ix2 k q) = w (ix2 k n) := by
  refine (concatenate_apply_piece (t := S2048x3584) 1 [⟨S2048x3072, g0 w⟩, ⟨S2048x128, g1 w⟩, ⟨S2048x128, g2 w⟩, ⟨S2048x256, g3 w⟩]
    concatenates_S2048x3072_S2048x128_S2048x128_S2048x256_S2048x3584_d1 (ix2 k q) 0 (by simp) S2048x3072 (g0 w) rfl rfl 0 rfl
    (ix2 k ⟨q.val - 0, by omega⟩) (fun b hb => ?_) ?_).trans ?_
  · match b with
    | ⟨0, _⟩ => rfl
    | ⟨1, _⟩ => exact absurd rfl hb
  · show 0 + (q.val - 0) = q.val; omega
  exact (extractStridedSlice_apply ![0, 0] (wT w) slices_S2048x3360_S2048x3072_0_0 (ix2 k ⟨q.val - 0, by omega⟩) (ix2 k ⟨q.val - 0 + 0, by omega⟩) (fun a => match a with
    | ⟨0, _⟩ => by show k.val = 0 + k.val; omega
    | ⟨1, _⟩ => by show q.val - 0 + 0 = 0 + (q.val - 0); omega)).trans (wT_at w k _ n (by show n.val = 3072 + (q.val - 0 + 0); omega))

theorem gc_at1 (k : Fin 2048) (q : Fin 3584) (n : Fin 6432) (h1 : 3072 ≤ q.val) (h2 : q.val < 3136) (hn : n.val = q.val - 3072 + 6144) :
    gc w (ix2 k q) = w (ix2 k n) := by
  refine (concatenate_apply_piece (t := S2048x3584) 1 [⟨S2048x3072, g0 w⟩, ⟨S2048x128, g1 w⟩, ⟨S2048x128, g2 w⟩, ⟨S2048x256, g3 w⟩]
    concatenates_S2048x3072_S2048x128_S2048x128_S2048x256_S2048x3584_d1 (ix2 k q) 1 (by simp) S2048x128 (g1 w) rfl rfl 3072 rfl
    (ix2 k ⟨q.val - 3072, by omega⟩) (fun b hb => ?_) ?_).trans ?_
  · match b with
    | ⟨0, _⟩ => rfl
    | ⟨1, _⟩ => exact absurd rfl hb
  · show 3072 + (q.val - 3072) = q.val; omega
  refine (pad_apply_of_inside ![0, 0] ![0, 64] ![0, 0] (s1 w) ze pads_S2048x64_S2048x128_000_0640 h_S_ _ (ix2 k ⟨q.val - 3072, by omega⟩ : S2048x64.Idx) (fun a => ?_)).trans ?_
  · match a with
    | ⟨0, _⟩ => show k.val = 0 + k.val * (0 + 1); omega
    | ⟨1, _⟩ => show q.val - 3072 = 0 + (q.val - 3072) * (0 + 1); omega
  exact (extractStridedSlice_apply ![0, 3072] (wT w) slices_S2048x3360_S2048x64_0_3072 (ix2 k ⟨q.val - 3072, by omega⟩) (ix2 k ⟨q.val - 3072 + 3072, by omega⟩) (fun a => match a with
    | ⟨0, _⟩ => by show k.val = 0 + k.val; omega
    | ⟨1, _⟩ => by show q.val - 3072 + 3072 = 3072 + (q.val - 3072); omega)).trans (wT_at w k _ n (by show n.val = 3072 + (q.val - 3072 + 3072); omega))

theorem gc_at2 (k : Fin 2048) (q : Fin 3584) (n : Fin 6432) (h1 : 3200 ≤ q.val) (h2 : q.val < 3264) (hn : n.val = q.val - 3200 + 6208) :
    gc w (ix2 k q) = w (ix2 k n) := by
  refine (concatenate_apply_piece (t := S2048x3584) 1 [⟨S2048x3072, g0 w⟩, ⟨S2048x128, g1 w⟩, ⟨S2048x128, g2 w⟩, ⟨S2048x256, g3 w⟩]
    concatenates_S2048x3072_S2048x128_S2048x128_S2048x256_S2048x3584_d1 (ix2 k q) 2 (by simp) S2048x128 (g2 w) rfl rfl 3200 rfl
    (ix2 k ⟨q.val - 3200, by omega⟩) (fun b hb => ?_) ?_).trans ?_
  · match b with
    | ⟨0, _⟩ => rfl
    | ⟨1, _⟩ => exact absurd rfl hb
  · show 3200 + (q.val - 3200) = q.val; omega
  refine (pad_apply_of_inside ![0, 0] ![0, 64] ![0, 0] (s2 w) ze pads_S2048x64_S2048x128_000_0640 h_S_ _ (ix2 k ⟨q.val - 3200, by omega⟩ : S2048x64.Idx) (fun a => ?_)).trans ?_
  · match a with
    | ⟨0, _⟩ => show k.val = 0 + k.val * (0 + 1); omega
    | ⟨1, _⟩ => show q.val - 3200 = 0 + (q.val - 3200) * (0 + 1); omega
  exact (extractStridedSlice_apply ![0, 3136] (wT w) slices_S2048x3360_S2048x64_0_3136 (ix2 k ⟨q.val - 3200, by omega⟩) (ix2 k ⟨q.val - 3200 + 3136, by omega⟩) (fun a => match a with
    | ⟨0, _⟩ => by show k.val = 0 + k.val; omega
    | ⟨1, _⟩ => by show q.val - 3200 + 3136 = 3136 + (q.val - 3200); omega)).trans (wT_at w k _ n (by show n.val = 3072 + (q.val - 3200 + 3136); omega))

theorem gc_at3 (k : Fin 2048) (q : Fin 3584) (n : Fin 6432) (h1 : 3328 ≤ q.val) (h2 : q.val < 3488) (hn : n.val = q.val - 3328 + 6272) :
    gc w (ix2 k q) = w (ix2 k n) := by
  refine (concatenate_apply_piece (t := S2048x3584) 1 [⟨S2048x3072, g0 w⟩, ⟨S2048x128, g1 w⟩, ⟨S2048x128, g2 w⟩, ⟨S2048x256, g3 w⟩]
    concatenates_S2048x3072_S2048x128_S2048x128_S2048x256_S2048x3584_d1 (ix2 k q) 3 (by simp) S2048x256 (g3 w) rfl rfl 3328 rfl
    (ix2 k ⟨q.val - 3328, by omega⟩) (fun b hb => ?_) ?_).trans ?_
  · match b with
    | ⟨0, _⟩ => rfl
    | ⟨1, _⟩ => exact absurd rfl hb
  · show 3328 + (q.val - 3328) = q.val; omega
  refine (pad_apply_of_inside ![0, 0] ![0, 96] ![0, 0] (s3 w) ze pads_S2048x160_S2048x256_000_0960 h_S_ _ (ix2 k ⟨q.val - 3328, by omega⟩ : S2048x160.Idx) (fun a => ?_)).trans ?_
  · match a with
    | ⟨0, _⟩ => show k.val = 0 + k.val * (0 + 1); omega
    | ⟨1, _⟩ => show q.val - 3328 = 0 + (q.val - 3328) * (0 + 1); omega
  exact (extractStridedSlice_apply ![0, 3200] (wT w) slices_S2048x3360_S2048x160_0_3200 (ix2 k ⟨q.val - 3328, by omega⟩) (ix2 k ⟨q.val - 3328 + 3200, by omega⟩) (fun a => match a with
    | ⟨0, _⟩ => by show k.val = 0 + k.val; omega
    | ⟨1, _⟩ => by show q.val - 3328 + 3200 = 3200 + (q.val - 3328); omega)).trans (wT_at w k _ n (by show n.val = 3072 + (q.val - 3328 + 3200); omega))

theorem cut_at0 (i : S8192x3360.Idx) (q : Fin 3584) (h1 : 0 ≤ (i 1).val) (h2 : (i 1).val < 3072) (hq : q.val = (i 1).val - 0 + 0) :
    cut y i = y (ix2 (i 0) q) := by
  refine (concatenate_apply_piece (t := S8192x3360) 1 [⟨S8192x3072, extractStridedSlice S8192x3072 ![0, 0] y slices_S8192x3584_S8192x3072_0_0⟩,
    ⟨S8192x64, extractStridedSlice S8192x64 ![0, 3072] y slices_S8192x3584_S8192x64_0_3072⟩,
    ⟨S8192x64, extractStridedSlice S8192x64 ![0, 3200] y slices_S8192x3584_S8192x64_0_3200⟩,
    ⟨S8192x160, extractStridedSlice S8192x160 ![0, 3328] y slices_S8192x3584_S8192x160_0_3328⟩] concatenates_S8192x3072_S8192x64_S8192x64_S8192x160_S8192x3360_d1
    i 0 (by simp) S8192x3072 (extractStridedSlice S8192x3072 ![0, 0] y slices_S8192x3584_S8192x3072_0_0) rfl rfl 0 rfl
    (ix2 (i 0) ⟨(i 1).val - 0, by omega⟩) (fun b hb => ?_) ?_).trans ?_
  · match b with
    | ⟨0, _⟩ => rfl
    | ⟨1, _⟩ => exact absurd rfl hb
  · show 0 + ((i 1).val - 0) = (i 1).val; omega
  exact extractStridedSlice_apply ![0, 0] y slices_S8192x3584_S8192x3072_0_0 (ix2 (i 0) ⟨(i 1).val - 0, by omega⟩) (ix2 (i 0) q) (fun a => match a with
    | ⟨0, _⟩ => by show (i 0).val = 0 + (i 0).val; omega
    | ⟨1, _⟩ => by show q.val = 0 + ((i 1).val - 0); omega)

theorem cut_at1 (i : S8192x3360.Idx) (q : Fin 3584) (h1 : 3072 ≤ (i 1).val) (h2 : (i 1).val < 3136) (hq : q.val = (i 1).val - 3072 + 3072) :
    cut y i = y (ix2 (i 0) q) := by
  refine (concatenate_apply_piece (t := S8192x3360) 1 [⟨S8192x3072, extractStridedSlice S8192x3072 ![0, 0] y slices_S8192x3584_S8192x3072_0_0⟩,
    ⟨S8192x64, extractStridedSlice S8192x64 ![0, 3072] y slices_S8192x3584_S8192x64_0_3072⟩,
    ⟨S8192x64, extractStridedSlice S8192x64 ![0, 3200] y slices_S8192x3584_S8192x64_0_3200⟩,
    ⟨S8192x160, extractStridedSlice S8192x160 ![0, 3328] y slices_S8192x3584_S8192x160_0_3328⟩] concatenates_S8192x3072_S8192x64_S8192x64_S8192x160_S8192x3360_d1
    i 1 (by simp) S8192x64 (extractStridedSlice S8192x64 ![0, 3072] y slices_S8192x3584_S8192x64_0_3072) rfl rfl 3072 rfl
    (ix2 (i 0) ⟨(i 1).val - 3072, by omega⟩) (fun b hb => ?_) ?_).trans ?_
  · match b with
    | ⟨0, _⟩ => rfl
    | ⟨1, _⟩ => exact absurd rfl hb
  · show 3072 + ((i 1).val - 3072) = (i 1).val; omega
  exact extractStridedSlice_apply ![0, 3072] y slices_S8192x3584_S8192x64_0_3072 (ix2 (i 0) ⟨(i 1).val - 3072, by omega⟩) (ix2 (i 0) q) (fun a => match a with
    | ⟨0, _⟩ => by show (i 0).val = 0 + (i 0).val; omega
    | ⟨1, _⟩ => by show q.val = 3072 + ((i 1).val - 3072); omega)

theorem cut_at2 (i : S8192x3360.Idx) (q : Fin 3584) (h1 : 3136 ≤ (i 1).val) (h2 : (i 1).val < 3200) (hq : q.val = (i 1).val - 3136 + 3200) :
    cut y i = y (ix2 (i 0) q) := by
  refine (concatenate_apply_piece (t := S8192x3360) 1 [⟨S8192x3072, extractStridedSlice S8192x3072 ![0, 0] y slices_S8192x3584_S8192x3072_0_0⟩,
    ⟨S8192x64, extractStridedSlice S8192x64 ![0, 3072] y slices_S8192x3584_S8192x64_0_3072⟩,
    ⟨S8192x64, extractStridedSlice S8192x64 ![0, 3200] y slices_S8192x3584_S8192x64_0_3200⟩,
    ⟨S8192x160, extractStridedSlice S8192x160 ![0, 3328] y slices_S8192x3584_S8192x160_0_3328⟩] concatenates_S8192x3072_S8192x64_S8192x64_S8192x160_S8192x3360_d1
    i 2 (by simp) S8192x64 (extractStridedSlice S8192x64 ![0, 3200] y slices_S8192x3584_S8192x64_0_3200) rfl rfl 3136 rfl
    (ix2 (i 0) ⟨(i 1).val - 3136, by omega⟩) (fun b hb => ?_) ?_).trans ?_
  · match b with
    | ⟨0, _⟩ => rfl
    | ⟨1, _⟩ => exact absurd rfl hb
  · show 3136 + ((i 1).val - 3136) = (i 1).val; omega
  exact extractStridedSlice_apply ![0, 3200] y slices_S8192x3584_S8192x64_0_3200 (ix2 (i 0) ⟨(i 1).val - 3136, by omega⟩) (ix2 (i 0) q) (fun a => match a with
    | ⟨0, _⟩ => by show (i 0).val = 0 + (i 0).val; omega
    | ⟨1, _⟩ => by show q.val = 3200 + ((i 1).val - 3136); omega)

theorem cut_at3 (i : S8192x3360.Idx) (q : Fin 3584) (h1 : 3200 ≤ (i 1).val) (h2 : (i 1).val < 3360) (hq : q.val = (i 1).val - 3200 + 3328) :
    cut y i = y (ix2 (i 0) q) := by
  refine (concatenate_apply_piece (t := S8192x3360) 1 [⟨S8192x3072, extractStridedSlice S8192x3072 ![0, 0] y slices_S8192x3584_S8192x3072_0_0⟩,
    ⟨S8192x64, extractStridedSlice S8192x64 ![0, 3072] y slices_S8192x3584_S8192x64_0_3072⟩,
    ⟨S8192x64, extractStridedSlice S8192x64 ![0, 3200] y slices_S8192x3584_S8192x64_0_3200⟩,
    ⟨S8192x160, extractStridedSlice S8192x160 ![0, 3328] y slices_S8192x3584_S8192x160_0_3328⟩] concatenates_S8192x3072_S8192x64_S8192x64_S8192x160_S8192x3360_d1
    i 3 (by simp) S8192x160 (extractStridedSlice S8192x160 ![0, 3328] y slices_S8192x3584_S8192x160_0_3328) rfl rfl 3200 rfl
    (ix2 (i 0) ⟨(i 1).val - 3200, by omega⟩) (fun b hb => ?_) ?_).trans ?_
  · match b with
    | ⟨0, _⟩ => rfl
    | ⟨1, _⟩ => exact absurd rfl hb
  · show 3200 + ((i 1).val - 3200) = (i 1).val; omega
  exact extractStridedSlice_apply ![0, 3328] y slices_S8192x3584_S8192x160_0_3328 (ix2 (i 0) ⟨(i 1).val - 3200, by omega⟩) (ix2 (i 0) q) (fun a => match a with
    | ⟨0, _⟩ => by show (i 0).val = 0 + (i 0).val; omega
    | ⟨1, _⟩ => by show q.val = 3328 + ((i 1).val - 3200); omega)

/-- The second result, column by column of the weights. -/
theorem cut_eq (A : FVec Ideal S8192x2048 .bf16) (i : S8192x3360.Idx) (n : Fin 6432) (hn : n.val = 3072 + (i 1).val) :
    cut (rp A (wR w)) i = ∑ k : Fin 2048, A (ix2 (i 0) k) * w (ix2 k n) := by
  have h : (i 1).val < 3360 := (i 1).isLt
  rcases Nat.lt_or_ge (i 1).val 3072 with h1 | h1
  · exact (cut_at0 _ i ⟨(i 1).val, by omega⟩ (by omega) (by omega) (by show (i 1).val = _; omega)).trans
      (Finset.sum_congr rfl fun k _ => congrArg (A (ix2 (i 0) k) * ·) (gc_at0 w k _ n (by omega) (by show (i 1).val < _; omega) (by show n.val = (i 1).val - 0 + _; omega)))
  rcases Nat.lt_or_ge (i 1).val 3136 with h2 | h2
  · exact (cut_at1 _ i ⟨(i 1).val, by omega⟩ (by omega) (by omega) (by show (i 1).val = _; omega)).trans
      (Finset.sum_congr rfl fun k _ => congrArg (A (ix2 (i 0) k) * ·) (gc_at1 w k _ n (by show _ ≤ (i 1).val; omega) (by show (i 1).val < _; omega) (by show n.val = (i 1).val - 3072 + _; omega)))
  rcases Nat.lt_or_ge (i 1).val 3200 with h3 | h3
  · exact (cut_at2 _ i ⟨(i 1).val + 64, by omega⟩ (by omega) (by omega) (by show (i 1).val + 64 = _; omega)).trans
      (Finset.sum_congr rfl fun k _ => congrArg (A (ix2 (i 0) k) * ·) (gc_at2 w k _ n (by show _ ≤ (i 1).val + 64; omega) (by show (i 1).val + 64 < _; omega) (by show n.val = (i 1).val + 64 - 3200 + _; omega)))
  · exact (cut_at3 _ i ⟨(i 1).val + 128, by omega⟩ (by omega) (by omega) (by show (i 1).val + 128 = _; omega)).trans
      (Finset.sum_congr rfl fun k _ => congrArg (A (ix2 (i 0) k) * ·) (gc_at3 w k _ n (by show _ ≤ (i 1).val + 128; omega) (by show (i 1).val + 128 < _; omega) (by show n.val = (i 1).val + 128 - 3328 + _; omega)))

end Cert.EvenInIdeal.Val

namespace Cert.EvenInRefIdeal.Val

open Cert.EvenInRefIdeal Cert.EvenInRefIdeal.Gen Cert.EvenInRefIdeal.Read Idealize.ShloMosaic Idealize.ShloMosaic.TcCoe Idealize.SL.Sem
open Cert.EvenInIdeal.Val

variable (x : FVec Ideal S8192x2048 .f32) (g : FVec Ideal S2048 .f32) (w : FVec Ideal S2048x6432 .f32)

theorem zlit : (FloatOps.ofBits .f32 0x00000000#32 : Ideal .f32) = 0 := Ideal.ofBits_zero .f32

theorem v0_at (i : S4x2048x2048.Idx) (r : Fin 8192) (k : Fin 2048) (hr : r.val = 2048 * (i 0).val + (i 1).val) (hk : k.val = (i 2).val) :
    val_main_v0 (F := Ideal) x i = x (ix2 r k) := by
  have h2 : (i 2).val < 2048 := (i 2).isLt
  rw [val_main_v0_apply]
  refine congrArg x (funext fun a => Fin.ext ?_)
  match a with
  | ⟨0, _⟩ => show (((i 0).val * 2048 + (i 1).val) * 2048 + (i 2).val) / 2048 = r.val; omega
  | ⟨1, _⟩ => show (((i 0).val * 2048 + (i 1).val) * 2048 + (i 2).val) % 2048 = k.val; omega

theorem v2_at (i : S4x2048.Idx) (r : Fin 8192) (hr : r.val = 2048 * (i 0).val + (i 1).val) :
    val_main_v2 (F := Ideal) x i = ∑ k : Fin 2048, x (ix2 r k) * x (ix2 r k) := by
  rw [val_main_v2_apply, val_main_cst_apply, zlit, zero_add]
  refine Finset.sum_congr rfl fun k _ => ?_
  rw [val_main_v1_apply, v0_at x _ r k hr rfl]
  rfl

theorem gain_at (i : S4x2048x2048.Idx) (k : Fin 2048) (hk : k.val = (i 2).val) :
    val_main_v12 (F := Ideal) g i = shapeCast Cert.EvenInIdeal.S1x2048 g Cert.EvenInIdeal.Gen.shapeCasts_S2048_S1x2048 (ix2 (0 : Fin 1) k) := by
  rw [val_main_v12_apply, val_main_v11_apply]
  pointwise []
  refine congrArg g (funext fun a => Fin.ext ?_)
  match a with
  | ⟨0, _⟩ => exact hk.symm

theorem v13_at (i : S4x2048x2048.Idx) (r : Fin 8192) (k : Fin 2048) (hr : r.val = 2048 * (i 0).val + (i 1).val) (hk : k.val = (i 2).val) :
    val_main_v13 (F := Ideal) x g i = hn x g (ix2 r k) := by
  rw [val_main_v13_apply, val_main_v10_apply, gain_at g i k hk, v0_at x i r k hr hk, val_main_v9_apply, val_main_v8_apply, val_main_v7_apply, val_main_v5_apply,
    val_main_v3_apply, v2_at x _ r hr, val_main_v4_apply, val_main_v6_apply, val_main_cst_0_apply, val_main_cst_1_apply]
  rfl

theorem v14_at (i : S4x2048x6432.Idx) (r : Fin 8192) (n : Fin 6432) (hr : r.val = 2048 * (i 0).val + (i 1).val) (hn' : n.val = (i 2).val) :
    val_main_v14 (F := Ideal) x g w i = ∑ k : Fin 2048, hn x g (ix2 r k) * w (ix2 k n) := by
  rw [val_main_v14_apply]
  refine Finset.sum_congr rfl fun k _ => congrArg₂ (· * ·) (v13_at x g _ r k hr rfl) (congrArg w (funext fun a => Fin.ext ?_))
  match a with
  | ⟨0, _⟩ => rfl
  | ⟨1, _⟩ => exact hn'.symm

theorem v17_eq : val_main_v17 (F := Ideal) x g w = qk (hn x g) (wQ w) := by
  funext i
  have h0 : (i 0).val < 8192 := (i 0).isLt
  have h1 : (i 1).val < 3072 := (i 1).isLt
  rw [val_main_v17_apply, val_main_v15_apply]
  refine (v14_at x g w _ (i 0) ⟨(i 1).val, by omega⟩ ?_ ?_).trans ?_
  · show (i 0).val = 2048 * (((i 0).val * 3072 + (i 1).val) / 6291456) + ((i 0).val * 3072 + (i 1).val) / 3072 % 2048; omega
  · show (i 1).val = ((i 0).val * 3072 + (i 1).val) % 3072; omega
  · exact Finset.sum_congr rfl fun k _ => congrArg (hn x g (ix2 (i 0) k) * ·)
      (extractStridedSlice_apply ![0, 0] w Cert.EvenInIdeal.Gen.slices_S2048x6432_S2048x3072_0_0 (ix2 k (i 1)) (ix2 k ⟨(i 1).val, by omega⟩) (fun a => match a with
        | ⟨0, _⟩ => by show k.val = 0 + k.val; omega
        | ⟨1, _⟩ => by show (i 1).val = 0 + (i 1).val; omega)).symm

theorem v18_eq : val_main_v18 (F := Ideal) x g w = cut (rp (hn x g) (wR w)) := by
  funext i
  have h0 : (i 0).val < 8192 := (i 0).isLt
  have h1 : (i 1).val < 3360 := (i 1).isLt
  rw [val_main_v18_apply, val_main_v16_apply]
  refine (v14_at x g w _ (i 0) ⟨3072 + (i 1).val, by omega⟩ ?_ ?_).trans (cut_eq w (hn x g) i _ rfl).symm
  · show (i 0).val = 2048 * (((i 0).val * 3360 + (i 1).val) / 6881280) + ((i 0).val * 3360 + (i 1).val) / 3360 % 2048; omega
  · show 3072 + (i 1).val = 3072 + ((i 0).val * 3360 + (i 1).val) % 3360; omega

end Cert.EvenInRefIdeal.Val

end
-- ==== Proof.EOut.lean ====
/-
  THE OUTPUT OF AN EVEN LAYER: the attention's and the recurrence's rows side by side, times the weights, on top of the residual; the call's array and
  the reference's result are the same term of the arguments.
-/
module

public import proofs.«01_k».proof.Proof.Gen.EvenOutIdeal.Frame
public import proofs.«01_k».proof.Proof.Gen.EvenOutRefIdeal.Read
public import Idealize.ShloMosaic.Lib.Pipeline.ValueKit

@[expose] public section

set_option maxRecDepth 16384

noncomputable section

namespace Cert.EvenOutIdeal.Val

open Cert.EvenOutIdeal Cert.EvenOutIdeal.Gen Idealize.ShloMosaic Idealize.ShloMosaic.TcCoe Idealize.SL.Sem

/-- The weights as the product takes them. -/
def wOut (w : FVec Ideal S2048x2048 .f32) : FVec Ideal S2048x2048 .bf16 := truncf .bf16 w bitsLt_bf16_f32
/-- The two groups of rows side by side. -/
def cat (a b : FVec Ideal S8192x1024 .bf16) : FVec Ideal S8192x2048 .bf16 :=
  concatenate S8192x2048 1 [⟨S8192x1024, a⟩, ⟨S8192x1024, b⟩] concatenates_S8192x1024_S8192x1024_S8192x2048_d1
/-- The product, added to the residual. -/
def outp (A : FVec Ideal S8192x2048 .bf16) (B : FVec Ideal S2048x2048 .bf16) (R : FVec Ideal S8192x2048 .f32) : FVec Ideal S8192x2048 .f32 := fun i =>
  R (ix2 (i 0) (i 1)) + ∑ k : Fin 2048, A (ix2 (i 0) k) * B (ix2 k (i 1))

variable (m : (ℓ : Loc nD τ sig) → Buf (Elt Ideal) ℓ) (ρ : Dev nD → PrngReg) (c : Dev nD)

theorem idx0 : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

theorem arr : (dats m 0 c).arrAt 3 cfg0.N = outp (V m c main_v1) (V m c main_v0) (V m c main_arg3) := by
  refine (dats m 0 c).arrAt_eq_of_covers 3 _ (by decide +kernel) fun t _ y => ?_
  blk_simp
  rw [after0_3]; frame_out
  pointwise [k0_pay1, outp]
  blk_point [iblk, idx0 t]

theorem v_v0 : V m c main_v0 = wOut (m ((c : Thread nD τ).loc main_arg2)) := by
  show StableHlo.after hostOps0 (fun b => m (c, b)) (Proc.devRef .tc main_v0) = _
  after_results_simp <;> rfl
theorem v_v1 : V m c main_v1 = cat (m ((c : Thread nD τ).loc main_arg0)) (m ((c : Thread nD τ).loc main_arg1)) := by
  show StableHlo.after hostOps0 (fun b => m (c, b)) (Proc.devRef .tc main_v1) = _
  after_results_simp <;> rfl

/-- Every run ends with the result at its term and the arguments as launched. -/
theorem run : θ_run defs (onTc (τ := τ) (main (F := Ideal))) ⟨m, fun _ => 0, ρ⟩ (fun r => ∀ c : Dev nD,
      r.2.mem ((c.tc : Thread nD τ).loc main_v2) = outp (cat (m ((c : Thread nD τ).loc main_arg0)) (m ((c : Thread nD τ).loc main_arg1)))
        (wOut (m ((c : Thread nD τ).loc main_arg2))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans ((arr m c).trans (by rw [v_v0, v_v1, V_main_arg3])),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c)))⟩) (run_main m ρ)

theorem cat_at (a b : FVec Ideal S8192x1024 .bf16) (r : Fin 8192) (k : Fin 2048) :
    cat a b (ix2 r k) = if h : k.val < 1024 then a (ix2 r (⟨k.val, h⟩ : Fin 1024)) else b (ix2 r (⟨k.val - 1024, by omega⟩ : Fin 1024)) := by
  unfold cat
  split
  · rename_i h
    refine concatenate_pair_apply_left (t := S8192x2048) 1 a b _ _ rfl (ix2 r (⟨k.val, h⟩ : Fin 1024)) fun b => ?_
    match b with
    | ⟨0, _⟩ => rfl
    | ⟨1, _⟩ => rfl
  · rename_i h
    refine concatenate_pair_apply_right (t := S8192x2048) 1 a b _ _ rfl rfl (ix2 r (⟨k.val - 1024, by omega⟩ : Fin 1024)) (fun b hb => ?_) ?_
    · match b with
      | ⟨0, _⟩ => rfl
      | ⟨1, _⟩ => exact absurd rfl hb
    · show k.val - 1024 + 1024 = k.val; omega

end Cert.EvenOutIdeal.Val

namespace Cert.EvenOutRefIdeal.Val

open Cert.EvenOutRefIdeal Cert.EvenOutRefIdeal.Gen Cert.EvenOutRefIdeal.Read Idealize.ShloMosaic Idealize.ShloMosaic.TcCoe Idealize.SL.Sem
open Cert.EvenOutIdeal.Val

variable (a b : FVec Ideal S8192x1024 .bf16) (w : FVec Ideal S2048x2048 .f32) (x : FVec Ideal S8192x2048 .f32)

theorem v0_at (i : S4x2048x1024.Idx) (r : Fin 8192) (k : Fin 1024) (hr : r.val = 2048 * (i 0).val + (i 1).val) (hk : k.val = (i 2).val) :
    val_main_v0 (F := Ideal) a i = a (ix2 r k) := by
  have h2 : (i 2).val < 1024 := (i 2).isLt
  rw [val_main_v0_apply]
  refine congrArg a (funext fun b => Fin.ext ?_)
  match b with
  | ⟨0, _⟩ => show (((i 0).val * 2048 + (i 1).val) * 1024 + (i 2).val) / 1024 = r.val; omega
  | ⟨1, _⟩ => show (((i 0).val * 2048 + (i 1).val) * 1024 + (i 2).val) % 1024 = k.val; omega
theorem v1_at (i : S4x2048x1024.Idx) (r : Fin 8192) (k : Fin 1024) (hr : r.val = 2048 * (i 0).val + (i 1).val) (hk : k.val = (i 2).val) :
    val_main_v1 (F := Ideal) b i = b (ix2 r k) := v0_at b i r k hr hk
theorem v2_at (i : S4x2048x2048.Idx) (r : Fin 8192) (k : Fin 2048) (hr : r.val = 2048 * (i 0).val + (i 1).val) (hk : k.val = (i 2).val) :
    val_main_v2 (F := Ideal) x i = x (ix2 r k) := by
  have h2 : (i 2).val < 2048 := (i 2).isLt
  rw [val_main_v2_apply]
  refine congrArg x (funext fun b => Fin.ext ?_)
  match b with
  | ⟨0, _⟩ => show (((i 0).val * 2048 + (i 1).val) * 2048 + (i 2).val) / 2048 = r.val; omega
  | ⟨1, _⟩ => show (((i 0).val * 2048 + (i 1).val) * 2048 + (i 2).val) % 2048 = k.val; omega

theorem v3_at (i : S4x2048x2048.Idx) (r : Fin 8192) (k : Fin 2048) (hr : r.val = 2048 * (i 0).val + (i 1).val) (hk : k.val = (i 2).val) :
    val_main_v3 (F := Ideal) a b i = cat a b (ix2 r k) := by
  have h0 : (i 0).val < 4 := (i 0).isLt
  have h1 : (i 1).val < 2048 := (i 1).isLt
  rw [cat_at]
  split
  · rename_i h
    refine (concatenate_pair_apply_left (t := S4x2048x2048) 2 (val_main_v0 (F := Ideal) a) (val_main_v1 (F := Ideal) b) _ i rfl
      (ix3 (⟨(i 0).val, h0⟩ : Fin 4) (⟨(i 1).val, h1⟩ : Fin 2048) (⟨k.val, h⟩ : Fin 1024)) fun b => ?_).trans (v0_at a _ r _ hr rfl)
    match b with
    | ⟨0, _⟩ => rfl
    | ⟨1, _⟩ => rfl
    | ⟨2, _⟩ => exact hk
  · rename_i h
    refine (concatenate_pair_apply_right (t := S4x2048x2048) 2 (val_main_v0 (F := Ideal) a) (val_main_v1 (F := Ideal) b) _ i rfl rfl
      (ix3 (⟨(i 0).val, h0⟩ : Fin 4) (⟨(i 1).val, h1⟩ : Fin 2048) (⟨k.val - 1024, by omega⟩ : Fin 1024)) (fun b hb => ?_) ?_).trans (v1_at b _ r _ hr rfl)
    · match b with
      | ⟨0, _⟩ => rfl
      | ⟨1, _⟩ => rfl
      | ⟨2, _⟩ => exact absurd rfl hb
    · show k.val - 1024 + 1024 = (i 2).val; omega

theorem v6_eq : val_main_v6 (F := Ideal) a b w x = outp (cat a b) (wOut w) x := by
  funext i
  have h0 : (i 0).val < 8192 := (i 0).isLt
  have h1 : (i 1).val < 2048 := (i 1).isLt
  rw [val_main_v6_apply, val_main_v5_apply]
  have a0 : ((idx_main_v6 i) 0).val = (i 0).val / 2048 := by
    show ((i 0).val * 2048 + (i 1).val) / 4194304 = _; omega
  have a1 : ((idx_main_v6 i) 1).val = (i 0).val % 2048 := by
    show ((i 0).val * 2048 + (i 1).val) / 2048 % 2048 = _; omega
  have a2 : ((idx_main_v6 i) 2).val = (i 1).val := by
    show ((i 0).val * 2048 + (i 1).val) % 2048 = _
    omega
  rw [v2_at x _ ⟨(i 0).val, h0⟩ ⟨(i 1).val, h1⟩ (by rw [a0, a1]; dsimp only; omega) (by rw [a2]), val_main_v4_apply]
  unfold outp
  show _ + _ = _ + _
  refine congrArg₂ (· + ·) rfl (Finset.sum_congr rfl fun k _ => congrArg₂ (· * ·) (v3_at a b _ ⟨(i 0).val, h0⟩ k ?_ rfl) (congrArg w (funext fun b => Fin.ext ?_)))
  · show (i 0).val = 2048 * ((idx_main_v6 i) 0).val + ((idx_main_v6 i) 1).val
    rw [a0, a1]; omega
  · match b with
    | ⟨0, _⟩ => rfl
    | ⟨1, _⟩ => exact a2

end Cert.EvenOutRefIdeal.Val

end
-- ==== Proof.OPost.lean ====
/-
  THE TAIL OF THE RECURRENCE'S LAYER: every head's output centred and scaled by its own mean and variance, the bonus added, the gate applied. The kernel
  sums a head by a product with a matrix of ones, the summand in two halves, and multiplies by one sixty-fourth; the reference sums the head's sixty-four
  channels and divides by sixty-four. Of real numbers the two are equal.
-/
module

public import proofs.«01_k».proof.Proof.Gen.PostIdeal.Frame
public import proofs.«01_k».proof.Proof.Gen.PostRefIdeal.Read
public import proofs.«01_k».proof.Proof.PHostAt
public import proofs.«01_k».proof.Proof.KPre
public import proofs.«01_k».proof.Pre_finite_post
public import proofs.«01_k».proof.Defs

@[expose] public section

set_option maxRecDepth 16384

noncomputable section

namespace Cert.PostSpec

open Idealize.ShloMosaic Cert.PrepSpec

/-- One sixty-fourth, sixty-four and the variance's least addend, as the programs take them. -/
def c64i : EReal := Ideal.ofBits .f32 0x3C800000#32
def c64 : EReal := Ideal.ofBits .f32 0x42800000#32
def eps : EReal := Ideal.ofBits .f32 0x3A27C5AC#32

theorem c64i_eq : c64i = ((1 / 64 : ℝ) : EReal) := by
  unfold c64i
  simp [Ideal.ofBits, Ideal.ieee, -EReal.coe_mul]; norm_num
theorem c64_eq : c64 = ((64 : ℝ) : EReal) := by
  unfold c64
  simp [Ideal.ofBits, Ideal.ieee, -EReal.coe_mul]; norm_num

/-- Multiplying a value by one sixty-fourth is dividing it by sixty-four. -/
theorem mul_c64i (x : EReal) : x * c64i = Ideal.div x c64 := by
  have h : c64 ≠ 0 := by
    rw [c64_eq]
    exact fun h => absurd (EReal.coe_eq_zero.mp h) (by norm_num)
  unfold Ideal.div
  rw [if_neg h, c64i_eq, c64_eq, ← EReal.coe_inv]
  norm_num

theorem real_sum {n : ℕ} (f : Fin n → EReal) (h : ∀ k, ∃ r : ℝ, f k = (r : EReal)) : ∃ r : ℝ, ∑ k, f k = (r : EReal) :=
  Finset.sum_induction f (fun x => ∃ r : ℝ, x = (r : EReal)) (fun _ _ => real_add) real_zero (fun k _ => h k)

/-- The mean of a head of a row. -/
def mean (f : Fin 1024 → EReal) (h : Fin 16) : EReal := Ideal.div (∑ n : Fin 64, f ⟨64 * h.val + n.val, by omega⟩) c64
/-- The head of a channel. -/
def hdc (c : Fin 1024) : Fin 16 := ⟨c.val / 64, by omega⟩
/-- A row less its heads' means. -/
def cen (f : Fin 1024 → EReal) (c : Fin 1024) : EReal := f c - mean f (hdc c)
/-- A channel's result. -/
def tail (f : Fin 1024 → EReal) (w b x g : EReal) (c : Fin 1024) : EReal :=
  (cen f c * Ideal.rsqrt (mean (fun k => cen f k * cen f k) (hdc c) + eps) * w + b + x) * g

/-- The same as the kernel takes them. -/
def kmean (f : Fin 1024 → EReal) (o : Fin 1024 → Fin 1024 → EReal) (c : Fin 1024) : EReal := hs f (fun n => o n c) * c64i
def kcen (f : Fin 1024 → EReal) (o : Fin 1024 → Fin 1024 → EReal) (c : Fin 1024) : EReal := f c - kmean f o c
def ktail (f : Fin 1024 → EReal) (o : Fin 1024 → Fin 1024 → EReal) (w b x g : EReal) (c : Fin 1024) : EReal :=
  (kcen f o c * Ideal.rsqrt (kmean (fun k => kcen f o k * kcen f o k) o c + eps) * w + b + x) * g

section real
variable (f : Fin 1024 → EReal) (o : Fin 1024 → Fin 1024 → EReal) (hf : ∀ k, ∃ r : ℝ, f k = (r : EReal))
  (ho : ∀ n c : Fin 1024, o n c = if n.val / 64 = c.val / 64 then 1 else 0)
include hf
theorem mean_real (h : Fin 16) : ∃ r : ℝ, mean f h = (r : EReal) := by
  unfold mean
  rw [← mul_c64i]
  exact real_mul (real_sum _ fun _ => hf _) ⟨_, c64i_eq⟩
theorem cen_real (c : Fin 1024) : ∃ r : ℝ, cen f c = (r : EReal) := real_sub (hf c) (mean_real f hf _)
include ho
theorem kmean_eq (c : Fin 1024) : kmean f o c = mean f (hdc c) := by
  unfold kmean
  rw [hs_real f (fun n => o n c) c hf (fun n => ho n c), mul_c64i]
  rfl
theorem kcen_eq (c : Fin 1024) : kcen f o c = cen f c := congrArg (f c - ·) (kmean_eq f o hf ho c)
theorem ktail_eq (w b x g : EReal) (c : Fin 1024) : ktail f o w b x g c = tail f w b x g c := by
  have e : (fun k => kcen f o k * kcen f o k) = fun k => cen f k * cen f k := funext fun k => by rw [kcen_eq f o hf ho k]
  unfold ktail
  rw [e, kcen_eq f o hf ho c, kmean_eq _ o (fun k => real_mul (cen_real f hf k) (cen_real f hf k)) ho c]
  rfl
end real

end Cert.PostSpec

namespace Cert.PostIdeal.Val

open Cert.PostIdeal Cert.PostIdeal.Gen Idealize.ShloMosaic Idealize.ShloMosaic.TcCoe Idealize.SL.Sem
open Cert.PostSpec Cert.PrepSpec Cert.PrepIdeal.Val

/-- The kernel's array, of what it reads. -/
def ka (X B G : FVec Ideal S8192x1024 .f32) (w b : FVec Ideal S1x1024 .f32) (o : FVec Ideal S1024x1024 .bf16) : FVec Ideal S8192x1024 .bf16 := fun i =>
  ktail (fun k => X (ix2 (i 0 : Fin 8192) k)) (fun n c => o (ix2 n c)) (w (ix2 (0 : Fin 1) (i 1 : Fin 1024))) (b (ix2 (0 : Fin 1) (i 1 : Fin 1024)))
    (B (ix2 (i 0 : Fin 8192) (i 1 : Fin 1024))) (G (ix2 (i 0 : Fin 8192) (i 1 : Fin 1024))) (i 1)
/-- The result, of the arguments. -/
def res (X B G : FVec Ideal S8192x1024 .f32) (w b : FVec Ideal S1024 .f32) : FVec Ideal S8192x1024 .bf16 := fun i =>
  tail (fun k => X (ix2 (i 0 : Fin 8192) k)) (w (ix1 (i 1 : Fin 1024))) (b (ix1 (i 1 : Fin 1024)))
    (B (ix2 (i 0 : Fin 8192) (i 1 : Fin 1024))) (G (ix2 (i 0 : Fin 8192) (i 1 : Fin 1024))) (i 1)

variable (m : (ℓ : Loc nD τ sig) → Buf (Elt Ideal) ℓ) (ρ : Dev nD → PrngReg) (c : Dev nD)

theorem idx0 : ∀ t : Fin cfg0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0] ∧ win0_5.index t = ![0, 0]
    ∧ win0_6.index t = ![(grid0.coords t 0).val, 0] :=
  (by decide +kernel : ∀ t : Fin grid0.N, _)

theorem arr : (dats m 0 c).arrAt 6 cfg0.N = ka (V m c main_arg0) (V m c main_arg1) (V m c main_arg2) (V m c main_v8) (V m c main_v9) (V m c main_v7) := by
  refine (dats m 0 c).arrAt_eq_of_covers 6 _ (by decide +kernel) fun t _ y => ?_
  blk_simp
  rw [after0_6]; frame_out
  pointwise [k0_pay1, ka, ktail, kcen, kmean, hs, c64i, eps]
  blk_point [iblk, idx0 t]

theorem v_v7 : V m c main_v7 = sh := by
  show StableHlo.after (List.flatten [hostOps0, hostOps0_1, hostOps0_2]) (fun b => m (c, b)) (Proc.devRef .tc main_v7) = _
  simp only [hostOps0, hostOps0_1, hostOps0_2, List.flatten_cons, List.flatten_nil, List.append_nil, List.cons_append, List.nil_append]
  after_results_simp <;> rfl
theorem v_v8 : V m c main_v8 = rw1 (m ((c : Thread nD τ).loc main_arg3)) := by
  show StableHlo.after (List.flatten [hostOps0, hostOps0_1, hostOps0_2]) (fun b => m (c, b)) (Proc.devRef .tc main_v8) = _
  simp only [hostOps0, hostOps0_1, hostOps0_2, List.flatten_cons, List.flatten_nil, List.append_nil, List.cons_append, List.nil_append]
  after_results_simp <;> rfl
theorem v_v9 : V m c main_v9 = rw1 (m ((c : Thread nD τ).loc main_arg4)) := by
  show StableHlo.after (List.flatten [hostOps0, hostOps0_1, hostOps0_2]) (fun b => m (c, b)) (Proc.devRef .tc main_v9) = _
  simp only [hostOps0, hostOps0_1, hostOps0_2, List.flatten_cons, List.flatten_nil, List.append_nil, List.cons_append, List.nil_append]
  after_results_simp <;> rfl

theorem ka_at (X : FVec Ideal S8192x1024 .f32) (w b : FVec Ideal S1024 .f32) (x g : EReal) (hX : ∀ i, ∃ r : ℝ, X i = (r : EReal)) (R : Fin 8192) (c : Fin 1024) :
    ktail (fun k => X (ix2 R k)) (fun n c => sh (ix2 n c)) (rw1 w (ix2 (0 : Fin 1) c)) (rw1 b (ix2 (0 : Fin 1) c)) x g c
      = tail (fun k => X (ix2 R k)) (w (ix1 c)) (b (ix1 c)) x g c := by
  rw [rw1_at, rw1_at]
  exact ktail_eq _ _ (fun k => hX _) (fun n c => sh_at n c) _ _ _ _ c
theorem ka_eq (X B G : FVec Ideal S8192x1024 .f32) (w b : FVec Ideal S1024 .f32) (hX : ∀ i, ∃ r : ℝ, X i = (r : EReal)) :
    ka X B G (rw1 w) (rw1 b) sh = res X B G w b := funext fun i => ka_at X w b _ _ hX (i 0) (i 1)

/-- The kernel's run where the precondition holds. -/
theorem run (h : ∀ c : Dev nD, ∀ i, ∃ r : ℝ, (m ((c : Thread nD τ).loc main_arg0) : FVec Ideal S8192x1024 .f32) i = (r : EReal)) :
    θ_run defs (onTc (τ := τ) (main (F := Ideal))) ⟨m, fun _ => 0, ρ⟩ (fun r => ∀ c : Dev nD,
      r.2.mem ((c.tc : Thread nD τ).loc main_v10) = res (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h' c => ⟨((h' c).1 6).trans ((arr m c).trans (by
        rw [v_v7, v_v8, v_v9, V_main_arg0, V_main_arg1, V_main_arg2]
        exact ka_eq _ _ _ _ _ (h c))),
      ((h' c).1 0).trans (((dats m 0 c).arrAt_in 0 rfl _).trans ((A_eq m c 0).trans (V_main_arg0 m c))),
      ((h' c).1 1).trans (((dats m 0 c).arrAt_in 1 rfl _).trans ((A_eq m c 1).trans (V_main_arg1 m c))),
      ((h' c).1 2).trans (((dats m 0 c).arrAt_in 2 rfl _).trans ((A_eq m c 2).trans (V_main_arg2 m c))),
      ((h' c).2 main_arg3 (Pipeline.mem_restRefs_of main_arg3 (by decide) (by decide))).trans (V_main_arg3 m c),
      ((h' c).2 main_arg4 (Pipeline.mem_restRefs_of main_arg4 (by decide) (by decide))).trans (V_main_arg4 m c)⟩) (run_main m ρ)

end Cert.PostIdeal.Val

namespace Cert.PostRefIdeal.Val

open Cert.PostRefIdeal Cert.PostRefIdeal.Gen Cert.PostRefIdeal.Read Idealize.ShloMosaic Idealize.ShloMosaic.TcCoe Idealize.SL.Sem
open Cert.PostSpec Cert.PrepSpec

variable (x0 x1 x2 : FVec Ideal S8192x1024 .f32) (x3 x4 : FVec Ideal S1024 .f32)

section head
variable (i : S4x2048x16x64.Idx) (R : Fin 8192) (c : Fin 1024) (hr : R.val = 2048 * (i 0).val + (i 1).val) (hc : c.val = 64 * (i 2).val + (i 3).val)
include hr hc

theorem v0_at : val_main_v0 (F := Ideal) x0 i = x0 (ix2 R c) := by
  have h0 : (i 0).val < 4 := (i 0).isLt
  have h1 : (i 1).val < 2048 := (i 1).isLt
  have h2 : (i 2).val < 16 := (i 2).isLt
  have h3 : (i 3).val < 64 := (i 3).isLt
  rw [val_main_v0_apply]
  refine congrArg x0 (funext fun b => Fin.ext ?_)
  match b with
  | ⟨0, _⟩ => show ((((i 0).val * 2048 + (i 1).val) * 16 + (i 2).val) * 64 + (i 3).val) / 1024 = R.val; omega
  | ⟨1, _⟩ => show ((((i 0).val * 2048 + (i 1).val) * 16 + (i 2).val) * 64 + (i 3).val) % 1024 = c.val; omega
theorem v1_at : val_main_v1 (F := Ideal) x1 i = x1 (ix2 R c) := v0_at x1 i R c hr hc
end head

theorem mean_at (j : S4x2048x16x1.Idx) (R : Fin 8192) (h : Fin 16) (hr : R.val = 2048 * (j 0).val + (j 1).val) (hh : h.val = (j 2).val) :
    val_main_v6 (F := Ideal) x0 j = mean (fun k => x0 (ix2 R k)) h := by
  rw [val_main_v6_apply, val_main_v4_apply, val_main_v5_apply, val_main_cst_0_apply, val_main_v3_apply, val_main_cst_apply]
  refine congrArg (fun s => Ideal.div s c64) ?_
  refine (congrArg (· + _) ze).trans ((zero_add _).trans (Finset.sum_congr rfl fun k _ => v0_at x0 _ R _ hr ?_))
  show 64 * h.val + k.val = 64 * (j 2).val + k.val
  rw [hh]

theorem hdc_of (i : S4x2048x16x64.Idx) (c : Fin 1024) (hc : c.val = 64 * (i 2).val + (i 3).val) : (hdc c).val = (i 2).val := by
  have h3 : (i 3).val < 64 := (i 3).isLt
  show c.val / 64 = _
  omega

section head
variable (i : S4x2048x16x64.Idx) (R : Fin 8192) (c : Fin 1024) (hr : R.val = 2048 * (i 0).val + (i 1).val) (hc : c.val = 64 * (i 2).val + (i 3).val)
include hr hc
theorem v8_at : val_main_v8 (F := Ideal) x0 i = cen (fun k => x0 (ix2 R k)) c := by
  rw [val_main_v8_apply, v0_at x0 i R c hr hc, val_main_v7_apply, mean_at x0 _ R (hdc c) hr (hdc_of i c hc)]
  rfl
theorem v15_at : val_main_v15 (F := Ideal) x0 i = cen (fun k => x0 (ix2 R k)) c := by
  rw [val_main_v15_apply, v0_at x0 i R c hr hc, val_main_v14_apply, mean_at x0 _ R (hdc c) hr (hdc_of i c hc)]
  rfl
end head

theorem var_at (j : S4x2048x16x1.Idx) (R : Fin 8192) (h : Fin 16) (hr : R.val = 2048 * (j 0).val + (j 1).val) (hh : h.val = (j 2).val) :
    val_main_v13 (F := Ideal) x0 j = mean (fun k => cen (fun k => x0 (ix2 R k)) k * cen (fun k => x0 (ix2 R k)) k) h := by
  rw [val_main_v13_apply, val_main_v11_apply, val_main_v12_apply, val_main_cst_2_apply, val_main_v10_apply, val_main_cst_1_apply]
  refine congrArg (fun s => Ideal.div s c64) ?_
  refine (congrArg (· + _) ze).trans ((zero_add _).trans (Finset.sum_congr rfl fun k _ => ?_))
  have e := v8_at x0 (idx_main_v10 (idx_main_v11 j) k) R ⟨64 * h.val + k.val, by omega⟩ hr (by show 64 * h.val + k.val = 64 * (j 2).val + k.val; rw [hh])
  rw [val_main_v9_apply, e]
  rfl

theorem v20_at (i : S4x2048x16x64.Idx) (R : Fin 8192) (c : Fin 1024) (hr : R.val = 2048 * (i 0).val + (i 1).val) (hc : c.val = 64 * (i 2).val + (i 3).val) :
    val_main_v20 (F := Ideal) x0 i = cen (fun k => x0 (ix2 R k)) c
      * Ideal.rsqrt (mean (fun k => cen (fun k => x0 (ix2 R k)) k * cen (fun k => x0 (ix2 R k)) k) (hdc c) + eps) := by
  rw [val_main_v20_apply, v15_at x0 i R c hr hc, val_main_v19_apply, val_main_v18_apply, val_main_v17_apply, var_at x0 _ R (hdc c) hr (hdc_of i c hc), val_main_v16_apply]
  rfl

theorem v32_at (R : Fin 8192) (c : Fin 1024) : val_main_v32 (F := Ideal) x0 x1 x2 x3 x4 (ix2 R c)
    = tail (fun k => x0 (ix2 R k)) (x3 (ix1 c)) (x4 (ix1 c)) (x1 (ix2 R c)) (x2 (ix2 R c)) c := by
  rw [val_main_v32_apply, val_main_v31_apply, val_main_v30_apply, val_main_v29_apply, val_main_v27_apply, val_main_v24_apply, val_main_v21_apply, val_main_v28_apply]
  have a0 : ((idx_main_v31 (ix2 R c)) 0).val = R.val / 2048 := by show (R.val * 1024 + c.val) / 2097152 = _; omega
  have a1 : ((idx_main_v31 (ix2 R c)) 1).val = R.val % 2048 := by show (R.val * 1024 + c.val) / 1024 % 2048 = _; omega
  have a2 : ((idx_main_v31 (ix2 R c)) 2).val = c.val := by show (R.val * 1024 + c.val) % 1024 = _; omega
  generalize idx_main_v31 (ix2 R c) = j at a0 a1 a2
  have hR : R.val < 8192 := R.isLt
  have hC : c.val < 1024 := c.isLt
  have hr : R.val = 2048 * ((idx_main_v21 j) 0).val + ((idx_main_v21 j) 1).val := by
    show R.val = 2048 * ((((j 0).val * 2048 + (j 1).val) * 1024 + (j 2).val) / 2097152) + (((j 0).val * 2048 + (j 1).val) * 1024 + (j 2).val) / 1024 % 2048
    rw [a0, a1, a2]; omega
  have hc : c.val = 64 * ((idx_main_v21 j) 2).val + ((idx_main_v21 j) 3).val := by
    show c.val = 64 * ((((j 0).val * 2048 + (j 1).val) * 1024 + (j 2).val) / 64 % 16) + (((j 0).val * 2048 + (j 1).val) * 1024 + (j 2).val) % 64
    rw [a0, a1, a2]; omega
  have e2 : val_main_v2 (F := Ideal) x2 j = x2 (ix2 R c) := by
    rw [val_main_v2_apply]
    refine congrArg x2 (funext fun b => Fin.ext ?_)
    match b with
    | ⟨0, _⟩ => show (((j 0).val * 2048 + (j 1).val) * 1024 + (j 2).val) / 1024 = R.val; rw [a0, a1, a2]; omega
    | ⟨1, _⟩ => show (((j 0).val * 2048 + (j 1).val) * 1024 + (j 2).val) % 1024 = c.val; rw [a0, a1, a2]; omega
  have e3 : val_main_v23 (F := Ideal) x3 j = x3 (ix1 c) := by
    rw [val_main_v23_apply, val_main_v22_apply]
    refine congrArg x3 (funext fun b => Fin.ext ?_)
    match b with
    | ⟨0, _⟩ => exact a2
  have e4 : val_main_v26 (F := Ideal) x4 j = x4 (ix1 c) := by
    rw [val_main_v26_apply, val_main_v25_apply]
    refine congrArg x4 (funext fun b => Fin.ext ?_)
    match b with
    | ⟨0, _⟩ => exact a2
  rw [e2, e3, e4, v20_at x0 _ R c hr hc, v1_at x1 _ R c hr hc]
  rfl

theorem ref_eq : val_main_v32 (F := Ideal) x0 x1 x2 x3 x4 = Cert.PostIdeal.Val.res x0 x1 x2 x3 x4 := funext fun i => by
  have e : (ix2 (i 0 : Fin 8192) (i 1 : Fin 1024) : S8192x1024.Idx) = i := funext fun a => match a with
    | ⟨0, _⟩ => rfl
    | ⟨1, _⟩ => rfl
  rw [← e]
  exact v32_at x0 x1 x2 x3 x4 (i 0) (i 1)

end Cert.PostRefIdeal.Val

namespace Cert.Pre_finite_post.Val

/-- The predicate's shape condition. -/
instance facts : Cert.Pre_finite_post.Facts := ⟨by decide⟩

end Cert.Pre_finite_post.Val

namespace Cert.Proof

open Idealize.ShloMosaic Idealize.ShloMosaic.TcCoe Idealize.SL.Sem

/-- The tail of the recurrence's layer over the prompt, where the recurrence's output is finite. -/
theorem post_claim : Cert.algebraic_PostIdeal_PostRefIdeal_pre_finite_post := fun m g m' g' hpre hag =>
  ⟨_, Cert.PostIdeal.Val.run m g (fun c i => Cert.Pre_finite_inputs.Val.real_of_cmp (congrFun (hpre c) i)),
    (θ_run _ _ _).mono (fun _ h c => ⟨
      (h c).1.trans (by
        rw [Cert.PostRefIdeal.Read.val_main_v32_eq, (hag c).1, (hag c).2.1, (hag c).2.2.1, (hag c).2.2.2.1, (hag c).2.2.2.2]
        exact Cert.PostRefIdeal.Val.ref_eq _ _ _ _ _),
      (h c).2⟩) (Cert.PostRefIdeal.Value.run m' g')⟩

theorem post_ref_frame : Cert.quiescent_PostRefIdeal := fun m g _ =>
  (θ_run Cert.PostRefIdeal.defs _ _).mono (fun r h => ⟨fun c => (h c).2, sem_eq_zero_of_no_sems (by decide) r.2⟩)
    (Cert.PostRefIdeal.Value.run (F := Ideal) m g)

end Cert.Proof

end
-- ==== Proof.OFinal.lean ====
/-
  THE LAST NORM OVER THE PROMPT: every row scaled by the reciprocal root of its mean square, times the gain, the rows cut in batches; the call's array
  and the reference's result are the same term of the arguments.
-/
module

public import proofs.«01_k».proof.Proof.Gen.FinalIdeal.Frame
public import proofs.«01_k».proof.Proof.Gen.FinalRefIdeal.Read
public import Idealize.ShloMosaic.Lib.Pipeline.ValueKit
public import proofs.«01_k».proof.Defs

@[expose] public section

set_option maxRecDepth 16384

noncomputable section

namespace Cert.FinalIdeal.Val

open Cert.FinalIdeal Cert.FinalIdeal.Gen Idealize.ShloMosaic Idealize.ShloMosaic.TcCoe Idealize.SL.Sem

/-- A row scaled by the reciprocal root of its mean square, times the gain. -/
def rows (X : FVec Ideal S8192x2048 .f32) (g : FVec Ideal S1x2048 .f32) : FVec Ideal S8192x2048 .f32 := fun i =>
  X (ix2 (i 0) (i 1)) * Ideal.rsqrt (Ideal.div (∑ k : Fin 2048, X (ix2 (i 0) k) * X (ix2 (i 0) k)) (Ideal.ofBits .f32 0x45000000#32) + Ideal.ofBits .f32 0x358637BD#32)
    * g (ix2 (0 : Fin 1) (i 1))
/-- The gain as the call takes it. -/
def gain (g : FVec Ideal S2048 .f32) : FVec Ideal S1x2048 .f32 := shapeCast S1x2048 g shapeCasts_S2048_S1x2048
/-- The result: the rows, cut in batches. -/
def res (X : FVec Ideal S8192x2048 .f32) (g : FVec Ideal S2048 .f32) : FVec Ideal S4x2048x2048 .f32 :=
  shapeCast S4x2048x2048 (rows X (gain g)) shapeCasts_S8192x2048_S4x2048x2048

variable (m : (ℓ : Loc nD τ sig) → Buf (Elt Ideal) ℓ) (ρ : Dev nD → PrngReg) (c : Dev nD)

theorem idx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)

theorem arr : (dats m 0 c).arrAt 2 cfg0.N = rows (V m c main_arg0) (V m c main_v0) := by
  refine (dats m 0 c).arrAt_eq_of_covers 2 _ (by decide +kernel) fun t _ y => ?_
  blk_simp
  rw [after0_2]; frame_out
  pointwise [k0_pay1, rows]
  blk_point [iblk, idx0 t]

theorem v_v0 : V m c main_v0 = gain (m ((c : Thread nD τ).loc main_arg1)) := by
  show StableHlo.after hostOps0 (fun b => m (c, b)) (Proc.devRef .tc main_v0) = _
  after_results_simp <;> rfl

theorem tail_v2 : Pipeline.afterTail₀ cfgs (dats m) 0 (V0 m) [hostOps1] c main_v2
    = res (m ((c : Thread nD τ).loc main_arg0)) (m ((c : Thread nD τ).loc main_arg1)) := by
  have e : Pipeline.withArrays (cfgs 0).spec c (V0 m c) (fun w => (dats m 0 c).arrAt w (cfgs 0).N) (Proc.devRef .tc main_v1)
      = rows (m ((c : Thread nD τ).loc main_arg0)) (gain (m ((c : Thread nD τ).loc main_arg1))) :=
    (Pipeline.withArrays_arr spec0 launch0.win.arr_inj c _ _ 2).trans ((arr m c).trans (by rw [v_v0, V_main_arg0]))
  unfold Pipeline.afterTail₀ res
  rw [← e]
  simp only [hostOps1, List.flatten_cons, List.flatten_nil, List.append_nil]
  generalize Pipeline.withArrays (cfgs 0).spec c (V0 m c) (fun w => (dats m 0 c).arrAt w (cfgs 0).N) = U
  after_results_simp <;> rfl

/-- Every run ends with the result at its term and the arguments as launched. -/
theorem run : θ_run defs (onTc (τ := τ) (main (F := Ideal))) ⟨m, fun _ => 0, ρ⟩ (fun r => ∀ c : Dev nD,
      r.2.mem ((c.tc : Thread nD τ).loc main_v2) = res (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v2 (Pipeline.mem_restRefs_of main_v2 (by decide) (by decide))).trans (tail_v2 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩) (run_main m ρ)

end Cert.FinalIdeal.Val

namespace Cert.FinalRefIdeal.Val

open Cert.FinalRefIdeal Cert.FinalRefIdeal.Gen Cert.FinalRefIdeal.Read Idealize.ShloMosaic Idealize.ShloMosaic.TcCoe Idealize.SL.Sem
open Cert.FinalIdeal.Val

variable (x : FVec Ideal S8192x2048 .f32) (g : FVec Ideal S2048 .f32)

theorem zlit : (FloatOps.ofBits .f32 0x00000000#32 : Ideal .f32) = 0 := Ideal.ofBits_zero .f32

theorem v0_at (i : S4x2048x2048.Idx) (r : Fin 8192) (k : Fin 2048) (hr : r.val = 2048 * (i 0).val + (i 1).val) (hk : k.val = (i 2).val) :
    val_main_v0 (F := Ideal) x i = x (ix2 r k) := by
  have h2 : (i 2).val < 2048 := (i 2).isLt
  rw [val_main_v0_apply]
  refine congrArg x (funext fun a => Fin.ext ?_)
  match a with
  | ⟨0, _⟩ => show (((i 0).val * 2048 + (i 1).val) * 2048 + (i 2).val) / 2048 = r.val; omega
  | ⟨1, _⟩ => show (((i 0).val * 2048 + (i 1).val) * 2048 + (i 2).val) % 2048 = k.val; omega

theorem v2_at (i : S4x2048.Idx) (r : Fin 8192) (hr : r.val = 2048 * (i 0).val + (i 1).val) :
    val_main_v2 (F := Ideal) x i = ∑ k : Fin 2048, x (ix2 r k) * x (ix2 r k) := by
  rw [val_main_v2_apply, val_main_cst_apply, zlit, zero_add]
  refine Finset.sum_congr rfl fun k _ => ?_
  rw [val_main_v1_apply, v0_at x _ r k hr rfl]
  rfl

theorem gain_at (i : S4x2048x2048.Idx) (k : Fin 2048) (hk : k.val = (i 2).val) : val_main_v12 (F := Ideal) g i = gain g (ix2 (0 : Fin 1) k) := by
  rw [val_main_v12_apply, val_main_v11_apply]
  pointwise [gain]
  refine congrArg g (funext fun a => Fin.ext ?_)
  match a with
  | ⟨0, _⟩ => exact hk.symm

theorem v13_at (i : S4x2048x2048.Idx) (r : Fin 8192) (k : Fin 2048) (hr : r.val = 2048 * (i 0).val + (i 1).val) (hk : k.val = (i 2).val) :
    val_main_v13 (F := Ideal) x g i = rows x (gain g) (ix2 r k) := by
  rw [val_main_v13_apply, val_main_v10_apply, gain_at g i k hk, v0_at x i r k hr hk, val_main_v9_apply, val_main_v8_apply, val_main_v7_apply, val_main_v5_apply,
    val_main_v3_apply, v2_at x _ r hr, val_main_v4_apply, val_main_v6_apply, val_main_cst_0_apply, val_main_cst_1_apply]
  rfl

theorem ref_eq : val_main_v13 (F := Ideal) x g = res x g := funext fun i => by
  have h0 : (i 0).val < 4 := (i 0).isLt
  have h1 : (i 1).val < 2048 := (i 1).isLt
  have h2 : (i 2).val < 2048 := (i 2).isLt
  exact (v13_at x g i ⟨2048 * (i 0).val + (i 1).val, by omega⟩ ⟨(i 2).val, h2⟩ rfl rfl).trans
    (v0_at (rows x (gain g)) i ⟨2048 * (i 0).val + (i 1).val, by omega⟩ ⟨(i 2).val, h2⟩ rfl rfl).symm

end Cert.FinalRefIdeal.Val

namespace Cert.Proof

open Idealize.ShloMosaic Idealize.ShloMosaic.TcCoe Idealize.SL.Sem

/-- The last norm over the prompt. -/
theorem final_claim : Cert.algebraic_FinalIdeal_FinalRefIdeal := fun m g m' g' _ hag =>
  ⟨_, Cert.FinalIdeal.Val.run m g,
    (θ_run _ _ _).mono (fun _ h c => ⟨
      (h c).1.trans (by
        rw [Cert.FinalRefIdeal.Read.val_main_v13_eq, (hag c).1, (hag c).2]
        exact Cert.FinalRefIdeal.Val.ref_eq _ _),
      (h c).2⟩) (Cert.FinalRefIdeal.Value.run m' g')⟩

theorem final_ref_frame : Cert.quiescent_FinalRefIdeal := fun m g _ =>
  (θ_run Cert.FinalRefIdeal.defs _ _).mono (fun r h => ⟨fun c => (h c).2, sem_eq_zero_of_no_sems (by decide) r.2⟩)
    (Cert.FinalRefIdeal.Value.run (F := Ideal) m g)

end Cert.Proof

end
-- ==== Proof.SGate.lean ====
/-
  THE GATE OF THE SAMPLES' SPATIAL MIXER: what the body leaves at a row and a column of the 64 rows of the eight samples, for each of the eight groups of columns, and the normed rows it keeps.
-/
module

public import proofs.«01_k».proof.Proof.Gen.ShortIdeal.Frame
public import proofs.«01_k».proof.Proof.GGate
public import Idealize.ShloMosaic.Lib.Pipeline.ValueKit

@[expose] public section

set_option maxRecDepth 16384

noncomputable section

namespace Cert.ShortIdeal.Val

open Cert.ShortIdeal Cert.ShortIdeal.Gen Idealize.ShloMosaic Idealize.ShloMosaic.TcCoe Idealize.SL.Sem
open Cert.GmlpIdeal.Val (sel_ofBool mean lnf)

/-- One entry of a group: the gate times the mixed row plus its bias. -/
def ent (A : Fin 64 → EReal) (B : Fin 64 → EReal) (b u : EReal) : EReal := u * (∑ s : Fin 64, A s * B s + b)

section pay
variable (v27 : FVec Ideal S64x4096 .f32) (v29 v30 v35 : IVec S64x64 32) (v31 v37 v39 M : IVec S64x64 1) (v33 : BitVec 32)
  (W : Vec Ideal S1x64x64 .f32) (b : Vec Ideal S64x1 .f32) (u : Vec Ideal S64x512 .f32) (r : Fin 64) (q : Fin 512) (p : Fin 4096)

/-- The masked weights. -/
def wm (r s : Fin 64) : EReal := Scalar.select (M (ix2 r s)) (W (ix3 (0 : Fin 1) r s)) 0

theorem pay7_at (hp : p.val = 0 + q.val) : k2_pay7 v27 v29 v30 v31 v33 v35 v37 v39 W b u (ix2 r q) = ent (wm (k2_pay6 v29 v30 v31 v33 v35 v37 v39) W r) (fun s => v27 (ix2 s p)) (b (ix2 r (0 : Fin 1))) (u (ix2 r q)) := by
  obtain rfl : p = ⟨0 + q.val, Nat.lt_of_lt_of_le (Nat.add_lt_add_left q.isLt 0) (by decide)⟩ := Fin.ext hp
  pointwise [k2_pay7, ent, wm]

theorem pay9_at (hp : p.val = 512 + q.val) : k2_pay9 (k2_pay8 v27 v29 v30 v31 v33 v35 v37 v39 W b) u (ix2 r q) = ent (wm (k2_pay6 v29 v30 v31 v33 v35 v37 v39) W r) (fun s => v27 (ix2 s p)) (b (ix2 r (0 : Fin 1))) (u (ix2 r q)) := by
  obtain rfl : p = ⟨512 + q.val, Nat.lt_of_lt_of_le (Nat.add_lt_add_left q.isLt 512) (by decide)⟩ := Fin.ext hp
  pointwise [k2_pay9, k2_pay8, ent, wm]

theorem pay10_at (hp : p.val = 1024 + q.val) : k2_pay10 v27 M W b u (ix2 r q) = ent (wm M W r) (fun s => v27 (ix2 s p)) (b (ix2 r (0 : Fin 1))) (u (ix2 r q)) := by
  obtain rfl : p = ⟨1024 + q.val, Nat.lt_of_lt_of_le (Nat.add_lt_add_left q.isLt 1024) (by decide)⟩ := Fin.ext hp
  pointwise [k2_pay10, ent, wm]

theorem pay12_at (hp : p.val = 1536 + q.val) : k2_pay12 (k2_pay11 v27 M W b) u (ix2 r q) = ent (wm M W r) (fun s => v27 (ix2 s p)) (b (ix2 r (0 : Fin 1))) (u (ix2 r q)) := by
  obtain rfl : p = ⟨1536 + q.val, Nat.lt_of_lt_of_le (Nat.add_lt_add_left q.isLt 1536) (by decide)⟩ := Fin.ext hp
  pointwise [k2_pay12, k2_pay11, ent, wm]

theorem pay13_at (hp : p.val = 2048 + q.val) : k2_pay13 v27 M W b u (ix2 r q) = ent (wm M W r) (fun s => v27 (ix2 s p)) (b (ix2 r (0 : Fin 1))) (u (ix2 r q)) := by
  obtain rfl : p = ⟨2048 + q.val, Nat.lt_of_lt_of_le (Nat.add_lt_add_left q.isLt 2048) (by decide)⟩ := Fin.ext hp
  pointwise [k2_pay13, ent, wm]

theorem pay16_at (hp : p.val = 2560 + q.val) : k2_pay16 (k2_pay14 v27 M W b) (k2_pay15 u) (ix2 r q) = ent (wm M W r) (fun s => v27 (ix2 s p)) (b (ix2 r (0 : Fin 1))) (u (ix2 r q)) := by
  obtain rfl : p = ⟨2560 + q.val, Nat.lt_of_lt_of_le (Nat.add_lt_add_left q.isLt 2560) (by decide)⟩ := Fin.ext hp
  pointwise [k2_pay16, k2_pay14, k2_pay15, ent, wm]

theorem pay17_at (hp : p.val = 3072 + q.val) : k2_pay17 v27 M W b u (ix2 r q) = ent (wm M W r) (fun s => v27 (ix2 s p)) (b (ix2 r (0 : Fin 1))) (u (ix2 r q)) := by
  obtain rfl : p = ⟨3072 + q.val, Nat.lt_of_lt_of_le (Nat.add_lt_add_left q.isLt 3072) (by decide)⟩ := Fin.ext hp
  pointwise [k2_pay17, ent, wm]

theorem pay18_at (hp : p.val = 3584 + q.val) : k2_pay18 v27 M W b u (ix2 r q) = ent (wm M W r) (fun s => v27 (ix2 s p)) (b (ix2 r (0 : Fin 1))) (u (ix2 r q)) := by
  obtain rfl : p = ⟨3584 + q.val, Nat.lt_of_lt_of_le (Nat.add_lt_add_left q.isLt 3584) (by decide)⟩ := Fin.ext hp
  pointwise [k2_pay18, ent, wm]

end pay

theorem pay1_at (x1 : Vec Ideal S64x4096 .f32) (x2 x3 : Vec Ideal S1x4096 .f32) (s : Fin 64) (q : Fin 4096) :
    k2_pay1 x1 x2 x3 (ix2 s q) = lnf (fun k => x1 (ix2 s k)) q (x2 (ix2 (0 : Fin 1) q)) (x3 (ix2 (0 : Fin 1) q)) := by
  pointwise [k2_pay1, lnf, mean]

section body
variable (x0 x1 : Vec Ideal S64x4096 .f32) (x2 x3 : Vec Ideal S1x4096 .f32) (x4 : Vec Ideal S8x64x64 .f32) (x5 : Vec Ideal S64x8 .f32)

/-- The mask keeps the columns up to the row, of the row's own sample. -/
theorem mask_at (r s : Fin 64) : k2_pay26 x0 x1 x2 x3 x4 x5 (ix2 r s) = BitVec.ofBool (decide (s.val ≤ r.val ∧ s.val / 8 = r.val / 8)) := by
  pointwise [k2_pay26, k2_pay25, k2_pay24, k2_pay23, k2_pay22, k2_pay20, k2_pay19, k2_pay2, k2_pay3, k2_pay4, k2_pay5, k2_pay6]

  revert r s
  decide +kernel

theorem fin_at (y : S64x4096.Idx) (g : Fin 8) (a : Fin 64) (q : Fin 512) (W : Vec Ideal S1x64x64 .f32) (b : Vec Ideal S64x1 .f32) (u : Vec Ideal S64x512 .f32)
    (h0 : (y 0).val = a.val) (hW : ∀ s : Fin 64, W (ix3 (0 : Fin 1) a s) = x4 (ix3 g (y 0) s)) (hb : b (ix2 a (0 : Fin 1)) = x5 (ix2 (y 0) g)) (hu : u (ix2 a q) = x0 (ix2 (y 0) (y 1))) :
    ent (wm (k2_pay26 x0 x1 x2 x3 x4 x5) W a) (fun s => k2_pay21 x0 x1 x2 x3 x4 x5 (ix2 s (y 1))) (b (ix2 a (0 : Fin 1))) (u (ix2 a q))
    = ent (fun s => if s.val ≤ (y 0).val ∧ s.val / 8 = (y 0).val / 8 then x4 (ix3 g (y 0) s) else 0)
        (fun s => lnf (fun k => x1 (ix2 s k)) (y 1) (x2 (ix2 (0 : Fin 1) (y 1))) (x3 (ix2 (0 : Fin 1) (y 1)))) (x5 (ix2 (y 0) g)) (x0 (ix2 (y 0) (y 1))) := by
  have e1 : wm (k2_pay26 x0 x1 x2 x3 x4 x5) W a = fun s => if s.val ≤ (y 0).val ∧ s.val / 8 = (y 0).val / 8 then x4 (ix3 g (y 0) s) else 0 := by
    funext s
    unfold wm
    rw [mask_at, sel_ofBool, hW, h0]
  have e2 : (fun s => k2_pay21 x0 x1 x2 x3 x4 x5 (ix2 s (y 1))) = fun s => lnf (fun k => x1 (ix2 s k)) (y 1) (x2 (ix2 (0 : Fin 1) (y 1))) (x3 (ix2 (0 : Fin 1) (y 1))) := by
    funext s
    have e : k2_pay21 x0 x1 x2 x3 x4 x5 = k2_pay1 x1 x2 x3 := by unfold k2_pay21; frame_out
    rw [e]
    exact pay1_at x1 x2 x3 s (y 1)
  rw [e1, e2, hb, hu]

theorem out_at (y : S64x4096.Idx) (g : Fin 8) (hg : g.val = (y 1).val / 512) : out2_6 x0 x1 x2 x3 x4 x5 y
    = ent (fun s => if s.val ≤ (y 0).val ∧ s.val / 8 = (y 0).val / 8 then x4 (ix3 g (y 0) s) else 0)
        (fun s => lnf (fun k => x1 (ix2 s k)) (y 1) (x2 (ix2 (0 : Fin 1) (y 1))) (x3 (ix2 (0 : Fin 1) (y 1)))) (x5 (ix2 (y 0) g)) (x0 (ix2 (y 0) (y 1))) := by
  unfold out2_6
  canon_tiles x h
  case piece0 =>
    have hx : x = ix2 (x 0) (x 1) := by funext a; match a with | ⟨0, _⟩ => rfl | ⟨1, _⟩ => rfl
    rw [hx]
    refine (pay18_at _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 7 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 7 + 1 * 0 = g.val; omega
    · match a with
      | ⟨0, _⟩ => show 0 + 1 * (x 0).val = (y 0).val; omega
      | ⟨1, _⟩ => show 3584 + 1 * (x 1).val = (y 1).val; omega
  case piece1 =>
    have hx : x = ix2 (x 0) (x 1) := by funext a; match a with | ⟨0, _⟩ => rfl | ⟨1, _⟩ => rfl
    rw [hx]
    refine (pay17_at _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 6 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 6 + 1 * 0 = g.val; omega
    · match a with
      | ⟨0, _⟩ => show 0 + 1 * (x 0).val = (y 0).val; omega
      | ⟨1, _⟩ => show 3072 + 1 * (x 1).val = (y 1).val; omega
  case piece2 =>
    have hx : x = ix2 (x 0) (x 1) := by funext a; match a with | ⟨0, _⟩ => rfl | ⟨1, _⟩ => rfl
    rw [hx]
    refine (pay16_at _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 5 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 5 + 1 * 0 = g.val; omega
    · match a with
      | ⟨0, _⟩ => show 0 + 1 * (x 0).val = (y 0).val; omega
      | ⟨1, _⟩ => show 2560 + 1 * (x 1).val = (y 1).val; omega
  case piece3 =>
    have hx : x = ix2 (x 0) (x 1) := by funext a; match a with | ⟨0, _⟩ => rfl | ⟨1, _⟩ => rfl
    rw [hx]
    refine (pay13_at _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 4 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 4 + 1 * 0 = g.val; omega
    · match a with
      | ⟨0, _⟩ => show 0 + 1 * (x 0).val = (y 0).val; omega
      | ⟨1, _⟩ => show 2048 + 1 * (x 1).val = (y 1).val; omega
  case piece4 =>
    have hx : x = ix2 (x 0) (x 1) := by funext a; match a with | ⟨0, _⟩ => rfl | ⟨1, _⟩ => rfl
    rw [hx]
    refine (pay12_at _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 3 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 3 + 1 * 0 = g.val; omega
    · match a with
      | ⟨0, _⟩ => show 0 + 1 * (x 0).val = (y 0).val; omega
      | ⟨1, _⟩ => show 1536 + 1 * (x 1).val = (y 1).val; omega
  case piece5 =>
    have hx : x = ix2 (x 0) (x 1) := by funext a; match a with | ⟨0, _⟩ => rfl | ⟨1, _⟩ => rfl
    rw [hx]
    refine (pay10_at _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 2 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 2 + 1 * 0 = g.val; omega
    · match a with
      | ⟨0, _⟩ => show 0 + 1 * (x 0).val = (y 0).val; omega
      | ⟨1, _⟩ => show 1024 + 1 * (x 1).val = (y 1).val; omega
  case piece6 =>
    have hx : x = ix2 (x 0) (x 1) := by funext a; match a with | ⟨0, _⟩ => rfl | ⟨1, _⟩ => rfl
    rw [hx]
    refine (pay9_at _ _ _ _ _ _ _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 1 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 1 + 1 * 0 = g.val; omega
    · match a with
      | ⟨0, _⟩ => show 0 + 1 * (x 0).val = (y 0).val; omega
      | ⟨1, _⟩ => show 512 + 1 * (x 1).val = (y 1).val; omega
  case piece7 =>
    have hx : x = ix2 (x 0) (x 1) := by funext a; match a with | ⟨0, _⟩ => rfl | ⟨1, _⟩ => rfl
    rw [hx]
    refine (pay7_at _ _ _ _ _ _ _ _ _ _ _ (x 0) (x 1) (y 1) (by omega)).trans (fin_at x0 x1 x2 x3 x4 x5 y g (x 0) (x 1) _ _ _ h0 (fun s => congrArg x4 (funext fun a => Fin.ext ?_))
      (congrArg x5 (funext fun a => Fin.ext ?_)) (congrArg x0 (funext fun a => Fin.ext ?_)))
    · match a with
      | ⟨0, _⟩ => show 0 + 1 * 0 = g.val; omega
      | ⟨1, _⟩ => show 0 + 1 * (x 0).val = (y 0).val; omega
      | ⟨2, _⟩ => show 0 + 1 * s.val = s.val; omega
    · match a with
      | ⟨0, _⟩ => show 0 + 1 * (x 0).val = (y 0).val; omega
      | ⟨1, _⟩ => show 0 + 1 * 0 = g.val; omega
    · match a with
      | ⟨0, _⟩ => show 0 + 1 * (x 0).val = (y 0).val; omega
      | ⟨1, _⟩ => show 0 + 1 * (x 1).val = (y 1).val; omega

/-- The normed rows, kept as they are. -/
theorem out7_at (s : Fin 64) (q : Fin 4096) : out2_7 x0 x1 x2 x3 x4 x5 (ix2 s q) = lnf (fun k => x1 (ix2 s k)) q (x2 (ix2 (0 : Fin 1) q)) (x3 (ix2 (0 : Fin 1) q)) := by
  have e : out2_7 x0 x1 x2 x3 x4 x5 = k2_pay1 x1 x2 x3 := by unfold out2_7; frame_out
  rw [e]
  exact pay1_at x1 x2 x3 s q

end body

end Cert.ShortIdeal.Val

end
-- ==== Proof.SReg.lean ====
/-
  THE SAMPLES' MIXER'S CALLS' ARRAYS, one after the other, each as a function of the arrays it reads: the normalised rows, the product under its smooth
  unit, the gate of the 64 rows, the normed rows themselves, and the second product on top of the residual.
-/
module

public import proofs.«01_k».proof.Proof.GReg
public import proofs.«01_k».proof.Proof.SGate

@[expose] public section

set_option maxRecDepth 16384

noncomputable section

namespace Cert.ShortIdeal.Val

open Cert.ShortIdeal Cert.ShortIdeal.Gen Idealize.ShloMosaic Idealize.ShloMosaic.TcCoe Idealize.SL.Sem
open Cert.GmlpIdeal.Val (sel_ofBool mean lnf gelu grp lo hi)

variable (V : (c : Dev nD) → (b : Ref sig .tc) → Buf (Elt Ideal) ((c : Thread nD τ).loc b)) (c : Dev nD)

/-- The normalised rows. -/
def rms (X : FVec Ideal S64x2048 .f32) (g : FVec Ideal S1x2048 .f32) : FVec Ideal S64x2048 .bf16 := fun i =>
  X (ix2 (i 0) (i 1)) * Ideal.rsqrt (Ideal.div (∑ k : Fin 2048, X (ix2 (i 0) k) * X (ix2 (i 0) k)) (Ideal.ofBits .f32 0x45000000#32) + Ideal.ofBits .f32 0x358637BD#32)
    * g (ix2 (0 : Fin 1) (i 1))

/-- The second product, on top of the residual. -/
def down (A : FVec Ideal S64x4096 .bf16) (B : FVec Ideal S4096x2048 .bf16) (R : FVec Ideal S64x2048 .f32) : FVec Ideal S64x2048 .f32 := fun i =>
  R (ix2 (i 0) (i 1)) + ∑ k : Fin 4096, A (ix2 (i 0) k) * B (ix2 k (i 1))

/-- The first product under the unit. -/
def act (A : FVec Ideal S64x2048 .bf16) (B : FVec Ideal S2048x8192 .bf16) : FVec Ideal S64x8192 .f32 := fun i =>
  gelu (∑ k : Fin 2048, A (ix2 (i 0) k) * B (ix2 k (i 1)))

/-- The layer norm of the second half of a row, at a column. -/
def nAt (Z : FVec Ideal S64x8192 .f32) (lw lb : FVec Ideal S1x4096 .f32) (R : Fin 64) (q : Fin 4096) : EReal :=
  lnf (fun k => Z (ix2 R (hi k))) q (lw (ix2 (0 : Fin 1) q)) (lb (ix2 (0 : Fin 1) q))
def norm (Z : FVec Ideal S64x8192 .f32) (lw lb : FVec Ideal S1x4096 .f32) : FVec Ideal S64x4096 .f32 := fun i => nAt Z lw lb (i 0) (i 1)

/-- The gate at a row and a column: the first half times the causal mixture of the sample's normalised second half, its bias added. -/
def gAt (Z : FVec Ideal S64x8192 .f32) (lw lb : FVec Ideal S1x4096 .f32) (ws : FVec Ideal S8x64x64 .f32) (bs : FVec Ideal S64x8 .f32) (R : Fin 64) (q : Fin 4096) : EReal :=
  ent (fun s => if s.val ≤ R.val ∧ s.val / 8 = R.val / 8 then ws (ix3 (grp q) R s) else 0) (fun s => nAt Z lw lb s q) (bs (ix2 R (grp q))) (Z (ix2 R (lo q)))
def gate (Z : FVec Ideal S64x8192 .f32) (lw lb : FVec Ideal S1x4096 .f32) (ws : FVec Ideal S8x64x64 .f32) (bs : FVec Ideal S64x8 .f32) : FVec Ideal S64x4096 .bf16 := fun i =>
  gAt Z lw lb ws bs (i 0) (i 1)

theorem idx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)
theorem idx1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)
theorem idx2 : ∀ t : Fin cfg2.N, win2_0.index t = ![(grid2.coords t 0).val, 0] ∧ win2_1.index t = ![(grid2.coords t 0).val, 1] ∧ win2_2.index t = ![0, 0]
    ∧ win2_3.index t = ![0, 0] ∧ win2_4.index t = ![0, 0, 0] ∧ win2_5.index t = ![0, 0] ∧ win2_6.index t = ![(grid2.coords t 0).val, 0] ∧ win2_7.index t = ![(grid2.coords t 0).val, 0] :=
  (by decide +kernel : ∀ t : Fin grid2.N, _)
theorem idx3 : ∀ t : Fin cfg3.N, win3_0.index t = ![(grid3.coords t 0).val, 0] ∧ win3_1.index t = ![0, (grid3.coords t 1).val]
    ∧ win3_2.index t = ![(grid3.coords t 0).val, (grid3.coords t 1).val] ∧ win3_3.index t = ![(grid3.coords t 0).val, (grid3.coords t 1).val] :=
  (by decide +kernel : ∀ t : Fin grid3.N, _)

theorem arr0 : (dat0 V c).arrAt 2 cfg0.N = rms (V c main_arg0) (V c main_v0) := by
  refine (dat0 V c).arrAt_eq_of_covers 2 _ (by decide +kernel) fun t _ y => ?_
  blk_simp
  rw [after0_2]; frame_out
  pointwise [k0_pay1, rms]
  blk_point [iblk0, idx0 t]

theorem arr1 : (dat1 V c).arrAt 2 cfg1.N = act (V c main_v1) (V c main_v2) := by
  refine (dat1 V c).arrAt_eq_of_covers 2 _ (by decide +kernel) fun t _ y => ?_
  blk_simp
  rw [after1_2]; frame_out
  pointwise [k1_pay1, act, gelu]
  blk_point [iblk1, idx1 t]

theorem arr3 : (dat3 V c).arrAt 3 cfg3.N = down (V c main_v25_0) (V c main_v3) (V c main_arg0) := by
  refine (dat3 V c).arrAt_eq_of_covers 3 _ (by decide +kernel) fun t _ y => ?_
  blk_simp
  rw [after3_3]; frame_out
  pointwise [k3_pay1, down]
  blk_point [iblk3, idx3 t]

section gate
variable (t : Fin cfg2.N)

theorem r1 (y : S64x4096.Idx) (s : Fin 64) (q k : Fin 4096) : (iblk2 V c 1 t : Vec Ideal S64x4096 .f32) (ix2 s k) = (V c main_v6 : FVec Ideal S64x8192 .f32) (ix2 s (hi k)) := by
  have hc : (grid2.coords t 0).val < 1 := (grid2.coords t 0).isLt
  unfold hi; blk_ext [iblk2, idx2 t]
theorem r2 (q : Fin 4096) : (iblk2 V c 2 t : Vec Ideal S1x4096 .f32) (ix2 (0 : Fin 1) q) = (V c main_v4 : FVec Ideal S1x4096 .f32) (ix2 (0 : Fin 1) q) := by
  blk_ext [iblk2, idx2 t]
theorem r3 (q : Fin 4096) : (iblk2 V c 3 t : Vec Ideal S1x4096 .f32) (ix2 (0 : Fin 1) q) = (V c main_v5 : FVec Ideal S1x4096 .f32) (ix2 (0 : Fin 1) q) := by
  blk_ext [iblk2, idx2 t]
theorem nrm (s : Fin 64) (q : Fin 4096) : lnf (fun k => (iblk2 V c 1 t : Vec Ideal S64x4096 .f32) (ix2 s k)) q ((iblk2 V c 2 t : Vec Ideal S1x4096 .f32) (ix2 (0 : Fin 1) q)) ((iblk2 V c 3 t : Vec Ideal S1x4096 .f32) (ix2 (0 : Fin 1) q))
    = nAt (V c main_v6) (V c main_v4) (V c main_v5) s q :=
  congr (congr (congr (congrArg lnf (funext fun k => r1 V c t (ix2 s q) s q k)) rfl) (r2 V c t q)) (r3 V c t q)

theorem point2 (y : S64x4096.Idx) (R : Fin 64) (q : Fin 4096) (hR : R.val = 64 * (grid2.coords t 0).val + (y 0).val) (hq : q.val = (y 1).val) :
    out2_6 (iblk2 V c 0 t) (iblk2 V c 1 t) (iblk2 V c 2 t) (iblk2 V c 3 t) (iblk2 V c 4 t) (iblk2 V c 5 t) y
      = gAt (V c main_v6) (V c main_v4) (V c main_v5) (V c main_v19) (V c main_v24) R q := by
  have hc : (grid2.coords t 0).val < 1 := (grid2.coords t 0).isLt
  have eR : y 0 = R := Fin.ext (by omega)
  have eq : y 1 = q := Fin.ext hq.symm
  refine (out_at (iblk2 V c 0 t) (iblk2 V c 1 t) (iblk2 V c 2 t) (iblk2 V c 3 t) (iblk2 V c 4 t) (iblk2 V c 5 t) y (grp q) (by show q.val / 512 = _; omega)).trans ?_
  rw [eR, eq]
  have r0 : (iblk2 V c 0 t : Vec Ideal S64x4096 .f32) (ix2 R q) = (V c main_v6 : FVec Ideal S64x8192 .f32) (ix2 R (lo q)) := by
    unfold lo; blk_ext [iblk2, idx2 t]
  have r4 : ∀ s : Fin 64, (iblk2 V c 4 t : Vec Ideal S8x64x64 .f32) (ix3 (grp q) R s) = (V c main_v19 : FVec Ideal S8x64x64 .f32) (ix3 (grp q) R s) := fun s => by
    blk_ext [iblk2, idx2 t]
  have r5 : (iblk2 V c 5 t : Vec Ideal S64x8 .f32) (ix2 R (grp q)) = (V c main_v24 : FVec Ideal S64x8 .f32) (ix2 R (grp q)) := by
    blk_ext [iblk2, idx2 t]
  unfold gAt
  refine congr (congr (congr (congrArg ent (funext fun s => ?_)) (funext fun s => ?_)) r5) r0
  · exact if_congr Iff.rfl (r4 s) rfl
  · exact nrm V c t s q

theorem point7 (y : S64x4096.Idx) (R : Fin 64) (q : Fin 4096) (hR : R.val = 64 * (grid2.coords t 0).val + (y 0).val) (hq : q.val = (y 1).val) :
    out2_7 (iblk2 V c 0 t) (iblk2 V c 1 t) (iblk2 V c 2 t) (iblk2 V c 3 t) (iblk2 V c 4 t) (iblk2 V c 5 t) y = nAt (V c main_v6) (V c main_v4) (V c main_v5) R q := by
  have hc : (grid2.coords t 0).val < 1 := (grid2.coords t 0).isLt
  have eR : y 0 = R := Fin.ext (by omega)
  have eq : y 1 = q := Fin.ext hq.symm
  have e : y = ix2 R q := funext fun a => match a with
    | ⟨0, _⟩ => eR
    | ⟨1, _⟩ => eq
  subst e
  exact (out7_at (iblk2 V c 0 t) (iblk2 V c 1 t) (iblk2 V c 2 t) (iblk2 V c 3 t) (iblk2 V c 4 t) (iblk2 V c 5 t) R q).trans (nrm V c t R q)

theorem arr2 : (dat2 V c).arrAt 6 cfg2.N = gate (V c main_v6) (V c main_v4) (V c main_v5) (V c main_v19) (V c main_v24) := by
  refine (dat2 V c).arrAt_eq_of_covers 6 _ (by decide +kernel) fun t _ y => ?_
  blk_simp
  rw [after2_6]
  refine point2 V c t y _ _ ?_ ?_
  · blk_simp [idx2 t]; omega
  · blk_simp [idx2 t] <;> try omega
theorem arr2n : (dat2 V c).arrAt 7 cfg2.N = norm (V c main_v6) (V c main_v4) (V c main_v5) := by
  refine (dat2 V c).arrAt_eq_of_covers 7 _ (by decide +kernel) fun t _ y => ?_
  blk_simp
  rw [after2_7]
  refine point7 V c t y _ _ ?_ ?_
  · blk_simp [idx2 t]; omega
  · blk_simp [idx2 t] <;> try omega
end gate

end Cert.ShortIdeal.Val

end
-- ==== Proof.SRun.lean ====
/-
  THE SAMPLES' MIXER'S RUN: what its two results hold at the end, as a term over the arguments.
-/
module

public import proofs.«01_k».proof.Proof.GRun
public import proofs.«01_k».proof.Proof.SReg

@[expose] public section

set_option maxRecDepth 16384

noncomputable section

namespace Cert.ShortIdeal.Val

open Cert.ShortIdeal Cert.ShortIdeal.Gen
open Cert.GmlpIdeal.Val (wI wO lv')
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The samples' identity, and its entries times the mixing weights of a sample's steps, as the host lays them out over all the rows. -/
def eye : FVec Ideal S8x8 .f32 :=
  uitofp .f32 (cmpi .eq (addi (iotaInDim S8x8 32 0) (broadcastInDim S8x8 ![] bcast_S_S8x8 (constantI S_ 32 0#32))) (iotaInDim S8x8 32 1))
def wcut (w : FVec Ideal S8x128x128 .f32) : FVec Ideal S8x8x8 .f32 := extractStridedSlice S8x8x8 ![0, 0, 0] w slices_S8x128x128_S8x8x8_0_0_0
def eye5 : FVec Ideal S8x8x8x8x8 .f32 :=
  broadcastInDim S8x8x8x8x8 ![0, 1, 2, 3, 4] bcast_S1x8x1x8x1_S8x8x8x8x8_0_1_2_3_4 (broadcastInDim S1x8x1x8x1 ![1, 3] bcast_S8x8_S1x8x1x8x1_1_3 eye)
def w5 (w : FVec Ideal S8x128x128 .f32) : FVec Ideal S8x8x8x8x8 .f32 :=
  broadcastInDim S8x8x8x8x8 ![0, 1, 2, 3, 4] bcast_S8x1x8x1x8_S8x8x8x8x8_0_1_2_3_4 (broadcastInDim S8x1x8x1x8 ![0, 2, 4] bcast_S8x8x8_S8x1x8x1x8_0_2_4 (wcut w))
def wbd (w : FVec Ideal S8x128x128 .f32) : FVec Ideal S8x64x64 .f32 := shapeCast S8x64x64 (mulf eye5 (w5 w)) shapeCasts_S8x8x8x8x8_S8x64x64
/-- The biases of a sample's steps, the same for every sample. -/
def bcut (b : FVec Ideal S8x128 .f32) : FVec Ideal S8x8 .f32 := transpose S8x8 [1, 0] (extractStridedSlice S8x8 ![0, 0] b slices_S8x128_S8x8_0_0) transposes_S8x8_S8x8_1_0
def bT (b : FVec Ideal S8x128 .f32) : FVec Ideal S64x8 .f32 :=
  shapeCast S64x8 (broadcastInDim S8x8x1x8 ![0, 1, 2, 3] bcast_S1x8x1x8_S8x8x1x8_0_1_2_3 (shapeCast S1x8x1x8 (bcut b) shapeCasts_S8x8_S1x8x1x8)) shapeCasts_S8x8x1x8_S64x8

/-- The first product of the arguments under its unit, the gate of it, the result, and the normed rows. -/
def actA (x : FVec Ideal S64x2048 .f32) (g : FVec Ideal S2048 .f32) (wi : FVec Ideal S2048x8192 .f32) : FVec Ideal S64x8192 .f32 :=
  act (rms x (shapeCast S1x2048 g shapeCasts_S2048_S1x2048)) (wI wi)
def gateG (x : FVec Ideal S64x2048 .f32) (g : FVec Ideal S2048 .f32) (wi : FVec Ideal S2048x8192 .f32) (lw lb : FVec Ideal S4096 .f32)
    (ws : FVec Ideal S8x128x128 .f32) (bs : FVec Ideal S8x128 .f32) : FVec Ideal S64x4096 .bf16 :=
  gate (actA x g wi) (lv' lw) (lv' lb) (wbd ws) (bT bs)
def Z (x : FVec Ideal S64x2048 .f32) (g : FVec Ideal S2048 .f32) (wi : FVec Ideal S2048x8192 .f32) (lw lb : FVec Ideal S4096 .f32)
    (ws : FVec Ideal S8x128x128 .f32) (bs : FVec Ideal S8x128 .f32) (wo : FVec Ideal S4096x2048 .f32) : FVec Ideal S64x2048 .f32 :=
  down (gateG x g wi lw lb ws bs) (wO wo) x
def N (x : FVec Ideal S64x2048 .f32) (g : FVec Ideal S2048 .f32) (wi : FVec Ideal S2048x8192 .f32) (lw lb : FVec Ideal S4096 .f32) : FVec Ideal S64x4096 .f32 :=
  norm (actA x g wi) (lv' lw) (lv' lb)
def vOut (x : FVec Ideal S64x2048 .f32) (g : FVec Ideal S2048 .f32) (wi : FVec Ideal S2048x8192 .f32) (lw lb : FVec Ideal S4096 .f32) : FVec Ideal S8x8x4096 .f32 :=
  shapeCast S8x8x4096 (N x g wi lw lb) shapeCasts_S64x4096_S8x8x4096

variable (m : (ℓ : Loc nD τ sig) → Buf (Elt Ideal) ℓ) (ρ : Dev nD → PrngReg) (c : Dev nD)

theorem w1_v0 : W1 m ρ c (Proc.devRef .tc main_v0) = shapeCast S1x2048 (m ((c : Thread nD τ).loc main_arg1) : FVec Ideal S2048 .f32) shapeCasts_S2048_S1x2048 := by
  after_results_simp <;> rfl
theorem w2_v1 : W2 m ρ c (Proc.devRef .tc main_v1) = rms (m ((c : Thread nD τ).loc main_arg0)) (shapeCast S1x2048 (m ((c : Thread nD τ).loc main_arg1) : FVec Ideal S2048 .f32) shapeCasts_S2048_S1x2048) :=
  (W2_arr m ρ c 2).trans ((arr0 (V1 m ρ) c).trans (congrArg₂ rms (W1_args m ρ c main_arg0 (by decide)) (w1_v0 m ρ c)))
theorem w3_v1 : W3 m ρ c (Proc.devRef .tc main_v1) = rms (m ((c : Thread nD τ).loc main_arg0)) (shapeCast S1x2048 (m ((c : Thread nD τ).loc main_arg1) : FVec Ideal S2048 .f32) shapeCasts_S2048_S1x2048) :=
  (W3_of m ρ c main_v1 (by decide)).trans (w2_v1 m ρ c)
theorem w3_v2 : W3 m ρ c (Proc.devRef .tc main_v2) = wI (m ((c : Thread nD τ).loc main_arg2)) := by
  rw [← W2_args m ρ c main_arg2 (by decide)]
  after_results_simp <;> rfl
theorem w3_v3 : W3 m ρ c (Proc.devRef .tc main_v3) = wO (m ((c : Thread nD τ).loc main_arg7)) := by
  rw [← W2_args m ρ c main_arg7 (by decide)]
  after_results_simp <;> rfl
theorem w3_v4 : W3 m ρ c (Proc.devRef .tc main_v4) = lv' (m ((c : Thread nD τ).loc main_arg3)) := by
  rw [← W2_args m ρ c main_arg3 (by decide)]
  after_results_simp <;> rfl
theorem w3_v5 : W3 m ρ c (Proc.devRef .tc main_v5) = lv' (m ((c : Thread nD τ).loc main_arg4)) := by
  rw [← W2_args m ρ c main_arg4 (by decide)]
  after_results_simp <;> rfl
theorem w4_v6 : W4 m ρ c (Proc.devRef .tc main_v6) = actA (m ((c : Thread nD τ).loc main_arg0)) (m ((c : Thread nD τ).loc main_arg1)) (m ((c : Thread nD τ).loc main_arg2)) :=
  (W4_arr m ρ c 2).trans ((arr1 (V3 m ρ) c).trans (congrArg₂ act (w3_v1 m ρ c) (w3_v2 m ρ c)))
theorem w5_v6 : W5 m ρ c (Proc.devRef .tc main_v6) = actA (m ((c : Thread nD τ).loc main_arg0)) (m ((c : Thread nD τ).loc main_arg1)) (m ((c : Thread nD τ).loc main_arg2)) :=
  (W5_of m ρ c main_v6 (by decide)).trans (w4_v6 m ρ c)
theorem w5_v3 : W5 m ρ c (Proc.devRef .tc main_v3) = wO (m ((c : Thread nD τ).loc main_arg7)) :=
  (W5_of m ρ c main_v3 (by decide)).trans ((W4_of m ρ c main_v3 (by decide)).trans (w3_v3 m ρ c))
theorem w5_v4 : W5 m ρ c (Proc.devRef .tc main_v4) = lv' (m ((c : Thread nD τ).loc main_arg3)) :=
  (W5_of m ρ c main_v4 (by decide)).trans ((W4_of m ρ c main_v4 (by decide)).trans (w3_v4 m ρ c))
theorem w5_v5 : W5 m ρ c (Proc.devRef .tc main_v5) = lv' (m ((c : Thread nD τ).loc main_arg4)) :=
  (W5_of m ρ c main_v5 (by decide)).trans ((W4_of m ρ c main_v5 (by decide)).trans (w3_v5 m ρ c))
theorem w5_v19 : W5 m ρ c (Proc.devRef .tc main_v19) = wbd (m ((c : Thread nD τ).loc main_arg5)) := by
  rw [← W4_args m ρ c main_arg5 (by decide)]
  after_results_simp <;> rfl
theorem w5_v24 : W5 m ρ c (Proc.devRef .tc main_v24) = bT (m ((c : Thread nD τ).loc main_arg6)) := by
  rw [← W4_args m ρ c main_arg6 (by decide)]
  after_results_simp <;> rfl
theorem w6_v25_0 : W6 m ρ c (Proc.devRef .tc main_v25_0) = gateG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 6).trans ((arr2 (V5 m ρ) c).trans ?_)
  unfold gateG
  rw [← w5_v6 m ρ c, ← w5_v4 m ρ c, ← w5_v5 m ρ c, ← w5_v24 m ρ c, ← w5_v19 m ρ c]
theorem w6_v25_1 : W6 m ρ c (Proc.devRef .tc main_v25_1) = N (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 7).trans ((arr2n (V5 m ρ) c).trans ?_)
  unfold N
  rw [← w5_v6 m ρ c, ← w5_v4 m ρ c, ← w5_v5 m ρ c]
theorem w6_v3 : W6 m ρ c (Proc.devRef .tc main_v3) = wO (m ((c : Thread nD τ).loc main_arg7)) :=
  (W6_of m ρ c main_v3 (by decide)).trans (w5_v3 m ρ c)
theorem w7_v26 : W7 m ρ c (Proc.devRef .tc main_v26) = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W7_arr m ρ c 3).trans ((arr3 (V6 m ρ) c).trans ?_)
  unfold Z
  rw [← w6_v25_0 m ρ c, ← w6_v3 m ρ c]
  exact congrArg (down _ _) (W6_args m ρ c main_arg0 (by decide))
theorem w7_v25_1 : W7 m ρ c (Proc.devRef .tc main_v25_1) = N (m ((c : Thread nD τ).loc main_arg0)) (m ((c : Thread nD τ).loc main_arg1)) (m ((c : Thread nD τ).loc main_arg2)) (m ((c : Thread nD τ).loc main_arg3)) (m ((c : Thread nD τ).loc main_arg4)) :=
  (W7_of m ρ c main_v25_1 (by decide)).trans (w6_v25_1 m ρ c)
theorem w8_v26 : W8 m ρ c (Proc.devRef .tc main_v26) = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_of m ρ c main_v26 (by decide)).trans (w7_v26 m ρ c)
theorem w8_v27 : W8 m ρ c (Proc.devRef .tc main_v27) = vOut (m ((c : Thread nD τ).loc main_arg0)) (m ((c : Thread nD τ).loc main_arg1)) (m ((c : Thread nD τ).loc main_arg2)) (m ((c : Thread nD τ).loc main_arg3)) (m ((c : Thread nD τ).loc main_arg4)) := by
  unfold vOut
  rw [← w7_v25_1 m ρ c]
  after_results_simp <;> rfl

-- the launch's implicit arguments are found by unifying its conclusion with this one
set_option backward.isDefEq.respectTransparency.types false in
/-- Every run ends with the results at their terms and the arguments as launched. -/
theorem run : θ_run defs (onTc (τ := τ) (main (F := Ideal))) ⟨m, fun _ => 0, ρ⟩ (fun r => ∀ c : Dev nD,
      r.2.mem ((c.tc : Thread nD τ).loc main_v26) = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v27) = vOut (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => (fun c =>
      ⟨(h c _ (mem_uc main_v26 (by decide))).trans (w8_v26 m ρ c),
       (h c _ (mem_uc main_v27 (by decide))).trans (w8_v27 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩))

end Cert.ShortIdeal.Val

end
-- ==== Proof.SRef.lean ====
/-
  THE SAMPLES' MIXER'S REFERENCE is the same term of the arguments: its normalised rows, its product under the smooth unit, the layer norm of the second
  half, the causal mixture over a sample's eight steps, its bias and its gate, and the second product, each at coordinates. The kernel mixes all 64 rows at
  once with weights that are zero outside a row's own sample, so its sum over the rows is the sum over the sample's steps.
-/
module

public import proofs.«01_k».proof.Proof.SRun
public import proofs.«01_k».proof.Proof.Gen.ShortRefIdeal.Read

@[expose] public section

set_option maxRecDepth 16384

noncomputable section

namespace Cert.ShortRefIdeal.Val

open Cert.ShortRefIdeal Cert.ShortRefIdeal.Gen Cert.ShortRefIdeal.Read Idealize.ShloMosaic Idealize.ShloMosaic.TcCoe Idealize.SL.Sem
open Cert.ShortIdeal.Val
open Cert.GmlpIdeal.Val (sel_ofBool mean lnf gelu grp lo hi wI wO lv')

variable (x : FVec Ideal S64x2048 .f32) (g : FVec Ideal S2048 .f32) (wi : FVec Ideal S2048x8192 .f32) (lw lb : FVec Ideal S4096 .f32)
  (ws : FVec Ideal S8x128x128 .f32) (bs : FVec Ideal S8x128 .f32) (wo : FVec Ideal S4096x2048 .f32)

theorem zlit : (FloatOps.ofBits .f32 0x00000000#32 : Ideal .f32) = 0 := Ideal.ofBits_zero .f32

theorem v0_at (i : S8x8x2048.Idx) (r : Fin 64) (k : Fin 2048) (hr : r.val = 8 * (i 0).val + (i 1).val) (hk : k.val = (i 2).val) :
    val_main_v0 (F := Ideal) x i = x (ix2 r k) := by
  have h2 : (i 2).val < 2048 := (i 2).isLt
  rw [val_main_v0_apply]
  refine congrArg x (funext fun a => Fin.ext ?_)
  match a with
  | ⟨0, _⟩ => show (((i 0).val * 8 + (i 1).val) * 2048 + (i 2).val) / 2048 = r.val; omega
  | ⟨1, _⟩ => show (((i 0).val * 8 + (i 1).val) * 2048 + (i 2).val) % 2048 = k.val; omega

theorem v2_at (i : S8x8.Idx) (r : Fin 64) (hr : r.val = 8 * (i 0).val + (i 1).val) :
    val_main_v2 (F := Ideal) x i = ∑ k : Fin 2048, x (ix2 r k) * x (ix2 r k) := by
  rw [val_main_v2_apply, val_main_cst_apply, zlit, zero_add]
  refine Finset.sum_congr rfl fun k _ => ?_
  rw [val_main_v1_apply, v0_at x _ r k hr rfl]
  rfl

theorem gain_at (i : S8x8x2048.Idx) (k : Fin 2048) (hk : k.val = (i 2).val) :
    val_main_v12 (F := Ideal) g i = shapeCast Cert.ShortIdeal.S1x2048 g Cert.ShortIdeal.Gen.shapeCasts_S2048_S1x2048 (ix2 (0 : Fin 1) k) := by
  rw [val_main_v12_apply, val_main_v11_apply]
  pointwise []
  refine congrArg g (funext fun a => Fin.ext ?_)
  match a with
  | ⟨0, _⟩ => exact hk.symm

theorem v13_at (i : S8x8x2048.Idx) (r : Fin 64) (k : Fin 2048) (hr : r.val = 8 * (i 0).val + (i 1).val) (hk : k.val = (i 2).val) :
    val_main_v13 (F := Ideal) x g i = rms x (shapeCast Cert.ShortIdeal.S1x2048 g Cert.ShortIdeal.Gen.shapeCasts_S2048_S1x2048) (ix2 r k) := by
  rw [val_main_v13_apply, val_main_v10_apply, gain_at g i k hk, v0_at x i r k hr hk, val_main_v9_apply, val_main_v8_apply, val_main_v7_apply, val_main_v5_apply,
    val_main_v3_apply, v2_at x _ r hr, val_main_v4_apply, val_main_v6_apply, val_main_cst_0_apply, val_main_cst_1_apply]
  rfl

theorem v14_at (i : S8x8x8192.Idx) (r : Fin 64) (k : Fin 8192) (hr : r.val = 8 * (i 0).val + (i 1).val) (hk : k.val = (i 2).val) :
    val_main_v14 (F := Ideal) x g wi i = ∑ j : Fin 2048, rms x (shapeCast Cert.ShortIdeal.S1x2048 g Cert.ShortIdeal.Gen.shapeCasts_S2048_S1x2048) (ix2 r j) * wi (ix2 j k) := by
  rw [val_main_v14_apply]
  refine Finset.sum_congr rfl fun j _ => congrArg₂ (· * ·) (v13_at x g _ r j hr rfl) (congrArg wi (funext fun a => Fin.ext ?_))
  match a with
  | ⟨0, _⟩ => rfl
  | ⟨1, _⟩ => exact hk.symm

theorem v27_at (i : S8x8x8192.Idx) (r : Fin 64) (k : Fin 8192) (hr : r.val = 8 * (i 0).val + (i 1).val) (hk : k.val = (i 2).val) :
    val_main_v27 (F := Ideal) x g wi i = actA x g wi (ix2 r k) := by
  rw [val_main_v27_apply, val_main_v26_apply, val_main_v25_apply, val_main_v24_apply, val_main_v23_apply, val_main_v22_apply, val_main_v21_apply, val_main_v20_apply,
    val_main_v19_apply, val_main_v18_apply, val_main_v17_apply, val_main_v16_apply, val_main_v15_apply, val_main_cst_5_apply, val_main_cst_4_apply,
    val_main_cst_3_apply, val_main_cst_2_apply, v14_at x g wi i r k hr hk]
  change _ = gelu (∑ j : Fin 2048, rms x (shapeCast Cert.ShortIdeal.S1x2048 g Cert.ShortIdeal.Gen.shapeCasts_S2048_S1x2048) (ix2 r j) * wi (ix2 j k))
  generalize (∑ j : Fin 2048, rms x (shapeCast Cert.ShortIdeal.S1x2048 g Cert.ShortIdeal.Gen.shapeCasts_S2048_S1x2048) (ix2 r j) * wi (ix2 j k)) = s
  unfold gelu
  rw [← mul_comm (s * s) s]
  rfl

/-- The second half of a row of the product. -/
abbrev vrow (r : Fin 64) : Fin 4096 → EReal := fun k => actA x g wi (ix2 r (hi k))

theorem v28_at (i : S8x8x4096.Idx) (r : Fin 64) (k : Fin 4096) (hr : r.val = 8 * (i 0).val + (i 1).val) (hk : k.val = (i 2).val) :
    val_main_v28 (F := Ideal) x g wi i = actA x g wi (ix2 r (lo k)) := by
  rw [val_main_v28_apply]
  exact v27_at x g wi _ r (lo k) hr hk
theorem v29_at (i : S8x8x4096.Idx) (r : Fin 64) (k : Fin 4096) (hr : r.val = 8 * (i 0).val + (i 1).val) (hk : k.val = (i 2).val) :
    val_main_v29 (F := Ideal) x g wi i = vrow x g wi r k := by
  rw [val_main_v29_apply]
  exact v27_at x g wi _ r (hi k) hr (congrArg (4096 + ·) hk)
theorem v33_at (i : S8x8x1.Idx) (r : Fin 64) (hr : r.val = 8 * (i 0).val + (i 1).val) :
    val_main_v33 (F := Ideal) x g wi i = mean (vrow x g wi r) := by
  have e : val_main_v30 (F := Ideal) x g wi (idx_main_v31 i) = ∑ k : Fin 4096, vrow x g wi r k := by
    rw [val_main_v30_apply, val_main_cst_6_apply, zlit, zero_add]
    exact Finset.sum_congr rfl fun k _ => v29_at x g wi _ r k hr rfl
  rw [val_main_v33_apply, val_main_v31_apply, val_main_v32_apply, val_main_cst_7_apply, e]
  rfl
theorem v45_at (i : S8x8x1.Idx) (r : Fin 64) (hr : r.val = 8 * (i 0).val + (i 1).val) :
    val_main_v45 (F := Ideal) x g wi i = Ideal.rsqrt (Ideal.div (∑ k, (vrow x g wi r k - mean (vrow x g wi r)) * (vrow x g wi r k - mean (vrow x g wi r)))
      (Ideal.ofBits .f32 0x45800000#32) + Ideal.ofBits .f32 0x3727C5AC#32) := by
  have e : val_main_v37 (F := Ideal) x g wi (idx_main_v38 i) = ∑ k, (vrow x g wi r k - mean (vrow x g wi r)) * (vrow x g wi r k - mean (vrow x g wi r)) := by
    rw [val_main_v37_apply, val_main_cst_8_apply, zlit, zero_add]
    refine Finset.sum_congr rfl fun k _ => ?_
    rw [val_main_v36_apply, val_main_v35_apply, val_main_v34_apply, v33_at x g wi (idx_main_v34 (idx_main_v37 (idx_main_v38 i) k)) r hr, v29_at x g wi (idx_main_v37 (idx_main_v38 i) k) r k hr rfl]
    rfl
  rw [val_main_v45_apply, val_main_v44_apply, val_main_v43_apply, val_main_v40_apply, val_main_v39_apply, val_main_v38_apply, val_main_cst_9_apply, val_main_cst_10_apply, e]
  rfl

theorem v49_at (i : S8x8x4096.Idx) (k : Fin 4096) (hk : k.val = (i 2).val) : val_main_v49 (F := Ideal) lw i = lv' lw (ix2 (0 : Fin 1) k) := by
  rw [val_main_v49_apply, val_main_v48_apply]
  pointwise [lv']
  refine congrArg lw (funext fun a => Fin.ext ?_)
  match a with
  | ⟨0, _⟩ => exact hk.symm
theorem v52_at (i : S8x8x4096.Idx) (k : Fin 4096) (hk : k.val = (i 2).val) : val_main_v52 (F := Ideal) lb i = lv' lb (ix2 (0 : Fin 1) k) := by
  rw [val_main_v52_apply, val_main_v51_apply]
  pointwise [lv']
  refine congrArg lb (funext fun a => Fin.ext ?_)
  match a with
  | ⟨0, _⟩ => exact hk.symm

theorem v53_at (i : S8x8x4096.Idx) (r : Fin 64) (k : Fin 4096) (hr : r.val = 8 * (i 0).val + (i 1).val) (hk : k.val = (i 2).val) :
    val_main_v53 (F := Ideal) x g wi lw lb i = lnf (vrow x g wi r) k (lv' lw (ix2 (0 : Fin 1) k)) (lv' lb (ix2 (0 : Fin 1) k)) := by
  rw [val_main_v53_apply, val_main_v50_apply, val_main_v47_apply, val_main_v46_apply, val_main_v42_apply, val_main_v41_apply, v49_at lw i k hk, v52_at lb i k hk,
    v45_at x g wi (idx_main_v46 i) r hr, v33_at x g wi (idx_main_v41 i) r hr, v29_at x g wi i r k hr hk]
  rfl

/-- A row's step in its sample, and the rows of its sample. -/
def loc (R : Fin 64) : Fin 8 := ⟨R.val % 8, by omega⟩
def smp (R : Fin 64) : Fin 8 := ⟨R.val / 8, by omega⟩
def row (R : Fin 64) (t : Fin 8) : Fin 64 := ⟨R.val / 8 * 8 + t.val, by omega⟩
def up (t : Fin 8) : Fin 128 := ⟨t.val, by omega⟩

theorem eye_self (a : Fin 8) : eye (ix2 a a) = 1 := by
  have e : ∀ a : Fin 8, IntOp.cmpi .eq (IntOp.addi (BitVec.ofNat 32 a.val) 0#32) (BitVec.ofNat 32 a.val) = 1#1 := by decide +kernel
  show (((IntOp.cmpi .eq (IntOp.addi (BitVec.ofNat 32 a.val) 0#32) (BitVec.ofNat 32 a.val)).toNat : ℝ) : EReal) = 1
  rw [e a]
  simp

/-- The laid-out weights inside a row's own sample. -/
theorem wbd_at (a : Fin 8) (R s : Fin 64) (h : s.val / 8 = R.val / 8) : wbd ws (ix3 a R s) = ws (ix3 a (up (loc R)) (up (loc s))) := by
  have hR : R.val < 64 := R.isLt
  have hs : s.val < 64 := s.isLt
  have e : smp s = smp R := Fin.ext h
  unfold wbd
  refine (shapeCast_apply _ Cert.ShortIdeal.Gen.shapeCasts_S8x8x8x8x8_S8x64x64 (ix3 a R s) (ix5 a (smp R) (loc R) (smp s) (loc s)) ?_).trans ?_
  · rewrite [Shape.rowMajor_val_three, Shape.rowMajor_val_five]
    show ((((a.val * 8 + R.val / 8) * 8 + R.val % 8) * 8 + s.val / 8) * 8 + s.val % 8) = (a.val * 64 + R.val) * 64 + s.val
    omega
  show eye5 (ix5 a (smp R) (loc R) (smp s) (loc s)) * w5 ws (ix5 a (smp R) (loc R) (smp s) (loc s)) = _
  have e1 : eye5 (ix5 a (smp R) (loc R) (smp s) (loc s)) = 1 := by
    unfold eye5
    refine (broadcastInDim_apply _ Cert.ShortIdeal.Gen.bcast_S1x8x1x8x1_S8x8x8x8x8_0_1_2_3_4 _ _ (ix5 (0 : Fin 1) (smp R) (0 : Fin 1) (smp s) (0 : Fin 1)) (fun b => ?_)).trans ?_
    · match b with
      | ⟨0, _⟩ => rfl
      | ⟨1, _⟩ => rfl
      | ⟨2, _⟩ => rfl
      | ⟨3, _⟩ => rfl
      | ⟨4, _⟩ => rfl
    refine (broadcastInDim_apply _ Cert.ShortIdeal.Gen.bcast_S8x8_S1x8x1x8x1_1_3 _ _ (ix2 (smp R) (smp s)) (fun b => ?_)).trans ?_
    · match b with
      | ⟨0, _⟩ => rfl
      | ⟨1, _⟩ => rfl
    rw [e]
    exact eye_self _
  have e2 : w5 ws (ix5 a (smp R) (loc R) (smp s) (loc s)) = ws (ix3 a (up (loc R)) (up (loc s))) := by
    unfold w5
    refine (broadcastInDim_apply _ Cert.ShortIdeal.Gen.bcast_S8x1x8x1x8_S8x8x8x8x8_0_1_2_3_4 _ _ (ix5 a (0 : Fin 1) (loc R) (0 : Fin 1) (loc s)) (fun b => ?_)).trans ?_
    · match b with
      | ⟨0, _⟩ => rfl
      | ⟨1, _⟩ => rfl
      | ⟨2, _⟩ => rfl
      | ⟨3, _⟩ => rfl
      | ⟨4, _⟩ => rfl
    refine (broadcastInDim_apply _ Cert.ShortIdeal.Gen.bcast_S8x8x8_S8x1x8x1x8_0_2_4 _ _ (ix3 a (loc R) (loc s)) (fun b => ?_)).trans ?_
    · match b with
      | ⟨0, _⟩ => rfl
      | ⟨1, _⟩ => rfl
      | ⟨2, _⟩ => rfl
    unfold wcut
    exact extractStridedSlice_apply ![0, 0, 0] ws Cert.ShortIdeal.Gen.slices_S8x128x128_S8x8x8_0_0_0 (ix3 a (loc R) (loc s)) (ix3 a (up (loc R)) (up (loc s))) (fun b => match b with
      | ⟨0, _⟩ => (Nat.zero_add _).symm
      | ⟨1, _⟩ => (Nat.zero_add _).symm
      | ⟨2, _⟩ => (Nat.zero_add _).symm)
  rw [e1, e2, one_mul]

theorem bT_at (R : Fin 64) (a : Fin 8) : bT bs (ix2 R a) = bs (ix2 a (up (loc R))) := by
  have hR : R.val < 64 := R.isLt
  unfold bT
  refine (shapeCast_apply _ Cert.ShortIdeal.Gen.shapeCasts_S8x8x1x8_S64x8 (ix2 R a) (ix4 (smp R) (loc R) (0 : Fin 1) a) ?_).trans ?_
  · rewrite [Shape.rowMajor_val_two, Shape.rowMajor_val_four]
    show (((R.val / 8 * 8 + R.val % 8) * 1 + 0) * 8 + a.val) = R.val * 8 + a.val
    omega
  refine (broadcastInDim_apply _ Cert.ShortIdeal.Gen.bcast_S1x8x1x8_S8x8x1x8_0_1_2_3 _ _ (ix4 (0 : Fin 1) (loc R) (0 : Fin 1) a) (fun b => ?_)).trans ?_
  · match b with
    | ⟨0, _⟩ => rfl
    | ⟨1, _⟩ => rfl
    | ⟨2, _⟩ => rfl
    | ⟨3, _⟩ => rfl
  refine (shapeCast_apply _ Cert.ShortIdeal.Gen.shapeCasts_S8x8_S1x8x1x8 (ix4 (0 : Fin 1) (loc R) (0 : Fin 1) a) (ix2 (loc R) a) ?_).trans ?_
  · rewrite [Shape.rowMajor_val_two, Shape.rowMajor_val_four]
    show R.val % 8 * 8 + a.val = (((0 * 8 + R.val % 8) * 1 + 0) * 8 + a.val)
    omega
  unfold bcut
  refine (transpose_apply [1, 0] _ Cert.ShortIdeal.Gen.transposes_S8x8_S8x8_1_0 (ix2 (loc R) a) (ix2 a (loc R)) (fun b => ?_)).trans ?_
  · match b with
    | ⟨0, _⟩ => rfl
    | ⟨1, _⟩ => rfl
  exact extractStridedSlice_apply ![0, 0] bs Cert.ShortIdeal.Gen.slices_S8x128_S8x8_0_0 (ix2 a (loc R)) (ix2 a (up (loc R))) (fun b => match b with
    | ⟨0, _⟩ => (Nat.zero_add _).symm
    | ⟨1, _⟩ => (Nat.zero_add _).symm)

/-- A sum over the rows that is zero outside a row's own sample is the sum over the sample's steps. -/
theorem sum_sample (R : Fin 64) (f : Fin 64 → EReal) (h : ∀ s : Fin 64, s.val / 8 ≠ R.val / 8 → f s = 0) : ∑ s : Fin 64, f s = ∑ t : Fin 8, f (row R t) := by
  refine (Finset.sum_of_injOn (row R) (fun t _ u _ e => ?_) (fun t _ => Finset.mem_coe.mpr (Finset.mem_univ _)) (fun s _ hs => h s fun e => hs ?_) (fun t _ => rfl)).symm
  · have e' : R.val / 8 * 8 + t.val = R.val / 8 * 8 + u.val := congrArg Fin.val e
    exact Fin.ext (by omega)
  · refine ⟨loc s, Finset.mem_coe.mpr (Finset.mem_univ _), Fin.ext ?_⟩
    show R.val / 8 * 8 + s.val % 8 = s.val
    omega

/-- The kernel's mixture is the mixture over the sample's steps. -/
theorem mix_eq (R : Fin 64) (a : Fin 8) (f : Fin 64 → EReal) :
    ∑ s : Fin 64, (if s.val ≤ R.val ∧ s.val / 8 = R.val / 8 then wbd ws (ix3 a R s) else 0) * f s
      = ∑ t : Fin 8, (if t.val ≤ (loc R).val then ws (ix3 a (up (loc R)) (up t)) else 0) * f (row R t) := by
  rw [sum_sample R (fun s => (if s.val ≤ R.val ∧ s.val / 8 = R.val / 8 then wbd ws (ix3 a R s) else 0) * f s) (fun s hs => by
    show (if s.val ≤ R.val ∧ s.val / 8 = R.val / 8 then wbd ws (ix3 a R s) else 0) * f s = 0
    rw [if_neg (fun h => hs h.2), zero_mul])]
  refine Finset.sum_congr rfl fun t _ => congrArg₂ (· * ·) ?_ rfl
  have ht : t.val < 8 := t.isLt
  have hrow : (row R t).val = R.val / 8 * 8 + t.val := rfl
  have hd : (row R t).val / 8 = R.val / 8 := by omega
  have hl : loc (row R t) = t := Fin.ext (by show (R.val / 8 * 8 + t.val) % 8 = t.val; omega)
  refine if_congr ⟨fun h => ?_, fun h => ⟨?_, hd⟩⟩ ?_ rfl
  · have := h.1
    show t.val ≤ R.val % 8
    omega
  · have h' : t.val ≤ R.val % 8 := h
    omega
  · rw [wbd_at ws a R (row R t) hd, hl]

theorem tri : ∀ r s : Fin 8, Scalar.select (IntOp.cmpi .sge (IntOp.addi (BitVec.ofNat 32 r.val) 0#32) (BitVec.ofNat 32 s.val)) (1#1) (0#1) = BitVec.ofBool (decide (s.val ≤ r.val)) := by
  decide +kernel

theorem v57_at (i : S8x8x8.Idx) (a r s : Fin 8) (ha : a.val = (i 0).val) (hr : r.val = (i 1).val) (hs : s.val = (i 2).val) :
    val_main_v57 (F := Ideal) ws i = if s.val ≤ r.val then ws (ix3 a (up r) (up s)) else 0 := by
  have e : i = ix3 a r s := funext fun b => Fin.ext (match b with
    | ⟨0, _⟩ => ha.symm
    | ⟨1, _⟩ => hr.symm
    | ⟨2, _⟩ => hs.symm)
  subst e
  have e6 : val_main_v56 (F := Ideal) ws (ix3 a r s) = ws (ix3 a (up r) (up s)) := by
    rw [val_main_v56_apply]
    refine congrArg ws (funext fun b => Fin.ext ?_)
    match b with
    | ⟨0, _⟩ => rfl
    | ⟨1, _⟩ => rfl
    | ⟨2, _⟩ => rfl
  rw [val_main_v57_apply, e6, val_main_call1_v1_apply, val_main_call1_v2_apply, val_main_call1_v0_apply, val_main_cst_11_apply, zlit, val_main_v55_apply, val_main_call0_v4_apply,
    val_main_call0_v2_apply, val_main_call0_v0_apply, val_main_call0_v1_apply, val_main_call0_c_apply, val_main_call0_v3_apply, val_main_v54_apply, val_main_c_apply,
    val_main_call0_v5_apply, val_main_call0_c_0_apply]
  refine (congrArg (fun b => Scalar.select b (ws (ix3 a (up r) (up s))) (0 : EReal)) (tri r s)).trans ?_
  exact sel_ofBool _ _ _

theorem v64_at (i : S8x1x8x8x512.Idx) (a r : Fin 8) (ha : a.val = (i 3).val) (hr : r.val = (i 2).val) :
    val_main_v64 (F := Ideal) bs i = bs (ix2 a (up r)) := by
  rw [val_main_v64_apply, val_main_v63_apply, val_main_v62_apply, val_main_v61_apply]
  refine congrArg bs (funext fun b => Fin.ext ?_)
  match b with
  | ⟨0, _⟩ => exact ha.symm
  | ⟨1, _⟩ => exact hr.symm

/-- The mixture before its bias, at a sample, a step, a group and a column in it. -/
theorem v60_at (i : S8x1x8x8x512.Idx) (R : Fin 64) (q : Fin 4096) (hR : R.val = 8 * (i 0).val + (i 2).val) (hq : q.val = 512 * (i 3).val + (i 4).val) :
    val_main_v60 (F := Ideal) x g wi lw lb ws i = ∑ t : Fin 8, (if t.val ≤ (loc R).val then ws (ix3 (grp q) (up (loc R)) (up t)) else 0)
      * lnf (vrow x g wi (row R t)) q (lv' lw (ix2 (0 : Fin 1) q)) (lv' lb (ix2 (0 : Fin 1) q)) := by
  have h0 : (i 0).val < 8 := (i 0).isLt
  have h1 : (i 1).val < 1 := (i 1).isLt
  have h2 : (i 2).val < 8 := (i 2).isLt
  have h3 : (i 3).val < 8 := (i 3).isLt
  have h4 : (i 4).val < 512 := (i 4).isLt
  rw [val_main_v60_apply, val_main_v59_apply]
  refine Finset.sum_congr rfl fun s _ => ?_
  have hs : s.val < 8 := s.isLt
  rw [val_main_v58_apply, v57_at ws _ (grp q) (loc R) s (by show q.val / 512 = (i 3).val; omega) (by show R.val % 8 = (i 2).val; omega) rfl, mul_comm]
  refine congrArg₂ (· * ·) rfl (v53_at x g wi lw lb _ (row R s) q ?_ ?_)
  · show R.val / 8 * 8 + s.val = 8 * ((((((i 0).val * 1 + (i 1).val) * 8 + s.val) * 8 + (i 3).val) * 512 + (i 4).val) / 32768)
      + (((((i 0).val * 1 + (i 1).val) * 8 + s.val) * 8 + (i 3).val) * 512 + (i 4).val) / 4096 % 8
    omega
  · show q.val = (((((i 0).val * 1 + (i 1).val) * 8 + s.val) * 8 + (i 3).val) * 512 + (i 4).val) % 4096
    omega

theorem v67_at (i : S8x8x4096.Idx) (r : Fin 64) (q : Fin 4096) (hr : r.val = 8 * (i 0).val + (i 1).val) (hq : q.val = (i 2).val) :
    val_main_v67 (F := Ideal) x g wi lw lb ws bs i = gateG x g wi lw lb ws bs (ix2 r q) := by
  have h0 : (i 0).val < 8 := (i 0).isLt
  have h1 : (i 1).val < 8 := (i 1).isLt
  have h2 : (i 2).val < 4096 := (i 2).isLt
  have a0 : ((idx_main_v66 i) 0).val = (i 0).val := by
    show (((i 0).val * 8 + (i 1).val) * 4096 + (i 2).val) / 32768 = _; omega
  have a2 : ((idx_main_v66 i) 2).val = (i 1).val := by
    show (((i 0).val * 8 + (i 1).val) * 4096 + (i 2).val) / 4096 % 8 = _; omega
  have a3 : ((idx_main_v66 i) 3).val = (i 2).val / 512 := by
    show (((i 0).val * 8 + (i 1).val) * 4096 + (i 2).val) / 512 % 8 = _; omega
  have a4 : ((idx_main_v66 i) 4).val = (i 2).val % 512 := by
    show (((i 0).val * 8 + (i 1).val) * 4096 + (i 2).val) % 512 = _; omega
  rw [val_main_v67_apply, val_main_v66_apply, val_main_v65_apply, v28_at x g wi i r q hr hq,
    v60_at x g wi lw lb ws _ r q (by rw [a0, a2]; omega) (by rw [a3, a4]; omega),
    v64_at bs _ (grp q) (loc r) (by rw [a3]; show q.val / 512 = _; omega) (by rw [a2]; show r.val % 8 = _; omega), ← bT_at bs r (grp q)]
  refine congrArg (fun u : EReal => actA x g wi (ix2 r (lo q)) * (u + bT bs (ix2 r (grp q)))) ?_
  exact (mix_eq ws r (grp q) (fun s => nAt (actA x g wi) (lv' lw) (lv' lb) s q)).symm

theorem v70_eq : val_main_v70 (F := Ideal) x g wi lw lb ws bs wo = Z x g wi lw lb ws bs wo := by
  funext i
  have h0 : (i 0).val < 64 := (i 0).isLt
  have h1 : (i 1).val < 2048 := (i 1).isLt
  rw [val_main_v70_apply, val_main_v69_apply]
  have a0 : ((idx_main_v70 i) 0).val = (i 0).val / 8 := by
    show ((i 0).val * 2048 + (i 1).val) / 16384 = _; omega
  have a1 : ((idx_main_v70 i) 1).val = (i 0).val % 8 := by
    show ((i 0).val * 2048 + (i 1).val) / 2048 % 8 = _; omega
  have a2 : ((idx_main_v70 i) 2).val = (i 1).val := by
    show ((i 0).val * 2048 + (i 1).val) % 2048 = _
    omega
  rw [v0_at x _ ⟨(i 0).val, h0⟩ ⟨(i 1).val, h1⟩ (by rw [a0, a1]; dsimp only; omega) (by rw [a2]), val_main_v68_apply]
  unfold Z down
  show _ + _ = _ + _
  refine congrArg₂ (· + ·) rfl (Finset.sum_congr rfl fun k _ => congrArg₂ (· * ·) (v67_at x g wi lw lb ws bs _ ⟨(i 0).val, h0⟩ k ?_ rfl) (congrArg wo (funext fun a => Fin.ext ?_)))
  · show (i 0).val = 8 * ((idx_main_v70 i) 0).val + ((idx_main_v70 i) 1).val
    rw [a0, a1]; omega
  · match a with
    | ⟨0, _⟩ => rfl
    | ⟨1, _⟩ => exact a2

/-- The second result: the normed rows, by sample and step. -/
theorem v53_eq : val_main_v53 (F := Ideal) x g wi lw lb = vOut x g wi lw lb := by
  funext i
  have h0 : (i 0).val < 8 := (i 0).isLt
  have h1 : (i 1).val < 8 := (i 1).isLt
  have h2 : (i 2).val < 4096 := (i 2).isLt
  refine (v53_at x g wi lw lb i ⟨8 * (i 0).val + (i 1).val, by omega⟩ ⟨(i 2).val, h2⟩ rfl rfl).trans ?_
  unfold vOut
  exact (shapeCast_apply (N x g wi lw lb) Cert.ShortIdeal.Gen.shapeCasts_S64x4096_S8x8x4096 i (ix2 (⟨8 * (i 0).val + (i 1).val, by omega⟩ : Fin 64) (⟨(i 2).val, h2⟩ : Fin 4096)) (by
    rewrite [Shape.rowMajor_val_three, Shape.rowMajor_val_two]
    show (8 * (i 0).val + (i 1).val) * 4096 + (i 2).val = ((i 0).val * 8 + (i 1).val) * 4096 + (i 2).val
    omega)).symm

end Cert.ShortRefIdeal.Val

end
-- ==== Proof.NIn.lean ====
/-
  THE INPUT OF AN EVEN LAYER OVER THE SAMPLES: the normalised rows times the weights, the attention's columns in one call and the recurrence's in another, whose weights
  have three groups of columns widened with zeros; those columns are cut off again afterwards. The weights are those of the prompts' call.
-/
module

public import proofs.«01_k».proof.Proof.SReg
public import proofs.«01_k».proof.Proof.EIn
public import proofs.«01_k».proof.Proof.Gen.EvenInSIdeal.Frame
public import Idealize.ShloMosaic.Lib.Pipeline.ValueKit

@[expose] public section

set_option maxRecDepth 16384

noncomputable section

namespace Cert.EvenInSIdeal.Val

open Cert.EvenInSIdeal Cert.EvenInSIdeal.Gen
open Cert.EvenInIdeal.Val (wQ wT g0 s1 s2 s3 ze g1 g2 g3 gc wR)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The product that gives the attention's columns. -/
def qk (A : FVec Ideal S64x2048 .bf16) (B : FVec Ideal S2048x3072 .bf16) : FVec Ideal S64x3072 .f32 := fun i =>
  ∑ k : Fin 2048, A (ix2 (i 0) k) * B (ix2 k (i 1))
/-- The product that gives the recurrence's columns, the widened groups among them. -/
def rp (A : FVec Ideal S64x2048 .bf16) (B : FVec Ideal S2048x3584 .bf16) : FVec Ideal S64x3584 .f32 := fun i =>
  ∑ k : Fin 2048, A (ix2 (i 0) k) * B (ix2 k (i 1))

section regions
variable (V : (c : Dev nD) → (b : Ref sig .tc) → Buf (Elt Ideal) ((c : Thread nD τ).loc b)) (c : Dev nD)

theorem idx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)
theorem idx1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)
theorem idx2 : ∀ t : Fin cfg2.N, win2_0.index t = ![(grid2.coords t 0).val, 0] ∧ win2_1.index t = ![0, (grid2.coords t 1).val]
    ∧ win2_2.index t = ![(grid2.coords t 0).val, (grid2.coords t 1).val] :=
  (by decide +kernel : ∀ t : Fin grid2.N, _)

theorem arr0 : (dat0 V c).arrAt 2 cfg0.N = Cert.ShortIdeal.Val.rms (V c main_arg0) (V c main_v0) := by
  refine (dat0 V c).arrAt_eq_of_covers 2 _ (by decide +kernel) fun t _ y => ?_
  blk_simp
  rw [after0_2]; frame_out
  pointwise [k0_pay1, Cert.ShortIdeal.Val.rms]
  blk_point [iblk0, idx0 t]

theorem arr1 : (dat1 V c).arrAt 2 cfg1.N = qk (V c main_v1) (V c main_v3) := by
  refine (dat1 V c).arrAt_eq_of_covers 2 _ (by decide +kernel) fun t _ y => ?_
  blk_simp
  rw [after1_2]; frame_out
  pointwise [k1_pay1, qk]
  blk_point [iblk1, idx1 t]

theorem arr2 : (dat2 V c).arrAt 2 cfg2.N = rp (V c main_v1) (V c main_v13) := by
  refine (dat2 V c).arrAt_eq_of_covers 2 _ (by decide +kernel) fun t _ y => ?_
  blk_simp
  rw [after2_2]; frame_out
  pointwise [k2_pay1, rp]
  blk_point [iblk2, idx2 t]
end regions

/-- The widening cut off again. -/
def cut (y : FVec Ideal S64x3584 .f32) : FVec Ideal S64x3360 .f32 :=
  concatenate S64x3360 1 [⟨S64x3072, extractStridedSlice S64x3072 ![0, 0] y slices_S64x3584_S64x3072_0_0⟩,
    ⟨S64x64, extractStridedSlice S64x64 ![0, 3072] y slices_S64x3584_S64x64_0_3072⟩,
    ⟨S64x64, extractStridedSlice S64x64 ![0, 3200] y slices_S64x3584_S64x64_0_3200⟩,
    ⟨S64x160, extractStridedSlice S64x160 ![0, 3328] y slices_S64x3584_S64x160_0_3328⟩] concatenates_S64x3072_S64x64_S64x64_S64x160_S64x3360_d1

/-- The normalised rows of the arguments. -/
def hn (x : FVec Ideal S64x2048 .f32) (g : FVec Ideal S2048 .f32) : FVec Ideal S64x2048 .bf16 :=
  Cert.ShortIdeal.Val.rms x (shapeCast S1x2048 g shapeCasts_S2048_S1x2048)

variable (m : (ℓ : Loc nD τ sig) → Buf (Elt Ideal) ℓ) (ρ : Dev nD → PrngReg) (c : Dev nD)

theorem w1_v0 : W1 m ρ c (Proc.devRef .tc main_v0) = shapeCast S1x2048 (m ((c : Thread nD τ).loc main_arg1) : FVec Ideal S2048 .f32) shapeCasts_S2048_S1x2048 := by
  after_results_simp <;> rfl
theorem w2_v1 : W2 m ρ c (Proc.devRef .tc main_v1) = hn (m ((c : Thread nD τ).loc main_arg0)) (m ((c : Thread nD τ).loc main_arg1)) :=
  (W2_arr m ρ c 2).trans ((arr0 (V1 m ρ) c).trans (congrArg₂ Cert.ShortIdeal.Val.rms (W1_args m ρ c main_arg0 (by decide)) (w1_v0 m ρ c)))
theorem w3_v3 : W3 m ρ c (Proc.devRef .tc main_v3) = wQ (m ((c : Thread nD τ).loc main_arg2)) := by
  rw [← W2_args m ρ c main_arg2 (by decide)]
  after_results_simp <;> rfl
theorem w3_v4 : W3 m ρ c (Proc.devRef .tc main_v4) = wT (m ((c : Thread nD τ).loc main_arg2)) := by
  rw [← W2_args m ρ c main_arg2 (by decide)]
  after_results_simp <;> rfl
theorem w3_v5 : W3 m ρ c (Proc.devRef .tc main_v5) = g0 (m ((c : Thread nD τ).loc main_arg2)) := by
  rw [← W2_args m ρ c main_arg2 (by decide)]
  after_results_simp <;> rfl
theorem w3_v6 : W3 m ρ c (Proc.devRef .tc main_v6) = s1 (m ((c : Thread nD τ).loc main_arg2)) := by
  rw [← W2_args m ρ c main_arg2 (by decide)]
  after_results_simp <;> rfl
theorem w3_c : W3 m ρ c (Proc.devRef .tc main_c) = constantI S_ 32 0#32 := by
  after_results_simp <;> rfl
theorem w4_v7 : W4 m ρ c (Proc.devRef .tc main_v7) = g1 (m ((c : Thread nD τ).loc main_arg2)) := by
  unfold g1 ze
  rw [← w3_v6 m ρ c, ← w3_c m ρ c]
  after_results_simp <;> rfl
theorem w4_v4 : W4 m ρ c (Proc.devRef .tc main_v4) = wT (m ((c : Thread nD τ).loc main_arg2)) := (W4_of m ρ c main_v4 (by decide)).trans (w3_v4 m ρ c)
theorem w5_v8 : W5 m ρ c (Proc.devRef .tc main_v8) = s2 (m ((c : Thread nD τ).loc main_arg2)) := by
  unfold s2
  rw [← w4_v4 m ρ c]
  after_results_simp <;> rfl
theorem w5_c : W5 m ρ c (Proc.devRef .tc main_c_0) = constantI S_ 32 0#32 := by
  after_results_simp <;> rfl
theorem w6_v9 : W6 m ρ c (Proc.devRef .tc main_v9) = g2 (m ((c : Thread nD τ).loc main_arg2)) := by
  unfold g2 ze
  rw [← w5_v8 m ρ c, ← w5_c m ρ c]
  after_results_simp <;> rfl
theorem w6_v4 : W6 m ρ c (Proc.devRef .tc main_v4) = wT (m ((c : Thread nD τ).loc main_arg2)) :=
  (W6_of m ρ c main_v4 (by decide)).trans ((W5_of m ρ c main_v4 (by decide)).trans (w4_v4 m ρ c))
theorem w7_v10 : W7 m ρ c (Proc.devRef .tc main_v10) = s3 (m ((c : Thread nD τ).loc main_arg2)) := by
  unfold s3
  rw [← w6_v4 m ρ c]
  after_results_simp <;> rfl
theorem w7_c : W7 m ρ c (Proc.devRef .tc main_c_1) = constantI S_ 32 0#32 := by
  after_results_simp <;> rfl
theorem w8_v11 : W8 m ρ c (Proc.devRef .tc main_v11) = g3 (m ((c : Thread nD τ).loc main_arg2)) := by
  unfold g3 ze
  rw [← w7_v10 m ρ c, ← w7_c m ρ c]
  after_results_simp <;> rfl
theorem w8_v9 : W8 m ρ c (Proc.devRef .tc main_v9) = g2 (m ((c : Thread nD τ).loc main_arg2)) :=
  (W8_of m ρ c main_v9 (by decide)).trans ((W7_of m ρ c main_v9 (by decide)).trans (w6_v9 m ρ c))
theorem w8_v7 : W8 m ρ c (Proc.devRef .tc main_v7) = g1 (m ((c : Thread nD τ).loc main_arg2)) :=
  (W8_of m ρ c main_v7 (by decide)).trans ((W7_of m ρ c main_v7 (by decide)).trans ((W6_of m ρ c main_v7 (by decide)).trans ((W5_of m ρ c main_v7 (by decide)).trans (w4_v7 m ρ c))))
theorem w8_v5 : W8 m ρ c (Proc.devRef .tc main_v5) = g0 (m ((c : Thread nD τ).loc main_arg2)) :=
  (W8_of m ρ c main_v5 (by decide)).trans ((W7_of m ρ c main_v5 (by decide)).trans ((W6_of m ρ c main_v5 (by decide)).trans ((W5_of m ρ c main_v5 (by decide)).trans
    ((W4_of m ρ c main_v5 (by decide)).trans (w3_v5 m ρ c)))))
theorem w9_v13 : W9 m ρ c (Proc.devRef .tc main_v13) = wR (m ((c : Thread nD τ).loc main_arg2)) := by
  unfold wR gc
  rw [← w8_v11 m ρ c, ← w8_v9 m ρ c, ← w8_v7 m ρ c, ← w8_v5 m ρ c]
  after_results_simp <;> rfl
theorem w9_v1 : W9 m ρ c (Proc.devRef .tc main_v1) = hn (m ((c : Thread nD τ).loc main_arg0)) (m ((c : Thread nD τ).loc main_arg1)) :=
  (W9_of m ρ c main_v1 (by decide)).trans ((W8_of m ρ c main_v1 (by decide)).trans ((W7_of m ρ c main_v1 (by decide)).trans ((W6_of m ρ c main_v1 (by decide)).trans
    ((W5_of m ρ c main_v1 (by decide)).trans ((W4_of m ρ c main_v1 (by decide)).trans ((W3_of m ρ c main_v1 (by decide)).trans (w2_v1 m ρ c)))))))
theorem w9_v3 : W9 m ρ c (Proc.devRef .tc main_v3) = wQ (m ((c : Thread nD τ).loc main_arg2)) :=
  (W9_of m ρ c main_v3 (by decide)).trans ((W8_of m ρ c main_v3 (by decide)).trans ((W7_of m ρ c main_v3 (by decide)).trans ((W6_of m ρ c main_v3 (by decide)).trans
    ((W5_of m ρ c main_v3 (by decide)).trans ((W4_of m ρ c main_v3 (by decide)).trans (w3_v3 m ρ c))))))
theorem w10_v14 : W10 m ρ c (Proc.devRef .tc main_v14) = qk (hn (m ((c : Thread nD τ).loc main_arg0)) (m ((c : Thread nD τ).loc main_arg1))) (wQ (m ((c : Thread nD τ).loc main_arg2))) :=
  (W10_arr m ρ c 2).trans ((arr1 (V9 m ρ) c).trans (congrArg₂ qk (w9_v1 m ρ c) (w9_v3 m ρ c)))
theorem w11_v15 : W11 m ρ c (Proc.devRef .tc main_v15) = rp (hn (m ((c : Thread nD τ).loc main_arg0)) (m ((c : Thread nD τ).loc main_arg1))) (wR (m ((c : Thread nD τ).loc main_arg2))) :=
  (W11_arr m ρ c 2).trans ((arr2 (V10 m ρ) c).trans (congrArg₂ rp ((W10_of m ρ c main_v1 (by decide)).trans (w9_v1 m ρ c)) ((W10_of m ρ c main_v13 (by decide)).trans (w9_v13 m ρ c))))
theorem w12_v14 : W12 m ρ c (Proc.devRef .tc main_v14) = qk (hn (m ((c : Thread nD τ).loc main_arg0)) (m ((c : Thread nD τ).loc main_arg1))) (wQ (m ((c : Thread nD τ).loc main_arg2))) :=
  (W12_of m ρ c main_v14 (by decide)).trans ((W11_of m ρ c main_v14 (by decide)).trans (w10_v14 m ρ c))
theorem w12_v20 : W12 m ρ c (Proc.devRef .tc main_v20) = cut (rp (hn (m ((c : Thread nD τ).loc main_arg0)) (m ((c : Thread nD τ).loc main_arg1))) (wR (m ((c : Thread nD τ).loc main_arg2)))) := by
  rw [← w11_v15 m ρ c]
  after_results_simp <;> rfl

-- the launch's implicit arguments are found by unifying its conclusion with this one
set_option backward.isDefEq.respectTransparency.types false in
/-- Every run ends with the results at their terms and the arguments as launched. -/
theorem run : θ_run defs (onTc (τ := τ) (main (F := Ideal))) ⟨m, fun _ => 0, ρ⟩ (fun r => ∀ c : Dev nD,
      r.2.mem ((c.tc : Thread nD τ).loc main_v14) = qk (hn (m ((c : Thread nD τ).loc main_arg0)) (m ((c : Thread nD τ).loc main_arg1))) (wQ (m ((c : Thread nD τ).loc main_arg2)))
      ∧ r.2.mem ((c.tc : Thread nD τ).loc main_v20) = cut (rp (hn (m ((c : Thread nD τ).loc main_arg0)) (m ((c : Thread nD τ).loc main_arg1))) (wR (m ((c : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => (fun c =>
      ⟨(h c _ (mem_uc main_v14 (by decide))).trans (w12_v14 m ρ c),
       (h c _ (mem_uc main_v20 (by decide))).trans (w12_v20 m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c)⟩))

end Cert.EvenInSIdeal.Val

end
-- ==== Proof.NInRef.lean ====
/-
  THE INPUT OF AN EVEN LAYER OVER THE SAMPLES, THE REFERENCE: one product with all the weights, cut into the attention's and the recurrence's columns, is the same two
  terms of the arguments; a column of the widened weights that is kept is a column of the weights.
-/
module

public import proofs.«01_k».proof.Proof.NIn
public import proofs.«01_k».proof.Proof.EInRef
public import proofs.«01_k».proof.Proof.Gen.EvenInSRefIdeal.Read
public import Idealize.ShloMosaic.Lib.KernelVsHost

@[expose] public section

set_option maxRecDepth 16384

noncomputable section

namespace Cert.EvenInSIdeal.Val

open Cert.EvenInSIdeal Cert.EvenInSIdeal.Gen Idealize.ShloMosaic Idealize.ShloMosaic.TcCoe Idealize.SL.Sem
open Cert.EvenInIdeal.Val (wQ wR gc_at0 gc_at1 gc_at2 gc_at3)

variable (w : FVec Ideal S2048x6432 .f32) (y : FVec Ideal S64x3584 .f32)

theorem cut_at0 (i : S64x3360.Idx) (q : Fin 3584) (h1 : 0 ≤ (i 1).val) (h2 : (i 1).val < 3072) (hq : q.val = (i 1).val - 0 + 0) :
    cut y i = y (ix2 (i 0) q) := by
  refine (concatenate_apply_piece (t := S64x3360) 1 [⟨S64x3072, extractStridedSlice S64x3072 ![0, 0] y slices_S64x3584_S64x3072_0_0⟩,
    ⟨S64x64, extractStridedSlice S64x64 ![0, 3072] y slices_S64x3584_S64x64_0_3072⟩,
    ⟨S64x64, extractStridedSlice S64x64 ![0, 3200] y slices_S64x3584_S64x64_0_3200⟩,
    ⟨S64x160, extractStridedSlice S64x160 ![0, 3328] y slices_S64x3584_S64x160_0_3328⟩] concatenates_S64x3072_S64x64_S64x64_S64x160_S64x3360_d1
    i 0 (by simp) S64x3072 (extractStridedSlice S64x3072 ![0, 0] y slices_S64x3584_S64x3072_0_0) rfl rfl 0 rfl
    (ix2 (i 0) ⟨(i 1).val - 0, by omega⟩) (fun b hb => ?_) ?_).trans ?_
  · match b with
    | ⟨0, _⟩ => rfl
    | ⟨1, _⟩ => exact absurd rfl hb
  · show 0 + ((i 1).val - 0) = (i 1).val; omega
  exact extractStridedSlice_apply ![0, 0] y slices_S64x3584_S64x3072_0_0 (ix2 (i 0) ⟨(i 1).val - 0, by omega⟩) (ix2 (i 0) q) (fun a => match a with
    | ⟨0, _⟩ => by show (i 0).val = 0 + (i 0).val; omega
    | ⟨1, _⟩ => by show q.val = 0 + ((i 1).val - 0); omega)

theorem cut_at1 (i : S64x3360.Idx) (q : Fin 3584) (h1 : 3072 ≤ (i 1).val) (h2 : (i 1).val < 3136) (hq : q.val = (i 1).val - 3072 + 3072) :
    cut y i = y (ix2 (i 0) q) := by
  refine (concatenate_apply_piece (t := S64x3360) 1 [⟨S64x3072, extractStridedSlice S64x3072 ![0, 0] y slices_S64x3584_S64x3072_0_0⟩,
    ⟨S64x64, extractStridedSlice S64x64 ![0, 3072] y slices_S64x3584_S64x64_0_3072⟩,
    ⟨S64x64, extractStridedSlice S64x64 ![0, 3200] y slices_S64x3584_S64x64_0_3200⟩,
    ⟨S64x160, extractStridedSlice S64x160 ![0, 3328] y slices_S64x3584_S64x160_0_3328⟩] concatenates_S64x3072_S64x64_S64x64_S64x160_S64x3360_d1
    i 1 (by simp) S64x64 (extractStridedSlice S64x64 ![0, 3072] y slices_S64x3584_S64x64_0_3072) rfl rfl 3072 rfl
    (ix2 (i 0) ⟨(i 1).val - 3072, by omega⟩) (fun b hb => ?_) ?_).trans ?_
  · match b with
    | ⟨0, _⟩ => rfl
    | ⟨1, _⟩ => exact absurd rfl hb
  · show 3072 + ((i 1).val - 3072) = (i 1).val; omega
  exact extractStridedSlice_apply ![0, 3072] y slices_S64x3584_S64x64_0_3072 (ix2 (i 0) ⟨(i 1).val - 3072, by omega⟩) (ix2 (i 0) q) (fun a => match a with
    | ⟨0, _⟩ => by show (i 0).val = 0 + (i 0).val; omega
    | ⟨1, _⟩ => by show q.val = 3072 + ((i 1).val - 3072); omega)

theorem cut_at2 (i : S64x3360.Idx) (q : Fin 3584) (h1 : 3136 ≤ (i 1).val) (h2 : (i 1).val < 3200) (hq : q.val = (i 1).val - 3136 + 3200) :
    cut y i = y (ix2 (i 0) q) := by
  refine (concatenate_apply_piece (t := S64x3360) 1 [⟨S64x3072, extractStridedSlice S64x3072 ![0, 0] y slices_S64x3584_S64x3072_0_0⟩,
    ⟨S64x64, extractStridedSlice S64x64 ![0, 3072] y slices_S64x3584_S64x64_0_3072⟩,
    ⟨S64x64, extractStridedSlice S64x64 ![0, 3200] y slices_S64x3584_S64x64_0_3200⟩,
    ⟨S64x160, extractStridedSlice S64x160 ![0, 3328] y slices_S64x3584_S64x160_0_3328⟩] concatenates_S64x3072_S64x64_S64x64_S64x160_S64x3360_d1
    i 2 (by simp) S64x64 (extractStridedSlice S64x64 ![0, 3200] y slices_S64x3584_S64x64_0_3200) rfl rfl 3136 rfl
    (ix2 (i 0) ⟨(i 1).val - 3136, by omega⟩) (fun b hb => ?_) ?_).trans ?_
  · match b with
    | ⟨0, _⟩ => rfl
    | ⟨1, _⟩ => exact absurd rfl hb
  · show 3136 + ((i 1).val - 3136) = (i 1).val; omega
  exact extractStridedSlice_apply ![0, 3200] y slices_S64x3584_S64x64_0_3200 (ix2 (i 0) ⟨(i 1).val - 3136, by omega⟩) (ix2 (i 0) q) (fun a => match a with
    | ⟨0, _⟩ => by show (i 0).val = 0 + (i 0).val; omega
    | ⟨1, _⟩ => by show q.val = 3200 + ((i 1).val - 3136); omega)

theorem cut_at3 (i : S64x3360.Idx) (q : Fin 3584) (h1 : 3200 ≤ (i 1).val) (h2 : (i 1).val < 3360) (hq : q.val = (i 1).val - 3200 + 3328) :
    cut y i = y (ix2 (i 0) q) := by
  refine (concatenate_apply_piece (t := S64x3360) 1 [⟨S64x3072, extractStridedSlice S64x3072 ![0, 0] y slices_S64x3584_S64x3072_0_0⟩,
    ⟨S64x64, extractStridedSlice S64x64 ![0, 3072] y slices_S64x3584_S64x64_0_3072⟩,
    ⟨S64x64, extractStridedSlice S64x64 ![0, 3200] y slices_S64x3584_S64x64_0_3200⟩,
    ⟨S64x160, extractStridedSlice S64x160 ![0, 3328] y slices_S64x3584_S64x160_0_3328⟩] concatenates_S64x3072_S64x64_S64x64_S64x160_S64x3360_d1
    i 3 (by simp) S64x160 (extractStridedSlice S64x160 ![0, 3328] y slices_S64x3584_S64x160_0_3328) rfl rfl 3200 rfl
    (ix2 (i 0) ⟨(i 1).val - 3200, by omega⟩) (fun b hb => ?_) ?_).trans ?_
  · match b with
    | ⟨0, _⟩ => rfl
    | ⟨1, _⟩ => exact absurd rfl hb
  · show 3200 + ((i 1).val - 3200) = (i 1).val; omega
  exact extractStridedSlice_apply ![0, 3328] y slices_S64x3584_S64x160_0_3328 (ix2 (i 0) ⟨(i 1).val - 3200, by omega⟩) (ix2 (i 0) q) (fun a => match a with
    | ⟨0, _⟩ => by show (i 0).val = 0 + (i 0).val; omega
    | ⟨1, _⟩ => by show q.val = 3328 + ((i 1).val - 3200); omega)

/-- The second result, column by column of the weights. -/
theorem cut_eq (A : FVec Ideal S64x2048 .bf16) (i : S64x3360.Idx) (n : Fin 6432) (hn : n.val = 3072 + (i 1).val) :
    cut (rp A (wR w)) i = ∑ k : Fin 2048, A (ix2 (i 0) k) * w (ix2 k n) := by
  have h : (i 1).val < 3360 := (i 1).isLt
  rcases Nat.lt_or_ge (i 1).val 3072 with h1 | h1
  · exact (cut_at0 _ i ⟨(i 1).val, by omega⟩ (by omega) (by omega) (by show (i 1).val = _; omega)).trans
      (Finset.sum_congr rfl fun k _ => congrArg (A (ix2 (i 0) k) * ·) (gc_at0 w k _ n (by omega) (by show (i 1).val < _; omega) (by show n.val = (i 1).val - 0 + _; omega)))
  rcases Nat.lt_or_ge (i 1).val 3136 with h2 | h2
  · exact (cut_at1 _ i ⟨(i 1).val, by omega⟩ (by omega) (by omega) (by show (i 1).val = _; omega)).trans
      (Finset.sum_congr rfl fun k _ => congrArg (A (ix2 (i 0) k) * ·) (gc_at1 w k _ n (by show _ ≤ (i 1).val; omega) (by show (i 1).val < _; omega) (by show n.val = (i 1).val - 3072 + _; omega)))
  rcases Nat.lt_or_ge (i 1).val 3200 with h3 | h3
  · exact (cut_at2 _ i ⟨(i 1).val + 64, by omega⟩ (by omega) (by omega) (by show (i 1).val + 64 = _; omega)).trans
      (Finset.sum_congr rfl fun k _ => congrArg (A (ix2 (i 0) k) * ·) (gc_at2 w k _ n (by show _ ≤ (i 1).val + 64; omega) (by show (i 1).val + 64 < _; omega) (by show n.val = (i 1).val + 64 - 3200 + _; omega)))
  · exact (cut_at3 _ i ⟨(i 1).val + 128, by omega⟩ (by omega) (by omega) (by show (i 1).val + 128 = _; omega)).trans
      (Finset.sum_congr rfl fun k _ => congrArg (A (ix2 (i 0) k) * ·) (gc_at3 w k _ n (by show _ ≤ (i 1).val + 128; omega) (by show (i 1).val + 128 < _; omega) (by show n.val = (i 1).val + 128 - 3328 + _; omega)))

end Cert.EvenInSIdeal.Val

namespace Cert.EvenInSRefIdeal.Val

open Cert.EvenInSRefIdeal Cert.EvenInSRefIdeal.Gen Cert.EvenInSRefIdeal.Read Idealize.ShloMosaic Idealize.ShloMosaic.TcCoe Idealize.SL.Sem
open Cert.EvenInSIdeal.Val
open Cert.EvenInIdeal.Val (wQ wR)

variable (x : FVec Ideal S64x2048 .f32) (g : FVec Ideal S2048 .f32) (w : FVec Ideal S2048x6432 .f32)

theorem zlit : (FloatOps.ofBits .f32 0x00000000#32 : Ideal .f32) = 0 := Ideal.ofBits_zero .f32

theorem v0_at (i : S8x8x2048.Idx) (r : Fin 64) (k : Fin 2048) (hr : r.val = 8 * (i 0).val + (i 1).val) (hk : k.val = (i 2).val) :
    val_main_v0 (F := Ideal) x i = x (ix2 r k) := by
  have h2 : (i 2).val < 2048 := (i 2).isLt
  rw [val_main_v0_apply]
  refine congrArg x (funext fun a => Fin.ext ?_)
  match a with
  | ⟨0, _⟩ => show (((i 0).val * 8 + (i 1).val) * 2048 + (i 2).val) / 2048 = r.val; omega
  | ⟨1, _⟩ => show (((i 0).val * 8 + (i 1).val) * 2048 + (i 2).val) % 2048 = k.val; omega

theorem v2_at (i : S8x8.Idx) (r : Fin 64) (hr : r.val = 8 * (i 0).val + (i 1).val) :
    val_main_v2 (F := Ideal) x i = ∑ k : Fin 2048, x (ix2 r k) * x (ix2 r k) := by
  rw [val_main_v2_apply, val_main_cst_apply, zlit, zero_add]
  refine Finset.sum_congr rfl fun k _ => ?_
  rw [val_main_v1_apply, v0_at x _ r k hr rfl]
  rfl

theorem gain_at (i : S8x8x2048.Idx) (k : Fin 2048) (hk : k.val = (i 2).val) :
    val_main_v12 (F := Ideal) g i = shapeCast Cert.EvenInSIdeal.S1x2048 g Cert.EvenInSIdeal.Gen.shapeCasts_S2048_S1x2048 (ix2 (0 : Fin 1) k) := by
  rw [val_main_v12_apply, val_main_v11_apply]
  pointwise []
  refine congrArg g (funext fun a => Fin.ext ?_)
  match a with
  | ⟨0, _⟩ => exact hk.symm

theorem v13_at (i : S8x8x2048.Idx) (r : Fin 64) (k : Fin 2048) (hr : r.val = 8 * (i 0).val + (i 1).val) (hk : k.val = (i 2).val) :
    val_main_v13 (F := Ideal) x g i = hn x g (ix2 r k) := by
  rw [val_main_v13_apply, val_main_v10_apply, gain_at g i k hk, v0_at x i r k hr hk, val_main_v9_apply, val_main_v8_apply, val_main_v7_apply, val_main_v5_apply,
    val_main_v3_apply, v2_at x _ r hr, val_main_v4_apply, val_main_v6_apply, val_main_cst_0_apply, val_main_cst_1_apply]
  rfl

theorem v14_at (i : S8x8x6432.Idx) (r : Fin 64) (n : Fin 6432) (hr : r.val = 8 * (i 0).val + (i 1).val) (hn' : n.val = (i 2).val) :
    val_main_v14 (F := Ideal) x g w i = ∑ k : Fin 2048, hn x g (ix2 r k) * w (ix2 k n) := by
  rw [val_main_v14_apply]
  refine Finset.sum_congr rfl fun k _ => congrArg₂ (· * ·) (v13_at x g _ r k hr rfl) (congrArg w (funext fun a => Fin.ext ?_))
  match a with
  | ⟨0, _⟩ => rfl
  | ⟨1, _⟩ => exact hn'.symm

theorem v17_eq : val_main_v17 (F := Ideal) x g w = qk (hn x g) (wQ w) := by
  funext i
  have h0 : (i 0).val < 64 := (i 0).isLt
  have h1 : (i 1).val < 3072 := (i 1).isLt
  rw [val_main_v17_apply, val_main_v15_apply]
  refine (v14_at x g w _ (i 0) ⟨(i 1).val, by omega⟩ ?_ ?_).trans ?_
  · show (i 0).val = 8 * (((i 0).val * 3072 + (i 1).val) / 24576) + ((i 0).val * 3072 + (i 1).val) / 3072 % 8; omega
  · show (i 1).val = ((i 0).val * 3072 + (i 1).val) % 3072; omega
  · exact Finset.sum_congr rfl fun k _ => congrArg (hn x g (ix2 (i 0) k) * ·)
      (extractStridedSlice_apply ![0, 0] w Cert.EvenInSIdeal.Gen.slices_S2048x6432_S2048x3072_0_0 (ix2 k (i 1)) (ix2 k ⟨(i 1).val, by omega⟩) (fun a => match a with
        | ⟨0, _⟩ => by show k.val = 0 + k.val; omega
        | ⟨1, _⟩ => by show (i 1).val = 0 + (i 1).val; omega)).symm

theorem v18_eq : val_main_v18 (F := Ideal) x g w = cut (rp (hn x g) (wR w)) := by
  funext i
  have h0 : (i 0).val < 64 := (i 0).isLt
  have h1 : (i 1).val < 3360 := (i 1).isLt
  rw [val_main_v18_apply, val_main_v16_apply]
  refine (v14_at x g w _ (i 0) ⟨3072 + (i 1).val, by omega⟩ ?_ ?_).trans (cut_eq w (hn x g) i _ rfl).symm
  · show (i 0).val = 8 * (((i 0).val * 3360 + (i 1).val) / 26880) + ((i 0).val * 3360 + (i 1).val) / 3360 % 8; omega
  · show 3072 + (i 1).val = 3072 + ((i 0).val * 3360 + (i 1).val) % 3360; omega

end Cert.EvenInSRefIdeal.Val

end
-- ==== Proof.NOut.lean ====
/-
  THE OUTPUT OF AN EVEN LAYER OVER THE SAMPLES: the attention's and the recurrence's rows side by side, times the weights, on top of the residual; the call's array and
  the reference's result are the same term of the arguments.
-/
module

public import proofs.«01_k».proof.Proof.Gen.EvenOutSIdeal.Frame
public import proofs.«01_k».proof.Proof.Gen.EvenOutSRefIdeal.Read
public import Idealize.ShloMosaic.Lib.Pipeline.ValueKit

@[expose] public section

set_option maxRecDepth 16384

noncomputable section

namespace Cert.EvenOutSIdeal.Val

open Cert.EvenOutSIdeal Cert.EvenOutSIdeal.Gen Idealize.ShloMosaic Idealize.ShloMosaic.TcCoe Idealize.SL.Sem

/-- The weights as the product takes them. -/
def wOut (w : FVec Ideal S2048x2048 .f32) : FVec Ideal S2048x2048 .bf16 := truncf .bf16 w bitsLt_bf16_f32
/-- The two groups of rows side by side. -/
def cat (a b : FVec Ideal S64x1024 .bf16) : FVec Ideal S64x2048 .bf16 :=
  concatenate S64x2048 1 [⟨S64x1024, a⟩, ⟨S64x1024, b⟩] concatenates_S64x1024_S64x1024_S64x2048_d1
/-- The product, added to the residual. -/
def outp (A : FVec Ideal S64x2048 .bf16) (B : FVec Ideal S2048x2048 .bf16) (R : FVec Ideal S64x2048 .f32) : FVec Ideal S64x2048 .f32 := fun i =>
  R (ix2 (i 0) (i 1)) + ∑ k : Fin 2048, A (ix2 (i 0) k) * B (ix2 k (i 1))

variable (m : (ℓ : Loc nD τ sig) → Buf (Elt Ideal) ℓ) (ρ : Dev nD → PrngReg) (c : Dev nD)

theorem idx0 : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

theorem arr : (dats m 0 c).arrAt 3 cfg0.N = outp (V m c main_v1) (V m c main_v0) (V m c main_arg3) := by
  refine (dats m 0 c).arrAt_eq_of_covers 3 _ (by decide +kernel) fun t _ y => ?_
  blk_simp
  rw [after0_3]; frame_out
  pointwise [k0_pay1, outp]
  blk_point [iblk, idx0 t]

theorem v_v0 : V m c main_v0 = wOut (m ((c : Thread nD τ).loc main_arg2)) := by
  show StableHlo.after hostOps0 (fun b => m (c, b)) (Proc.devRef .tc main_v0) = _
  after_results_simp <;> rfl
theorem v_v1 : V m c main_v1 = cat (m ((c : Thread nD τ).loc main_arg0)) (m ((c : Thread nD τ).loc main_arg1)) := by
  show StableHlo.after hostOps0 (fun b => m (c, b)) (Proc.devRef .tc main_v1) = _
  after_results_simp <;> rfl

/-- Every run ends with the result at its term and the arguments as launched. -/
theorem run : θ_run defs (onTc (τ := τ) (main (F := Ideal))) ⟨m, fun _ => 0, ρ⟩ (fun r => ∀ c : Dev nD,
      r.2.mem ((c.tc : Thread nD τ).loc main_v2) = outp (cat (m ((c : Thread nD τ).loc main_arg0)) (m ((c : Thread nD τ).loc main_arg1)))
        (wOut (m ((c : Thread nD τ).loc main_arg2))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans ((arr m c).trans (by rw [v_v0, v_v1, V_main_arg3])),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c)))⟩) (run_main m ρ)

theorem cat_at (a b : FVec Ideal S64x1024 .bf16) (r : Fin 64) (k : Fin 2048) :
    cat a b (ix2 r k) = if h : k.val < 1024 then a (ix2 r (⟨k.val, h⟩ : Fin 1024)) else b (ix2 r (⟨k.val - 1024, by omega⟩ : Fin 1024)) := by
  unfold cat
  split
  · rename_i h
    refine concatenate_pair_apply_left (t := S64x2048) 1 a b _ _ rfl (ix2 r (⟨k.val, h⟩ : Fin 1024)) fun b => ?_
    match b with
    | ⟨0, _⟩ => rfl
    | ⟨1, _⟩ => rfl
  · rename_i h
    refine concatenate_pair_apply_right (t := S64x2048) 1 a b _ _ rfl rfl (ix2 r (⟨k.val - 1024, by omega⟩ : Fin 1024)) (fun b hb => ?_) ?_
    · match b with
      | ⟨0, _⟩ => rfl
      | ⟨1, _⟩ => exact absurd rfl hb
    · show k.val - 1024 + 1024 = k.val; omega

end Cert.EvenOutSIdeal.Val

namespace Cert.EvenOutSRefIdeal.Val

open Cert.EvenOutSRefIdeal Cert.EvenOutSRefIdeal.Gen Cert.EvenOutSRefIdeal.Read Idealize.ShloMosaic Idealize.ShloMosaic.TcCoe Idealize.SL.Sem
open Cert.EvenOutSIdeal.Val

variable (a b : FVec Ideal S64x1024 .bf16) (w : FVec Ideal S2048x2048 .f32) (x : FVec Ideal S64x2048 .f32)

theorem v0_at (i : S8x8x1024.Idx) (r : Fin 64) (k : Fin 1024) (hr : r.val = 8 * (i 0).val + (i 1).val) (hk : k.val = (i 2).val) :
    val_main_v0 (F := Ideal) a i = a (ix2 r k) := by
  have h2 : (i 2).val < 1024 := (i 2).isLt
  rw [val_main_v0_apply]
  refine congrArg a (funext fun b => Fin.ext ?_)
  match b with
  | ⟨0, _⟩ => show (((i 0).val * 8 + (i 1).val) * 1024 + (i 2).val) / 1024 = r.val; omega
  | ⟨1, _⟩ => show (((i 0).val * 8 + (i 1).val) * 1024 + (i 2).val) % 1024 = k.val; omega
theorem v1_at (i : S8x8x1024.Idx) (r : Fin 64) (k : Fin 1024) (hr : r.val = 8 * (i 0).val + (i 1).val) (hk : k.val = (i 2).val) :
    val_main_v1 (F := Ideal) b i = b (ix2 r k) := v0_at b i r k hr hk
theorem v2_at (i : S8x8x2048.Idx) (r : Fin 64) (k : Fin 2048) (hr : r.val = 8 * (i 0).val + (i 1).val) (hk : k.val = (i 2).val) :
    val_main_v2 (F := Ideal) x i = x (ix2 r k) := by
  have h2 : (i 2).val < 2048 := (i 2).isLt
  rw [val_main_v2_apply]
  refine congrArg x (funext fun b => Fin.ext ?_)
  match b with
  | ⟨0, _⟩ => show (((i 0).val * 8 + (i 1).val) * 2048 + (i 2).val) / 2048 = r.val; omega
  | ⟨1, _⟩ => show (((i 0).val * 8 + (i 1).val) * 2048 + (i 2).val) % 2048 = k.val; omega

theorem v3_at (i : S8x8x2048.Idx) (r : Fin 64) (k : Fin 2048) (hr : r.val = 8 * (i 0).val + (i 1).val) (hk : k.val = (i 2).val) :
    val_main_v3 (F := Ideal) a b i = cat a b (ix2 r k) := by
  have h0 : (i 0).val < 8 := (i 0).isLt
  have h1 : (i 1).val < 8 := (i 1).isLt
  rw [cat_at]
  split
  · rename_i h
    refine (concatenate_pair_apply_left (t := S8x8x2048) 2 (val_main_v0 (F := Ideal) a) (val_main_v1 (F := Ideal) b) _ i rfl
      (ix3 (⟨(i 0).val, h0⟩ : Fin 8) (⟨(i 1).val, h1⟩ : Fin 8) (⟨k.val, h⟩ : Fin 1024)) fun b => ?_).trans (v0_at a _ r _ hr rfl)
    match b with
    | ⟨0, _⟩ => rfl
    | ⟨1, _⟩ => rfl
    | ⟨2, _⟩ => exact hk
  · rename_i h
    refine (concatenate_pair_apply_right (t := S8x8x2048) 2 (val_main_v0 (F := Ideal) a) (val_main_v1 (F := Ideal) b) _ i rfl rfl
      (ix3 (⟨(i 0).val, h0⟩ : Fin 8) (⟨(i 1).val, h1⟩ : Fin 8) (⟨k.val - 1024, by omega⟩ : Fin 1024)) (fun b hb => ?_) ?_).trans (v1_at b _ r _ hr rfl)
    · match b with
      | ⟨0, _⟩ => rfl
      | ⟨1, _⟩ => rfl
      | ⟨2, _⟩ => exact absurd rfl hb
    · show k.val - 1024 + 1024 = (i 2).val; omega

theorem v6_eq : val_main_v6 (F := Ideal) a b w x = outp (cat a b) (wOut w) x := by
  funext i
  have h0 : (i 0).val < 64 := (i 0).isLt
  have h1 : (i 1).val < 2048 := (i 1).isLt
  rw [val_main_v6_apply, val_main_v5_apply]
  have a0 : ((idx_main_v6 i) 0).val = (i 0).val / 8 := by
    show ((i 0).val * 2048 + (i 1).val) / 16384 = _; omega
  have a1 : ((idx_main_v6 i) 1).val = (i 0).val % 8 := by
    show ((i 0).val * 2048 + (i 1).val) / 2048 % 8 = _; omega
  have a2 : ((idx_main_v6 i) 2).val = (i 1).val := by
    show ((i 0).val * 2048 + (i 1).val) % 2048 = _
    omega
  rw [v2_at x _ ⟨(i 0).val, h0⟩ ⟨(i 1).val, h1⟩ (by rw [a0, a1]; dsimp only; omega) (by rw [a2]), val_main_v4_apply]
  unfold outp
  show _ + _ = _ + _
  refine congrArg₂ (· + ·) rfl (Finset.sum_congr rfl fun k _ => congrArg₂ (· * ·) (v3_at a b _ ⟨(i 0).val, h0⟩ k ?_ rfl) (congrArg w (funext fun b => Fin.ext ?_)))
  · show (i 0).val = 8 * ((idx_main_v6 i) 0).val + ((idx_main_v6 i) 1).val
    rw [a0, a1]; omega
  · match b with
    | ⟨0, _⟩ => rfl
    | ⟨1, _⟩ => exact a2

end Cert.EvenOutSRefIdeal.Val

end
-- ==== Proof.NPost.lean ====
/-
  THE TAIL OF THE RECURRENCE'S LAYER OVER THE SAMPLES: as over the prompt, on the samples' sixty-four rows.
-/
module

public import proofs.«01_k».proof.Proof.Gen.PostSIdeal.Frame
public import proofs.«01_k».proof.Proof.Gen.PostSRefIdeal.Read
public import proofs.«01_k».proof.Proof.OPost
public import proofs.«01_k».proof.Pre_finite_post_sample
public import proofs.«01_k».proof.Defs

@[expose] public section

set_option maxRecDepth 16384

noncomputable section

namespace Cert.PostSIdeal.Val

open Cert.PostSIdeal Cert.PostSIdeal.Gen Idealize.ShloMosaic Idealize.ShloMosaic.TcCoe Idealize.SL.Sem
open Cert.PostSpec Cert.PrepSpec Cert.PrepIdeal.Val

/-- The kernel's array, of what it reads. -/
def ka (X B G : FVec Ideal S64x1024 .f32) (w b : FVec Ideal S1x1024 .f32) (o : FVec Ideal S1024x1024 .bf16) : FVec Ideal S64x1024 .bf16 := fun i =>
  ktail (fun k => X (ix2 (i 0 : Fin 64) k)) (fun n c => o (ix2 n c)) (w (ix2 (0 : Fin 1) (i 1 : Fin 1024))) (b (ix2 (0 : Fin 1) (i 1 : Fin 1024)))
    (B (ix2 (i 0 : Fin 64) (i 1 : Fin 1024))) (G (ix2 (i 0 : Fin 64) (i 1 : Fin 1024))) (i 1)
/-- The result, of the arguments. -/
def res (X B G : FVec Ideal S64x1024 .f32) (w b : FVec Ideal S1024 .f32) : FVec Ideal S64x1024 .bf16 := fun i =>
  tail (fun k => X (ix2 (i 0 : Fin 64) k)) (w (ix1 (i 1 : Fin 1024))) (b (ix1 (i 1 : Fin 1024)))
    (B (ix2 (i 0 : Fin 64) (i 1 : Fin 1024))) (G (ix2 (i 0 : Fin 64) (i 1 : Fin 1024))) (i 1)

variable (m : (ℓ : Loc nD τ sig) → Buf (Elt Ideal) ℓ) (ρ : Dev nD → PrngReg) (c : Dev nD)

theorem idx0 : ∀ t : Fin cfg0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0] ∧ win0_5.index t = ![0, 0]
    ∧ win0_6.index t = ![(grid0.coords t 0).val, 0] :=
  (by decide +kernel : ∀ t : Fin grid0.N, _)

theorem arr : (dats m 0 c).arrAt 6 cfg0.N = ka (V m c main_arg0) (V m c main_arg1) (V m c main_arg2) (V m c main_v8) (V m c main_v9) (V m c main_v7) := by
  refine (dats m 0 c).arrAt_eq_of_covers 6 _ (by decide +kernel) fun t _ y => ?_
  blk_simp
  rw [after0_6]; frame_out
  pointwise [k0_pay1, ka, ktail, kcen, kmean, hs, c64i, eps]
  blk_point [iblk, idx0 t]

theorem v_v7 : V m c main_v7 = sh := by
  show StableHlo.after (List.flatten [hostOps0, hostOps0_1, hostOps0_2]) (fun b => m (c, b)) (Proc.devRef .tc main_v7) = _
  simp only [hostOps0, hostOps0_1, hostOps0_2, List.flatten_cons, List.flatten_nil, List.append_nil, List.cons_append, List.nil_append]
  after_results_simp <;> rfl
theorem v_v8 : V m c main_v8 = rw1 (m ((c : Thread nD τ).loc main_arg3)) := by
  show StableHlo.after (List.flatten [hostOps0, hostOps0_1, hostOps0_2]) (fun b => m (c, b)) (Proc.devRef .tc main_v8) = _
  simp only [hostOps0, hostOps0_1, hostOps0_2, List.flatten_cons, List.flatten_nil, List.append_nil, List.cons_append, List.nil_append]
  after_results_simp <;> rfl
theorem v_v9 : V m c main_v9 = rw1 (m ((c : Thread nD τ).loc main_arg4)) := by
  show StableHlo.after (List.flatten [hostOps0, hostOps0_1, hostOps0_2]) (fun b => m (c, b)) (Proc.devRef .tc main_v9) = _
  simp only [hostOps0, hostOps0_1, hostOps0_2, List.flatten_cons, List.flatten_nil, List.append_nil, List.cons_append, List.nil_append]
  after_results_simp <;> rfl

theorem ka_at (X : FVec Ideal S64x1024 .f32) (w b : FVec Ideal S1024 .f32) (x g : EReal) (hX : ∀ i, ∃ r : ℝ, X i = (r : EReal)) (R : Fin 64) (c : Fin 1024) :
    ktail (fun k => X (ix2 R k)) (fun n c => sh (ix2 n c)) (rw1 w (ix2 (0 : Fin 1) c)) (rw1 b (ix2 (0 : Fin 1) c)) x g c
      = tail (fun k => X (ix2 R k)) (w (ix1 c)) (b (ix1 c)) x g c := by
  rw [rw1_at, rw1_at]
  exact ktail_eq _ _ (fun k => hX _) (fun n c => sh_at n c) _ _ _ _ c
theorem ka_eq (X B G : FVec Ideal S64x1024 .f32) (w b : FVec Ideal S1024 .f32) (hX : ∀ i, ∃ r : ℝ, X i = (r : EReal)) :
    ka X B G (rw1 w) (rw1 b) sh = res X B G w b := funext fun i => ka_at X w b _ _ hX (i 0) (i 1)

/-- The kernel's run where the precondition holds. -/
theorem run (h : ∀ c : Dev nD, ∀ i, ∃ r : ℝ, (m ((c : Thread nD τ).loc main_arg0) : FVec Ideal S64x1024 .f32) i = (r : EReal)) :
    θ_run defs (onTc (τ := τ) (main (F := Ideal))) ⟨m, fun _ => 0, ρ⟩ (fun r => ∀ c : Dev nD,
      r.2.mem ((c.tc : Thread nD τ).loc main_v10) = res (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h' c => ⟨((h' c).1 6).trans ((arr m c).trans (by
        rw [v_v7, v_v8, v_v9, V_main_arg0, V_main_arg1, V_main_arg2]
        exact ka_eq _ _ _ _ _ (h c))),
      ((h' c).1 0).trans (((dats m 0 c).arrAt_in 0 rfl _).trans ((A_eq m c 0).trans (V_main_arg0 m c))),
      ((h' c).1 1).trans (((dats m 0 c).arrAt_in 1 rfl _).trans ((A_eq m c 1).trans (V_main_arg1 m c))),
      ((h' c).1 2).trans (((dats m 0 c).arrAt_in 2 rfl _).trans ((A_eq m c 2).trans (V_main_arg2 m c))),
      ((h' c).2 main_arg3 (Pipeline.mem_restRefs_of main_arg3 (by decide) (by decide))).trans (V_main_arg3 m c),
      ((h' c).2 main_arg4 (Pipeline.mem_restRefs_of main_arg4 (by decide) (by decide))).trans (V_main_arg4 m c)⟩) (run_main m ρ)

end Cert.PostSIdeal.Val

namespace Cert.PostSRefIdeal.Val

open Cert.PostSRefIdeal Cert.PostSRefIdeal.Gen Cert.PostSRefIdeal.Read Idealize.ShloMosaic Idealize.ShloMosaic.TcCoe Idealize.SL.Sem
open Cert.PostSpec Cert.PrepSpec

variable (x0 x1 x2 : FVec Ideal S64x1024 .f32) (x3 x4 : FVec Ideal S1024 .f32)

section head
variable (i : S8x8x16x64.Idx) (R : Fin 64) (c : Fin 1024) (hr : R.val = 8 * (i 0).val + (i 1).val) (hc : c.val = 64 * (i 2).val + (i 3).val)
include hr hc

theorem v0_at : val_main_v0 (F := Ideal) x0 i = x0 (ix2 R c) := by
  have h0 : (i 0).val < 8 := (i 0).isLt
  have h1 : (i 1).val < 8 := (i 1).isLt
  have h2 : (i 2).val < 16 := (i 2).isLt
  have h3 : (i 3).val < 64 := (i 3).isLt
  rw [val_main_v0_apply]
  refine congrArg x0 (funext fun b => Fin.ext ?_)
  match b with
  | ⟨0, _⟩ => show ((((i 0).val * 8 + (i 1).val) * 16 + (i 2).val) * 64 + (i 3).val) / 1024 = R.val; omega
  | ⟨1, _⟩ => show ((((i 0).val * 8 + (i 1).val) * 16 + (i 2).val) * 64 + (i 3).val) % 1024 = c.val; omega
theorem v1_at : val_main_v1 (F := Ideal) x1 i = x1 (ix2 R c) := v0_at x1 i R c hr hc
end head

theorem mean_at (j : S8x8x16x1.Idx) (R : Fin 64) (h : Fin 16) (hr : R.val = 8 * (j 0).val + (j 1).val) (hh : h.val = (j 2).val) :
    val_main_v6 (F := Ideal) x0 j = mean (fun k => x0 (ix2 R k)) h := by
  rw [val_main_v6_apply, val_main_v4_apply, val_main_v5_apply, val_main_cst_0_apply, val_main_v3_apply, val_main_cst_apply]
  refine congrArg (fun s => Ideal.div s c64) ?_
  refine (congrArg (· + _) ze).trans ((zero_add _).trans (Finset.sum_congr rfl fun k _ => v0_at x0 _ R _ hr ?_))
  show 64 * h.val + k.val = 64 * (j 2).val + k.val
  rw [hh]

theorem hdc_of (i : S8x8x16x64.Idx) (c : Fin 1024) (hc : c.val = 64 * (i 2).val + (i 3).val) : (hdc c).val = (i 2).val := by
  have h3 : (i 3).val < 64 := (i 3).isLt
  show c.val / 64 = _
  omega

section head
variable (i : S8x8x16x64.Idx) (R : Fin 64) (c : Fin 1024) (hr : R.val = 8 * (i 0).val + (i 1).val) (hc : c.val = 64 * (i 2).val + (i 3).val)
include hr hc
theorem v8_at : val_main_v8 (F := Ideal) x0 i = cen (fun k => x0 (ix2 R k)) c := by
  rw [val_main_v8_apply, v0_at x0 i R c hr hc, val_main_v7_apply, mean_at x0 _ R (hdc c) hr (hdc_of i c hc)]
  rfl
theorem v15_at : val_main_v15 (F := Ideal) x0 i = cen (fun k => x0 (ix2 R k)) c := by
  rw [val_main_v15_apply, v0_at x0 i R c hr hc, val_main_v14_apply, mean_at x0 _ R (hdc c) hr (hdc_of i c hc)]
  rfl
end head

theorem var_at (j : S8x8x16x1.Idx) (R : Fin 64) (h : Fin 16) (hr : R.val = 8 * (j 0).val + (j 1).val) (hh : h.val = (j 2).val) :
    val_main_v13 (F := Ideal) x0 j = mean (fun k => cen (fun k => x0 (ix2 R k)) k * cen (fun k => x0 (ix2 R k)) k) h := by
  rw [val_main_v13_apply, val_main_v11_apply, val_main_v12_apply, val_main_cst_2_apply, val_main_v10_apply, val_main_cst_1_apply]
  refine congrArg (fun s => Ideal.div s c64) ?_
  refine (congrArg (· + _) ze).trans ((zero_add _).trans (Finset.sum_congr rfl fun k _ => ?_))
  have e := v8_at x0 (idx_main_v10 (idx_main_v11 j) k) R ⟨64 * h.val + k.val, by omega⟩ hr (by show 64 * h.val + k.val = 64 * (j 2).val + k.val; rw [hh])
  rw [val_main_v9_apply, e]
  rfl

theorem v20_at (i : S8x8x16x64.Idx) (R : Fin 64) (c : Fin 1024) (hr : R.val = 8 * (i 0).val + (i 1).val) (hc : c.val = 64 * (i 2).val + (i 3).val) :
    val_main_v20 (F := Ideal) x0 i = cen (fun k => x0 (ix2 R k)) c
      * Ideal.rsqrt (mean (fun k => cen (fun k => x0 (ix2 R k)) k * cen (fun k => x0 (ix2 R k)) k) (hdc c) + eps) := by
  rw [val_main_v20_apply, v15_at x0 i R c hr hc, val_main_v19_apply, val_main_v18_apply, val_main_v17_apply, var_at x0 _ R (hdc c) hr (hdc_of i c hc), val_main_v16_apply]
  rfl

theorem v32_at (R : Fin 64) (c : Fin 1024) : val_main_v32 (F := Ideal) x0 x1 x2 x3 x4 (ix2 R c)
    = tail (fun k => x0 (ix2 R k)) (x3 (ix1 c)) (x4 (ix1 c)) (x1 (ix2 R c)) (x2 (ix2 R c)) c := by
  rw [val_main_v32_apply, val_main_v31_apply, val_main_v30_apply, val_main_v29_apply, val_main_v27_apply, val_main_v24_apply, val_main_v21_apply, val_main_v28_apply]
  have a0 : ((idx_main_v31 (ix2 R c)) 0).val = R.val / 8 := by show (R.val * 1024 + c.val) / 8192 = _; omega
  have a1 : ((idx_main_v31 (ix2 R c)) 1).val = R.val % 8 := by show (R.val * 1024 + c.val) / 1024 % 8 = _; omega
  have a2 : ((idx_main_v31 (ix2 R c)) 2).val = c.val := by show (R.val * 1024 + c.val) % 1024 = _; omega
  generalize idx_main_v31 (ix2 R c) = j at a0 a1 a2
  have hR : R.val < 64 := R.isLt
  have hC : c.val < 1024 := c.isLt
  have hr : R.val = 8 * ((idx_main_v21 j) 0).val + ((idx_main_v21 j) 1).val := by
    show R.val = 8 * ((((j 0).val * 8 + (j 1).val) * 1024 + (j 2).val) / 8192) + (((j 0).val * 8 + (j 1).val) * 1024 + (j 2).val) / 1024 % 8
    rw [a0, a1, a2]; omega
  have hc : c.val = 64 * ((idx_main_v21 j) 2).val + ((idx_main_v21 j) 3).val := by
    show c.val = 64 * ((((j 0).val * 8 + (j 1).val) * 1024 + (j 2).val) / 64 % 16) + (((j 0).val * 8 + (j 1).val) * 1024 + (j 2).val) % 64
    rw [a0, a1, a2]; omega
  have e2 : val_main_v2 (F := Ideal) x2 j = x2 (ix2 R c) := by
    rw [val_main_v2_apply]
    refine congrArg x2 (funext fun b => Fin.ext ?_)
    match b with
    | ⟨0, _⟩ => show (((j 0).val * 8 + (j 1).val) * 1024 + (j 2).val) / 1024 = R.val; rw [a0, a1, a2]; omega
    | ⟨1, _⟩ => show (((j 0).val * 8 + (j 1).val) * 1024 + (j 2).val) % 1024 = c.val; rw [a0, a1, a2]; omega
  have e3 : val_main_v23 (F := Ideal) x3 j = x3 (ix1 c) := by
    rw [val_main_v23_apply, val_main_v22_apply]
    refine congrArg x3 (funext fun b => Fin.ext ?_)
    match b with
    | ⟨0, _⟩ => exact a2
  have e4 : val_main_v26 (F := Ideal) x4 j = x4 (ix1 c) := by
    rw [val_main_v26_apply, val_main_v25_apply]
    refine congrArg x4 (funext fun b => Fin.ext ?_)
    match b with
    | ⟨0, _⟩ => exact a2
  rw [e2, e3, e4, v20_at x0 _ R c hr hc, v1_at x1 _ R c hr hc]
  rfl

theorem ref_eq : val_main_v32 (F := Ideal) x0 x1 x2 x3 x4 = Cert.PostSIdeal.Val.res x0 x1 x2 x3 x4 := funext fun i => by
  have e : (ix2 (i 0 : Fin 64) (i 1 : Fin 1024) : S64x1024.Idx) = i := funext fun a => match a with
    | ⟨0, _⟩ => rfl
    | ⟨1, _⟩ => rfl
  rw [← e]
  exact v32_at x0 x1 x2 x3 x4 (i 0) (i 1)

end Cert.PostSRefIdeal.Val

namespace Cert.Pre_finite_post_sample.Val

/-- The predicate's shape condition. -/
instance facts : Cert.Pre_finite_post_sample.Facts := ⟨by decide⟩

end Cert.Pre_finite_post_sample.Val

namespace Cert.Proof

open Idealize.ShloMosaic Idealize.ShloMosaic.TcCoe Idealize.SL.Sem

/-- The tail of the recurrence's layer over the samples, where the recurrence's output is finite. -/
theorem post_sample_claim : Cert.algebraic_PostSIdeal_PostSRefIdeal_pre_finite_post_sample := fun m g m' g' hpre hag =>
  ⟨_, Cert.PostSIdeal.Val.run m g (fun c i => Cert.Pre_finite_inputs.Val.real_of_cmp (congrFun (hpre c) i)),
    (θ_run _ _ _).mono (fun _ h c => ⟨
      (h c).1.trans (by
        rw [Cert.PostSRefIdeal.Read.val_main_v32_eq, (hag c).1, (hag c).2.1, (hag c).2.2.1, (hag c).2.2.2.1, (hag c).2.2.2.2]
        exact Cert.PostSRefIdeal.Val.ref_eq _ _ _ _ _),
      (h c).2⟩) (Cert.PostSRefIdeal.Value.run m' g')⟩

theorem post_sample_ref_frame : Cert.quiescent_PostSRefIdeal := fun m g _ =>
  (θ_run Cert.PostSRefIdeal.defs _ _).mono (fun r h => ⟨fun c => (h c).2, sem_eq_zero_of_no_sems (by decide) r.2⟩)
    (Cert.PostSRefIdeal.Value.run (F := Ideal) m g)

end Cert.Proof

end
-- ==== Proof.NFinal.lean ====
/-
  THE LAST NORM OVER THE SAMPLES: every row scaled by the reciprocal root of its mean square, times the gain, the rows cut in batches; the call's array
  and the reference's result are the same term of the arguments.
-/
module

public import proofs.«01_k».proof.Proof.Gen.FinalSIdeal.Frame
public import proofs.«01_k».proof.Proof.Gen.FinalSRefIdeal.Read
public import Idealize.ShloMosaic.Lib.Pipeline.ValueKit
public import proofs.«01_k».proof.Defs

@[expose] public section

set_option maxRecDepth 16384

noncomputable section

namespace Cert.FinalSIdeal.Val

open Cert.FinalSIdeal Cert.FinalSIdeal.Gen Idealize.ShloMosaic Idealize.ShloMosaic.TcCoe Idealize.SL.Sem

/-- A row scaled by the reciprocal root of its mean square, times the gain. -/
def rows (X : FVec Ideal S64x2048 .f32) (g : FVec Ideal S1x2048 .f32) : FVec Ideal S64x2048 .f32 := fun i =>
  X (ix2 (i 0) (i 1)) * Ideal.rsqrt (Ideal.div (∑ k : Fin 2048, X (ix2 (i 0) k) * X (ix2 (i 0) k)) (Ideal.ofBits .f32 0x45000000#32) + Ideal.ofBits .f32 0x358637BD#32)
    * g (ix2 (0 : Fin 1) (i 1))
/-- The gain as the call takes it. -/
def gain (g : FVec Ideal S2048 .f32) : FVec Ideal S1x2048 .f32 := shapeCast S1x2048 g shapeCasts_S2048_S1x2048
/-- The result: the rows, cut in batches. -/
def res (X : FVec Ideal S64x2048 .f32) (g : FVec Ideal S2048 .f32) : FVec Ideal S8x8x2048 .f32 :=
  shapeCast S8x8x2048 (rows X (gain g)) shapeCasts_S64x2048_S8x8x2048

variable (m : (ℓ : Loc nD τ sig) → Buf (Elt Ideal) ℓ) (ρ : Dev nD → PrngReg) (c : Dev nD)

theorem idx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)

theorem arr : (dats m 0 c).arrAt 2 cfg0.N = rows (V m c main_arg0) (V m c main_v0) := by
  refine (dats m 0 c).arrAt_eq_of_covers 2 _ (by decide +kernel) fun t _ y => ?_
  blk_simp
  rw [after0_2]; frame_out
  pointwise [k0_pay1, rows]
  blk_point [iblk, idx0 t]

theorem v_v0 : V m c main_v0 = gain (m ((c : Thread nD τ).loc main_arg1)) := by
  show StableHlo.after hostOps0 (fun b => m (c, b)) (Proc.devRef .tc main_v0) = _
  after_results_simp <;> rfl

theorem tail_v2 : Pipeline.afterTail₀ cfgs (dats m) 0 (V0 m) [hostOps1] c main_v2
    = res (m ((c : Thread nD τ).loc main_arg0)) (m ((c : Thread nD τ).loc main_arg1)) := by
  have e : Pipeline.withArrays (cfgs 0).spec c (V0 m c) (fun w => (dats m 0 c).arrAt w (cfgs 0).N) (Proc.devRef .tc main_v1)
      = rows (m ((c : Thread nD τ).loc main_arg0)) (gain (m ((c : Thread nD τ).loc main_arg1))) :=
    (Pipeline.withArrays_arr spec0 launch0.win.arr_inj c _ _ 2).trans ((arr m c).trans (by rw [v_v0, V_main_arg0]))
  unfold Pipeline.afterTail₀ res
  rw [← e]
  simp only [hostOps1, List.flatten_cons, List.flatten_nil, List.append_nil]
  generalize Pipeline.withArrays (cfgs 0).spec c (V0 m c) (fun w => (dats m 0 c).arrAt w (cfgs 0).N) = U
  after_results_simp <;> rfl

/-- Every run ends with the result at its term and the arguments as launched. -/
theorem run : θ_run defs (onTc (τ := τ) (main (F := Ideal))) ⟨m, fun _ => 0, ρ⟩ (fun r => ∀ c : Dev nD,
      r.2.mem ((c.tc : Thread nD τ).loc main_v2) = res (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v2 (Pipeline.mem_restRefs_of main_v2 (by decide) (by decide))).trans (tail_v2 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩) (run_main m ρ)

end Cert.FinalSIdeal.Val

namespace Cert.FinalSRefIdeal.Val

open Cert.FinalSRefIdeal Cert.FinalSRefIdeal.Gen Cert.FinalSRefIdeal.Read Idealize.ShloMosaic Idealize.ShloMosaic.TcCoe Idealize.SL.Sem
open Cert.FinalSIdeal.Val

variable (x : FVec Ideal S64x2048 .f32) (g : FVec Ideal S2048 .f32)

theorem zlit : (FloatOps.ofBits .f32 0x00000000#32 : Ideal .f32) = 0 := Ideal.ofBits_zero .f32

theorem v0_at (i : S8x8x2048.Idx) (r : Fin 64) (k : Fin 2048) (hr : r.val = 8 * (i 0).val + (i 1).val) (hk : k.val = (i 2).val) :
    val_main_v0 (F := Ideal) x i = x (ix2 r k) := by
  have h2 : (i 2).val < 2048 := (i 2).isLt
  rw [val_main_v0_apply]
  refine congrArg x (funext fun a => Fin.ext ?_)
  match a with
  | ⟨0, _⟩ => show (((i 0).val * 8 + (i 1).val) * 2048 + (i 2).val) / 2048 = r.val; omega
  | ⟨1, _⟩ => show (((i 0).val * 8 + (i 1).val) * 2048 + (i 2).val) % 2048 = k.val; omega

theorem v2_at (i : S8x8.Idx) (r : Fin 64) (hr : r.val = 8 * (i 0).val + (i 1).val) :
    val_main_v2 (F := Ideal) x i = ∑ k : Fin 2048, x (ix2 r k) * x (ix2 r k) := by
  rw [val_main_v2_apply, val_main_cst_apply, zlit, zero_add]
  refine Finset.sum_congr rfl fun k _ => ?_
  rw [val_main_v1_apply, v0_at x _ r k hr rfl]
  rfl

theorem gain_at (i : S8x8x2048.Idx) (k : Fin 2048) (hk : k.val = (i 2).val) : val_main_v12 (F := Ideal) g i = gain g (ix2 (0 : Fin 1) k) := by
  rw [val_main_v12_apply, val_main_v11_apply]
  pointwise [gain]
  refine congrArg g (funext fun a => Fin.ext ?_)
  match a with
  | ⟨0, _⟩ => exact hk.symm

theorem v13_at (i : S8x8x2048.Idx) (r : Fin 64) (k : Fin 2048) (hr : r.val = 8 * (i 0).val + (i 1).val) (hk : k.val = (i 2).val) :
    val_main_v13 (F := Ideal) x g i = rows x (gain g) (ix2 r k) := by
  rw [val_main_v13_apply, val_main_v10_apply, gain_at g i k hk, v0_at x i r k hr hk, val_main_v9_apply, val_main_v8_apply, val_main_v7_apply, val_main_v5_apply,
    val_main_v3_apply, v2_at x _ r hr, val_main_v4_apply, val_main_v6_apply, val_main_cst_0_apply, val_main_cst_1_apply]
  rfl

theorem ref_eq : val_main_v13 (F := Ideal) x g = res x g := funext fun i => by
  have h0 : (i 0).val < 8 := (i 0).isLt
  have h1 : (i 1).val < 8 := (i 1).isLt
  have h2 : (i 2).val < 2048 := (i 2).isLt
  exact (v13_at x g i ⟨8 * (i 0).val + (i 1).val, by omega⟩ ⟨(i 2).val, h2⟩ rfl rfl).trans
    (v0_at (rows x (gain g)) i ⟨8 * (i 0).val + (i 1).val, by omega⟩ ⟨(i 2).val, h2⟩ rfl rfl).symm

end Cert.FinalSRefIdeal.Val

namespace Cert.Proof

open Idealize.ShloMosaic Idealize.ShloMosaic.TcCoe Idealize.SL.Sem

/-- The last norm over the samples. -/
theorem final_sample_claim : Cert.algebraic_FinalSIdeal_FinalSRefIdeal := fun m g m' g' _ hag =>
  ⟨_, Cert.FinalSIdeal.Val.run m g,
    (θ_run _ _ _).mono (fun _ h c => ⟨
      (h c).1.trans (by
        rw [Cert.FinalSRefIdeal.Read.val_main_v13_eq, (hag c).1, (hag c).2]
        exact Cert.FinalSRefIdeal.Val.ref_eq _ _),
      (h c).2⟩) (Cert.FinalSRefIdeal.Value.run m' g')⟩

theorem final_sample_ref_frame : Cert.quiescent_FinalSRefIdeal := fun m g _ =>
  (θ_run Cert.FinalSRefIdeal.defs _ _).mono (fun r h => ⟨fun c => (h c).2, sem_eq_zero_of_no_sems (by decide) r.2⟩)
    (Cert.FinalSRefIdeal.Value.run (F := Ideal) m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.PostRefIdeal.Run
public import proofs.«01_k».proof.Proof.Gen.PostRefIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.Short
public import proofs.«01_k».proof.Proof.Gen.Short.Skeleton
public import proofs.«01_k».proof.Proof.Gen.Short.Launch
public import proofs.«01_k».proof.Proof.Gen.Short.Points
public import proofs.«01_k».proof.Proof.Gen.Short.Frame
public import proofs.«01_k».proof.Proof.Gen.ShortIdeal
public import proofs.«01_k».proof.Proof.Gen.ShortIdeal.Skeleton
public import proofs.«01_k».proof.Proof.Gen.ShortIdeal.Launch
public import proofs.«01_k».proof.Proof.Gen.ShortIdeal.Points
public import proofs.«01_k».proof.Proof.Gen.ShortIdeal.Frame
public import proofs.«01_k».proof.Proof.Gen.ShortRefIdeal
public import proofs.«01_k».proof.Proof.Gen.ShortRefIdeal.Run
public import proofs.«01_k».proof.Proof.Gen.ShortRefIdeal.Read
public import proofs.«01_k».proof.Proof.Gen.EvenInS
public import proofs.«01_k».proof.Proof.Gen.EvenInS.Skeleton
public import proofs.«01_k».proof.Proof.Gen.EvenInS.Launch
public import proofs.«01_k».proof.Proof.Gen.EvenInS.Points
public import proofs.«01_k».proof.Proof.Gen.EvenInS.Frame
public import proofs.«01_k».proof.Proof.Gen.EvenInSIdeal
public import proofs.«01_k».proof.Proof.Gen.EvenInSIdeal.Skeleton
public import proofs.«01_k».proof.Proof.Gen.EvenInSIdeal.Launch
public import proofs.«01_k».proof.Proof.Gen.EvenInSIdeal.Points
public import proofs.«01_k».proof.Proof.Gen.EvenInSIdeal.Frame
public import proofs.«01_k».proof.Proof.Gen.EvenInSRefIdeal
public import proofs.«01_k».proof.Proof.Gen.EvenInSRefIdeal.Run
public import proofs.«01_k».proof.Proof.Gen.EvenInSRefIdeal.Read
public import proofs.«01_k».proof.Proof.Gen.EvenOutS
public import proofs.«01_k».proof.Proof.Gen.EvenOutS.Skeleton
public import proofs.«01_k».proof.Proof.Gen.EvenOutS.Launch
public import proofs.«01_k».proof.Proof.Gen.EvenOutS.Points
public import proofs.«01_k».proof.Proof.Gen.EvenOutS.Frame
public import proofs.«01_k».proof.Proof.Gen.EvenOutSIdeal
public import proofs.«01_k».proof.Proof.Gen.EvenOutSIdeal.Skeleton
public import proofs.«01_k».proof.Proof.Gen.EvenOutSIdeal.Launch
public import proofs.«01_k».proof.Proof.Gen.EvenOutSIdeal.Points
public import proofs.«01_k».proof.Proof.Gen.EvenOutSIdeal.Frame
public import proofs.«01_k».proof.Proof.Gen.EvenOutSRefIdeal
public import proofs.«01_k».proof.Proof.Gen.EvenOutSRefIdeal.Run
public import proofs.«01_k».proof.Proof.Gen.EvenOutSRefIdeal.Read
public import proofs.«01_k».proof.Proof.Gen.PostS
public import proofs.«01_k».proof.Proof.Gen.PostS.Skeleton
public import proofs.«01_k».proof.Proof.Gen.PostS.Launch
public import proofs.«01_k».proof.Proof.Gen.PostS.Points
public import proofs.«01_k».proof.Proof.Gen.PostS.Frame
public import proofs.«01_k».proof.Proof.Gen.PostSIdeal
public import proofs.«01_k».proof.Proof.Gen.PostSIdeal.Skeleton
public import proofs.«01_k».proof.Proof.Gen.PostSIdeal.Launch
public import proofs.«01_k».proof.Proof.Gen.PostSIdeal.Points
public import proofs.«01_k».proof.Proof.Gen.PostSIdeal.Frame
public import proofs.«01_k».proof.Proof.Gen.PostSRefIdeal
public import proofs.«01_k».proof.Proof.Gen.PostSRefIdeal.Run
public import proofs.«01_k».proof.Proof.Gen.PostSRefIdeal.Read
public import proofs.«01_k».proof.Proof.Gen.FinalS
public import proofs.«01_k».proof.Proof.Gen.FinalS.Skeleton
public import proofs.«01_k».proof.Proof.Gen.FinalS.Launch
public import proofs.«01_k».proof.Proof.Gen.FinalS.Points
public import proofs.«01_k».proof.Proof.Gen.FinalS.Frame
public import proofs.«01_k».proof.Proof.Gen.FinalSIdeal
public import proofs.«01_k».proof.Proof.Gen.FinalSIdeal.Skeleton
public import proofs.«01_k».proof.Proof.Gen.FinalSIdeal.Launch
public import proofs.«01_k».proof.Proof.Gen.FinalSIdeal.Points
public import proofs.«01_k».proof.Proof.Gen.FinalSIdeal.Frame
public import proofs.«01_k».proof.Proof.Gen.FinalSRefIdeal
public import proofs.«01_k».proof.Proof.Gen.FinalSRefIdeal.Run
public import proofs.«01_k».proof.Proof.Gen.FinalSRefIdeal.Read
public import proofs.«01_k».proof.Proof.PFrameBits
public import proofs.«01_k».proof.Proof.PRun
public import proofs.«01_k».proof.Proof.Gen.PrepRefIdeal.Read
public import proofs.«01_k».proof.Proof.Gen.PrepRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpRefIdeal
public import proofs.«01_k».proof.Proof.Gen.GmlpRefIdeal.Run
public import proofs.«01_k».proof.Proof.Gen.GmlpRefIdeal.Read
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInRefIdeal
public import proofs.«01_k».proof.Proof.Gen.EvenInRefIdeal.Run
public import proofs.«01_k».proof.Proof.Gen.EvenInRefIdeal.Read
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutRefIdeal
public import proofs.«01_k».proof.Proof.Gen.EvenOutRefIdeal.Run
public import proofs.«01_k».proof.Proof.Gen.EvenOutRefIdeal.Read
public import proofs.«01_k».proof.Proof.KPre
public import proofs.«01_k».proof.Proof.FRef
public import proofs.«01_k».proof.Proof.GRef
public import proofs.«01_k».proof.Proof.EInRef
public import proofs.«01_k».proof.Proof.EOut
public import proofs.«01_k».proof.Proof.OPost
public import proofs.«01_k».proof.Proof.OFinal
public import proofs.«01_k».proof.Proof.SRef
public import proofs.«01_k».proof.Proof.NInRef
public import proofs.«01_k».proof.Proof.NOut
public import proofs.«01_k».proof.Proof.NPost
public import proofs.«01_k».proof.Proof.NFinal
public import Idealize.ShloMosaic.Adequacy
public import Idealize.ShloMosaic.Init

@[expose] public section

noncomputable section

namespace Cert.Proof

open Idealize.ShloMosaic Idealize.SL.Sem Cert.Kernel

/-- The attention over the prompt: what the kernel leaves is what the reference leaves. -/
theorem sb_claim :
    Cert.algebraic_KernelIdeal_ReferenceIdeal_pre_finite_inputs := fun m g m' g' hpre hag =>
  have hX := fun c => Cert.Pre_finite_inputs.Val.scores_real _ _ (hpre c).1 (hpre c).2
  ⟨fun c => Cert.KernelIdeal.Val.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run _ _ _).mono (fun _ h c => ⟨(h c).1.trans (Cert.KernelIdeal.Val.final m c (hX c)), (h c).2⟩) (Cert.KernelIdeal.Value.run_blocks m g),
    (θ_run _ _ _).mono (fun _ h c => ⟨(h c).1.trans (by
      rw [Cert.ReferenceIdeal.Read.val_main_v31_eq, (hag c).1, (hag c).2]
      exact Cert.ReferenceIdeal.Val.v31_eq _ _ (hX c)), (h c).2⟩) (Cert.ReferenceIdeal.Value.run m' g')⟩

/-- The reference ends with its arguments unchanged; it has no semaphores. -/
theorem ref_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The gated ConvFFN of a layer over the prompt: the four calls leave the next residual stream and the last two up-projected rows of the reference. -/
theorem ffn_claim : Cert.algebraic_FfnIdeal_FfnRefIdeal := fun m g m' g' _ hag =>
  ⟨_, _,
    Cert.FfnIdeal.Val.run m g,
    (θ_run _ _ _).mono (fun _ h c => ⟨(h c).1.trans (by
      rw [Cert.FfnRefIdeal.Read.val_main_v49_eq, (hag c).1, (hag c).2.1, (hag c).2.2.1, (hag c).2.2.2.1, (hag c).2.2.2.2.1, (hag c).2.2.2.2.2]
      exact Cert.FfnRefIdeal.Val.v49_eq _ _ _ _ _ _), (h c).2.1.trans (by
      rw [Cert.FfnRefIdeal.Read.val_main_v47_eq, (hag c).1, (hag c).2.1, (hag c).2.2.1]
      exact Cert.FfnRefIdeal.Val.v47_eq _ _ _), (h c).2.2⟩) (Cert.FfnRefIdeal.Value.run m' g')⟩

theorem ffn_ref_frame : Cert.quiescent_FfnRefIdeal := fun m g _ =>
  (θ_run Cert.FfnRefIdeal.defs _ _).mono (fun r h => ⟨fun c => (h c).2.2, sem_eq_zero_of_no_sems (by decide) r.2⟩)
    (Cert.FfnRefIdeal.Value.run (F := Ideal) m g)

/-- The mixer of an odd layer over the prompt: the four calls leave the reference's next residual stream. -/
theorem gmlp_claim : Cert.algebraic_GmlpIdeal_GmlpRefIdeal := fun m g m' g' _ hag =>
  ⟨_,
    Cert.GmlpIdeal.Val.run m g,
    (θ_run _ _ _).mono (fun _ h c => ⟨(h c).1.trans (by
      rw [Cert.GmlpRefIdeal.Read.val_main_v68_eq, (hag c).1, (hag c).2.1, (hag c).2.2.1, (hag c).2.2.2.1, (hag c).2.2.2.2.1, (hag c).2.2.2.2.2.1, (hag c).2.2.2.2.2.2.1,
        (hag c).2.2.2.2.2.2.2]
      exact Cert.GmlpRefIdeal.Val.v68_eq _ _ _ _ _ _ _ _), (h c).2⟩) (Cert.GmlpRefIdeal.Value.run m' g')⟩

theorem gmlp_ref_frame : Cert.quiescent_GmlpRefIdeal := fun m g _ =>
  (θ_run Cert.GmlpRefIdeal.defs _ _).mono (fun r h => ⟨fun c => (h c).2, sem_eq_zero_of_no_sems (by decide) r.2⟩)
    (Cert.GmlpRefIdeal.Value.run (F := Ideal) m g)

/-- The input projections of an even layer over the prompt: the attention's columns and the recurrence's columns of the reference's one product. -/
theorem even_in_claim : Cert.algebraic_EvenInIdeal_EvenInRefIdeal := fun m g m' g' _ hag =>
  ⟨_, _,
    Cert.EvenInIdeal.Val.run m g,
    (θ_run _ _ _).mono (fun _ h c => ⟨(h c).1.trans (by
      rw [(hag c).1, (hag c).2.1, (hag c).2.2]
      exact (Cert.EvenInRefIdeal.Read.val_main_v17_eq _ _ _).trans (Cert.EvenInRefIdeal.Val.v17_eq _ _ _)), (h c).2.1.trans (by
      rw [(hag c).1, (hag c).2.1, (hag c).2.2]
      exact (Cert.EvenInRefIdeal.Read.val_main_v18_eq _ _ _).trans (Cert.EvenInRefIdeal.Val.v18_eq _ _ _)), (h c).2.2⟩) (Cert.EvenInRefIdeal.Value.run m' g')⟩

theorem even_in_ref_frame : Cert.quiescent_EvenInRefIdeal := fun m g _ =>
  (θ_run Cert.EvenInRefIdeal.defs _ _).mono (fun r h => ⟨fun c => (h c).2.2, sem_eq_zero_of_no_sems (by decide) r.2⟩)
    (Cert.EvenInRefIdeal.Value.run (F := Ideal) m g)

/-- The output projection of an even layer over the prompt, with the residual. -/
theorem even_out_claim : Cert.algebraic_EvenOutIdeal_EvenOutRefIdeal := fun m g m' g' _ hag =>
  ⟨_,
    Cert.EvenOutIdeal.Val.run m g,
    (θ_run _ _ _).mono (fun _ h c => ⟨(h c).1.trans (by
      rw [(hag c).1, (hag c).2.1, (hag c).2.2.1, (hag c).2.2.2]
      exact (Cert.EvenOutRefIdeal.Read.val_main_v6_eq _ _ _ _).trans (Cert.EvenOutRefIdeal.Val.v6_eq _ _ _ _)), (h c).2⟩) (Cert.EvenOutRefIdeal.Value.run m' g')⟩

theorem even_out_ref_frame : Cert.quiescent_EvenOutRefIdeal := fun m g _ =>
  (θ_run Cert.EvenOutRefIdeal.defs _ _).mono (fun r h => ⟨fun c => (h c).2, sem_eq_zero_of_no_sems (by decide) r.2⟩)
    (Cert.EvenOutRefIdeal.Value.run (F := Ideal) m g)

/-- The mixer of an odd layer over the samples: the four calls leave the next residual stream and the normed rows of the reference. -/
theorem short_claim : Cert.algebraic_ShortIdeal_ShortRefIdeal := fun m g m' g' _ hag =>
  ⟨_, _,
    Cert.ShortIdeal.Val.run m g,
    (θ_run _ _ _).mono (fun _ h c => ⟨(h c).1.trans (by
      rw [Cert.ShortRefIdeal.Read.val_main_v70_eq, (hag c).1, (hag c).2.1, (hag c).2.2.1, (hag c).2.2.2.1, (hag c).2.2.2.2.1, (hag c).2.2.2.2.2.1, (hag c).2.2.2.2.2.2.1, (hag c).2.2.2.2.2.2.2]
      exact Cert.ShortRefIdeal.Val.v70_eq _ _ _ _ _ _ _ _), (h c).2.1.trans (by
      rw [Cert.ShortRefIdeal.Read.val_main_v53_eq, (hag c).1, (hag c).2.1, (hag c).2.2.1, (hag c).2.2.2.1, (hag c).2.2.2.2.1]
      exact Cert.ShortRefIdeal.Val.v53_eq _ _ _ _ _), (h c).2.2⟩) (Cert.ShortRefIdeal.Value.run m' g')⟩

theorem short_ref_frame : Cert.quiescent_ShortRefIdeal := fun m g _ =>
  (θ_run Cert.ShortRefIdeal.defs _ _).mono (fun r h => ⟨fun c => (h c).2.2, sem_eq_zero_of_no_sems (by decide) r.2⟩)
    (Cert.ShortRefIdeal.Value.run (F := Ideal) m g)

/-- The input projections of an even layer over the samples: the attention's columns and the recurrence's columns of the reference's one product. -/
theorem even_in_sample_claim : Cert.algebraic_EvenInSIdeal_EvenInSRefIdeal := fun m g m' g' _ hag =>
  ⟨_, _,
    Cert.EvenInSIdeal.Val.run m g,
    (θ_run _ _ _).mono (fun _ h c => ⟨(h c).1.trans (by
      rw [(hag c).1, (hag c).2.1, (hag c).2.2]
      exact (Cert.EvenInSRefIdeal.Read.val_main_v17_eq _ _ _).trans (Cert.EvenInSRefIdeal.Val.v17_eq _ _ _)), (h c).2.1.trans (by
      rw [(hag c).1, (hag c).2.1, (hag c).2.2]
      exact (Cert.EvenInSRefIdeal.Read.val_main_v18_eq _ _ _).trans (Cert.EvenInSRefIdeal.Val.v18_eq _ _ _)), (h c).2.2⟩) (Cert.EvenInSRefIdeal.Value.run m' g')⟩

theorem even_in_sample_ref_frame : Cert.quiescent_EvenInSRefIdeal := fun m g _ =>
  (θ_run Cert.EvenInSRefIdeal.defs _ _).mono (fun r h => ⟨fun c => (h c).2.2, sem_eq_zero_of_no_sems (by decide) r.2⟩)
    (Cert.EvenInSRefIdeal.Value.run (F := Ideal) m g)

/-- The output projection of an even layer over the samples, with the residual. -/
theorem even_out_sample_claim : Cert.algebraic_EvenOutSIdeal_EvenOutSRefIdeal := fun m g m' g' _ hag =>
  ⟨_,
    Cert.EvenOutSIdeal.Val.run m g,
    (θ_run _ _ _).mono (fun _ h c => ⟨(h c).1.trans (by
      rw [(hag c).1, (hag c).2.1, (hag c).2.2.1, (hag c).2.2.2]
      exact (Cert.EvenOutSRefIdeal.Read.val_main_v6_eq _ _ _ _).trans (Cert.EvenOutSRefIdeal.Val.v6_eq _ _ _ _)), (h c).2⟩) (Cert.EvenOutSRefIdeal.Value.run m' g')⟩

theorem even_out_sample_ref_frame : Cert.quiescent_EvenOutSRefIdeal := fun m g _ =>
  (θ_run Cert.EvenOutSRefIdeal.defs _ _).mono (fun r h => ⟨fun c => (h c).2, sem_eq_zero_of_no_sems (by decide) r.2⟩)
    (Cert.EvenOutSRefIdeal.Value.run (F := Ideal) m g)

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts,
  Cert.Gmlp.Gen.facts, Cert.GmlpIdeal.Gen.facts, Cert.GmlpRefIdeal.Gen.facts, Cert.EvenIn.Gen.facts, Cert.EvenInIdeal.Gen.facts, Cert.EvenInRefIdeal.Gen.facts, Cert.EvenOut.Gen.facts, Cert.EvenOutIdeal.Gen.facts, Cert.EvenOutRefIdeal.Gen.facts,
  Cert.Prep.Gen.facts, Cert.PrepIdeal.Gen.facts, Cert.PrepRefIdeal.Gen.facts, Cert.Post.Gen.facts, Cert.PostIdeal.Gen.facts, Cert.PostRefIdeal.Gen.facts,
  Cert.Final.Gen.facts, Cert.FinalIdeal.Gen.facts, Cert.FinalRefIdeal.Gen.facts,
  Cert.Short.Gen.facts, Cert.ShortIdeal.Gen.facts, Cert.ShortRefIdeal.Gen.facts,
  Cert.EvenInS.Gen.facts, Cert.EvenInSIdeal.Gen.facts, Cert.EvenInSRefIdeal.Gen.facts,
  Cert.EvenOutS.Gen.facts, Cert.EvenOutSIdeal.Gen.facts, Cert.EvenOutSRefIdeal.Gen.facts,
  Cert.PostS.Gen.facts, Cert.PostSIdeal.Gen.facts, Cert.PostSRefIdeal.Gen.facts,
  Cert.FinalS.Gen.facts, Cert.FinalSIdeal.Gen.facts, Cert.FinalSRefIdeal.Gen.facts,
  Cert.Pre_finite_inputs.Val.facts, Cert.Pre_finite_prep.Val.facts, Cert.Pre_finite_post.Val.facts, Cert.Pre_finite_post_sample.Val.facts,
  fun m g _ => Cert.Kernel.Gen.frame m g,
  fun m g _ => Cert.KernelIdeal.Gen.frame m g,
  fun m g _ => Cert.KernelIdeal.Gen.frame m g,
  ref_frame,
  fun m g _ => ref_frame m g trivial,
  fun m g _ => Cert.Ffn.Gen.frame m g,
  fun m g _ => Cert.FfnIdeal.Gen.frame m g,
  ffn_ref_frame,
  fun m g _ => Cert.Gmlp.Gen.frame m g,
  fun m g _ => Cert.GmlpIdeal.Gen.frame m g,
  gmlp_ref_frame,
  fun m g _ => Cert.EvenIn.Gen.frame m g,
  fun m g _ => Cert.EvenInIdeal.Gen.frame m g,
  even_in_ref_frame,
  fun m g _ => Cert.EvenOut.Gen.frame m g,
  fun m g _ => Cert.EvenOutIdeal.Gen.frame m g,
  even_out_ref_frame,
  fun m g _ => Cert.Prep.Gen.frame m g,
  fun m g _ => Cert.PrepIdeal.Gen.frame m g,
  fun m g _ => Cert.PrepIdeal.Gen.frame m g,
  prep_ref_frame,
  fun m g _ => prep_ref_frame m g trivial,
  fun m g _ => Cert.Post.Gen.frame m g,
  fun m g _ => Cert.PostIdeal.Gen.frame m g,
  fun m g _ => Cert.PostIdeal.Gen.frame m g,
  post_ref_frame,
  fun m g _ => post_ref_frame m g trivial,
  fun m g _ => Cert.Final.Gen.frame m g,
  fun m g _ => Cert.FinalIdeal.Gen.frame m g,
  final_ref_frame,
  fun m g _ => Cert.Short.Gen.frame m g,
  fun m g _ => Cert.ShortIdeal.Gen.frame m g,
  short_ref_frame,
  fun m g _ => Cert.EvenInS.Gen.frame m g,
  fun m g _ => Cert.EvenInSIdeal.Gen.frame m g,
  even_in_sample_ref_frame,
  fun m g _ => Cert.EvenOutS.Gen.frame m g,
  fun m g _ => Cert.EvenOutSIdeal.Gen.frame m g,
  even_out_sample_ref_frame,
  fun m g _ => Cert.PostS.Gen.frame m g,
  fun m g _ => Cert.PostSIdeal.Gen.frame m g,
  fun m g _ => Cert.PostSIdeal.Gen.frame m g,
  post_sample_ref_frame,
  fun m g _ => post_sample_ref_frame m g trivial,
  fun m g _ => Cert.FinalS.Gen.frame m g,
  fun m g _ => Cert.FinalSIdeal.Gen.frame m g,
  final_sample_ref_frame,
  trivial,
  sb_claim,
  trivial,
  ffn_claim,
  trivial,
  gmlp_claim,
  trivial,
  even_in_claim,
  trivial,
  even_out_claim,
  trivial,
  prep_claim,
  trivial,
  post_claim,
  trivial,
  final_claim,
  trivial,
  short_claim,
  trivial,
  even_in_sample_claim,
  trivial,
  even_out_sample_claim,
  trivial,
  post_sample_claim,
  trivial,
  final_sample_claim⟩

end Cert.Proof

end
